-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v14_4)) (v5 : (c : Dev Cert.KernelIdeal.nD) → Buf (Elt Ideal) ((c.tc : Thread Cert.KernelIdeal.nD Cert.KernelIdeal.τ).loc Cert.KernelIdeal.main_v14_5)) (v6 : (c : Dev Cert.KernelIdeal.nD) → Buf (Elt Ideal) ((c.tc : Thread Cert.KernelIdeal.nD Cert.KernelIdeal.τ).loc Cert.KernelIdeal.main_v14_6)) (v7 : (c : Dev Cert.KernelIdeal.nD) → Buf (Elt Ideal) ((c.tc : Thread Cert.KernelIdeal.nD Cert.KernelIdeal.τ).loc Cert.KernelIdeal.main_v14_7)) (v8 : (c : Dev Cert.KernelIdeal.nD) → Buf (Elt Ideal) ((c.tc : Thread Cert.KernelIdeal.nD Cert.KernelIdeal.τ).loc Cert.KernelIdeal.main_v14_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_v14_4) = v4 c
          ∧ r.2.mem ((c.tc : Thread Cert.KernelIdeal.nD Cert.KernelIdeal.τ).loc Cert.KernelIdeal.main_v14_5) = v5 c
          ∧ r.2.mem ((c.tc : Thread Cert.KernelIdeal.nD Cert.KernelIdeal.τ).loc Cert.KernelIdeal.main_v14_6) = v6 c
          ∧ r.2.mem ((c.tc : Thread Cert.KernelIdeal.nD Cert.KernelIdeal.τ).loc Cert.KernelIdeal.main_v14_7) = v7 c
          ∧ r.2.mem ((c.tc : Thread Cert.KernelIdeal.nD Cert.KernelIdeal.τ).loc Cert.KernelIdeal.main_v14_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_v130) = v3 c
          ∧ r.2.mem ((c.tc : Thread Cert.ReferenceIdeal.nD Cert.ReferenceIdeal.τ).loc Cert.ReferenceIdeal.main_v132) = v4 c
          ∧ r.2.mem ((c.tc : Thread Cert.ReferenceIdeal.nD Cert.ReferenceIdeal.τ).loc Cert.ReferenceIdeal.main_v135) = v5 c
          ∧ r.2.mem ((c.tc : Thread Cert.ReferenceIdeal.nD Cert.ReferenceIdeal.τ).loc Cert.ReferenceIdeal.main_v119) = v6 c
          ∧ r.2.mem ((c.tc : Thread Cert.ReferenceIdeal.nD Cert.ReferenceIdeal.τ).loc Cert.ReferenceIdeal.main_v136) = v7 c
          ∧ r.2.mem ((c.tc : Thread Cert.ReferenceIdeal.nD Cert.ReferenceIdeal.τ).loc Cert.ReferenceIdeal.main_v137) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  IdealRules.named_const.Statement Cert.Kernel2Ideal.κ "root_half" .f32 0x3F3504F3#32 ((Real.sqrt (2⁻¹) : ℝ) : EReal)
  ∧ IdealRules.named_const.Statement Cert.Kernel2Ideal.κ "density" .f32 0x3ECC422A#32 (((9465531 / 16777216) * (Real.sqrt (2⁻¹)) : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v35_0)) (v1 : (c : Dev Cert.Kernel2Ideal.nD) → Buf (Elt Ideal) ((c.tc : Thread Cert.Kernel2Ideal.nD Cert.Kernel2Ideal.τ).loc Cert.Kernel2Ideal.main_v35_1)) (v2 : (c : Dev Cert.Kernel2Ideal.nD) → Buf (Elt Ideal) ((c.tc : Thread Cert.Kernel2Ideal.nD Cert.Kernel2Ideal.τ).loc Cert.Kernel2Ideal.main_v35_2)) (v3 : (c : Dev Cert.Kernel2Ideal.nD) → Buf (Elt Ideal) ((c.tc : Thread Cert.Kernel2Ideal.nD Cert.Kernel2Ideal.τ).loc Cert.Kernel2Ideal.main_v35_3)) (v4 : (c : Dev Cert.Kernel2Ideal.nD) → Buf (Elt Ideal) ((c.tc : Thread Cert.Kernel2Ideal.nD Cert.Kernel2Ideal.τ).loc Cert.Kernel2Ideal.main_v35_4)) (v5 : (c : Dev Cert.Kernel2Ideal.nD) → Buf (Elt Ideal) ((c.tc : Thread Cert.Kernel2Ideal.nD Cert.Kernel2Ideal.τ).loc Cert.Kernel2Ideal.main_v35_5)) (v6 : (c : Dev Cert.Kernel2Ideal.nD) → Buf (Elt Ideal) ((c.tc : Thread Cert.Kernel2Ideal.nD Cert.Kernel2Ideal.τ).loc Cert.Kernel2Ideal.main_v35_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v35_0) = v0 c
          ∧ r.2.mem ((c.tc : Thread Cert.Kernel2Ideal.nD Cert.Kernel2Ideal.τ).loc Cert.Kernel2Ideal.main_v35_1) = v1 c
          ∧ r.2.mem ((c.tc : Thread Cert.Kernel2Ideal.nD Cert.Kernel2Ideal.τ).loc Cert.Kernel2Ideal.main_v35_2) = v2 c
          ∧ r.2.mem ((c.tc : Thread Cert.Kernel2Ideal.nD Cert.Kernel2Ideal.τ).loc Cert.Kernel2Ideal.main_v35_3) = v3 c
          ∧ r.2.mem ((c.tc : Thread Cert.Kernel2Ideal.nD Cert.Kernel2Ideal.τ).loc Cert.Kernel2Ideal.main_v35_4) = v4 c
          ∧ r.2.mem ((c.tc : Thread Cert.Kernel2Ideal.nD Cert.Kernel2Ideal.τ).loc Cert.Kernel2Ideal.main_v35_5) = v5 c
          ∧ r.2.mem ((c.tc : Thread Cert.Kernel2Ideal.nD Cert.Kernel2Ideal.τ).loc Cert.Kernel2Ideal.main_v35_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v198) = v0 c
          ∧ r.2.mem ((c.tc : Thread Cert.Reference2Ideal.nD Cert.Reference2Ideal.τ).loc Cert.Reference2Ideal.main_v200) = v1 c
          ∧ r.2.mem ((c.tc : Thread Cert.Reference2Ideal.nD Cert.Reference2Ideal.τ).loc Cert.Reference2Ideal.main_v197) = v2 c
          ∧ r.2.mem ((c.tc : Thread Cert.Reference2Ideal.nD Cert.Reference2Ideal.τ).loc Cert.Reference2Ideal.main_v170) = v3 c
          ∧ r.2.mem ((c.tc : Thread Cert.Reference2Ideal.nD Cert.Reference2Ideal.τ).loc Cert.Reference2Ideal.main_v169) = v4 c
          ∧ r.2.mem ((c.tc : Thread Cert.Reference2Ideal.nD Cert.Reference2Ideal.τ).loc Cert.Reference2Ideal.main_v201) = v5 c
          ∧ r.2.mem ((c.tc : Thread Cert.Reference2Ideal.nD Cert.Reference2Ideal.τ).loc Cert.Reference2Ideal.main_v203) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  IdealRules.named_const.Statement Cert.Kernel3Ideal.κ "root_half" .f32 0x3F3504F3#32 ((Real.sqrt (2⁻¹) : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)) (v4 : (c : Dev Cert.Kernel3Ideal.nD) → Buf (Elt Ideal) ((c.tc : Thread Cert.Kernel3Ideal.nD Cert.Kernel3Ideal.τ).loc Cert.Kernel3Ideal.main_v10_4)) (v5 : (c : Dev Cert.Kernel3Ideal.nD) → Buf (Elt Ideal) ((c.tc : Thread Cert.Kernel3Ideal.nD Cert.Kernel3Ideal.τ).loc Cert.Kernel3Ideal.main_v10_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_v10_4) = v4 c
          ∧ r.2.mem ((c.tc : Thread Cert.Kernel3Ideal.nD Cert.Kernel3Ideal.τ).loc Cert.Kernel3Ideal.main_v10_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v114) = v0 c
          ∧ r.2.mem ((c.tc : Thread Cert.Reference3Ideal.nD Cert.Reference3Ideal.τ).loc Cert.Reference3Ideal.main_v115) = v1 c
          ∧ r.2.mem ((c.tc : Thread Cert.Reference3Ideal.nD Cert.Reference3Ideal.τ).loc Cert.Reference3Ideal.main_v116) = v2 c
          ∧ r.2.mem ((c.tc : Thread Cert.Reference3Ideal.nD Cert.Reference3Ideal.τ).loc Cert.Reference3Ideal.main_v118) = v3 c
          ∧ r.2.mem ((c.tc : Thread Cert.Reference3Ideal.nD Cert.Reference3Ideal.τ).loc Cert.Reference3Ideal.main_v120) = v4 c
          ∧ r.2.mem ((c.tc : Thread Cert.Reference3Ideal.nD Cert.Reference3Ideal.τ).loc Cert.Reference3Ideal.main_v121) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)) (v3 : (c : Dev Cert.Kernel5Ideal.nD) → Buf (Elt Ideal) ((c.tc : Thread Cert.Kernel5Ideal.nD Cert.Kernel5Ideal.τ).loc Cert.Kernel5Ideal.main_v6_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_v6_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v31) = v1 c
          ∧ r.2.mem ((c.tc : Thread Cert.Reference5Ideal.nD Cert.Reference5Ideal.τ).loc Cert.Reference5Ideal.main_v33) = v2 c
          ∧ r.2.mem ((c.tc : Thread Cert.Reference5Ideal.nD Cert.Reference5Ideal.τ).loc Cert.Reference5Ideal.main_v35) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ preserves_Kernel5_Kernel5Ideal
    ∧ algebraic_Kernel5Ideal_Reference5Ideal (hKernel5Ideal := hKernel5Ideal) (hReference5Ideal := hReference5Ideal)
-- ==== Pre_finite.lean ====
abbrev S2x4096x512 : Shape := ⟨3, ![2, 4096, 512]⟩
abbrev S2x4096x1024 : Shape := ⟨3, ![2, 4096, 1024]⟩
abbrev S1x2x4096x256 : Shape := ⟨4, ![1, 2, 4096, 256]⟩
abbrev S1x1024x1024 : Shape := ⟨3, ![1, 1024, 1024]⟩
abbrev S1x256x1024 : Shape := ⟨3, ![1, 256, 1024]⟩
abbrev S1x1024 : Shape := ⟨2, ![1, 1024]⟩
abbrev S1024 : Shape := ⟨1, ![1024]⟩
abbrev S_ : Shape := ⟨0, ![]⟩

class Facts : Prop where
  bcast_S_S2x4096x512 : S_.BroadcastsInDim S2x4096x512 (![] : Fin 0 → Fin S2x4096x512.rank)
  bcast_S_S2x4096x1024 : S_.BroadcastsInDim S2x4096x1024 (![] : Fin 0 → Fin S2x4096x1024.rank)
  bcast_S_S1x2x4096x256 : S_.BroadcastsInDim S1x2x4096x256 (![] : Fin 0 → Fin S1x2x4096x256.rank)
  bcast_S_S1x1024x1024 : S_.BroadcastsInDim S1x1024x1024 (![] : Fin 0 → Fin S1x1024x1024.rank)
  bcast_S_S1x256x1024 : S_.BroadcastsInDim S1x256x1024 (![] : Fin 0 → Fin S1x256x1024.rank)
  bcast_S_S1x1024 : S_.BroadcastsInDim S1x1024 (![] : Fin 0 → Fin S1x1024.rank)
  bcast_S_S1024 : S_.BroadcastsInDim S1024 (![] : Fin 0 → Fin S1024.rank)

variable [Facts]

def fn_part1 {F : FTy → Type} [FloatOps F] (main_arg6 : FVec F S1x1024x1024 .f32) (main_arg7 : FVec F S1x256x1024 .f32) (main_arg8 : FVec F S1x1024 .f32) (main_arg9 : FVec F S1024 .f32) (main_v2 : IVec S2x4096x512 1) (main_v5 : IVec S2x4096x512 1) (main_v8 : IVec S2x4096x1024 1) (main_v11 : IVec S1x2x4096x256 1) (main_v14 : IVec S2x4096x1024 1) (main_v17 : IVec S1x1024x1024 1) : IVec S2x4096x512 1 × IVec S2x4096x512 1 × IVec S2x4096x1024 1 × IVec S1x2x4096x256 1 × IVec S2x4096x1024 1 × IVec S1x1024x1024 1 × IVec S1x1024x1024 1 × IVec S1x256x1024 1 × IVec S1x1024 1 × IVec S1024 1 :=
  let main_v18 : FVec F S1x1024x1024 .f32 := Host.absf main_arg6
  let main_cst_5 : FVec F S_ .f32 := constant S_ .f32 0x7F800000#32
  let main_v19 : FVec F S1x1024x1024 .f32 := broadcastInDim S1x1024x1024 ![] bcast_S_S1x1024x1024 main_cst_5
  let main_v20 : IVec S1x1024x1024 1 := cmpf .olt main_v18 main_v19
  let main_v21 : FVec F S1x256x1024 .f32 := Host.absf main_arg7
  let main_cst_6 : FVec F S_ .f32 := constant S_ .f32 0x7F800000#32
  let main_v22 : FVec F S1x256x1024 .f32 := broadcastInDim S1x256x1024 ![] bcast_S_S1x256x1024 main_cst_6
  let main_v23 : IVec S1x256x1024 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  let main_v27 : FVec F S1024 .f32 := Host.absf main_arg9
  let main_cst_8 : FVec F S_ .f32 := constant S_ .f32 0x7F800000#32
  let main_v28 : FVec F S1024 .f32 := broadcastInDim S1024 ![] bcast_S_S1024 main_cst_8
  let main_v29 : IVec S1024 1 := cmpf .olt main_v27 main_v28
  (main_v2, main_v5, main_v8, main_v11, main_v14, main_v17, main_v20, main_v23, main_v26, main_v29)

def fn {F : FTy → Type} [FloatOps F] (main_arg0 : FVec F S2x4096x512 .f32) (main_arg1 : FVec F S2x4096x512 .f32) (main_arg2 : FVec F S2x4096x1024 .f32) (main_arg3 : FVec F S1x2x4096x256 .f32) (main_arg4 : FVec F S2x4096x1024 .f32) (main_arg5 : FVec F S1x1024x1024 .f32) (main_arg6 : FVec F S1x1024x1024 .f32) (main_arg7 : FVec F S1x256x1024 .f32) (main_arg8 : FVec F S1x1024 .f32) (main_arg9 : FVec F S1024 .f32) : IVec S2x4096x512 1 × IVec S2x4096x512 1 × IVec S2x4096x1024 1 × IVec S1x2x4096x256 1 × IVec S2x4096x1024 1 × IVec S1x1024x1024 1 × IVec S1x1024x1024 1 × IVec S1x256x1024 1 × IVec S1x1024 1 × IVec S1024 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_v3 : FVec F S2x4096x512 .f32 := Host.absf main_arg1
  let main_cst_0 : FVec F S_ .f32 := constant S_ .f32 0x7F800000#32
  let main_v4 : FVec F S2x4096x512 .f32 := broadcastInDim S2x4096x512 ![] bcast_S_S2x4096x512 main_cst_0
  let main_v5 : IVec S2x4096x512 1 := cmpf .olt main_v3 main_v4
  let main_v6 : FVec F S2x4096x1024 .f32 := Host.absf main_arg2
  let main_cst_1 : FVec F S_ .f32 := constant S_ .f32 0x7F800000#32
  let main_v7 : FVec F S2x4096x1024 .f32 := broadcastInDim S2x4096x1024 ![] bcast_S_S2x4096x1024 main_cst_1
  let main_v8 : IVec S2x4096x1024 1 := cmpf .olt main_v6 main_v7
  let main_v9 : FVec F S1x2x4096x256 .f32 := Host.absf main_arg3
  let main_cst_2 : FVec F S_ .f32 := constant S_ .f32 0x7F800000#32
  let main_v10 : FVec F S1x2x4096x256 .f32 := broadcastInDim S1x2x4096x256 ![] bcast_S_S1x2x4096x256 main_cst_2
  let main_v11 : IVec S1x2x4096x256 1 := cmpf .olt main_v9 main_v10
  let main_v12 : FVec F S2x4096x1024 .f32 := Host.absf main_arg4
  let main_cst_3 : FVec F S_ .f32 := constant S_ .f32 0x7F800000#32
  let main_v13 : FVec F S2x4096x1024 .f32 := broadcastInDim S2x4096x1024 ![] bcast_S_S2x4096x1024 main_cst_3
  let main_v14 : IVec S2x4096x1024 1 := cmpf .olt main_v12 main_v13
  let main_v15 : FVec F S1x1024x1024 .f32 := Host.absf main_arg5
  let main_cst_4 : FVec F S_ .f32 := constant S_ .f32 0x7F800000#32
  let main_v16 : FVec F S1x1024x1024 .f32 := broadcastInDim S1x1024x1024 ![] bcast_S_S1x1024x1024 main_cst_4
  let main_v17 : IVec S1x1024x1024 1 := cmpf .olt main_v15 main_v16
  fn_part1 (F := F) main_arg6 main_arg7 main_arg8 main_arg9 main_v2 main_v5 main_v8 main_v11 main_v14 main_v17
-- ==== Pre_finite2.lean ====
abbrev S2x4096x1024 : Shape := ⟨3, ![2, 4096, 1024]⟩
abbrev S1x1024 : Shape := ⟨2, ![1, 1024]⟩
abbrev S1x1024x3592 : Shape := ⟨3, ![1, 1024, 3592]⟩
abbrev S1x512 : Shape := ⟨2, ![1, 512]⟩
abbrev S1x4x128x128 : Shape := ⟨4, ![1, 4, 128, 128]⟩
abbrev S1x4x128 : Shape := ⟨3, ![1, 4, 128]⟩
abbrev S2x4096x512 : Shape := ⟨3, ![2, 4096, 512]⟩
abbrev S2x4096x1536 : Shape := ⟨3, ![2, 4096, 1536]⟩
abbrev S2x4096x8 : Shape := ⟨3, ![2, 4096, 8]⟩
abbrev S_ : Shape := ⟨0, ![]⟩

class Facts : Prop where
  bcast_S_S2x4096x1024 : S_.BroadcastsInDim S2x4096x1024 (![] : Fin 0 → Fin S2x4096x1024.rank)
  bcast_S_S1x1024 : S_.BroadcastsInDim S1x1024 (![] : Fin 0 → Fin S1x1024.rank)
  bcast_S_S1x1024x3592 : S_.BroadcastsInDim S1x1024x3592 (![] : Fin 0 → Fin S1x1024x3592.rank)
  bcast_S_S1x512 : S_.BroadcastsInDim S1x512 (![] : Fin 0 → Fin S1x512.rank)
  bcast_S_S1x4x128x128 : S_.BroadcastsInDim S1x4x128x128 (![] : Fin 0 → Fin S1x4x128x128.rank)
  bcast_S_S1x4x128 : S_.BroadcastsInDim S1x4x128 (![] : Fin 0 → Fin S1x4x128.rank)
  bcast_S_S2x4096x512 : S_.BroadcastsInDim S2x4096x512 (![] : Fin 0 → Fin S2x4096x512.rank)
  bcast_S_S2x4096x1536 : S_.BroadcastsInDim S2x4096x1536 (![] : Fin 0 → Fin S2x4096x1536.rank)
  bcast_S_S2x4096x8 : S_.BroadcastsInDim S2x4096x8 (![] : Fin 0 → Fin S2x4096x8.rank)

variable [Facts]

def fn_part1 {F : FTy → Type} [FloatOps F] (main_arg6 : FVec F S1x4x128 .f32) (main_arg7 : FVec F S2x4096x1024 .f32) (main_arg8 : FVec F S2x4096x512 .f32) (main_arg9 : FVec F S2x4096x1536 .f32) (main_arg10 : FVec F S2x4096x512 .f32) (main_arg11 : FVec F S2x4096x8 .f32) (main_v2 : IVec S2x4096x1024 1) (main_v5 : IVec S1x1024 1) (main_v8 : IVec S1x1024x3592 1) (main_v11 : IVec S1x512 1) (main_v14 : IVec S1x512 1) (main_v17 : IVec S1x4x128x128 1) : IVec S2x4096x1024 1 × IVec S1x1024 1 × IVec S1x1024x3592 1 × IVec S1x512 1 × IVec S1x512 1 × IVec S1x4x128x128 1 × IVec S1x4x128 1 × IVec S2x4096x1024 1 × IVec S2x4096x512 1 × IVec S2x4096x1536 1 × IVec S2x4096x512 1 × IVec S2x4096x8 1 :=
  let main_v18 : FVec F S1x4x128 .f32 := Host.absf main_arg6
  let main_cst_5 : FVec F S_ .f32 := constant S_ .f32 0x7F800000#32
  let main_v19 : FVec F S1x4x128 .f32 := broadcastInDim S1x4x128 ![] bcast_S_S1x4x128 main_cst_5
  let main_v20 : IVec S1x4x128 1 := cmpf .olt main_v18 main_v19
  let main_v21 : FVec F S2x4096x1024 .f32 := Host.absf main_arg7
  let main_cst_6 : FVec F S_ .f32 := constant S_ .f32 0x7F800000#32
  let main_v22 : FVec F S2x4096x1024 .f32 := broadcastInDim S2x4096x1024 ![] bcast_S_S2x4096x1024 main_cst_6
  let main_v23 : IVec S2x4096x1024 1 := cmpf .olt main_v21 main_v22
  let main_v24 : FVec F S2x4096x512 .f32 := Host.absf main_arg8
  let main_cst_7 : FVec F S_ .f32 := constant S_ .f32 0x7F800000#32
  let main_v25 : FVec F S2x4096x512 .f32 := broadcastInDim S2x4096x512 ![] bcast_S_S2x4096x512 main_cst_7
  let main_v26 : IVec S2x4096x512 1 := cmpf .olt main_v24 main_v25
  let main_v27 : FVec F S2x4096x1536 .f32 := Host.absf main_arg9
  let main_cst_8 : FVec F S_ .f32 := constant S_ .f32 0x7F800000#32
  let main_v28 : FVec F S2x4096x1536 .f32 := broadcastInDim S2x4096x1536 ![] bcast_S_S2x4096x1536 main_cst_8
  let main_v29 : IVec S2x4096x1536 1 := cmpf .olt main_v27 main_v28
  let main_v30 : FVec F S2x4096x512 .f32 := Host.absf main_arg10
  let main_cst_9 : FVec F S_ .f32 := constant S_ .f32 0x7F800000#32
  let main_v31 : FVec F S2x4096x512 .f32 := broadcastInDim S2x4096x512 ![] bcast_S_S2x4096x512 main_cst_9
  let main_v32 : IVec S2x4096x512 1 := cmpf .olt main_v30 main_v31
  let main_v33 : FVec F S2x4096x8 .f32 := Host.absf main_arg11
  let main_cst_10 : FVec F S_ .f32 := constant S_ .f32 0x7F800000#32
  let main_v34 : FVec F S2x4096x8 .f32 := broadcastInDim S2x4096x8 ![] bcast_S_S2x4096x8 main_cst_10
  let main_v35 : IVec S2x4096x8 1 := cmpf .olt main_v33 main_v34
  (main_v2, main_v5, main_v8, main_v11, main_v14, main_v17, main_v20, main_v23, main_v26, main_v29, main_v32, main_v35)

def fn {F : FTy → Type} [FloatOps F] (main_arg0 : FVec F S2x4096x1024 .f32) (main_arg1 : FVec F S1x1024 .f32) (main_arg2 : FVec F S1x1024x3592 .f32) (main_arg3 : FVec F S1x512 .f32) (main_arg4 : FVec F S1x512 .f32) (main_arg5 : FVec F S1x4x128x128 .f32) (main_arg6 : FVec F S1x4x128 .f32) (main_arg7 : FVec F S2x4096x1024 .f32) (main_arg8 : FVec F S2x4096x512 .f32) (main_arg9 : FVec F S2x4096x1536 .f32) (main_arg10 : FVec F S2x4096x512 .f32) (main_arg11 : FVec F S2x4096x8 .f32) : IVec S2x4096x1024 1 × IVec S1x1024 1 × IVec S1x1024x3592 1 × IVec S1x512 1 × IVec S1x512 1 × IVec S1x4x128x128 1 × IVec S1x4x128 1 × IVec S2x4096x1024 1 × IVec S2x4096x512 1 × IVec S2x4096x1536 1 × IVec S2x4096x512 1 × IVec S2x4096x8 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x3592 .f32 := Host.absf main_arg2
  let main_cst_1 : FVec F S_ .f32 := constant S_ .f32 0x7F800000#32
  let main_v7 : FVec F S1x1024x3592 .f32 := broadcastInDim S1x1024x3592 ![] bcast_S_S1x1024x3592 main_cst_1
  let main_v8 : IVec S1x1024x3592 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S1x512 .f32 := Host.absf main_arg4
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  let main_v15 : FVec F S1x4x128x128 .f32 := Host.absf main_arg5
  let main_cst_4 : FVec F S_ .f32 := constant S_ .f32 0x7F800000#32
  let main_v16 : FVec F S1x4x128x128 .f32 := broadcastInDim S1x4x128x128 ![] bcast_S_S1x4x128x128 main_cst_4
  let main_v17 : IVec S1x4x128x128 1 := cmpf .olt main_v15 main_v16
  fn_part1 (F := F) main_arg6 main_arg7 main_arg8 main_arg9 main_arg10 main_arg11 main_v2 main_v5 main_v8 main_v11 main_v14 main_v17
-- ==== Kernel.lean ====
abbrev S2x4096x512 : Shape := ⟨3, ![2, 4096, 512]⟩
abbrev S2x4096x1024 : Shape := ⟨3, ![2, 4096, 1024]⟩
abbrev S1x2x4096x256 : Shape := ⟨4, ![1, 2, 4096, 256]⟩
abbrev S1x1024x1024 : Shape := ⟨3, ![1, 1024, 1024]⟩
abbrev S1x256x1024 : Shape := ⟨3, ![1, 256, 1024]⟩
abbrev S1x1024 : Shape := ⟨2, ![1, 1024]⟩
abbrev S1024 : Shape := ⟨1, ![1024]⟩
abbrev S8192x512 : Shape := ⟨2, ![8192, 512]⟩
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S8x128x1024 : Shape := ⟨3, ![8, 128, 1024]⟩
abbrev S8x256x128 : Shape := ⟨3, ![8, 256, 128]⟩
abbrev S8x128 : Shape := ⟨2, ![8, 128]⟩
abbrev S512x512 : Shape := ⟨2, ![512, 512]⟩
abbrev S512x1024 : Shape := ⟨2, ![512, 1024]⟩
abbrev S512x256 : Shape := ⟨2, ![512, 256]⟩
abbrev S128x1024 : Shape := ⟨2, ![128, 1024]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S1 : Shape := ⟨1, ![1]⟩
abbrev S1x1 : Shape := ⟨2, ![1, 1]⟩
abbrev S_ : Shape := ⟨0, ![]⟩
abbrev S1x128x1024 : Shape := ⟨3, ![1, 128, 1024]⟩
abbrev S1x256x128 : Shape := ⟨3, ![1, 256, 128]⟩

abbrev nBuf : Space → Nat
  | .hbm => 33
  | .vmem => 29
  | .smem => 0
  | _ => 0

abbrev bufTy : (tb : Table) → Fin (tcTables nBuf tb) → BufTy
  | .hbm, ⟨0, _⟩ => ⟨S2x4096x512, .f32⟩
  | .hbm, ⟨1, _⟩ => ⟨S2x4096x512, .f32⟩
  | .hbm, ⟨2, _⟩ => ⟨S2x4096x1024, .f32⟩
  | .hbm, ⟨3, _⟩ => ⟨S1x2x4096x256, .f32⟩
  | .hbm, ⟨4, _⟩ => ⟨S2x4096x1024, .f32⟩
  | .hbm, ⟨5, _⟩ => ⟨S1x1024x1024, .f32⟩
  | .hbm, ⟨6, _⟩ => ⟨S1x1024x1024, .f32⟩
  | .hbm, ⟨7, _⟩ => ⟨S1x256x1024, .f32⟩
  | .hbm, ⟨8, _⟩ => ⟨S1x1024, .f32⟩
  | .hbm, ⟨9, _⟩ => ⟨S1024, .f32⟩
  | .hbm, ⟨10, _⟩ => ⟨S8192x512, .f32⟩
  | .hbm, ⟨11, _⟩ => ⟨S8192x512, .bf16⟩
  | .hbm, ⟨12, _⟩ => ⟨S8192x512, .f32⟩
  | .hbm, ⟨13, _⟩ => ⟨S8192x512, .bf16⟩
  | .hbm, ⟨14, _⟩ => ⟨S8192x1024, .f32⟩
  | .hbm, ⟨15, _⟩ => ⟨S8192x256, .f32⟩
  | .hbm, ⟨16, _⟩ => ⟨S8192x1024, .f32⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S256x1024, .f32⟩
  | .hbm, ⟨22, _⟩ => ⟨S256x1024, .bf16⟩
  | .hbm, ⟨23, _⟩ => ⟨S1x1024, .f32⟩
  | .hbm, ⟨24, _⟩ => ⟨S8192x512, .f32⟩
  | .hbm, ⟨25, _⟩ => ⟨S8192x512, .f32⟩
  | .hbm, ⟨26, _⟩ => ⟨S8192x1024, .f32⟩
  | .hbm, ⟨27, _⟩ => ⟨S8x128x1024, .bf16⟩
  | .hbm, ⟨28, _⟩ => ⟨S8x128x1024, .bf16⟩
  | .hbm, ⟨29, _⟩ => ⟨S8x256x128, .bf16⟩
  | .hbm, ⟨30, _⟩ => ⟨S1x1024, .f32⟩
  | .hbm, ⟨31, _⟩ => ⟨S1x1024, .f32⟩
  | .hbm, ⟨32, _⟩ => ⟨S8x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x256, .f32⟩
  | .local _ .vmem, ⟨7, _⟩ => ⟨S512x256, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S256x1024, .bf16⟩
  | .local _ .vmem, ⟨13, _⟩ => ⟨S1x1024, .f32⟩
  | .local _ .vmem, ⟨14, _⟩ => ⟨S1x1024, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S1x1024, .f32⟩
  | .local _ .vmem, ⟨23, _⟩ => ⟨S8x128, .f32⟩
  | .local _ .vmem, ⟨24, _⟩ => ⟨S1024x1024, .f32⟩
  | .local _ .vmem, ⟨25, _⟩ => ⟨S1024x1024, .f32⟩
  | .local _ .vmem, ⟨26, _⟩ => ⟨S256x1024, .f32⟩
  | .local _ .vmem, ⟨27, _⟩ => ⟨S128x1024, .bf16⟩
  | .local _ .vmem, ⟨28, _⟩ => ⟨S256x128, .bf16⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev main_v14_4 : Ref sig .tc := ⟨.hbm, 28, rfl⟩
abbrev main_v14_5 : Ref sig .tc := ⟨.hbm, 29, rfl⟩
abbrev main_v14_6 : Ref sig .tc := ⟨.hbm, 30, rfl⟩
abbrev main_v14_7 : Ref sig .tc := ⟨.hbm, 31, rfl⟩
abbrev main_v14_8 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S2x4096x512 : Shape := ⟨3, ![2, 4096, 512]⟩
abbrev S2x4096x1024 : Shape := ⟨3, ![2, 4096, 1024]⟩
abbrev S1x2x4096x256 : Shape := ⟨4, ![1, 2, 4096, 256]⟩
abbrev S1x1024x1024 : Shape := ⟨3, ![1, 1024, 1024]⟩
abbrev S1x256x1024 : Shape := ⟨3, ![1, 256, 1024]⟩
abbrev S1x1024 : Shape := ⟨2, ![1, 1024]⟩
abbrev S1024 : Shape := ⟨1, ![1024]⟩
abbrev S1024x1024 : Shape := ⟨2, ![1024, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x256 : Shape := ⟨3, ![2, 4096, 256]⟩
abbrev S256x1024 : Shape := ⟨2, ![256, 1024]⟩
abbrev S1024x256 : Shape := ⟨2, ![1024, 256]⟩
abbrev S8192x512 : Shape := ⟨2, ![8192, 512]⟩
abbrev S8192x1024 : Shape := ⟨2, ![8192, 1024]⟩
abbrev S8x128x1024 : Shape := ⟨3, ![8, 128, 1024]⟩
abbrev S256x8x128 : Shape := ⟨3, ![256, 8, 128]⟩
abbrev S8x256x128 : Shape := ⟨3, ![8, 256, 128]⟩
abbrev S8x128 : Shape := ⟨2, ![8, 128]⟩

abbrev nBuf : Space → Nat
  | .hbm => 177
  | .vmem => 0
  | .smem => 0
  | _ => 0

abbrev hbmTy0_0 (i : Nat) : BufTy := match i % 128 with
  | 0 => ⟨S2x4096x512, .f32⟩
  | 1 => ⟨S2x4096x512, .f32⟩
  | 2 => ⟨S2x4096x1024, .f32⟩
  | 3 => ⟨S1x2x4096x256, .f32⟩
  | 4 => ⟨S2x4096x1024, .f32⟩
  | 5 => ⟨S1x1024x1024, .f32⟩
  | 6 => ⟨S1x1024x1024, .f32⟩
  | 7 => ⟨S1x256x1024, .f32⟩
  | 8 => ⟨S1x1024, .f32⟩
  | 9 => ⟨S1024, .f32⟩
  | 10 => ⟨S2x4096x1024, .f32⟩
  | 11 => ⟨S1024x1024, .f32⟩
  | 12 => ⟨S2x4096x1024, .f32⟩
  | 13 => ⟨S2x4096x1024, .f32⟩
  | 14 => ⟨S1024, .f32⟩
  | 15 => ⟨S2x4096x1024, .f32⟩
  | 16 => ⟨S_, .f32⟩
  | 17 => ⟨S2x4096, .f32⟩
  | 18 => ⟨S2x4096x1, .f32⟩
  | 19 => ⟨S_, .f32⟩
  | 20 => ⟨S2x4096x1, .f32⟩
  | 21 => ⟨S2x4096x1, .f32⟩
  | 22 => ⟨S_, .f32⟩
  | 23 => ⟨S2x4096x1, .f32⟩
  | 24 => ⟨S2x4096x1, .f32⟩
  | 25 => ⟨S2x4096x1, .f32⟩
  | 26 => ⟨S2x4096x1, .f32⟩
  | 27 => ⟨S_, .f32⟩
  | 28 => ⟨S2x4096x1, .f32⟩
  | 29 => ⟨S2x4096x1, .f32⟩
  | 30 => ⟨S2x4096x1024, .f32⟩
  | 31 => ⟨S2x4096x1024, .f32⟩
  | 32 => ⟨S1x1x1024, .f32⟩
  | 33 => ⟨S2x4096x1024, .f32⟩
  | 34 => ⟨S2x4096x1024, .f32⟩
  | 35 => ⟨S1024x1024, .f32⟩
  | 36 => ⟨S2x4096x1024, .f32⟩
  | 37 => ⟨S2x4096x1024, .f32⟩
  | 38 => ⟨S2x4096x1024, .f32⟩
  | 39 => ⟨S_, .f32⟩
  | 40 => ⟨S2x4096x1024, .f32⟩
  | 41 => ⟨S2x4096x1024, .f32⟩
  | 42 => ⟨S_, .f32⟩
  | 43 => ⟨S2x4096x1024, .f32⟩
  | 44 => ⟨S2x4096x1024, .f32⟩
  | 45 => ⟨S_, .f32⟩
  | 46 => ⟨S2x4096x1024, .f32⟩
  | 47 => ⟨S2x4096x1024, .f32⟩
  | 48 => ⟨S2x4096x1024, .f32⟩
  | 49 => ⟨S2x4096x256, .f32⟩
  | 50 => ⟨S256x1024, .f32⟩
  | 51 => ⟨S2x4096x1024, .f32⟩
  | 52 => ⟨S2x4096x1024, .f32⟩
  | 53 => ⟨S2x4096x1024, .f32⟩
  | 54 => ⟨S2x4096x1024, .f32⟩
  | 55 => ⟨S_, .f32⟩
  | 56 => ⟨S2x4096, .f32⟩
  | 57 => ⟨S2x4096x1, .f32⟩
  | 58 => ⟨S_, .f32⟩
  | 59 => ⟨S2x4096x1, .f32⟩
  | 60 => ⟨S2x4096x1, .f32⟩
  | 61 => ⟨S_, .f32⟩
  | 62 => ⟨S2x4096x1, .f32⟩
  | 63 => ⟨S2x4096x1, .f32⟩
  | 64 => ⟨S2x4096x1, .f32⟩
  | 65 => ⟨S2x4096x1, .f32⟩
  | 66 => ⟨S_, .f32⟩
  | 67 => ⟨S2x4096x1, .f32⟩
  | 68 => ⟨S2x4096x1, .f32⟩
  | 69 => ⟨S2x4096x1024, .f32⟩
  | 70 => ⟨S2x4096x1024, .f32⟩
  | 71 => ⟨S1x1x1024, .f32⟩
  | 72 => ⟨S2x4096x1024, .f32⟩
  | 73 => ⟨S2x4096x1024, .f32⟩
  | 74 => ⟨S2x4096x1024, .f32⟩
  | 75 => ⟨S2x4096x1024, .f32⟩
  | 76 => ⟨S_, .f32⟩
  | 77 => ⟨S2x4096x1024, .f32⟩
  | 78 => ⟨S2x4096x1024, .f32⟩
  | 79 => ⟨S_, .f32⟩
  | 80 => ⟨S2x4096, .f32⟩
  | 81 => ⟨S_, .f32⟩
  | 82 => ⟨S2x4096, .f32⟩
  | 83 => ⟨S2x4096, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S2x4096, .f32⟩
  | 92 => ⟨S_, .f32⟩
  | 93 => ⟨S2x4096, .f32⟩
  | 94 => ⟨S2x4096, .f32⟩
  | 95 => ⟨S2x4096x1024, .f32⟩
  | 96 => ⟨S2x4096x1024, .f32⟩
  | 97 => ⟨S2x4096x1024, .f32⟩
  | 98 => ⟨S_, .f32⟩
  | 99 => ⟨S1024, .f32⟩
  | 100 => ⟨S1x1x1024, .f32⟩
  | 101 => ⟨S2x4096x1024, .f32⟩
  | 102 => ⟨S2x4096x1024, .f32⟩
  | 103 => ⟨S_, .f32⟩
  | 104 => ⟨S1024, .f32⟩
  | 105 => ⟨S2x4096x1024, .f32⟩
  | 106 => ⟨S_, .f32⟩
  | 107 => ⟨S2x4096, .f32⟩
  | 108 => ⟨S2x4096x1, .f32⟩
  | 109 => ⟨S2x4096x1024, .f32⟩
  | 110 => ⟨S2x4096x1024, .f32⟩
  | 111 => ⟨S2x4096x1, .f32⟩
  | 112 => ⟨S_, .f32⟩
  | 113 => ⟨S2x4096x1, .f32⟩
  | 114 => ⟨S2x4096x1, .f32⟩
  | 115 => ⟨S_, .f32⟩
  | 116 => ⟨S2x4096, .f32⟩
  | 117 => ⟨S2x4096x1024, .f32⟩
  | 118 => ⟨S2x4096x1024, .f32⟩
  | 119 => ⟨S2x4096x1024, .f32⟩
  | 120 => ⟨S2x4096x1024, .f32⟩
  | 121 => ⟨S2x4096x1024, .f32⟩
  | 122 => ⟨S2x4096x1024, .f32⟩
  | 123 => ⟨S2x4096x1024, .f32⟩
  | 124 => ⟨S1024x256, .f32⟩
  | 125 => ⟨S256x1024, .f32⟩
  | 126 => ⟨S1x256x1024, .f32⟩
  | 127 => ⟨S2x4096x1024, .f32⟩
  | _ => ⟨S2x4096x512, .f32⟩

abbrev hbmTy0_1 (i : Nat) : BufTy := match i % 128 with
  | 0 => ⟨S1024x1024, .f32⟩
  | 1 => ⟨S1024x1024, .f32⟩
  | 2 => ⟨S2x4096x1024, .f32⟩
  | 3 => ⟨S1x1024x1024, .f32⟩
  | 4 => ⟨S2x4096x1024, .f32⟩
  | 5 => ⟨S_, .f32⟩
  | 6 => ⟨S1024, .f32⟩
  | 7 => ⟨S1x1x1024, .f32⟩
  | 8 => ⟨S2x4096x1024, .f32⟩
  | 9 => ⟨S2x4096x1024, .f32⟩
  | 10 => ⟨S_, .f32⟩
  | 11 => ⟨S1024, .f32⟩
  | 12 => ⟨S2x4096x1024, .f32⟩
  | 13 => ⟨S_, .f32⟩
  | 14 => ⟨S2x4096, .f32⟩
  | 15 => ⟨S2x4096x1, .f32⟩
  | 16 => ⟨S2x4096x1024, .f32⟩
  | 17 => ⟨S2x4096x1024, .f32⟩
  | 18 => ⟨S2x4096x1024, .f32⟩
  | 19 => ⟨S2x4096x1, .f32⟩
  | 20 => ⟨S_, .f32⟩
  | 21 => ⟨S2x4096x1, .f32⟩
  | 22 => ⟨S2x4096x1, .f32⟩
  | 23 => ⟨S_, .f32⟩
  | 24 => ⟨S2x4096, .f32⟩
  | 25 => ⟨S2x4096x1024, .f32⟩
  | 26 => ⟨S2x4096x1024, .f32⟩
  | 27 => ⟨S2x4096x1024, .f32⟩
  | 28 => ⟨S2x4096x1024, .f32⟩
  | 29 => ⟨S2x4096x1024, .f32⟩
  | 30 => ⟨S1x1024, .f32⟩
  | 31 => ⟨S1024x1024, .f32⟩
  | 32 => ⟨S1024x1024, .f32⟩
  | 33 => ⟨S2x4096x1024, .f32⟩
  | 34 => ⟨S1x1024x1024, .f32⟩
  | 35 => ⟨S2x4096x512, .f32⟩
  | 36 => ⟨S2x4096x512, .f32⟩
  | 37 => ⟨S8192x512, .f32⟩
  | 38 => ⟨S8192x512, .f32⟩
  | 39 => ⟨S8192x1024, .f32⟩
  | 40 => ⟨S8x128x1024, .f32⟩
  | 41 => ⟨S8x128x1024, .bf16⟩
  | 42 => ⟨S8x128x1024, .f32⟩
  | 43 => ⟨S8x128x1024, .bf16⟩
  | 44 => ⟨S256x8x128, .f32⟩
  | 45 => ⟨S8x256x128, .f32⟩
  | 46 => ⟨S8x256x128, .bf16⟩
  | 47 => ⟨S1x1024, .f32⟩
  | 48 => ⟨S8x128, .f32⟩
  | _ => ⟨S2x4096x512, .f32⟩

abbrev hbmTy (i : Nat) : BufTy := match i / 128 with
  | 0 => hbmTy0_0 i
  | 1 => hbmTy0_1 i
  | _ => ⟨S2x4096x512, .f32⟩

abbrev bufTy : (tb : Table) → Fin (tcTables nBuf tb) → BufTy
  | .hbm, ⟨i, _⟩ => hbmTy i
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_cst_14 : Ref sig .tc := ⟨.hbm, 86, rfl⟩
abbrev main_v61 : Ref sig .tc := ⟨.hbm, 87, rfl⟩
abbrev main_cst_15 : Ref sig .tc := ⟨.hbm, 88, rfl⟩
abbrev main_cst_16 : Ref sig .tc := ⟨.hbm, 89, rfl⟩
abbrev main_v62 : Ref sig .tc := ⟨.hbm, 90, rfl⟩
abbrev main_v63 : Ref sig .tc := ⟨.hbm, 91, rfl⟩
abbrev main_cst_17 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_18 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_19 : Ref sig .tc := ⟨.hbm, 103, rfl⟩
abbrev main_v73 : Ref sig .tc := ⟨.hbm, 104, rfl⟩
abbrev main_v74 : Ref sig .tc := ⟨.hbm, 105, rfl⟩
abbrev main_cst_20 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_21 : Ref sig .tc := ⟨.hbm, 112, rfl⟩
abbrev main_v80 : Ref sig .tc := ⟨.hbm, 113, rfl⟩
abbrev main_v81 : Ref sig .tc := ⟨.hbm, 114, rfl⟩
abbrev main_cst_22 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_23 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_24 : Ref sig .tc := ⟨.hbm, 138, rfl⟩
abbrev main_v103 : Ref sig .tc := ⟨.hbm, 139, rfl⟩
abbrev main_v104 : Ref sig .tc := ⟨.hbm, 140, rfl⟩
abbrev main_cst_25 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_26 : Ref sig .tc := ⟨.hbm, 148, rfl⟩
abbrev main_v111 : Ref sig .tc := ⟨.hbm, 149, rfl⟩
abbrev main_v112 : Ref sig .tc := ⟨.hbm, 150, rfl⟩
abbrev main_cst_27 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩

abbrev nD : Nat := 1
abbrev τ : Topo := Topo.v7x

variable {F : FTy → Type} [FloatOps F]
-- ==== Kernel2.lean ====
abbrev S2x4096x1024 : Shape := ⟨3, ![2, 4096, 1024]⟩
abbrev S1x1024 : Shape := ⟨2, ![1, 1024]⟩
abbrev S1x1024x3592 : Shape := ⟨3, ![1, 1024, 3592]⟩
abbrev S1x512 : Shape := ⟨2, ![1, 512]⟩
abbrev S1x4x128x128 : Shape := ⟨4, ![1, 4, 128, 128]⟩
abbrev S1x4x128 : Shape := ⟨3, ![1, 4, 128]⟩
abbrev S2x4096x512 : Shape := ⟨3, ![2, 4096, 512]⟩
abbrev S2x4096x1536 : Shape := ⟨3, ![2, 4096, 1536]⟩
abbrev S2x4096x8 : Shape := ⟨3, ![2, 4096, 8]⟩
abbrev S3592x1x1024 : Shape := ⟨3, ![3592, 1, 1024]⟩
abbrev S3592x1024 : Shape := ⟨2, ![3592, 1024]⟩
abbrev S8x1024 : Shape := ⟨2, ![8, 1024]⟩
abbrev S_ : Shape := ⟨0, ![]⟩
abbrev S128x1024 : Shape := ⟨2, ![128, 1024]⟩
abbrev S4x128x128 : Shape := ⟨3, ![4, 128, 128]⟩
abbrev S4x128 : Shape := ⟨2, ![4, 128]⟩
abbrev S128x4 : Shape := ⟨2, ![128, 4]⟩
abbrev S8192x1024 : Shape := ⟨2, ![8192, 1024]⟩
abbrev S1024 : Shape := ⟨1, ![1024]⟩
abbrev S8192 : Shape := ⟨1, ![8192]⟩
abbrev S8192x1 : Shape := ⟨2, ![8192, 1]⟩
abbrev S1x1024x1536 : Shape := ⟨3, ![1, 1024, 1536]⟩
abbrev S1024x1536 : Shape := ⟨2, ![1024, 1536]⟩
abbrev S8192x1536 : Shape := ⟨2, ![8192, 1536]⟩
abbrev S8192x8 : Shape := ⟨2, ![8192, 8]⟩
abbrev S8192x128 : Shape := ⟨2, ![8192, 128]⟩
abbrev S8192x512 : Shape := ⟨2, ![8192, 512]⟩
abbrev S8x449x1024 : Shape := ⟨3, ![8, 449, 1024]⟩
abbrev S256x1024 : Shape := ⟨2, ![256, 1024]⟩
abbrev S256x1536 : Shape := ⟨2, ![256, 1536]⟩
abbrev S256x512 : Shape := ⟨2, ![256, 512]⟩
abbrev S256x128 : Shape := ⟨2, ![256, 128]⟩
abbrev S3712x1024 : Shape := ⟨2, ![3712, 1024]⟩
abbrev S449x1024 : Shape := ⟨2, ![449, 1024]⟩
abbrev S256 : Shape := ⟨1, ![256]⟩
abbrev S256x1 : Shape := ⟨2, ![256, 1]⟩
abbrev S512x1024 : Shape := ⟨2, ![512, 1024]⟩
abbrev S128x128 : Shape := ⟨2, ![128, 128]⟩
abbrev S1x4 : Shape := ⟨2, ![1, 4]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩
abbrev S1536x1024 : Shape := ⟨2, ![1536, 1024]⟩
abbrev S1x449x1024 : Shape := ⟨3, ![1, 449, 1024]⟩

abbrev nBuf : Space → Nat
  | .hbm => 61
  | .vmem => 31
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x3592, .f32⟩
  | .hbm, ⟨3, _⟩ => ⟨S1x512, .f32⟩
  | .hbm, ⟨4, _⟩ => ⟨S1x512, .f32⟩
  | .hbm, ⟨5, _⟩ => ⟨S1x4x128x128, .f32⟩
  | .hbm, ⟨6, _⟩ => ⟨S1x4x128, .f32⟩
  | .hbm, ⟨7, _⟩ => ⟨S2x4096x1024, .f32⟩
  | .hbm, ⟨8, _⟩ => ⟨S2x4096x512, .f32⟩
  | .hbm, ⟨9, _⟩ => ⟨S2x4096x1536, .f32⟩
  | .hbm, ⟨10, _⟩ => ⟨S2x4096x512, .f32⟩
  | .hbm, ⟨11, _⟩ => ⟨S2x4096x8, .f32⟩
  | .hbm, ⟨12, _⟩ => ⟨S3592x1x1024, .f32⟩
  | .hbm, ⟨13, _⟩ => ⟨S3592x1024, .f32⟩
  | .hbm, ⟨14, _⟩ => ⟨S3592x1024, .bf16⟩
  | .hbm, ⟨15, _⟩ => ⟨S8x1024, .bf16⟩
  | .hbm, ⟨16, _⟩ => ⟨S_, .i32⟩
  | .hbm, ⟨17, _⟩ => ⟨S_, .bf16⟩
  | .hbm, ⟨18, _⟩ => ⟨S128x1024, .bf16⟩
  | .hbm, ⟨19, _⟩ => ⟨S4x128x128, .f32⟩
  | .hbm, ⟨20, _⟩ => ⟨S4x128, .f32⟩
  | .hbm, ⟨21, _⟩ => ⟨S128x4, .f32⟩
  | .hbm, ⟨22, _⟩ => ⟨S8192x1024, .f32⟩
  | .hbm, ⟨23, _⟩ => ⟨S1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1x1024x1536, .f32⟩
  | .hbm, ⟨41, _⟩ => ⟨S1024x1536, .f32⟩
  | .hbm, ⟨42, _⟩ => ⟨S8192x1536, .f32⟩
  | .hbm, ⟨43, _⟩ => ⟨S8192x8, .f32⟩
  | .hbm, ⟨44, _⟩ => ⟨S_, .i32⟩
  | .hbm, ⟨45, _⟩ => ⟨S_, .f32⟩
  | .hbm, ⟨46, _⟩ => ⟨S8192x128, .f32⟩
  | .hbm, ⟨47, _⟩ => ⟨S8192x1024, .f32⟩
  | .hbm, ⟨48, _⟩ => ⟨S8192x512, .f32⟩
  | .hbm, ⟨49, _⟩ => ⟨S8192x1536, .f32⟩
  | .hbm, ⟨50, _⟩ => ⟨S8192x1536, .bf16⟩
  | .hbm, ⟨51, _⟩ => ⟨S8192x512, .f32⟩
  | .hbm, ⟨52, _⟩ => ⟨S8192x512, .bf16⟩
  | .hbm, ⟨53, _⟩ => ⟨S8192x128, .bf16⟩
  | .hbm, ⟨54, _⟩ => ⟨S8192x1024, .f32⟩
  | .hbm, ⟨55, _⟩ => ⟨S8x449x1024, .f32⟩
  | .hbm, ⟨56, _⟩ => ⟨S1x1024, .f32⟩
  | .hbm, ⟨57, _⟩ => ⟨S1x512, .f32⟩
  | .hbm, ⟨58, _⟩ => ⟨S1x512, .f32⟩
  | .hbm, ⟨59, _⟩ => ⟨S4x128x128, .f32⟩
  | .hbm, ⟨60, _⟩ => ⟨S128x4, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1536, .f32⟩
  | .local _ .vmem, ⟨5, _⟩ => ⟨S256x1536, .f32⟩
  | .local _ .vmem, ⟨6, _⟩ => ⟨S256x512, .f32⟩
  | .local _ .vmem, ⟨7, _⟩ => ⟨S256x512, .f32⟩
  | .local _ .vmem, ⟨8, _⟩ => ⟨S256x1536, .bf16⟩
  | .local _ .vmem, ⟨9, _⟩ => ⟨S256x1536, .bf16⟩
  | .local _ .vmem, ⟨10, _⟩ => ⟨S256x512, .bf16⟩
  | .local _ .vmem, ⟨11, _⟩ => ⟨S256x512, .bf16⟩
  | .local _ .vmem, ⟨12, _⟩ => ⟨S256x128, .bf16⟩
  | .local _ .vmem, ⟨13, _⟩ => ⟨S256x128, .bf16⟩
  | .local _ .vmem, ⟨14, _⟩ => ⟨S1x1024, .f32⟩
  | .local _ .vmem, ⟨15, _⟩ => ⟨S1x512, .f32⟩
  | .local _ .vmem, ⟨16, _⟩ => ⟨S1x512, .f32⟩
  | .local _ .vmem, ⟨17, _⟩ => ⟨S4x128x128, .f32⟩
  | .local _ .vmem, ⟨18, _⟩ => ⟨S128x4, .f32⟩
  | .local _ .vmem, ⟨19, _⟩ => ⟨S3592x1024, .bf16⟩
  | .local _ .vmem, ⟨20, _⟩ => ⟨S128x1024, .bf16⟩
  | .local _ .vmem, ⟨21, _⟩ => ⟨S256x1024, .f32⟩
  | .local _ .vmem, ⟨22, _⟩ => ⟨S256x1024, .f32⟩
  | .local _ .vmem, ⟨23, _⟩ => ⟨S1x1024, .f32⟩
  | .local _ .vmem, ⟨24, _⟩ => ⟨S1x512, .f32⟩
  | .local _ .vmem, ⟨25, _⟩ => ⟨S1x512, .f32⟩
  | .local _ .vmem, ⟨26, _⟩ => ⟨S4x128x128, .f32⟩
  | .local _ .vmem, ⟨27, _⟩ => ⟨S128x4, .f32⟩
  | .local _ .vmem, ⟨28, _⟩ => ⟨S3712x1024, .f32⟩
  | .local _ .vmem, ⟨29, _⟩ => ⟨S449x1024, .f32⟩
  | .local _ .vmem, ⟨30, _⟩ => ⟨S256x1536, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_2 : Ref sig .tc := ⟨.hbm, 44, rfl⟩
abbrev main_call1_v0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35_0 : Ref sig .tc := ⟨.hbm, 54, rfl⟩
abbrev main_v35_1 : Ref sig .tc := ⟨.hbm, 55, rfl⟩
abbrev main_v35_2 : Ref sig .tc := ⟨.hbm, 56, rfl⟩
abbrev main_v35_3 : Ref sig .tc := ⟨.hbm, 57, rfl⟩
abbrev main_v35_4 : Ref sig .tc := ⟨.hbm, 58, rfl⟩
abbrev main_v35_5 : Ref sig .tc := ⟨.hbm, 59, rfl⟩
abbrev main_v35_6 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3592x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x4 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Kernel2Ideal.lean ====
variable {F : FTy → Type} [FloatOps F] [Named F]
def κ : String → Option EReal := fun
  | "density" => some (((9465531 / 16777216) * (Real.sqrt (2⁻¹)) : ℝ) : EReal)
  | "root_half" => some ((Real.sqrt (2⁻¹) : ℝ) : EReal)
  | _ => none
-- ==== Reference2Ideal.lean ====
abbrev S2x4096x1024 : Shape := ⟨3, ![2, 4096, 1024]⟩
abbrev S1x1024 : Shape := ⟨2, ![1, 1024]⟩
abbrev S1x1024x3592 : Shape := ⟨3, ![1, 1024, 3592]⟩
abbrev S1x512 : Shape := ⟨2, ![1, 512]⟩
abbrev S1x4x128x128 : Shape := ⟨4, ![1, 4, 128, 128]⟩
abbrev S1x4x128 : Shape := ⟨3, ![1, 4, 128]⟩
abbrev S2x4096x512 : Shape := ⟨3, ![2, 4096, 512]⟩
abbrev S2x4096x1536 : Shape := ⟨3, ![2, 4096, 1536]⟩
abbrev S2x4096x8 : Shape := ⟨3, ![2, 4096, 8]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1024x3592 : Shape := ⟨2, ![1024, 3592]⟩
abbrev S2x4096x3592 : Shape := ⟨3, ![2, 4096, 3592]⟩
abbrev S512 : Shape := ⟨1, ![512]⟩
abbrev S4x128x128 : Shape := ⟨3, ![4, 128, 128]⟩
abbrev S4x128 : Shape := ⟨2, ![4, 128]⟩
abbrev S2x32x128x4x128 : Shape := ⟨5, ![2, 32, 128, 4, 128]⟩
abbrev S2x32x128x4 : Shape := ⟨4, ![2, 32, 128, 4]⟩
abbrev S2x32x128x4x1 : Shape := ⟨5, ![2, 32, 128, 4, 1]⟩
abbrev S1x1x1x4x128 : Shape := ⟨5, ![1, 1, 1, 4, 128]⟩
abbrev S128x128 : Shape := ⟨2, ![128, 128]⟩
abbrev S4x2x32x128x128 : Shape := ⟨5, ![4, 2, 32, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S3592x1024 : Shape := ⟨2, ![3592, 1024]⟩
abbrev S8192x1024 : Shape := ⟨2, ![8192, 1024]⟩
abbrev S3592x1x1024 : Shape := ⟨3, ![3592, 1, 1024]⟩
abbrev S8x449x1024 : Shape := ⟨3, ![8, 449, 1024]⟩

abbrev nBuf : Space → Nat
  | .hbm => 282
  | .vmem => 0
  | .smem => 0
  | _ => 0

abbrev hbmTy0_0 (i : Nat) : BufTy := match i % 128 with
  | 0 => ⟨S2x4096x1024, .f32⟩
  | 1 => ⟨S1x1024, .f32⟩
  | 2 => ⟨S1x1024x3592, .f32⟩
  | 3 => ⟨S1x512, .f32⟩
  | 4 => ⟨S1x512, .f32⟩
  | 5 => ⟨S1x4x128x128, .f32⟩
  | 6 => ⟨S1x4x128, .f32⟩
  | 7 => ⟨S2x4096x1024, .f32⟩
  | 8 => ⟨S2x4096x512, .f32⟩
  | 9 => ⟨S2x4096x1536, .f32⟩
  | 10 => ⟨S2x4096x512, .f32⟩
  | 11 => ⟨S2x4096x8, .f32⟩
  | 12 => ⟨S1024, .f32⟩
  | 13 => ⟨S2x4096x1024, .f32⟩
  | 14 => ⟨S_, .f32⟩
  | 15 => ⟨S2x4096, .f32⟩
  | 16 => ⟨S2x4096x1, .f32⟩
  | 17 => ⟨S_, .f32⟩
  | 18 => ⟨S2x4096x1, .f32⟩
  | 19 => ⟨S2x4096x1, .f32⟩
  | 20 => ⟨S_, .f32⟩
  | 21 => ⟨S2x4096x1, .f32⟩
  | 22 => ⟨S2x4096x1, .f32⟩
  | 23 => ⟨S2x4096x1, .f32⟩
  | 24 => ⟨S2x4096x1, .f32⟩
  | 25 => ⟨S_, .f32⟩
  | 26 => ⟨S2x4096x1, .f32⟩
  | 27 => ⟨S2x4096x1, .f32⟩
  | 28 => ⟨S2x4096x1024, .f32⟩
  | 29 => ⟨S2x4096x1024, .f32⟩
  | 30 => ⟨S1x1x1024, .f32⟩
  | 31 => ⟨S2x4096x1024, .f32⟩
  | 32 => ⟨S2x4096x1024, .f32⟩
  | 33 => ⟨S1024x3592, .f32⟩
  | 34 => ⟨S2x4096x3592, .f32⟩
  | 35 => ⟨S2x4096x512, .f32⟩
  | 36 => ⟨S2x4096x512, .f32⟩
  | 37 => ⟨S2x4096x512, .f32⟩
  | 38 => ⟨S2x4096x1536, .f32⟩
  | 39 => ⟨S2x4096x512, .f32⟩
  | 40 => ⟨S2x4096x8, .f32⟩
  | 41 => ⟨S512, .f32⟩
  | 42 => ⟨S512, .f32⟩
  | 43 => ⟨S4x128x128, .f32⟩
  | 44 => ⟨S4x128, .f32⟩
  | 45 => ⟨S_, .f32⟩
  | 46 => ⟨S2x4096x512, .f32⟩
  | 47 => ⟨S2x4096x512, .f32⟩
  | 48 => ⟨S2x4096x512, .f32⟩
  | 49 => ⟨S_, .f32⟩
  | 50 => ⟨S_, .f32⟩
  | 51 => ⟨S2x4096x512, .f32⟩
  | 52 => ⟨S2x4096x512, .f32⟩
  | 53 => ⟨S2x4096x512, .f32⟩
  | 54 => ⟨S2x4096x512, .f32⟩
  | 55 => ⟨S2x4096x512, .f32⟩
  | 56 => ⟨S2x4096x512, .f32⟩
  | 57 => ⟨S2x4096x512, .f32⟩
  | 58 => ⟨S_, .f32⟩
  | 59 => ⟨S2x4096x512, .f32⟩
  | 60 => ⟨S2x4096x512, .f32⟩
  | 61 => ⟨S2x4096x512, .f32⟩
  | 62 => ⟨S_, .f32⟩
  | 63 => ⟨S_, .f32⟩
  | 64 => ⟨S2x4096x512, .f32⟩
  | 65 => ⟨S2x4096x512, .f32⟩
  | 66 => ⟨S2x4096x512, .f32⟩
  | 67 => ⟨S2x4096x512, .f32⟩
  | 68 => ⟨S2x4096x512, .f32⟩
  | 69 => ⟨S2x4096x512, .f32⟩
  | 70 => ⟨S2x4096x512, .f32⟩
  | 71 => ⟨S2x32x128x4x128, .f32⟩
  | 72 => ⟨S4x128, .f32⟩
  | 73 => ⟨S4x128, .f32⟩
  | 74 => ⟨S_, .f32⟩
  | 75 => ⟨S2x32x128x4, .f32⟩
  | 76 => ⟨S2x32x128x4x1, .f32⟩
  | 77 => ⟨S_, .f32⟩
  | 78 => ⟨S2x32x128x4x1, .f32⟩
  | 79 => ⟨S2x32x128x4x1, .f32⟩
  | 80 => ⟨S2x32x128x4x128, .f32⟩
  | 81 => ⟨S2x32x128x4x128, .f32⟩
  | 82 => ⟨S2x32x128x4x128, .f32⟩
  | 83 => ⟨S_, .f32⟩
  | 84 => ⟨S2x32x128x4, .f32⟩
  | 85 => ⟨S2x32x128x4x1, .f32⟩
  | 86 => ⟨S_, .f32⟩
  | 87 => ⟨S2x32x128x4x1, .f32⟩
  | 88 => ⟨S2x32x128x4x1, .f32⟩
  | 89 => ⟨S_, .f32⟩
  | 90 => ⟨S2x32x128x4x1, .f32⟩
  | 91 => ⟨S2x32x128x4x1, .f32⟩
  | 92 => ⟨S2x32x128x4x1, .f32⟩
  | 93 => ⟨S2x32x128x4x1, .f32⟩
  | 94 => ⟨S_, .f32⟩
  | 95 => ⟨S2x32x128x4x1, .f32⟩
  | 96 => ⟨S2x32x128x4x1, .f32⟩
  | 97 => ⟨S2x32x128x4x128, .f32⟩
  | 98 => ⟨S2x32x128x4x128, .f32⟩
  | 99 => ⟨S1x1x1x4x128, .f32⟩
  | 100 => ⟨S2x32x128x4x128, .f32⟩
  | 101 => ⟨S2x32x128x4x128, .f32⟩
  | 102 => ⟨S1x1x1x4x128, .f32⟩
  | 103 => ⟨S2x32x128x4x128, .f32⟩
  | 104 => ⟨S2x32x128x4x128, .f32⟩
  | 105 => ⟨S_, .i1⟩
  | 106 => ⟨S128x128, .i1⟩
  | 107 => ⟨S128x128, .i32⟩
  | 108 => ⟨S_, .i32⟩
  | 109 => ⟨S128x128, .i32⟩
  | 110 => ⟨S128x128, .i32⟩
  | 111 => ⟨S128x128, .i32⟩
  | 112 => ⟨S128x128, .i1⟩
  | 113 => ⟨S_, .i1⟩
  | 114 => ⟨S128x128, .i1⟩
  | 115 => ⟨S128x128, .i1⟩
  | 116 => ⟨S_, .f32⟩
  | 117 => ⟨S4x128x128, .f32⟩
  | 118 => ⟨S4x128x128, .i1⟩
  | 119 => ⟨S4x128x128, .f32⟩
  | 120 => ⟨S_, .f32⟩
  | 121 => ⟨S4x128x128, .f32⟩
  | 122 => ⟨S4x2x32x128x128, .f32⟩
  | 123 => ⟨S2x32x128x4x128, .f32⟩
  | 124 => ⟨S128x4, .f32⟩
  | 125 => ⟨S128x4x1, .f32⟩
  | 126 => ⟨S1x1x128x4x1, .f32⟩
  | 127 => ⟨S2x32x128x4x128, .f32⟩
  | _ => ⟨S2x4096x1024, .f32⟩

abbrev hbmTy0_1 (i : Nat) : BufTy := match i % 128 with
  | 0 => ⟨S2x32x128x4x128, .f32⟩
  | 1 => ⟨S2x4096x512, .f32⟩
  | 2 => ⟨S2x4096x512, .f32⟩
  | 3 => ⟨S2x4096x512, .f32⟩
  | 4 => ⟨S2x4096x512, .f32⟩
  | 5 => ⟨S_, .f32⟩
  | 6 => ⟨S2x4096x512, .f32⟩
  | 7 => ⟨S2x4096x512, .f32⟩
  | 8 => ⟨S_, .f32⟩
  | 9 => ⟨S2x4096x512, .f32⟩
  | 10 => ⟨S2x4096x512, .f32⟩
  | 11 => ⟨S_, .f32⟩
  | 12 => ⟨S2x4096x512, .f32⟩
  | 13 => ⟨S2x4096x512, .f32⟩
  | 14 => ⟨S2x4096x512, .f32⟩
  | 15 => ⟨S2x4096x512, .f32⟩
  | 16 => ⟨S2x4096x512, .f32⟩
  | 17 => ⟨S2x4096x512, .f32⟩
  | 18 => ⟨S2x4096x512, .f32⟩
  | 19 => ⟨S2x4096x512, .f32⟩
  | 20 => ⟨S2x4096x512, .f32⟩
  | 21 => ⟨S2x4096x512, .f32⟩
  | 22 => ⟨S2x4096x512, .f32⟩
  | 23 => ⟨S2x4096x512, .f32⟩
  | 24 => ⟨S2x4096x512, .f32⟩
  | 25 => ⟨S2x32x128x4x128, .f32⟩
  | 26 => ⟨S_, .f32⟩
  | 27 => ⟨S128x4, .f32⟩
  | 28 => ⟨S1x1x128x4x1, .f32⟩
  | 29 => ⟨S_, .f32⟩
  | 30 => ⟨S128x4, .f32⟩
  | 31 => ⟨S128x4x1, .f32⟩
  | 32 => ⟨S_, .f32⟩
  | 33 => ⟨S128x4, .f32⟩
  | 34 => ⟨S4x128, .f32⟩
  | 35 => ⟨S4x2x32x128x128, .f32⟩
  | 36 => ⟨S4x128x128, .f32⟩
  | 37 => ⟨S4x2x32x128x128, .f32⟩
  | 38 => ⟨S2x32x128x4x128, .f32⟩
  | 39 => ⟨S_, .f32⟩
  | 40 => ⟨S4x128x128, .f32⟩
  | 41 => ⟨S4x128x128, .f32⟩
  | 42 => ⟨S_, .f32⟩
  | 43 => ⟨S4x128, .f32⟩
  | 44 => ⟨S1x1x1x4x128, .f32⟩
  | 45 => ⟨S_, .f32⟩
  | 46 => ⟨S4x128, .f32⟩
  | 47 => ⟨S2x32x128x4x128, .f32⟩
  | 48 => ⟨S_, .f32⟩
  | 49 => ⟨S4x128, .f32⟩
  | 50 => ⟨S1x1x1x4x128, .f32⟩
  | 51 => ⟨S2x32x128x4x128, .f32⟩
  | 52 => ⟨S2x32x128x4x128, .f32⟩
  | 53 => ⟨S_, .f32⟩
  | 54 => ⟨S4x128, .f32⟩
  | 55 => ⟨S2x32x128x4x128, .f32⟩
  | 56 => ⟨S_, .f32⟩
  | 57 => ⟨S2x32x128x4, .f32⟩
  | 58 => ⟨S2x32x128x4x1, .f32⟩
  | 59 => ⟨S2x32x128x4x128, .f32⟩
  | 60 => ⟨S2x32x128x4x128, .f32⟩
  | 61 => ⟨S2x32x128x4x1, .f32⟩
  | 62 => ⟨S_, .f32⟩
  | 63 => ⟨S2x32x128x4x1, .f32⟩
  | 64 => ⟨S2x32x128x4x1, .f32⟩
  | 65 => ⟨S_, .f32⟩
  | 66 => ⟨S2x32x128x4, .f32⟩
  | 67 => ⟨S2x32x128x4x128, .f32⟩
  | 68 => ⟨S2x32x128x4x128, .f32⟩
  | 69 => ⟨S2x32x128x4x128, .f32⟩
  | 70 => ⟨S2x32x128x4x128, .f32⟩
  | 71 => ⟨S2x32x128x4x128, .f32⟩
  | 72 => ⟨S2x32x128x4x128, .f32⟩
  | 73 => ⟨S_, .f32⟩
  | 74 => ⟨S2x32x128x4, .f32⟩
  | 75 => ⟨S2x32x128x4x1, .f32⟩
  | 76 => ⟨S_, .f32⟩
  | 77 => ⟨S2x32x128x4x1, .f32⟩
  | 78 => ⟨S2x32x128x4x1, .f32⟩
  | 79 => ⟨S_, .f32⟩
  | 80 => ⟨S2x32x128x4, .f32⟩
  | 81 => ⟨S2x32x128x4x128, .f32⟩
  | 82 => ⟨S2x32x128x4x128, .f32⟩
  | 83 => ⟨S512, .f32⟩
  | 84 => ⟨S512, .f32⟩
  | 85 => ⟨S2x4096x512, .f32⟩
  | 86 => ⟨S2x4096x512, .f32⟩
  | 87 => ⟨S2x4096x512, .f32⟩
  | 88 => ⟨S_, .f32⟩
  | 89 => ⟨S2x4096x512, .f32⟩
  | 90 => ⟨S2x4096x512, .f32⟩
  | 91 => ⟨S2x4096x512, .f32⟩
  | 92 => ⟨S2x4096x512, .f32⟩
  | 93 => ⟨S2x4096x512, .f32⟩
  | 94 => ⟨S2x4096x512, .f32⟩
  | 95 => ⟨S_, .f32⟩
  | 96 => ⟨S2x4096x512, .f32⟩
  | 97 => ⟨S2x4096x512, .f32⟩
  | 98 => ⟨S2x4096x512, .f32⟩
  | 99 => ⟨S2x4096x512, .f32⟩
  | 100 => ⟨S2x4096x512, .f32⟩
  | 101 => ⟨S_, .f32⟩
  | 102 => ⟨S2x4096x512, .f32⟩
  | 103 => ⟨S2x4096x512, .f32⟩
  | 104 => ⟨S2x4096x512, .f32⟩
  | 105 => ⟨S2x4096x512, .f32⟩
  | 106 => ⟨S2x4096x512, .f32⟩
  | 107 => ⟨S2x4096x512, .f32⟩
  | 108 => ⟨S_, .f32⟩
  | 109 => ⟨S2x4096x512, .f32⟩
  | 110 => ⟨S2x4096x512, .f32⟩
  | 111 => ⟨S2x4096x512, .f32⟩
  | 112 => ⟨S1x4x128, .f32⟩
  | 113 => ⟨S1x4x128x128, .f32⟩
  | 114 => ⟨S1x512, .f32⟩
  | 115 => ⟨S1x512, .f32⟩
  | 116 => ⟨S2x4096x3592, .f32⟩
  | 117 => ⟨S3592x1024, .f32⟩
  | 118 => ⟨S1024x3592, .f32⟩
  | 119 => ⟨S2x4096x1024, .f32⟩
  | 120 => ⟨S1x1024x3592, .f32⟩
  | 121 => ⟨S2x4096x1024, .f32⟩
  | 122 => ⟨S_, .f32⟩
  | 123 => ⟨S1024, .f32⟩
  | 124 => ⟨S1x1x1024, .f32⟩
  | 125 => ⟨S2x4096x1024, .f32⟩
  | 126 => ⟨S2x4096x1024, .f32⟩
  | 127 => ⟨S_, .f32⟩
  | _ => ⟨S2x4096x1024, .f32⟩

abbrev hbmTy0_2 (i : Nat) : BufTy := match i % 128 with
  | 0 => ⟨S1024, .f32⟩
  | 1 => ⟨S2x4096x1024, .f32⟩
  | 2 => ⟨S_, .f32⟩
  | 3 => ⟨S2x4096, .f32⟩
  | 4 => ⟨S2x4096x1, .f32⟩
  | 5 => ⟨S2x4096x1024, .f32⟩
  | 6 => ⟨S2x4096x1024, .f32⟩
  | 7 => ⟨S2x4096x1024, .f32⟩
  | 8 => ⟨S2x4096x1, .f32⟩
  | 9 => ⟨S_, .f32⟩
  | 10 => ⟨S2x4096x1, .f32⟩
  | 11 => ⟨S2x4096x1, .f32⟩
  | 12 => ⟨S_, .f32⟩
  | 13 => ⟨S2x4096, .f32⟩
  | 14 => ⟨S2x4096x1024, .f32⟩
  | 15 => ⟨S2x4096x1024, .f32⟩
  | 16 => ⟨S2x4096x1024, .f32⟩
  | 17 => ⟨S2x4096x1024, .f32⟩
  | 18 => ⟨S2x4096x1024, .f32⟩
  | 19 => ⟨S1x1024, .f32⟩
  | 20 => ⟨S8192x1024, .f32⟩
  | 21 => ⟨S3592x1x1024, .f32⟩
  | 22 => ⟨S8x449x1024, .f32⟩
  | 23 => ⟨S4x128x128, .f32⟩
  | 24 => ⟨S4x128, .f32⟩
  | 25 => ⟨S128x4, .f32⟩
  | _ => ⟨S2x4096x1024, .f32⟩

abbrev hbmTy (i : Nat) : BufTy := match i / 128 with
  | 0 => hbmTy0_0 i
  | 1 => hbmTy0_1 i
  | 2 => hbmTy0_2 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_7 : Ref sig .tc := ⟨.hbm, 74, rfl⟩
abbrev main_v54 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_cst_10 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_c : Ref sig .tc := ⟨.hbm, 105, rfl⟩
abbrev main_v79 : Ref sig .tc := ⟨.hbm, 106, rfl⟩
abbrev main_call0_v0 : Ref sig .tc := ⟨.hbm, 107, rfl⟩
abbrev main_call0_c : Ref sig .tc := ⟨.hbm, 108, rfl⟩
abbrev main_call0_v1 : Ref sig .tc := ⟨.hbm, 109, rfl⟩
abbrev main_call0_v2 : Ref sig .tc := ⟨.hbm, 110, rfl⟩
abbrev main_call0_v3 : Ref sig .tc := ⟨.hbm, 111, rfl⟩
abbrev main_call0_v4 : Ref sig .tc := ⟨.hbm, 112, rfl⟩
abbrev main_call0_c_0 : Ref sig .tc := ⟨.hbm, 113, rfl⟩
abbrev main_call0_v5 : Ref sig .tc := ⟨.hbm, 114, rfl⟩
abbrev main_v80 : Ref sig .tc := ⟨.hbm, 115, rfl⟩
abbrev main_cst_13 : Ref sig .tc := ⟨.hbm, 116, rfl⟩
abbrev main_v81 : Ref sig .tc := ⟨.hbm, 117, rfl⟩
abbrev main_v82_1 : Ref sig .tc := ⟨.hbm, 118, rfl⟩
abbrev main_v82_0 : Ref sig .tc := ⟨.hbm, 119, rfl⟩
abbrev main_call1_cst : Ref sig .tc := ⟨.hbm, 120, rfl⟩
abbrev main_v82_2 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_call2_v0 : Ref sig .tc := ⟨.hbm, 131, rfl⟩
abbrev main_call2_v1 : Ref sig .tc := ⟨.hbm, 132, rfl⟩
abbrev main_call2_cst : Ref sig .tc := ⟨.hbm, 133, rfl⟩
abbrev main_call2_v2 : Ref sig .tc := ⟨.hbm, 134, rfl⟩
abbrev main_call2_v3 : Ref sig .tc := ⟨.hbm, 135, rfl⟩
abbrev main_call2_cst_0 : Ref sig .tc := ⟨.hbm, 136, rfl⟩
abbrev main_call2_v4 : Ref sig .tc := ⟨.hbm, 137, rfl⟩
abbrev main_v92_2 : Ref sig .tc := ⟨.hbm, 138, rfl⟩
abbrev main_call2_cst_1 : Ref sig .tc := ⟨.hbm, 139, rfl⟩
abbrev main_call2_v6 : Ref sig .tc := ⟨.hbm, 140, rfl⟩
abbrev main_call2_v7 : Ref sig .tc := ⟨.hbm, 141, rfl⟩
abbrev main_v92_1 : Ref sig .tc := ⟨.hbm, 142, rfl⟩
abbrev main_v92_0 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_call3_v0 : Ref sig .tc := ⟨.hbm, 147, rfl⟩
abbrev main_call3_v1 : Ref sig .tc := ⟨.hbm, 148, rfl⟩
abbrev main_call3_v2 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_cst_14 : Ref sig .tc := ⟨.hbm, 154, rfl⟩
abbrev main_v100 : Ref sig .tc := ⟨.hbm, 155, rfl⟩
abbrev main_v101 : Ref sig .tc := ⟨.hbm, 156, rfl⟩
abbrev main_cst_15 : Ref sig .tc := ⟨.hbm, 157, rfl⟩
abbrev main_v102 : Ref sig .tc := ⟨.hbm, 158, rfl⟩
abbrev main_v103 : Ref sig .tc := ⟨.hbm, 159, rfl⟩
abbrev main_cst_16 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_call4_cst : Ref sig .tc := ⟨.hbm, 167, rfl⟩
abbrev main_call4_v0 : Ref sig .tc := ⟨.hbm, 168, rfl⟩
abbrev main_v110 : Ref sig .tc := ⟨.hbm, 169, rfl⟩
abbrev main_cst_17 : Ref sig .tc := ⟨.hbm, 170, rfl⟩
abbrev main_v111 : Ref sig .tc := ⟨.hbm, 171, rfl⟩
abbrev main_v112 : Ref sig .tc := ⟨.hbm, 172, rfl⟩
abbrev main_cst_18 : Ref sig .tc := ⟨.hbm, 173, rfl⟩
abbrev main_v113 : Ref sig .tc := ⟨.hbm, 174, rfl⟩
abbrev main_v114 : Ref sig .tc := ⟨.hbm, 175, rfl⟩
abbrev main_cst_19 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_cst_20 : Ref sig .tc := ⟨.hbm, 181, rfl⟩
abbrev main_v119 : Ref sig .tc := ⟨.hbm, 182, rfl⟩
abbrev main_v120 : Ref sig .tc := ⟨.hbm, 183, rfl⟩
abbrev main_cst_21 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_cst_22 : Ref sig .tc := ⟨.hbm, 190, rfl⟩
abbrev main_v126 : Ref sig .tc := ⟨.hbm, 191, rfl⟩
abbrev main_v127 : Ref sig .tc := ⟨.hbm, 192, rfl⟩
abbrev main_cst_23 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_cst_24 : Ref sig .tc := ⟨.hbm, 201, rfl⟩
abbrev main_v135 : Ref sig .tc := ⟨.hbm, 202, rfl⟩
abbrev main_v136 : Ref sig .tc := ⟨.hbm, 203, rfl⟩
abbrev main_cst_25 : Ref sig .tc := ⟨.hbm, 204, rfl⟩
abbrev main_v137 : Ref sig .tc := ⟨.hbm, 205, rfl⟩
abbrev main_v138 : Ref sig .tc := ⟨.hbm, 206, rfl⟩
abbrev main_cst_26 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_cst_27 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_cst_28 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_cst_29 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_cst_30 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_cst_31 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_cst_32 : Ref sig .tc := ⟨.hbm, 255, rfl⟩
abbrev main_v181 : Ref sig .tc := ⟨.hbm, 256, rfl⟩
abbrev main_v182 : Ref sig .tc := ⟨.hbm, 257, rfl⟩
abbrev main_cst_33 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_cst_34 : Ref sig .tc := ⟨.hbm, 265, rfl⟩
abbrev main_v189 : Ref sig .tc := ⟨.hbm, 266, rfl⟩
abbrev main_v190 : Ref sig .tc := ⟨.hbm, 267, rfl⟩
abbrev main_cst_35 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩

abbrev nD : Nat := 1
abbrev τ : Topo := Topo.v7x

variable {F : FTy → Type} [FloatOps F]
-- ==== Kernel3.lean ====
abbrev S2x4096x1024 : Shape := ⟨3, ![2, 4096, 1024]⟩
abbrev S1x1024 : Shape := ⟨2, ![1, 1024]⟩
abbrev S1x1024x3592 : Shape := ⟨3, ![1, 1024, 3592]⟩
abbrev S1x512 : Shape := ⟨2, ![1, 512]⟩
abbrev S1x4x128x128 : Shape := ⟨4, ![1, 4, 128, 128]⟩
abbrev S1x4x128 : Shape := ⟨3, ![1, 4, 128]⟩
abbrev S1x4x1536 : Shape := ⟨3, ![1, 4, 1536]⟩
abbrev S3592x1x1024 : Shape := ⟨3, ![3592, 1, 1024]⟩
abbrev S3592x1024 : Shape := ⟨2, ![3592, 1024]⟩
abbrev S8x1024 : Shape := ⟨2, ![8, 1024]⟩
abbrev S_ : Shape := ⟨0, ![]⟩
abbrev S128x1024 : Shape := ⟨2, ![128, 1024]⟩
abbrev S4x128x128 : Shape := ⟨3, ![4, 128, 128]⟩
abbrev S4x128 : Shape := ⟨2, ![4, 128]⟩
abbrev S128x4 : Shape := ⟨2, ![128, 4]⟩
abbrev S8192x1024 : Shape := ⟨2, ![8192, 1024]⟩
abbrev S4x1536 : Shape := ⟨2, ![4, 1536]⟩
abbrev S8192x1536 : Shape := ⟨2, ![8192, 1536]⟩
abbrev S8192x512 : Shape := ⟨2, ![8192, 512]⟩
abbrev S8192x128 : Shape := ⟨2, ![8192, 128]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S520x1536 : Shape := ⟨2, ![520, 1536]⟩
abbrev S8x1536 : Shape := ⟨2, ![8, 1536]⟩
abbrev S512 : Shape := ⟨1, ![512]⟩
abbrev S512x1 : Shape := ⟨2, ![512, 1]⟩
abbrev S128x128 : Shape := ⟨2, ![128, 128]⟩
abbrev S1x4 : Shape := ⟨2, ![1, 4]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩
abbrev S1x1536 : Shape := ⟨2, ![1, 1536]⟩

abbrev nBuf : Space → Nat
  | .hbm => 26
  | .vmem => 23
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x3592, .f32⟩
  | .hbm, ⟨3, _⟩ => ⟨S1x512, .f32⟩
  | .hbm, ⟨4, _⟩ => ⟨S1x512, .f32⟩
  | .hbm, ⟨5, _⟩ => ⟨S1x4x128x128, .f32⟩
  | .hbm, ⟨6, _⟩ => ⟨S1x4x128, .f32⟩
  | .hbm, ⟨7, _⟩ => ⟨S1x4x1536, .f32⟩
  | .hbm, ⟨8, _⟩ => ⟨S3592x1x1024, .f32⟩
  | .hbm, ⟨9, _⟩ => ⟨S3592x1024, .f32⟩
  | .hbm, ⟨10, _⟩ => ⟨S3592x1024, .bf16⟩
  | .hbm, ⟨11, _⟩ => ⟨S8x1024, .bf16⟩
  | .hbm, ⟨12, _⟩ => ⟨S_, .i32⟩
  | .hbm, ⟨13, _⟩ => ⟨S_, .bf16⟩
  | .hbm, ⟨14, _⟩ => ⟨S128x1024, .bf16⟩
  | .hbm, ⟨15, _⟩ => ⟨S4x128x128, .f32⟩
  | .hbm, ⟨16, _⟩ => ⟨S4x128, .f32⟩
  | .hbm, ⟨17, _⟩ => ⟨S128x4, .f32⟩
  | .hbm, ⟨18, _⟩ => ⟨S8192x1024, .f32⟩
  | .hbm, ⟨19, _⟩ => ⟨S4x1536, .f32⟩
  | .hbm, ⟨20, _⟩ => ⟨S8192x1536, .f32⟩
  | .hbm, ⟨21, _⟩ => ⟨S8192x1536, .f32⟩
  | .hbm, ⟨22, _⟩ => ⟨S8192x512, .f32⟩
  | .hbm, ⟨23, _⟩ => ⟨S8192x128, .f32⟩
  | .hbm, ⟨24, _⟩ => ⟨S8192x512, .bf16⟩
  | .hbm, ⟨25, _⟩ => ⟨S8192x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3592x1024, .bf16⟩
  | .local _ .vmem, ⟨4, _⟩ => ⟨S128x1024, .bf16⟩
  | .local _ .vmem, ⟨5, _⟩ => ⟨S1x512, .f32⟩
  | .local _ .vmem, ⟨6, _⟩ => ⟨S1x512, .f32⟩
  | .local _ .vmem, ⟨7, _⟩ => ⟨S4x128x128, .f32⟩
  | .local _ .vmem, ⟨8, _⟩ => ⟨S128x4, .f32⟩
  | .local _ .vmem, ⟨9, _⟩ => ⟨S4x1536, .f32⟩
  | .local _ .vmem, ⟨10, _⟩ => ⟨S512x1536, .f32⟩
  | .local _ .vmem, ⟨11, _⟩ => ⟨S512x1536, .f32⟩
  | .local _ .vmem, ⟨12, _⟩ => ⟨S512x1536, .f32⟩
  | .local _ .vmem, ⟨13, _⟩ => ⟨S512x1536, .f32⟩
  | .local _ .vmem, ⟨14, _⟩ => ⟨S512x512, .f32⟩
  | .local _ .vmem, ⟨15, _⟩ => ⟨S512x512, .f32⟩
  | .local _ .vmem, ⟨16, _⟩ => ⟨S512x128, .f32⟩
  | .local _ .vmem, ⟨17, _⟩ => ⟨S512x128, .f32⟩
  | .local _ .vmem, ⟨18, _⟩ => ⟨S512x512, .bf16⟩
  | .local _ .vmem, ⟨19, _⟩ => ⟨S512x512, .bf16⟩
  | .local _ .vmem, ⟨20, _⟩ => ⟨S512x1536, .f32⟩
  | .local _ .vmem, ⟨21, _⟩ => ⟨S512x1536, .f32⟩
  | .local _ .vmem, ⟨22, _⟩ => ⟨S520x1536, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3592x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel3Ideal.lean ====
variable {F : FTy → Type} [FloatOps F] [Named F]
def κ : String → Option EReal := fun
  | "root_half" => some ((Real.sqrt (2⁻¹) : ℝ) : EReal)
  | _ => none
-- ==== Reference3Ideal.lean ====
abbrev S2x4096x1024 : Shape := ⟨3, ![2, 4096, 1024]⟩
abbrev S1x1024 : Shape := ⟨2, ![1, 1024]⟩
abbrev S1x1024x3592 : Shape := ⟨3, ![1, 1024, 3592]⟩
abbrev S1x512 : Shape := ⟨2, ![1, 512]⟩
abbrev S1x4x128x128 : Shape := ⟨4, ![1, 4, 128, 128]⟩
abbrev S1x4x128 : Shape := ⟨3, ![1, 4, 128]⟩
abbrev S1x4x1536 : Shape := ⟨3, ![1, 4, 1536]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1024x3592 : Shape := ⟨2, ![1024, 3592]⟩
abbrev S2x4096x3592 : Shape := ⟨3, ![2, 4096, 3592]⟩
abbrev S2x4096x512 : Shape := ⟨3, ![2, 4096, 512]⟩
abbrev S2x4096x1536 : Shape := ⟨3, ![2, 4096, 1536]⟩
abbrev S2x4096x8 : Shape := ⟨3, ![2, 4096, 8]⟩
abbrev S512 : Shape := ⟨1, ![512]⟩
abbrev S4x128x128 : Shape := ⟨3, ![4, 128, 128]⟩
abbrev S4x128 : Shape := ⟨2, ![4, 128]⟩
abbrev S2x32x128x4x128 : Shape := ⟨5, ![2, 32, 128, 4, 128]⟩
abbrev S2x32x128x4 : Shape := ⟨4, ![2, 32, 128, 4]⟩
abbrev S2x32x128x4x1 : Shape := ⟨5, ![2, 32, 128, 4, 1]⟩
abbrev S1x1x1x4x128 : Shape := ⟨5, ![1, 1, 1, 4, 128]⟩
abbrev S128x128 : Shape := ⟨2, ![128, 128]⟩
abbrev S4x2x32x128x128 : Shape := ⟨5, ![4, 2, 32, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S4x1536 : Shape := ⟨2, ![4, 1536]⟩
abbrev S2x4099x1536 : Shape := ⟨3, ![2, 4099, 1536]⟩
abbrev S1x1536 : Shape := ⟨2, ![1, 1536]⟩
abbrev S1536 : Shape := ⟨1, ![1536]⟩
abbrev S1x1x1536 : Shape := ⟨3, ![1, 1, 1536]⟩
abbrev S8192x1536 : Shape := ⟨2, ![8192, 1536]⟩
abbrev S8192x512 : Shape := ⟨2, ![8192, 512]⟩
abbrev S8192x8 : Shape := ⟨2, ![8192, 8]⟩
abbrev S8192x128 : Shape := ⟨2, ![8192, 128]⟩

abbrev nBuf : Space → Nat
  | .hbm => 166
  | .vmem => 0
  | .smem => 0
  | _ => 0

abbrev hbmTy0_0 (i : Nat) : BufTy := match i % 128 with
  | 0 => ⟨S2x4096x1024, .f32⟩
  | 1 => ⟨S1x1024, .f32⟩
  | 2 => ⟨S1x1024x3592, .f32⟩
  | 3 => ⟨S1x512, .f32⟩
  | 4 => ⟨S1x512, .f32⟩
  | 5 => ⟨S1x4x128x128, .f32⟩
  | 6 => ⟨S1x4x128, .f32⟩
  | 7 => ⟨S1x4x1536, .f32⟩
  | 8 => ⟨S1024, .f32⟩
  | 9 => ⟨S2x4096x1024, .f32⟩
  | 10 => ⟨S_, .f32⟩
  | 11 => ⟨S2x4096, .f32⟩
  | 12 => ⟨S2x4096x1, .f32⟩
  | 13 => ⟨S_, .f32⟩
  | 14 => ⟨S2x4096x1, .f32⟩
  | 15 => ⟨S2x4096x1, .f32⟩
  | 16 => ⟨S_, .f32⟩
  | 17 => ⟨S2x4096x1, .f32⟩
  | 18 => ⟨S2x4096x1, .f32⟩
  | 19 => ⟨S2x4096x1, .f32⟩
  | 20 => ⟨S2x4096x1024, .f32⟩
  | 21 => ⟨S2x4096x1024, .f32⟩
  | 22 => ⟨S1x1x1024, .f32⟩
  | 23 => ⟨S2x4096x1024, .f32⟩
  | 24 => ⟨S2x4096x1024, .f32⟩
  | 25 => ⟨S1024x3592, .f32⟩
  | 26 => ⟨S2x4096x3592, .f32⟩
  | 27 => ⟨S2x4096x512, .f32⟩
  | 28 => ⟨S2x4096x512, .f32⟩
  | 29 => ⟨S2x4096x512, .f32⟩
  | 30 => ⟨S2x4096x1536, .f32⟩
  | 31 => ⟨S2x4096x512, .f32⟩
  | 32 => ⟨S2x4096x8, .f32⟩
  | 33 => ⟨S512, .f32⟩
  | 34 => ⟨S512, .f32⟩
  | 35 => ⟨S4x128x128, .f32⟩
  | 36 => ⟨S4x128, .f32⟩
  | 37 => ⟨S_, .f32⟩
  | 38 => ⟨S2x4096x512, .f32⟩
  | 39 => ⟨S2x4096x512, .f32⟩
  | 40 => ⟨S2x4096x512, .f32⟩
  | 41 => ⟨S_, .f32⟩
  | 42 => ⟨S_, .f32⟩
  | 43 => ⟨S2x4096x512, .f32⟩
  | 44 => ⟨S2x4096x512, .f32⟩
  | 45 => ⟨S2x4096x512, .f32⟩
  | 46 => ⟨S2x4096x512, .f32⟩
  | 47 => ⟨S_, .f32⟩
  | 48 => ⟨S2x4096x512, .f32⟩
  | 49 => ⟨S2x4096x512, .f32⟩
  | 50 => ⟨S2x4096x512, .f32⟩
  | 51 => ⟨S_, .f32⟩
  | 52 => ⟨S_, .f32⟩
  | 53 => ⟨S2x4096x512, .f32⟩
  | 54 => ⟨S2x4096x512, .f32⟩
  | 55 => ⟨S2x4096x512, .f32⟩
  | 56 => ⟨S2x4096x512, .f32⟩
  | 57 => ⟨S2x32x128x4x128, .f32⟩
  | 58 => ⟨S4x128, .f32⟩
  | 59 => ⟨S4x128, .f32⟩
  | 60 => ⟨S_, .f32⟩
  | 61 => ⟨S2x32x128x4, .f32⟩
  | 62 => ⟨S2x32x128x4x1, .f32⟩
  | 63 => ⟨S_, .f32⟩
  | 64 => ⟨S2x32x128x4x1, .f32⟩
  | 65 => ⟨S2x32x128x4x1, .f32⟩
  | 66 => ⟨S2x32x128x4x128, .f32⟩
  | 67 => ⟨S2x32x128x4x128, .f32⟩
  | 68 => ⟨S2x32x128x4x128, .f32⟩
  | 69 => ⟨S_, .f32⟩
  | 70 => ⟨S2x32x128x4, .f32⟩
  | 71 => ⟨S2x32x128x4x1, .f32⟩
  | 72 => ⟨S_, .f32⟩
  | 73 => ⟨S2x32x128x4x1, .f32⟩
  | 74 => ⟨S2x32x128x4x1, .f32⟩
  | 75 => ⟨S_, .f32⟩
  | 76 => ⟨S2x32x128x4x1, .f32⟩
  | 77 => ⟨S2x32x128x4x1, .f32⟩
  | 78 => ⟨S2x32x128x4x1, .f32⟩
  | 79 => ⟨S2x32x128x4x128, .f32⟩
  | 80 => ⟨S2x32x128x4x128, .f32⟩
  | 81 => ⟨S1x1x1x4x128, .f32⟩
  | 82 => ⟨S2x32x128x4x128, .f32⟩
  | 83 => ⟨S2x32x128x4x128, .f32⟩
  | 84 => ⟨S1x1x1x4x128, .f32⟩
  | 85 => ⟨S2x32x128x4x128, .f32⟩
  | 86 => ⟨S2x32x128x4x128, .f32⟩
  | 87 => ⟨S_, .i1⟩
  | 88 => ⟨S128x128, .i1⟩
  | 89 => ⟨S128x128, .i32⟩
  | 90 => ⟨S_, .i32⟩
  | 91 => ⟨S128x128, .i32⟩
  | 92 => ⟨S128x128, .i32⟩
  | 93 => ⟨S128x128, .i32⟩
  | 94 => ⟨S128x128, .i1⟩
  | 95 => ⟨S_, .i1⟩
  | 96 => ⟨S128x128, .i1⟩
  | 97 => ⟨S128x128, .i1⟩
  | 98 => ⟨S_, .f32⟩
  | 99 => ⟨S4x128x128, .f32⟩
  | 100 => ⟨S4x128x128, .i1⟩
  | 101 => ⟨S4x128x128, .f32⟩
  | 102 => ⟨S4x2x32x128x128, .f32⟩
  | 103 => ⟨S2x32x128x4x128, .f32⟩
  | 104 => ⟨S128x4, .f32⟩
  | 105 => ⟨S128x4x1, .f32⟩
  | 106 => ⟨S1x1x128x4x1, .f32⟩
  | 107 => ⟨S2x32x128x4x128, .f32⟩
  | 108 => ⟨S2x32x128x4x128, .f32⟩
  | 109 => ⟨S2x4096x512, .f32⟩
  | 110 => ⟨S2x4096x512, .f32⟩
  | 111 => ⟨S2x4096x512, .f32⟩
  | 112 => ⟨S2x4096x512, .f32⟩
  | 113 => ⟨S_, .f32⟩
  | 114 => ⟨S2x4096x512, .f32⟩
  | 115 => ⟨S2x4096x512, .f32⟩
  | 116 => ⟨S_, .f32⟩
  | 117 => ⟨S2x4096x512, .f32⟩
  | 118 => ⟨S2x4096x512, .f32⟩
  | 119 => ⟨S2x4096x512, .f32⟩
  | 120 => ⟨S2x4096x512, .f32⟩
  | 121 => ⟨S4x1536, .f32⟩
  | 122 => ⟨S_, .i32⟩
  | 123 => ⟨S_, .f32⟩
  | 124 => ⟨S2x4099x1536, .f32⟩
  | 125 => ⟨S1x1536, .f32⟩
  | 126 => ⟨S1536, .f32⟩
  | 127 => ⟨S2x4096x1536, .f32⟩
  | _ => ⟨S2x4096x1024, .f32⟩

abbrev hbmTy0_1 (i : Nat) : BufTy := match i % 128 with
  | 0 => ⟨S1x1x1536, .f32⟩
  | 1 => ⟨S2x4096x1536, .f32⟩
  | 2 => ⟨S2x4096x1536, .f32⟩
  | 3 => ⟨S_, .f32⟩
  | 4 => ⟨S2x4096x1536, .f32⟩
  | 5 => ⟨S2x4096x1536, .f32⟩
  | 6 => ⟨S1x1536, .f32⟩
  | 7 => ⟨S1536, .f32⟩
  | 8 => ⟨S2x4096x1536, .f32⟩
  | 9 => ⟨S1x1x1536, .f32⟩
  | 10 => ⟨S2x4096x1536, .f32⟩
  | 11 => ⟨S2x4096x1536, .f32⟩
  | 12 => ⟨S2x4096x1536, .f32⟩
  | 13 => ⟨S1x1536, .f32⟩
  | 14 => ⟨S1536, .f32⟩
  | 15 => ⟨S2x4096x1536, .f32⟩
  | 16 => ⟨S1x1x1536, .f32⟩
  | 17 => ⟨S2x4096x1536, .f32⟩
  | 18 => ⟨S2x4096x1536, .f32⟩
  | 19 => ⟨S2x4096x1536, .f32⟩
  | 20 => ⟨S1x1536, .f32⟩
  | 21 => ⟨S1536, .f32⟩
  | 22 => ⟨S2x4096x1536, .f32⟩
  | 23 => ⟨S1x1x1536, .f32⟩
  | 24 => ⟨S2x4096x1536, .f32⟩
  | 25 => ⟨S2x4096x1536, .f32⟩
  | 26 => ⟨S2x4096x1536, .f32⟩
  | 27 => ⟨S2x4096x1536, .f32⟩
  | 28 => ⟨S8192x1536, .f32⟩
  | 29 => ⟨S8192x1536, .f32⟩
  | 30 => ⟨S8192x512, .f32⟩
  | 31 => ⟨S8192x8, .f32⟩
  | 32 => ⟨S_, .i32⟩
  | 33 => ⟨S_, .f32⟩
  | 34 => ⟨S8192x128, .f32⟩
  | 35 => ⟨S8192x512, .f32⟩
  | 36 => ⟨S8192x512, .bf16⟩
  | 37 => ⟨S8192x1536, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c : Ref sig .tc := ⟨.hbm, 87, rfl⟩
abbrev main_v67 : Ref sig .tc := ⟨.hbm, 88, rfl⟩
abbrev main_call0_v0 : Ref sig .tc := ⟨.hbm, 89, rfl⟩
abbrev main_call0_c : Ref sig .tc := ⟨.hbm, 90, rfl⟩
abbrev main_call0_v1 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_c_0 : Ref sig .tc := ⟨.hbm, 95, rfl⟩
abbrev main_call0_v5 : Ref sig .tc := ⟨.hbm, 96, rfl⟩
abbrev main_v68 : Ref sig .tc := ⟨.hbm, 97, rfl⟩
abbrev main_cst_11 : Ref sig .tc := ⟨.hbm, 98, rfl⟩
abbrev main_v69 : Ref sig .tc := ⟨.hbm, 99, rfl⟩
abbrev main_call1_v0 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_call2_v0 : Ref sig .tc := ⟨.hbm, 111, rfl⟩
abbrev main_call2_v1 : Ref sig .tc := ⟨.hbm, 112, rfl⟩
abbrev main_call2_cst : Ref sig .tc := ⟨.hbm, 113, rfl⟩
abbrev main_call2_v2 : Ref sig .tc := ⟨.hbm, 114, rfl⟩
abbrev main_call2_v3 : Ref sig .tc := ⟨.hbm, 115, rfl⟩
abbrev main_call2_cst_0 : Ref sig .tc := ⟨.hbm, 116, rfl⟩
abbrev main_call2_v4 : Ref sig .tc := ⟨.hbm, 117, rfl⟩
abbrev main_call2_v5 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_12 : Ref sig .tc := ⟨.hbm, 122, rfl⟩
abbrev main_call3_v0 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_13 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_c_14 : Ref sig .tc := ⟨.hbm, 160, rfl⟩
abbrev main_call4_v0 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩

abbrev nD : Nat := 1
abbrev τ : Topo := Topo.v7x

variable {F : FTy → Type} [FloatOps F]
-- ==== Kernel4.lean ====
abbrev S2x4096x1536 : Shape := ⟨3, ![2, 4096, 1536]⟩
abbrev S2x4096x512 : Shape := ⟨3, ![2, 4096, 512]⟩
abbrev S2x4096x128 : Shape := ⟨3, ![2, 4096, 128]⟩
abbrev S1x4 : Shape := ⟨2, ![1, 4]⟩
abbrev S1x128 : Shape := ⟨2, ![1, 128]⟩
abbrev S_ : Shape := ⟨0, ![]⟩
abbrev S32x8x128x128 : Shape := ⟨4, ![32, 8, 128, 128]⟩
abbrev S2x256x1536 : Shape := ⟨3, ![2, 256, 1536]⟩
abbrev S2x256x512 : Shape := ⟨3, ![2, 256, 512]⟩
abbrev S2x256x128 : Shape := ⟨3, ![2, 256, 128]⟩
abbrev S2x8x128x128 : Shape := ⟨4, ![2, 8, 128, 128]⟩
abbrev S8x128x128 : Shape := ⟨3, ![8, 128, 128]⟩
abbrev S1x128x128 : Shape := ⟨3, ![1, 128, 128]⟩
abbrev S128x128 : Shape := ⟨2, ![128, 128]⟩
abbrev S1x8x128x128 : Shape := ⟨4, ![1, 8, 128, 128]⟩
abbrev S2x128x128 : Shape := ⟨3, ![2, 128, 128]⟩
abbrev S8x128 : Shape := ⟨2, ![8, 128]⟩
abbrev S8x128x1 : Shape := ⟨3, ![8, 128, 1]⟩
abbrev S1x1x128 : Shape := ⟨3, ![1, 1, 128]⟩
abbrev S128x512 : Shape := ⟨2, ![128, 512]⟩
abbrev S128x1024 : Shape := ⟨2, ![128, 1024]⟩
abbrev S8x128x256 : Shape := ⟨3, ![8, 128, 256]⟩
abbrev S8x1x128 : Shape := ⟨3, ![8, 1, 128]⟩
abbrev S8x256x128 : Shape := ⟨3, ![8, 256, 128]⟩

abbrev nBuf : Space → Nat
  | .hbm => 15
  | .vmem => 16
  | .smem => 0
  | _ => 0

abbrev bufTy : (tb : Table) → Fin (tcTables nBuf tb) → BufTy
  | .hbm, ⟨0, _⟩ => ⟨S2x4096x1536, .f32⟩
  | .hbm, ⟨1, _⟩ => ⟨S2x4096x512, .f32⟩
  | .hbm, ⟨2, _⟩ => ⟨S2x4096x128, .f32⟩
  | .hbm, ⟨3, _⟩ => ⟨S1x4, .f32⟩
  | .hbm, ⟨4, _⟩ => ⟨S1x4, .f32⟩
  | .hbm, ⟨5, _⟩ => ⟨S1x128, .f32⟩
  | .hbm, ⟨6, _⟩ => ⟨S_, .i32⟩
  | .hbm, ⟨7, _⟩ => ⟨S_, .f32⟩
  | .hbm, ⟨8, _⟩ => ⟨S1x128, .f32⟩
  | .hbm, ⟨9, _⟩ => ⟨S_, .i32⟩
  | .hbm, ⟨10, _⟩ => ⟨S_, .f32⟩
  | .hbm, ⟨11, _⟩ => ⟨S1x128, .f32⟩
  | .hbm, ⟨12, _⟩ => ⟨S2x4096x512, .bf16⟩
  | .hbm, ⟨13, _⟩ => ⟨S32x8x128x128, .f32⟩
  | .hbm, ⟨14, _⟩ => ⟨S32x8x128x128, .bf16⟩
  | .local _ .vmem, ⟨0, _⟩ => ⟨S2x256x1536, .f32⟩
  | .local _ .vmem, ⟨1, _⟩ => ⟨S2x256x1536, .f32⟩
  | .local _ .vmem, ⟨2, _⟩ => ⟨S2x256x512, .f32⟩
  | .local _ .vmem, ⟨3, _⟩ => ⟨S2x256x512, .f32⟩
  | .local _ .vmem, ⟨4, _⟩ => ⟨S2x256x128, .f32⟩
  | .local _ .vmem, ⟨5, _⟩ => ⟨S2x256x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S2x256x512, .bf16⟩
  | .local _ .vmem, ⟨10, _⟩ => ⟨S2x256x512, .bf16⟩
  | .local _ .vmem, ⟨11, _⟩ => ⟨S2x8x128x128, .f32⟩
  | .local _ .vmem, ⟨12, _⟩ => ⟨S2x8x128x128, .f32⟩
  | .local _ .vmem, ⟨13, _⟩ => ⟨S2x8x128x128, .bf16⟩
  | .local _ .vmem, ⟨14, _⟩ => ⟨S2x8x128x128, .bf16⟩
  | .local _ .vmem, ⟨15, _⟩ => ⟨S8x128x128, .f32⟩
  | _, _ => ⟨S2x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x8x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel5.lean ====
abbrev S4x449x1024 : Shape := ⟨3, ![4, 449, 1024]⟩
abbrev S1x1024x449 : Shape := ⟨3, ![1, 1024, 449]⟩
abbrev S449x1x1024 : Shape := ⟨3, ![449, 1, 1024]⟩
abbrev S449x1024 : Shape := ⟨2, ![449, 1024]⟩
abbrev S4x449x512 : Shape := ⟨3, ![4, 449, 512]⟩
abbrev S449x512 : Shape := ⟨2, ![449, 512]⟩
abbrev S1x449x512 : Shape := ⟨3, ![1, 449, 512]⟩

abbrev nBuf : Space → Nat
  | .hbm => 14
  | .vmem => 16
  | .smem => 0
  | _ => 0

abbrev bufTy : (tb : Table) → Fin (tcTables nBuf tb) → BufTy
  | .hbm, ⟨0, _⟩ => ⟨S4x449x1024, .bf16⟩
  | .hbm, ⟨1, _⟩ => ⟨S1x1024x449, .f32⟩
  | .hbm, ⟨2, _⟩ => ⟨S1x1024x449, .f32⟩
  | .hbm, ⟨3, _⟩ => ⟨S1x1024x449, .f32⟩
  | .hbm, ⟨4, _⟩ => ⟨S449x1x1024, .f32⟩
  | .hbm, ⟨5, _⟩ => ⟨S449x1024, .f32⟩
  | .hbm, ⟨6, _⟩ => ⟨S449x1x1024, .f32⟩
  | .hbm, ⟨7, _⟩ => ⟨S449x1024, .f32⟩
  | .hbm, ⟨8, _⟩ => ⟨S449x1x1024, .f32⟩
  | .hbm, ⟨9, _⟩ => ⟨S449x1024, .f32⟩
  | .hbm, ⟨10, _⟩ => ⟨S449x1024, .f32⟩
  | .hbm, ⟨11, _⟩ => ⟨S449x1024, .f32⟩
  | .hbm, ⟨12, _⟩ => ⟨S449x1024, .f32⟩
  | .hbm, ⟨13, _⟩ => ⟨S449x1024, .f32⟩
  | .local _ .vmem, ⟨0, _⟩ => ⟨S4x449x512, .bf16⟩
  | .local _ .vmem, ⟨1, _⟩ => ⟨S4x449x512, .bf16⟩
  | .local _ .vmem, ⟨2, _⟩ => ⟨S449x512, .f32⟩
  | .local _ .vmem, ⟨3, _⟩ => ⟨S449x512, .f32⟩
  | .local _ .vmem, ⟨4, _⟩ => ⟨S449x512, .f32⟩
  | .local _ .vmem, ⟨5, _⟩ => ⟨S449x512, .f32⟩
  | .local _ .vmem, ⟨6, _⟩ => ⟨S449x512, .f32⟩
  | .local _ .vmem, ⟨7, _⟩ => ⟨S449x512, .f32⟩
  | .local _ .vmem, ⟨8, _⟩ => ⟨S449x512, .f32⟩
  | .local _ .vmem, ⟨9, _⟩ => ⟨S449x512, .f32⟩
  | .local _ .vmem, ⟨10, _⟩ => ⟨S449x512, .f32⟩
  | .local _ .vmem, ⟨11, _⟩ => ⟨S449x512, .f32⟩
  | .local _ .vmem, ⟨12, _⟩ => ⟨S449x512, .f32⟩
  | .local _ .vmem, ⟨13, _⟩ => ⟨S449x512, .f32⟩
  | .local _ .vmem, ⟨14, _⟩ => ⟨S449x512, .f32⟩
  | .local _ .vmem, ⟨15, _⟩ => ⟨S449x512, .f32⟩
  | _, _ => ⟨S4x449x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x449x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S449x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S449x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S449x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S449x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S449x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S449x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S449x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S4x449x1024 : Shape := ⟨3, ![4, 449, 1024]⟩
abbrev S1x1024x449 : Shape := ⟨3, ![1, 1024, 449]⟩
abbrev S_ : Shape := ⟨0, ![]⟩
abbrev S449x1024 : Shape := ⟨2, ![449, 1024]⟩
abbrev S1024x449 : Shape := ⟨2, ![1024, 449]⟩

abbrev nBuf : Space → Nat
  | .hbm => 50
  | .vmem => 0
  | .smem => 0
  | _ => 0

abbrev bufTy : (tb : Table) → Fin (tcTables nBuf tb) → BufTy
  | .hbm, ⟨0, _⟩ => ⟨S4x449x1024, .bf16⟩
  | .hbm, ⟨1, _⟩ => ⟨S1x1024x449, .f32⟩
  | .hbm, ⟨2, _⟩ => ⟨S1x1024x449, .f32⟩
  | .hbm, ⟨3, _⟩ => ⟨S1x1024x449, .f32⟩
  | .hbm, ⟨4, _⟩ => ⟨S4x449x1024, .f32⟩
  | .hbm, ⟨5, _⟩ => ⟨S_, .f32⟩
  | .hbm, ⟨6, _⟩ => ⟨S449x1024, .f32⟩
  | .hbm, ⟨7, _⟩ => ⟨S1024x449, .f32⟩
  | .hbm, ⟨8, _⟩ => ⟨S1x1024x449, .f32⟩
  | .hbm, ⟨9, _⟩ => ⟨S_, .f32⟩
  | .hbm, ⟨10, _⟩ => ⟨S1x1024x449, .f32⟩
  | .hbm, ⟨11, _⟩ => ⟨S1x1024x449, .f32⟩
  | .hbm, ⟨12, _⟩ => ⟨S_, .f32⟩
  | .hbm, ⟨13, _⟩ => ⟨S1x1024x449, .f32⟩
  | .hbm, ⟨14, _⟩ => ⟨S1x1024x449, .f32⟩
  | .hbm, ⟨15, _⟩ => ⟨S1x1024x449, .f32⟩
  | .hbm, ⟨16, _⟩ => ⟨S_, .f32⟩
  | .hbm, ⟨17, _⟩ => ⟨S1x1024x449, .f32⟩
  | .hbm, ⟨18, _⟩ => ⟨S1x1024x449, .f32⟩
  | .hbm, ⟨19, _⟩ => ⟨S1x1024x449, .f32⟩
  | .hbm, ⟨20, _⟩ => ⟨S_, .f32⟩
  | .hbm, ⟨21, _⟩ => ⟨S1x1024x449, .f32⟩
  | .hbm, ⟨22, _⟩ => ⟨S1x1024x449, .f32⟩
  | .hbm, ⟨23, _⟩ => ⟨S1x1024x449, .f32⟩
  | .hbm, ⟨24, _⟩ => ⟨S_, .f32⟩
  | .hbm, ⟨25, _⟩ => ⟨S1x1024x449, .f32⟩
  | .hbm, ⟨26, _⟩ => ⟨S1x1024x449, .f32⟩
  | .hbm, ⟨27, _⟩ => ⟨S_, .f32⟩
  | .hbm, ⟨28, _⟩ => ⟨S1x1024x449, .f32⟩
  | .hbm, ⟨29, _⟩ => ⟨S1x1024x449, .f32⟩
  | .hbm, ⟨30, _⟩ => ⟨S1x1024x449, .f32⟩
  | .hbm, ⟨31, _⟩ => ⟨S_, .f32⟩
  | .hbm, ⟨32, _⟩ => ⟨S1x1024x449, .f32⟩
  | .hbm, ⟨33, _⟩ => ⟨S1x1024x449, .f32⟩
  | .hbm, ⟨34, _⟩ => ⟨S1x1024x449, .f32⟩
  | .hbm, ⟨35, _⟩ => ⟨S_, .f32⟩
  | .hbm, ⟨36, _⟩ => ⟨S1x1024x449, .f32⟩
  | .hbm, ⟨37, _⟩ => ⟨S1x1024x449, .f32⟩
  | .hbm, ⟨38, _⟩ => ⟨S1x1024x449, .f32⟩
  | .hbm, ⟨39, _⟩ => ⟨S_, .f32⟩
  | .hbm, ⟨40, _⟩ => ⟨S1x1024x449, .f32⟩
  | .hbm, ⟨41, _⟩ => ⟨S1x1024x449, .f32⟩
  | .hbm, ⟨42, _⟩ => ⟨S1024x449, .f32⟩
  | .hbm, ⟨43, _⟩ => ⟨S449x1024, .f32⟩
  | .hbm, ⟨44, _⟩ => ⟨S1024x449, .f32⟩
  | .hbm, ⟨45, _⟩ => ⟨S449x1024, .f32⟩
  | .hbm, ⟨46, _⟩ => ⟨S1024x449, .f32⟩
  | .hbm, ⟨47, _⟩ => ⟨S449x1024, .f32⟩
  | .hbm, ⟨48, _⟩ => ⟨S1024x449, .f32⟩
  | .hbm, ⟨49, _⟩ => ⟨S449x1024, .f32⟩
  | _, _ => ⟨S4x449x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Proof.Blocks.lean ====
module

public import Idealize.ShloMosaic.PureOps.Ideal
public import Idealize.ShloMosaic.Adequacy
public import Idealize.ShloMosaic.Init
public import Idealize.ShloMosaic.Lib.VecWindow
public import Idealize.ShloMosaic.Lib.ValueIdx
public import Idealize.ShloMosaic.Lib.ValueLayout
public import Idealize.ShloMosaic.Lib.Pointwise

@[expose] public section

noncomputable section

namespace Cert.Blocks

open Idealize.ShloMosaic Idealize.ShloMosaic.TcCoe Idealize.ShloMosaic.Tactic

/-- Eight blocks that split a buffer, each written with what it reads off a content, leave that content. -/
theorem write_blocks {sig : RefSig} (b : Ref sig .tc) {s' : Shape} (r : Fin 8 → Rect b.ty.shape) (hr : ∀ k a, (r k).stride a = 1) (hq : ∀ k, (r k).shape.Squeezes s')
    (S : b.ty.shape.Idx → Fin 8) (hS : ∀ k i, i ∈ (r k).set ↔ S i = k) (G : b.ty.Contents (Elt Ideal))
    (w : Fin 8 → s'.Idx → Elt Ideal b.ty.elt) (hw : ∀ k, w k = ((((Memref.whole b).slice (r k) (hr k)).squeeze s' (hq k)).view.read (Elt Ideal) G)) (f : b.ty.Contents (Elt Ideal)) :
    (((Memref.whole b).slice (r 7) (hr 7)).squeeze s' (hq 7)).view.write (Elt Ideal)
      ((((Memref.whole b).slice (r 6) (hr 6)).squeeze s' (hq 6)).view.write (Elt Ideal)
      ((((Memref.whole b).slice (r 5) (hr 5)).squeeze s' (hq 5)).view.write (Elt Ideal)
      ((((Memref.whole b).slice (r 4) (hr 4)).squeeze s' (hq 4)).view.write (Elt Ideal)
      ((((Memref.whole b).slice (r 3) (hr 3)).squeeze s' (hq 3)).view.write (Elt Ideal)
      ((((Memref.whole b).slice (r 2) (hr 2)).squeeze s' (hq 2)).view.write (Elt Ideal)
      ((((Memref.whole b).slice (r 1) (hr 1)).squeeze s' (hq 1)).view.write (Elt Ideal)
      ((((Memref.whole b).slice (r 0) (hr 0)).squeeze s' (hq 0)).view.write (Elt Ideal) f (w 0) Finset.univ)
      (w 1) Finset.univ) (w 2) Finset.univ) (w 3) Finset.univ) (w 4) Finset.univ) (w 5) Finset.univ) (w 6) Finset.univ) (w 7) Finset.univ = G := by
  have key : ∀ (k : Fin 8) (g : b.ty.Contents (Elt Ideal)) (i : b.ty.shape.Idx),
      (((Memref.whole b).slice (r k) (hr k)).squeeze s' (hq k)).view.write (Elt Ideal) g (w k) Finset.univ i = if S i = k then G i else g i := by
    intro k g i
    have e := congrFun ((((Memref.whole b).slice (r k) (hr k)).squeeze s' (hq k)).view.write_read_eq_piecewise (Val := Elt Ideal) g G Finset.univ) i
    rw [hw k]; refine e.trans ?_
    have hm : i ∈ (((Memref.whole b).slice (r k) (hr k)).squeeze s' (hq k)).view.setOn Finset.univ ↔ S i = k := by
      rw [View.setOn_univ, Memref.set_view_squeeze, ← hS k i]
      exact iff_of_eq (congrArg (i ∈ ·) (View.set_slice_whole b (r k)))
    by_cases h : S i = k
    · rw [if_pos h]; exact Finset.piecewise_eq_of_mem _ _ _ (hm.mpr h)
    · rw [if_neg h]; exact Finset.piecewise_eq_of_notMem _ _ _ (fun x => h (hm.mp x))
  funext i
  rw [key 7, key 6, key 5, key 4, key 3, key 2, key 1, key 0]
  generalize S i = n
  fin_cases n <;> rfl

theorem mem_block3 (p q : Nat) (k : ℕ) (inb : ∀ a, (![k, 0, 0] : Fin 3 → ℕ) a + (![1, p, q] : Fin 3 → ℕ) a ≤ (⟨3, ![8, p, q]⟩ : Shape).size a)
    (i : (⟨3, ![8, p, q]⟩ : Shape).Idx) :
    i ∈ (Rect.unit (s := ⟨3, ![8, p, q]⟩) ![k, 0, 0] ![1, p, q] inb).set ↔ (i 0).val = k := by
  constructor
  · intro h
    rw [← Rect.map_emb_univ] at h
    obtain ⟨x, -, rfl⟩ := Finset.mem_map.mp h
    have : (x 0).val < 1 := (x 0).isLt
    show k + 1 * (x 0).val = k
    omega
  · intro h
    rw [← Rect.map_emb_univ]
    refine Finset.mem_map.mpr ⟨fun a => match a with | ⟨0, _⟩ => ⟨0, Nat.one_pos⟩ | ⟨1, _⟩ => i 1 | ⟨2, _⟩ => i 2, Finset.mem_univ _, ?_⟩
    funext a; apply Fin.ext
    match a with
    | ⟨0, _⟩ => show k + 1 * 0 = (i 0).val; omega
    | ⟨1, _⟩ => show 0 + 1 * (i 1).val = (i 1).val; omega
    | ⟨2, _⟩ => show 0 + 1 * (i 2).val = (i 2).val; omega

/-- The first rows of a matrix cut into eight blocks of `p` rows. -/
def rowBlocks {R p q : ℕ} (hR : 8 * p ≤ R) (xs : (⟨2, ![R, q]⟩ : Shape).Idx → EReal) : (⟨3, ![8, p, q]⟩ : Shape).Idx → EReal :=
  fun i => xs (ValueIdx.ix2 (⟨p * (i 0).val + (i 1).val, by
    have h0 : (i 0).val < 8 := (i 0).isLt
    have h1 : (i 1).val < p := (i 1).isLt
    have h2 : p * (i 0).val ≤ p * 7 := Nat.mul_le_mul_left p (by omega)
    omega⟩ : Fin R) (i 2 : Fin q))

/-- A block of rows of the matrix is the block of that number. -/
theorem rows_read {R p q : ℕ} (hR : 8 * p ≤ R) (xs : (⟨2, ![R, q]⟩ : Shape).Idx → EReal) (n k : ℕ)
    (inb : ∀ a, (![n, 0] : Fin 2 → ℕ) a + (![p, q] : Fin 2 → ℕ) a ≤ (⟨2, ![R, q]⟩ : Shape).size a)
    (inb' : ∀ a, (![k, 0, 0] : Fin 3 → ℕ) a + (![1, p, q] : Fin 3 → ℕ) a ≤ (⟨3, ![8, p, q]⟩ : Shape).size a)
    (h : (⟨2, ![p, q]⟩ : Shape).numel = (⟨2, ![p, q]⟩ : Shape).numel)
    (hc : (⟨3, ![1, p, q]⟩ : Shape).ShapeCasts ⟨2, ![p, q]⟩) (j : (⟨2, ![p, q]⟩ : Shape).Idx) (hn : n = p * k) :
    xs ((Rect.unit (s := ⟨2, ![R, q]⟩) ![n, 0] ![p, q] inb).idx (Shape.reshapeEquiv h j))
      = shapeCast ⟨2, ![p, q]⟩ (fun x => rowBlocks hR xs ((Rect.unit (s := ⟨3, ![8, p, q]⟩) ![k, 0, 0] ![1, p, q] inb').toLoadRect.idx x)) hc j := by
  rw [Shape.reshapeEquiv_self, ValueIdx.eq_ix2 j]
  refine Eq.trans ?_ (ValueIdx.shapeCast_1ab_ab_apply _ _ _ _).symm
  refine congrArg xs ?_
  funext a; apply Fin.ext
  match a with
  | ⟨0, _⟩ => show n + 1 * (j 0).val = p * (k + 1 * 0) + (0 + 1 * (j 0).val); rw [hn, show k + 1 * 0 = k from rfl]; omega
  | ⟨1, _⟩ => rfl

end Cert.Blocks

end
-- ==== Proof.Gate.Copies.lean ====
module

public import proofs.«01_k».proof.Proof.Gen.Kernel2Ideal.Frame
public import proofs.«01_k».proof.Proof.Blocks
public import Idealize.ShloMosaic.PureOps.Ideal
public import Idealize.ShloMosaic.Adequacy
public import Idealize.ShloMosaic.Init
public import Idealize.ShloMosaic.Lib.VecWindow
public import Idealize.ShloMosaic.Lib.ValueIdx
public import Idealize.ShloMosaic.Lib.ValueLayout
public import Idealize.ShloMosaic.Lib.Pointwise

@[expose] public section

set_option maxRecDepth 65536
set_option maxHeartbeats 1000000

noncomputable section

namespace Cert.Gate

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Blocks

local notation "𝕄" => MT nD τ sig Unit (Elt Ideal) ℕ (Pipeline.UD sig nD τ) ℕ

/-- What the body's main part hands on, the grid coordinate left out. -/
abbrev Rest := Σ' (_ : Vec Ideal S1x1024 .f32) (_ : FVec Ideal S256x1 .f32) (_ : FVec Ideal S256x1024 .f32) (_ : FVec Ideal S256x1024 .f32), FVec Ideal S1x1024 .f32

/-- Past the first point the body's main part depends on the grid coordinate only through the coordinate it returns. -/
theorem part41_at (i i' : grid0.Coords) (h : ¬cond0_0 i) (h' : ¬cond0_0 i') (arg1 : Memref sig .tc .vmem S256x1024 .f32) (harg1 : arg1.IsWhole) (arg2 : Memref sig .tc .vmem S256x1024 .f32) (harg2 : arg2.IsWhole) (arg3 : Memref sig .tc .vmem S256x1536 .f32) (harg3 : arg3.IsWhole) (arg4 : Memref sig .tc .vmem S256x512 .f32) (harg4 : arg4.IsWhole) (arg5 : Memref sig .tc .vmem S256x1536 .bf16) (harg5 : arg5.IsWhole) (arg6 : Memref sig .tc .vmem S256x512 .bf16) (harg6 : arg6.IsWhole) (arg7 : Memref sig .tc .vmem S256x128 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x4 .f32) (harg12 : arg12.IsWhole) (arg13 : Memref sig .tc .vmem S3592x1024 .bf16) (harg13 : arg13.IsWhole) (arg14 : Memref sig .tc .vmem S128x1024 .bf16) (harg14 : arg14.IsWhole) (arg15 : Memref sig .tc .vmem S256x1024 .f32) (harg15 : arg15.IsWhole) (arg17 : Memref sig .tc .vmem S1x1024 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x128x128 .f32) (harg20 : arg20.IsWhole) (arg21 : Memref sig .tc .vmem S128x4 .f32) (harg21 : arg21.IsWhole) (arg22 : Memref sig .tc .vmem S3712x1024 .f32) (harg22 : arg22.IsWhole) (arg23 : Memref sig .tc .vmem S449x1024 .f32) (harg23 : arg23.IsWhole) (arg24 : Memref sig .tc .vmem S256x1536 .bf16) (harg24 : arg24.IsWhole) :
    k0_part41 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 (Memref.whole main_v35_1) (Memref.isWhole_whole _) arg17 harg17 arg18 harg18 arg19 harg19 arg20 harg20 arg21 harg21 arg22 harg22 arg23 harg23 arg24 harg24 cc0_scoped0 cc0_scoped1 cc0_scoped2 cc0_scoped3 cc0_scoped4 cc0_scoped5 cc0_scoped6 cc0_scoped7
      = k0_part41 (F := Ideal) i' arg1 harg1 arg2 harg2 arg3 harg3 arg4 harg4 arg5 harg5 arg6 harg6 arg7 harg7 arg8 harg8 arg9 harg9 arg10 harg10 arg11 harg11 arg12 harg12 arg13 harg13 arg14 harg14 arg15 harg15 (Memref.whole main_v35_1) (Memref.isWhole_whole _) arg17 harg17 arg18 harg18 arg19 harg19 arg20 harg20 arg21 harg21 arg22 harg22 arg23 harg23 arg24 harg24 cc0_scoped0 cc0_scoped1 cc0_scoped2 cc0_scoped3 cc0_scoped4 cc0_scoped5 cc0_scoped6 cc0_scoped7 >>= fun p => pure ⟨BitVec.ofNat 32 (i 0).val, p.2⟩ := by
  have e : ¬ Scalar.cmpi .ne (Scalar.extui (Scalar.cmpi .eq (BitVec.ofNat 32 (i 0).val) 0#32 : BitVec 1) : BitVec 32) 0#32 = 1#1 := h
  have e' : ¬ Scalar.cmpi .ne (Scalar.extui (Scalar.cmpi .eq (BitVec.ofNat 32 (i' 0).val) 0#32 : BitVec 1) : BitVec 32) 0#32 = 1#1 := h'
  rw [k0_part41_eq_skeleton]; unfold k0_part41_skel
  simp only [k0_part3_eq_skeleton]
  unfold k0_part3_skel
  simp only [dif_neg e, dif_neg e', bind_assoc, pure_bind]
  with_unfolding_all rfl

/-- What the body does after its main part: some stores, and at the last point it copies the accumulator out, eight blocks of it. -/
theorem tail_run (c : Dev nD) (arg1 : Memref sig .tc .vmem S256x1024 .f32) (harg1 : arg1.IsWhole) (arg2 : Memref sig .tc .vmem S256x1024 .f32) (harg2 : arg2.IsWhole) (arg3 : Memref sig .tc .vmem S256x1536 .f32) (harg3 : arg3.IsWhole) (arg4 : Memref sig .tc .vmem S256x512 .f32) (harg4 : arg4.IsWhole) (arg5 : Memref sig .tc .vmem S256x1536 .bf16) (harg5 : arg5.IsWhole) (arg6 : Memref sig .tc .vmem S256x512 .bf16) (harg6 : arg6.IsWhole) (arg7 : Memref sig .tc .vmem S256x128 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x4 .f32) (harg12 : arg12.IsWhole) (arg13 : Memref sig .tc .vmem S3592x1024 .bf16) (harg13 : arg13.IsWhole) (arg14 : Memref sig .tc .vmem S128x1024 .bf16) (harg14 : arg14.IsWhole) (arg15 : Memref sig .tc .vmem S256x1024 .f32) (harg15 : arg15.IsWhole) (arg17 : Memref sig .tc .vmem S1x1024 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x128x128 .f32) (harg20 : arg20.IsWhole) (arg21 : Memref sig .tc .vmem S128x4 .f32) (harg21 : arg21.IsWhole) (arg22 : Memref sig .tc .vmem S3712x1024 .f32) (harg22 : arg22.IsWhole) (arg23 : Memref sig .tc .vmem S449x1024 .f32) (harg23 : arg23.IsWhole) (arg24 : Memref sig .tc .vmem S256x1536 .bf16) (harg24 : arg24.IsWhole) :
    ∃ (T : (Σ' (_ : BitVec 32), Rest) → Prog (TpuEff nD τ sig (Elt Ideal) Λ₀ .tc) PUnit) (C : Prog (TpuEff nD τ sig (Elt Ideal) Λ₀ .tc) PUnit),
      (∀ i, cc0_inproj_sgu_bwd (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 (Memref.whole main_v35_1) (Memref.isWhole_whole _) arg17 harg17 arg18 harg18 arg19 harg19 arg20 harg20 arg21 harg21 arg22 harg22 arg23 harg23 arg24 harg24 cc0_scoped0 cc0_scoped1 cc0_scoped2 cc0_scoped3 cc0_scoped4 cc0_scoped5 cc0_scoped6 cc0_scoped7 = k0_part41 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 (Memref.whole main_v35_1) (Memref.isWhole_whole _) arg17 harg17 arg18 harg18 arg19 harg19 arg20 harg20 arg21 harg21 arg22 harg22 arg23 harg23 arg24 harg24 cc0_scoped0 cc0_scoped1 cc0_scoped2 cc0_scoped3 cc0_scoped4 cc0_scoped5 cc0_scoped6 cc0_scoped7 >>= T)
      ∧ (∀ r, T ⟨31#32, r⟩ = T ⟨30#32, r⟩ >>= fun _ => C)
      ∧ ∀ (W : Waits sig Unit) (K : PUnit → sProp 𝕄) (xs0 : Vec Ideal S3712x1024 .f32),
        iprop(owns (c : Thread nD τ) arg22 fullShare xs0 ∗ (∃ d, owns (c : Thread nD τ) arg23 fullShare d) ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ (∃ f, hbPt0 c hbM0_0 f) ∗ owes (c : Thread nD τ) 0 W
            ∗ (iprop(hbPt0 c hbM0_0 (rowBlocks (p := 449) (by decide) xs0) ∗ (∃ W', owes (c : Thread nD τ) 0 W') ∗ (∃ d, owns (c : Thread nD τ) arg23 fullShare d) ∗ owns (c : Thread nD τ) arg22 fullShare xs0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0) -∗ K ⟨⟩))
          ⊢ wp frame (wpE (defs₀ (F := Ideal)) Variants.none c none) Set.univ C K := by
  refine ⟨?T, ?C, ?a, ?b, ?c⟩
  case a =>
    intro i; rw [cc0_inproj_sgu_bwd_eq_skeleton]; unfold cc0_inproj_sgu_bwd_skel
    simp only [k0_part1_eq_skeleton, k0_part2_eq_skeleton]
    unfold k0_part1_skel k0_part2_skel; exact rfl
  case b =>
    intro r
    have y : Scalar.cmpi .ne (Scalar.extui (Scalar.cmpi .eq 31#32 31#32 : BitVec 1) : BitVec 32) 0#32 = 1#1 := by decide
    have n : ¬Scalar.cmpi .ne (Scalar.extui (Scalar.cmpi .eq 30#32 31#32 : BitVec 1) : BitVec 32) 0#32 = 1#1 := by decide
    conv_lhs => simp only [dif_pos y]
    conv_rhs => simp only [dif_neg n, bind_assoc, pure_bind]
  case c =>
    intro W K xs0
    unfold owns
    iintro ⟨⟨%fs0, %hfs0, HS0⟩, ⟨%ds1, %fs1, -, HS1⟩, Hq0, Hq1, Hq2, Hq3, Hq4, Hq5, Hq6, Hq7, ⟨%fw0, Hh0⟩, HW, Hk⟩
    obtain rfl := harg22.eq_unread hfs0
    sl_exec
    sl_step
    have e0 := write_blocks main_v35_1 (fun k => Rect.unit ![k.val, 0, 0] S1x449x1024.size (by intro a; fin_cases k <;> fin_cases a <;> decide)) (fun _ _ => rfl)
      (fun _ => squeezes_S1x449x1024_S449x1024) (fun i => i 0) (fun k i => (mem_block3 449 1024 k.val _ i).trans Fin.ext_iff.symm) (rowBlocks (p := 449) (by decide) xs0)
      (fun k => match k with
        | 0 => _root_.Cert.Gate.tail_run.sl.dma3 c arg22 harg22 arg23 xs0 fs1
        | 1 => _root_.Cert.Gate.tail_run.sl.dma6 c arg22 harg22 arg23 xs0 fs1
        | 2 => _root_.Cert.Gate.tail_run.sl.dma9 c arg22 harg22 arg23 xs0 fs1
        | 3 => _root_.Cert.Gate.tail_run.sl.dma12 c arg22 harg22 arg23 xs0 fs1
        | 4 => _root_.Cert.Gate.tail_run.sl.dma15 c arg22 harg22 arg23 xs0 fs1
        | 5 => _root_.Cert.Gate.tail_run.sl.dma18 c arg22 harg22 arg23 xs0 fs1
        | 6 => _root_.Cert.Gate.tail_run.sl.dma21 c arg22 harg22 arg23 xs0 fs1
        | 7 => _root_.Cert.Gate.tail_run.sl.dma24 c arg22 harg22 arg23 xs0 fs1)
      (by
        intro k
        fin_cases k
        all_goals
          refine (View.read_writes_full _ _ _ _ _).trans ?_
          refine Eq.trans ?_ (Memref.read_squeeze_slice (Memref.whole main_v35_1) _ _ _ (by decide) _).symm
          funext j
          refine (congrFun (harg22.read_unread xs0) _).trans ?_
          exact rows_read (by decide) _ _ _ _ _ _ _ j rfl) fw0
    iapply Hk
    isplitl [Hh0]; · rw [← e0]; iexact Hh0
    clear e0
    isplitl [HW]; · iexists _; iexact HW
    isplitl [HS1]
    · iexists _, _; isplitr; swap; · iexact HS1
      ipureintro; rfl
    isplitl [HS0]
    · iexists _; isplitr; · ipureintro; exact harg22.read_unread _
      iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7

end Cert.Gate

end
-- ==== Proof.Gate.Last.lean ====
module

public import proofs.«01_k».proof.Proof.Gen.Kernel2Ideal.Frame
public import proofs.«01_k».proof.Proof.Gate.Copies
public import Idealize.ShloMosaic.Lib.Pipeline.FrameValue
public import Idealize.ShloMosaic.PureOps.Ideal
public import Idealize.ShloMosaic.Adequacy
public import Idealize.ShloMosaic.Init
public import Idealize.ShloMosaic.Lib.VecWindow
public import Idealize.ShloMosaic.Lib.ValueIdx
public import Idealize.ShloMosaic.Lib.ValueLayout
public import Idealize.ShloMosaic.Lib.Pointwise

@[expose] public section

set_option maxRecDepth 65536
set_option maxHeartbeats 1000000

noncomputable section

namespace Cert.Gate

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Blocks
open Idealize.ShloMosaic.Pipeline (Dat Cfg Window BodyObligation cellOf)

local notation "𝕄" => MT nD τ sig Unit (Elt Ideal) ℕ (Pipeline.UD sig nD τ) ℕ

/-- The last point leaves what an inner point would leave on the same blocks. -/
theorem last_eq (c : Dev nD) (i i' : grid0.Coords) (arg1 : Memref sig .tc .vmem S256x1024 .f32) (harg1 : arg1.IsWhole) (arg2 : Memref sig .tc .vmem S256x1024 .f32) (harg2 : arg2.IsWhole) (arg3 : Memref sig .tc .vmem S256x1536 .f32) (harg3 : arg3.IsWhole) (arg4 : Memref sig .tc .vmem S256x512 .f32) (harg4 : arg4.IsWhole) (arg5 : Memref sig .tc .vmem S256x1536 .bf16) (harg5 : arg5.IsWhole) (arg6 : Memref sig .tc .vmem S256x512 .bf16) (harg6 : arg6.IsWhole) (arg7 : Memref sig .tc .vmem S256x128 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x4 .f32) (harg12 : arg12.IsWhole) (arg13 : Memref sig .tc .vmem S3592x1024 .bf16) (harg13 : arg13.IsWhole) (arg14 : Memref sig .tc .vmem S128x1024 .bf16) (harg14 : arg14.IsWhole) (arg15 : Memref sig .tc .vmem S256x1024 .f32) (harg15 : arg15.IsWhole) (arg17 : Memref sig .tc .vmem S1x1024 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x128x128 .f32) (harg20 : arg20.IsWhole) (arg21 : Memref sig .tc .vmem S128x4 .f32) (harg21 : arg21.IsWhole) (arg22 : Memref sig .tc .vmem S3712x1024 .f32) (harg22 : arg22.IsWhole) (arg23 : Memref sig .tc .vmem S449x1024 .f32) (harg23 : arg23.IsWhole) (arg24 : Memref sig .tc .vmem S256x1536 .bf16) (harg24 : arg24.IsWhole)
    (x0 : Vec Ideal S256x1024 .f32) (x1 : Vec Ideal S256x1024 .f32) (x2 : Vec Ideal S256x1536 .f32) (x3 : Vec Ideal S256x512 .f32) (x4 : Vec Ideal S256x1536 .bf16) (x5 : Vec Ideal S256x512 .bf16) (x6 : Vec Ideal S256x128 .bf16) (x7 : Vec Ideal S1x1024 .f32) (x8 : Vec Ideal S1x512 .f32) (x9 : Vec Ideal S1x512 .f32) (x10 : Vec Ideal S4x128x128 .f32) (x11 : Vec Ideal S128x4 .f32) (x12 : Vec Ideal S3592x1024 .bf16) (x13 : Vec Ideal S128x1024 .bf16) (xo15 : Vec Ideal S1x1024 .f32) (xo16 : Vec Ideal S1x512 .f32) (xo17 : Vec Ideal S1x512 .f32) (xo18 : Vec Ideal S4x128x128 .f32) (xo19 : Vec Ideal S128x4 .f32) (xs0 : Vec Ideal S3712x1024 .f32)
    (hc0 : ¬cond0_0 i) (hc1 : cond0_1 i) (hc0' : ¬cond0_0 i') (hc1' : ¬cond0_1 i') :
    out0_C_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0 hc1 x0 x1 x2 x3 x4 x5 x6 x7 x8 x9 x10 x11 x12 x13 xo15 xo16 xo17 xo18 xo19 xs0 = out0_B_14 (F := Ideal) c i' arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0' hc1' x0 x1 x2 x3 x4 x5 x6 x7 x8 x9 x10 x11 x12 x13 xo15 xo16 xo17 xo18 xo19 xs0
    ∧ out0_C_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0 hc1 x0 x1 x2 x3 x4 x5 x6 x7 x8 x9 x10 x11 x12 x13 xo15 xo16 xo17 xo18 xo19 xs0 = out0_B_15 (F := Ideal) c i' arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0' hc1' x0 x1 x2 x3 x4 x5 x6 x7 x8 x9 x10 x11 x12 x13 xo15 xo16 xo17 xo18 xo19 xs0
    ∧ out0_C_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0 hc1 x0 x1 x2 x3 x4 x5 x6 x7 x8 x9 x10 x11 x12 x13 xo15 xo16 xo17 xo18 xo19 xs0 = out0_B_16 (F := Ideal) c i' arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0' hc1' x0 x1 x2 x3 x4 x5 x6 x7 x8 x9 x10 x11 x12 x13 xo15 xo16 xo17 xo18 xo19 xs0
    ∧ out0_C_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0 hc1 x0 x1 x2 x3 x4 x5 x6 x7 x8 x9 x10 x11 x12 x13 xo15 xo16 xo17 xo18 xo19 xs0 = out0_B_17 (F := Ideal) c i' arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0' hc1' x0 x1 x2 x3 x4 x5 x6 x7 x8 x9 x10 x11 x12 x13 xo15 xo16 xo17 xo18 xo19 xs0
    ∧ out0_C_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0 hc1 x0 x1 x2 x3 x4 x5 x6 x7 x8 x9 x10 x11 x12 x13 xo15 xo16 xo17 xo18 xo19 xs0 = out0_B_18 (F := Ideal) c i' arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0' hc1' x0 x1 x2 x3 x4 x5 x6 x7 x8 x9 x10 x11 x12 x13 xo15 xo16 xo17 xo18 xo19 xs0
    ∧ out0_C_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0 hc1 x0 x1 x2 x3 x4 x5 x6 x7 x8 x9 x10 x11 x12 x13 xo15 xo16 xo17 xo18 xo19 xs0 = out0_B_19 (F := Ideal) c i' arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0' hc1' x0 x1 x2 x3 x4 x5 x6 x7 x8 x9 x10 x11 x12 x13 xo15 xo16 xo17 xo18 xo19 xs0
    ∧ sout0_C_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0 hc1 x0 x1 x2 x3 x4 x5 x6 x7 x8 x9 x10 x11 x12 x13 xo15 xo16 xo17 xo18 xo19 xs0 = sout0_B_0 (F := Ideal) c i' arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0' hc1' x0 x1 x2 x3 x4 x5 x6 x7 x8 x9 x10 x11 x12 x13 xo15 xo16 xo17 xo18 xo19 xs0 := by
  refine ⟨?_, ?_, ?_, ?_, ?_, ?_, ?_⟩
  all_goals rfl

variable (m : (ℓ : Loc nD τ sig) → Buf (Elt Ideal) ℓ)

/-- The last grid point and the one before it. -/
abbrev tLast : Fin cfg0.N := ⟨31, by rw [show cfg0.N = 32 from N_0]; omega⟩
abbrev tPrev : Fin cfg0.N := ⟨30, by rw [show cfg0.N = 32 from N_0]; omega⟩

/-- What the result written by the body's own copies holds at the end. -/
def G (c : Dev nD) : (b : Ref sig .tc) → Buf (Elt Ideal) ((c.tc : Thread nD τ).loc b) :=
  Function.update (V m c) main_v35_1 (rowBlocks (p := 449) (by decide) (outsAt0 m c 31 tLast.isLt).2.2.2.2.2.2)

/-- The invariant after the last point, conjunct by conjunct. -/
theorem PhiDRG0_eq (c : Dev nD) :
    (Pipeline.ΦDRG osem0 spec0 H0 R0 (V m) (G m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0) ∗ iprop(emp)
        ∗ iprop(hbPt0 c hbM0_0 (rowBlocks (p := 449) (by decide) (outsAt0 m c 31 tLast.isLt).2.2.2.2.2.2))) := by
  have e : (Pipeline.routed R0 c (G m c) : sProp 𝕄) = iprop(hbPt0 c hbM0_0 (rowBlocks (p := 449) (by decide) (outsAt0 m c 31 tLast.isLt).2.2.2.2.2.2)) := by
    unfold Pipeline.routed G; rw [BI.bigSep_eq_bigSepL_of_eq [main_v35_1] (by decide) (by decide)]
    simp only [BI.bigSepL_cons_cons, BI.bigSepL_singleton, Function.update_self]
  rw [Pipeline.ΦDRG_eq, scopedRest0_eq, ownSems00_eq, hbmPts0_eq, e]; simp only [scM0_0, scM0_1, scM0_2, owns_whole]; try rfl

/-- The invariant: the generated one, and after the last point the written result at its contents. -/
def PhiG (c : Dev nD) (t : Fin (cfg0.N + 1)) : sProp 𝕄 :=
  if t.val = 32 then Pipeline.ΦDRG osem0 spec0 H0 R0 (V m) (G m) c else (dats m 0 c).Φ t

/-- The proof data with that invariant. -/
def datsG (_ : Fin 1) (c : Dev nD) : Dat τ (Elt Ideal) Unit ℕ (Pipeline.UD sig nD τ) ℕ cfg0 c := { dats m 0 c with Φ := PhiG m c }

theorem word_last : BitVec.ofNat 32 (grid0.coords tLast 0).val = 31#32 := by
  rw [show (grid0.coords tLast 0).val = tLast.val / 1 % 32 from Pipeline.Grid.coords_val tLast 0 (by decide) rfl]; rfl
theorem word_prev : BitVec.ofNat 32 (grid0.coords tPrev 0).val = 30#32 := by
  rw [show (grid0.coords tPrev 0).val = tPrev.val / 1 % 32 from Pipeline.Grid.coords_val tPrev 0 (by decide) rfl]; rfl

set_option maxHeartbeats 4000000 in
/-- The body at the last point: it runs as at an inner point, and then copies the accumulator out. -/
theorem sound_last (c : Dev nD) :
    bodyPre m c tLast ⊢ wp frame (wpE (defs₀ (F := Ideal)) Variants.none c none) Set.univ (bodyAt0 tLast)
      (fun _ => iprop(Pipeline.ΦDRG osem0 spec0 H0 R0 (V m) (G m) c ∗ (dats m 0 c).owesAt () tLast.succ
    ∗ owns (c : Thread nD τ) (ms0_0 tLast) fullShare ((dats m 0 c).after 0 tLast)
    ∗ owns (c : Thread nD τ) (ms0_1 tLast) fullShare ((dats m 0 c).after 1 tLast)
    ∗ owns (c : Thread nD τ) (ms0_2 tLast) fullShare ((dats m 0 c).after 2 tLast)
    ∗ owns (c : Thread nD τ) (ms0_3 tLast) fullShare ((dats m 0 c).after 3 tLast)
    ∗ owns (c : Thread nD τ) (ms0_4 tLast) fullShare ((dats m 0 c).after 4 tLast)
    ∗ owns (c : Thread nD τ) (ms0_5 tLast) fullShare ((dats m 0 c).after 5 tLast)
    ∗ owns (c : Thread nD τ) (ms0_6 tLast) fullShare ((dats m 0 c).after 6 tLast)
    ∗ owns (c : Thread nD τ) (ms0_7 tLast) fullShare ((dats m 0 c).after 7 tLast)
    ∗ owns (c : Thread nD τ) (ms0_8 tLast) fullShare ((dats m 0 c).after 8 tLast)
    ∗ owns (c : Thread nD τ) (ms0_9 tLast) fullShare ((dats m 0 c).after 9 tLast)
    ∗ owns (c : Thread nD τ) (ms0_10 tLast) fullShare ((dats m 0 c).after 10 tLast)
    ∗ owns (c : Thread nD τ) (ms0_11 tLast) fullShare ((dats m 0 c).after 11 tLast)
    ∗ owns (c : Thread nD τ) (ms0_12 tLast) fullShare ((dats m 0 c).after 12 tLast)
    ∗ owns (c : Thread nD τ) (ms0_13 tLast) fullShare ((dats m 0 c).after 13 tLast)
    ∗ owns (c : Thread nD τ) (ms0_14 tLast) fullShare ((dats m 0 c).after 14 tLast)
    ∗ owns (c : Thread nD τ) (ms0_15 tLast) fullShare ((dats m 0 c).after 15 tLast)
    ∗ owns (c : Thread nD τ) (ms0_16 tLast) fullShare ((dats m 0 c).after 16 tLast)
    ∗ owns (c : Thread nD τ) (ms0_17 tLast) fullShare ((dats m 0 c).after 17 tLast)
    ∗ owns (c : Thread nD τ) (ms0_18 tLast) fullShare ((dats m 0 c).after 18 tLast)
    ∗ owns (c : Thread nD τ) (ms0_19 tLast) fullShare ((dats m 0 c).after 19 tLast))) := by
  have h0 : ¬tLast.val % 32 = 0 := by decide
  have h1 : tLast.val % 32 = 31 := by decide
  have c0 : ¬cond0_0 (grid0.coords tLast) := fun h => h0 ((hcond0_0 tLast).mp h)
  have c0' : ¬cond0_0 (grid0.coords tPrev) := fun h => absurd ((hcond0_0 tPrev).mp h) (by decide)
  have c1' : ¬cond0_1 (grid0.coords tPrev) := fun h => absurd ((hcond0_1 tPrev).mp h) (by decide)
  unfold bodyPre bodyAt0
  simp only [before0_0, before0_1, before0_2, before0_3, before0_4, before0_5, before0_6, before0_7, before0_8, before0_9, before0_10, before0_11, before0_12, before0_13]
  rw [PhiDRG0_eq, after0_0, after0_1, after0_2, after0_3, after0_4, after0_5, after0_6, after0_7, after0_8, after0_9, after0_10, after0_11, after0_12, after0_13, after0_14, after0_15, after0_16, after0_17, after0_18, after0_19]
  unfold Dat.owesAt Pipeline.owesWithin
  rw [show (dats m 0 c).owed tLast.castSucc = 0 from rfl, show (dats m 0 c).owed tLast.succ = 0 from rfl]
  rw [PhiS_castSucc m c tLast, PhiS_pos m c _ _ (by decide)]
  rw [show outsAt0 m c 31 tLast.isLt = outsAt0 m c tLast.val tLast.isLt from rfl, outsAt0_C m c tLast h0 h1]
  simp only [before0_15_C m c tLast h0 h1, before0_16_C m c tLast h0 h1, before0_17_C m c tLast h0 h1, before0_18_C m c tLast h0 h1, before0_19_C m c tLast h0 h1]
  have c1 : cond0_1 (grid0.coords tLast) := (hcond0_1 tLast).mpr h1
  obtain ⟨T, C, eT, eC, hT⟩ := tail_run c (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) (ms0_6 tLast) (hs0_6 tLast) (ms0_7 tLast) (hs0_7 tLast) (ms0_8 tLast) (hs0_8 tLast) (ms0_9 tLast) (hs0_9 tLast) (ms0_10 tLast) (hs0_10 tLast) (ms0_11 tLast) (hs0_11 tLast) (ms0_12 tLast) (hs0_12 tLast) (ms0_13 tLast) (hs0_13 tLast) (ms0_14 tLast) (hs0_14 tLast) (ms0_15 tLast) (hs0_15 tLast) (ms0_16 tLast) (hs0_16 tLast) (ms0_17 tLast) (hs0_17 tLast) (ms0_18 tLast) (hs0_18 tLast) (ms0_19 tLast) (hs0_19 tLast) scM0_0 (Memref.isWhole_whole _) scM0_1 (Memref.isWhole_whole _) scM0_2 (Memref.isWhole_whole _)
  have hbody : cc0_inproj_sgu_bwd (F := Ideal) (grid0.coords tLast) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) (ms0_6 tLast) (hs0_6 tLast) (ms0_7 tLast) (hs0_7 tLast) (ms0_8 tLast) (hs0_8 tLast) (ms0_9 tLast) (hs0_9 tLast) (ms0_10 tLast) (hs0_10 tLast) (ms0_11 tLast) (hs0_11 tLast) (ms0_12 tLast) (hs0_12 tLast) (ms0_13 tLast) (hs0_13 tLast) (ms0_14 tLast) (hs0_14 tLast) (Memref.whole main_v35_1) (Memref.isWhole_whole _) (ms0_15 tLast) (hs0_15 tLast) (ms0_16 tLast) (hs0_16 tLast) (ms0_17 tLast) (hs0_17 tLast) (ms0_18 tLast) (hs0_18 tLast) (ms0_19 tLast) (hs0_19 tLast) scM0_0 (Memref.isWhole_whole _) scM0_1 (Memref.isWhole_whole _) scM0_2 (Memref.isWhole_whole _) cc0_scoped0 cc0_scoped1 cc0_scoped2 cc0_scoped3 cc0_scoped4 cc0_scoped5 cc0_scoped6 cc0_scoped7 = (cc0_inproj_sgu_bwd (F := Ideal) (grid0.coords tPrev) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) (ms0_6 tLast) (hs0_6 tLast) (ms0_7 tLast) (hs0_7 tLast) (ms0_8 tLast) (hs0_8 tLast) (ms0_9 tLast) (hs0_9 tLast) (ms0_10 tLast) (hs0_10 tLast) (ms0_11 tLast) (hs0_11 tLast) (ms0_12 tLast) (hs0_12 tLast) (ms0_13 tLast) (hs0_13 tLast) (ms0_14 tLast) (hs0_14 tLast) (Memref.whole main_v35_1) (Memref.isWhole_whole _) (ms0_15 tLast) (hs0_15 tLast) (ms0_16 tLast) (hs0_16 tLast) (ms0_17 tLast) (hs0_17 tLast) (ms0_18 tLast) (hs0_18 tLast) (ms0_19 tLast) (hs0_19 tLast) scM0_0 (Memref.isWhole_whole _) scM0_1 (Memref.isWhole_whole _) scM0_2 (Memref.isWhole_whole _) cc0_scoped0 cc0_scoped1 cc0_scoped2 cc0_scoped3 cc0_scoped4 cc0_scoped5 cc0_scoped6 cc0_scoped7) >>= fun _ => C := by
    rw [eT, eT, part41_at (grid0.coords tLast) (grid0.coords tPrev) c0 c0', word_last]
    conv_rhs => rw [part41_at (grid0.coords tPrev) (grid0.coords tPrev) c0' c0', word_prev]
    simp only [bind_assoc, pure_bind, eC]
  rw [hbody, wp_bind]
  clear hbody eT eC
  obtain ⟨e14, e15, e16, e17, e18, e19, es0⟩ := last_eq c (grid0.coords tLast) (grid0.coords tPrev) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) (ms0_6 tLast) (hs0_6 tLast) (ms0_7 tLast) (hs0_7 tLast) (ms0_8 tLast) (hs0_8 tLast) (ms0_9 tLast) (hs0_9 tLast) (ms0_10 tLast) (hs0_10 tLast) (ms0_11 tLast) (hs0_11 tLast) (ms0_12 tLast) (hs0_12 tLast) (ms0_13 tLast) (hs0_13 tLast) (ms0_14 tLast) (hs0_14 tLast) (ms0_15 tLast) (hs0_15 tLast) (ms0_16 tLast) (hs0_16 tLast) (ms0_17 tLast) (hs0_17 tLast) (ms0_18 tLast) (hs0_18 tLast) (ms0_19 tLast) (hs0_19 tLast) scM0_0 (Memref.isWhole_whole _) scM0_1 (Memref.isWhole_whole _) scM0_2 (Memref.isWhole_whole _)
    (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) (iblk m c 10 tLast) (iblk m c 11 tLast) (iblk m c 12 tLast) (iblk m c 13 tLast) (outsAt0 m c (31 - 1) (lt_of_le_of_lt (Nat.sub_le _ _) tLast.isLt)).2.1 (outsAt0 m c (31 - 1) (lt_of_le_of_lt (Nat.sub_le _ _) tLast.isLt)).2.2.1 (outsAt0 m c (31 - 1) (lt_of_le_of_lt (Nat.sub_le _ _) tLast.isLt)).2.2.2.1 (outsAt0 m c (31 - 1) (lt_of_le_of_lt (Nat.sub_le _ _) tLast.isLt)).2.2.2.2.1 (outsAt0 m c (31 - 1) (lt_of_le_of_lt (Nat.sub_le _ _) tLast.isLt)).2.2.2.2.2.1 (outsAt0 m c (31 - 1) (lt_of_le_of_lt (Nat.sub_le _ _) tLast.isLt)).2.2.2.2.2.2 c0 c1 c0' c1'
  try dsimp only
  rw [e14, e15, e16, e17, e18, e19, es0]
  clear e14 e15 e16 e17 e18 e19 es0
  iintro ⟨⟨⟨HS0, HS1, HS2⟩, Hg, ⟨Hq0, Hq1, Hq2, Hq3, Hq4, Hq5, Hq6, Hq7⟩, -, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((kernelRun0_B c (grid0.coords tPrev) _ _ _ _ _ _ _ _ _ _ _ _ _ _ _ _ _ _ _ _ _ _ _ _ _ _ _ _ _ _ _ _ _ _ _ _ _ _ _ _ _ _ _ _ _ _ c0' c1' (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) (iblk m c 10 tLast) (iblk m c 11 tLast) (iblk m c 12 tLast) (iblk m c 13 tLast) _ _ _ _ _ _).2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexact H15
  isplitl [H16]; · iexact H16
  isplitl [H17]; · iexact H17
  isplitl [H18]; · iexact H18
  isplitl [H19]; · iexact H19
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [HW]; · iexact HW
  iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%s0, HS0⟩, HS1, ⟨%s2, HS2⟩, Hq0, Hq1, Hq2, Hq3, Hq4, Hq5, Hq6, Hq7, Hh0, ⟨%W', HW⟩⟩
  iapply (hT W' _ (sout0_B_0 c (grid0.coords tPrev) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) (ms0_6 tLast) (hs0_6 tLast) (ms0_7 tLast) (hs0_7 tLast) (ms0_8 tLast) (hs0_8 tLast) (ms0_9 tLast) (hs0_9 tLast) (ms0_10 tLast) (hs0_10 tLast) (ms0_11 tLast) (hs0_11 tLast) (ms0_12 tLast) (hs0_12 tLast) (ms0_13 tLast) (hs0_13 tLast) (ms0_14 tLast) (hs0_14 tLast) (ms0_15 tLast) (hs0_15 tLast) (ms0_16 tLast) (hs0_16 tLast) (ms0_17 tLast) (hs0_17 tLast) (ms0_18 tLast) (hs0_18 tLast) (ms0_19 tLast) (hs0_19 tLast) scM0_0 (Memref.isWhole_whole _) scM0_1 (Memref.isWhole_whole _) scM0_2 (Memref.isWhole_whole _) c0' c1' (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) (iblk m c 10 tLast) (iblk m c 11 tLast) (iblk m c 12 tLast) (iblk m c 13 tLast) (outsAt0 m c (31 - 1) (lt_of_le_of_lt (Nat.sub_le _ _) tLast.isLt)).2.1 (outsAt0 m c (31 - 1) (lt_of_le_of_lt (Nat.sub_le _ _) tLast.isLt)).2.2.1 (outsAt0 m c (31 - 1) (lt_of_le_of_lt (Nat.sub_le _ _) tLast.isLt)).2.2.2.1 (outsAt0 m c (31 - 1) (lt_of_le_of_lt (Nat.sub_le _ _) tLast.isLt)).2.2.2.2.1 (outsAt0 m c (31 - 1) (lt_of_le_of_lt (Nat.sub_le _ _) tLast.isLt)).2.2.2.2.2.1 (outsAt0 m c (31 - 1) (lt_of_le_of_lt (Nat.sub_le _ _) tLast.isLt)).2.2.2.2.2.2))
  isplitl [HS0]
  · unfold owns; iexists _; isplitr
    swap; · iexact HS0
    ipureintro; unfold sout0_B_0; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [HS1]; · iexact HS1
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [HW]; · iexact HW
  iintro ⟨Hh0, ⟨%W'', HW⟩, HS1, HS0, Hq0, Hq1, Hq2, Hq3, Hq4, Hq5, Hq6, Hq7⟩
  isplitl [HS0 HS1 HS2 Hg Hq0 Hq1 Hq2 Hq3 Hq4 Hq5 Hq6 Hq7 Hh0]
  · isplitl [HS0 HS1 HS2]
    · isplitl [HS0]; · iexists _; iexact HS0
      isplitl [HS1]; · iexact HS1
      iexists _; unfold owns; iexists _; isplitr
      swap; · iexact HS2
      ipureintro; rfl
    isplitl [Hg]
    · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitr; · iempintro
    iexact Hh0
  isplitl [HW]
  · iexists W''; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; unfold out0_B_14; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; unfold out0_B_15; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; unfold out0_B_16; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; unfold out0_B_17; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; unfold out0_B_18; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H19
  ipureintro; unfold out0_B_19; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.Gate
-- ==== Proof.Gate.Run.lean ====
module

public import proofs.«01_k».proof.Proof.Gen.Kernel2Ideal.Frame
public import proofs.«01_k».proof.Proof.Gate.Last
public import Idealize.ShloMosaic.Lib.Pipeline.FrameValue
public import Idealize.ShloMosaic.PureOps.Ideal
public import Idealize.ShloMosaic.Adequacy
public import Idealize.ShloMosaic.Init
public import Idealize.ShloMosaic.Lib.VecWindow
public import Idealize.ShloMosaic.Lib.ValueIdx
public import Idealize.ShloMosaic.Lib.ValueLayout
public import Idealize.ShloMosaic.Lib.Pointwise

@[expose] public section

set_option maxRecDepth 65536
set_option maxHeartbeats 1000000

noncomputable section

namespace Cert.Gate

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

theorem PhiG_ne (c : Dev nD) (t : Fin (cfg0.N + 1)) (h : t.val ≠ 32) : (datsG m 0 c).Φ t = (dats m 0 c).Φ t := if_neg h
theorem PhiG_last (c : Dev nD) (t : Fin (cfg0.N + 1)) (h : t.val = 32) :
    (datsG m 0 c).Φ t = Pipeline.ΦDRG osem0 spec0 H0 R0 (V m) (G m) c := if_pos h

theorem before_G (c : Dev nD) (w : Fin cfg0.W) (t : Fin cfg0.N) (d) : (datsG m 0 c).before w t d = (dats m 0 c).before w t d := rfl
theorem after_G (c : Dev nD) (w : Fin cfg0.W) (t : Fin cfg0.N) : (datsG m 0 c).after w t = (dats m 0 c).after w t := rfl
theorem owesAt_G (c : Dev nD) (t : Fin (cfg0.N + 1)) : (datsG m 0 c).owesAt () t = (dats m 0 c).owesAt () t := rfl

/-- The body at every point, for the data that names the written result after the last point. -/
theorem body_obligationG (c : Dev nD) : BodyObligation (datsG m 0 c) (defs₀ (F := Ideal)) Variants.none () Set.univ := fun t => by
  have hN : t.val < 32 := lt_of_lt_of_eq t.isLt (show cfg0.N = 32 from N_0)
  rw [bigSep_W0, bigSep_W0, defs₀_row, PhiG_ne m c t.castSucc (by rw [Fin.val_castSucc]; omega)]
  simp only [before_G, after_G, owesAt_G]
  by_cases ht : t.val = 31
  · obtain rfl : t = tLast := Fin.ext ht
    rw [PhiG_last m c _ (by decide)]
    exact triple_restated (sound_last m c) rfl .rfl fun _ => .rfl
  · rw [PhiG_ne m c t.succ (by rw [Fin.val_succ]; omega)]
    exact triple_restated (sound_body m c t) rfl .rfl fun _ => .rfl

set_option backward.isDefEq.respectTransparency.types false in
/-- The launch, with the result written by the body's own copies named. -/
theorem run_mainG : θ_run defs (onTc (τ := τ) (main (F := Ideal))) (s₀ m ρ) (Pipeline.FramePostRG cfgs (datsG m) 0 R0 (V m) (G m)) :=
  Pipeline.θ_run_frame_dmaRG (Q' := _) cfgs (datsG m) (0 : Fin 1) launch0 osem0 defs₀ Variants.none ownSemFacts0 H0 R0 H0_sub R0_sub m ρ main
    (hbody := fun c => (body_obligationG m c).loose) (hshare := fun c => (datsG m 0 c).share_full fun _ => rfl)
    (howed := fun _ _ => rfl) (V := V m) (hmain := hmain m Variants.none) (hA := A_eq m) (G := G m)
    (hin := fun c => by
      rw [PhiG_ne m c 0 (by decide)]
      exact (Pipeline.ΦDRG_ΦDR osem0 spec0 H0 R0 (V m) (V m) c).trans (hin m c))
    (hout := fun c => by
      rw [PhiG_last m c _ (by rw [Fin.val_last]; exact N_0)])

end Cert.Gate
-- ==== Proof.Head.Spec.lean ====
module

public import Idealize.ShloMosaic.PureOps.Ideal
public import Idealize.ShloMosaic.Lib.IdealHost
public import Idealize.ShloMosaic.Lib.Pointwise

@[expose] public section

set_option maxRecDepth 16384

noncomputable section

namespace Cert.Spec

open Idealize.ShloMosaic

/-! ## Finite extended reals: the operations on real numbers -/

theorem coe_sum {ι : Type} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

theorem div_coe (a b : ℝ) (h : b ≠ 0) : Ideal.div (a : EReal) (b : EReal) = ((a / b : ℝ) : EReal) := by
  rw [Ideal.div_coe h, ← EReal.coe_mul, mul_one_div]

theorem rsqrt_pos (a : ℝ) (h : 0 < a) : Ideal.rsqrt (a : EReal) = (((Real.sqrt a)⁻¹ : ℝ) : EReal) := by
  rw [Ideal.rsqrt_coe, if_neg (not_lt.mpr h.le), if_neg h.ne']

/-- The small constant under the square root, as the program's constant denotes it. -/
def eps : ℝ := 8796093 * (2 : ℝ) ^ (-43 : ℤ)
theorem eps_pos : 0 < eps := by unfold eps; positivity

theorem bits_eps : Ideal.ofBits .f32 0x358637BD#32 = ((eps : ℝ) : EReal) := by
  simp [Ideal.ofBits, Ideal.ieee, -EReal.coe_mul, eps]
theorem bits_1024 : Ideal.ofBits .f32 0x44800000#32 = ((1024 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_inv1024 : Ideal.ofBits .f32 0x3A800000#32 = ((1 / 1024 : ℝ) : EReal) := by
  simp [Ideal.ofBits, Ideal.ieee, -EReal.coe_mul]; norm_num
theorem bits_inv2048 : Ideal.ofBits .f32 0x3A000000#32 = ((1 / 2048 : ℝ) : EReal) := by
  simp [Ideal.ofBits, Ideal.ieee, -EReal.coe_mul]; norm_num
theorem one_coe : (1 : EReal) = ((1 : ℝ) : EReal) := rfl
theorem zero_coe : (0 : EReal) = ((0 : ℝ) : EReal) := rfl

/-- The matrix `v` holds the real numbers `f`. -/
def Holds {a b : ℕ} (v : (⟨2, ![a, b]⟩ : Shape).Idx → EReal) (f : Fin a → Fin b → ℝ) : Prop :=
  ∀ r j, v (ix2 r j) = ((f r j : ℝ) : EReal)

/-! ## One row of the head, on real numbers -/

/-- The factor of a row's root mean square normalisation. -/
def rinv (v : Fin 1024 → ℝ) : ℝ := (Real.sqrt ((∑ j, v j * v j) / 1024 + eps))⁻¹
theorem rinv_arg_pos (v : Fin 1024 → ℝ) : 0 < (∑ j, v j * v j) / 1024 + eps :=
  add_pos_of_nonneg_of_pos (div_nonneg (Finset.sum_nonneg fun j _ => mul_self_nonneg _) (by norm_num)) eps_pos

/-- The gradient of a row's normalisation: from the cotangent `d`, the normalised row `n` and the factor `r`. -/
def rmsBack (r : ℝ) (d n : Fin 1024 → ℝ) (j : Fin 1024) : ℝ := r * (d j - n j * ((∑ k, d k * n k) / 1024))

/-- The weights. -/
structure Wts where
  wo : Fin 1024 → Fin 1024 → ℝ
  wg : Fin 1024 → Fin 1024 → ℝ
  wp : Fin 256 → Fin 1024 → ℝ
  pg : Fin 1024 → ℝ
  fg : Fin 1024 → ℝ

/-- One row of the inputs. -/
structure Row where
  a : Fin 512 → ℝ
  b : Fin 512 → ℝ
  x : Fin 1024 → ℝ
  p : Fin 256 → ℝ
  y : Fin 1024 → ℝ

variable (W : Wts) (q : Row)

def h1 (j : Fin 1024) : ℝ := q.x j + ∑ k : Fin 512, q.a k * W.wo ⟨k, by omega⟩ j + ∑ k : Fin 512, q.b k * W.wo ⟨512 + k, by omega⟩ j
def r1 : ℝ := rinv (h1 W q)
def n1 (j : Fin 1024) : ℝ := h1 W q j * r1 W q
def rn (j : Fin 1024) : ℝ := n1 W q j * W.pg j
def pp (j : Fin 1024) : ℝ := ∑ k : Fin 256, q.p k * W.wp k j
def gate (j : Fin 1024) : ℝ := 1 / 2 * Real.tanh (1 / 2 * ∑ k, rn W q k * W.wg k j) + 1 / 2
def h2 (j : Fin 1024) : ℝ := h1 W q j + gate W q j * pp W q j
def r2 : ℝ := rinv (h2 W q)
def n2 (j : Fin 1024) : ℝ := h2 W q j * r2 W q
def err (j : Fin 1024) : ℝ := n2 W q j * W.fg j - q.y j
def dy (j : Fin 1024) : ℝ := err W q j * (1 / 1024)
def dh2 : Fin 1024 → ℝ := rmsBack (r2 W q) (fun j => dy W q j * W.fg j) (n2 W q)
def dpp (j : Fin 1024) : ℝ := dh2 W q j * gate W q j
def dgl (j : Fin 1024) : ℝ := dh2 W q j * pp W q j * gate W q j * (1 - gate W q j)
def drn (j : Fin 1024) : ℝ := ∑ k, dgl W q k * W.wg j k
def dh1 (j : Fin 1024) : ℝ := dh2 W q j + rmsBack (r1 W q) (fun k => drn W q k * W.pg k) (n1 W q) j
def da (k : Fin 512) : ℝ := ∑ j, dh1 W q j * W.wo ⟨k, by omega⟩ j
def db (k : Fin 512) : ℝ := ∑ j, dh1 W q j * W.wo ⟨512 + k, by omega⟩ j
def ab (r : Fin 1024) : ℝ := if h : r.val < 512 then q.a ⟨r, h⟩ else q.b ⟨r - 512, by omega⟩

end Cert.Spec
-- ==== Proof.Gate.Spec.lean ====
module

public import proofs.«01_k».proof.Proof.Head.Spec

@[expose] public section

set_option maxRecDepth 16384

noncomputable section

namespace Cert.Gate

open Idealize.ShloMosaic Cert.Spec

/-! ## The spatial gating of one chunk of 128 rows and one group of 128 lanes, on real numbers, and its gradient -/

/-- The error function. -/
def rerf (x : ℝ) : ℝ := 2 / Real.sqrt Real.pi * ∫ t in (0 : ℝ)..x, Real.exp (-(t ^ 2))
theorem erf_real (x : ℝ) : Ideal.erf (x : EReal) = ((rerf x : ℝ) : EReal) := rfl

/-- The normal distribution's function and its density; the density's constant is the root of one half times the number
that half of the printed derivative's `2/√π` is. -/
def cdf (x : ℝ) : ℝ := 1 / 2 + 1 / 2 * rerf (x * Real.sqrt 2⁻¹)
def pdf (x : ℝ) : ℝ := Real.exp (-1 / 2 * x * x) * ((9465531 / 16777216) * Real.sqrt 2⁻¹)
def gel (x : ℝ) : ℝ := x * cdf x
def gel' (x : ℝ) : ℝ := cdf x + x * pdf x
def sgm (x : ℝ) : ℝ := 1 / 2 * Real.tanh (1 / 2 * x) + 1 / 2

/-- What one piece is computed of. -/
structure Pc where
  u : Fin 128 → Fin 128 → ℝ
  v : Fin 128 → Fin 128 → ℝ
  z : Fin 128 → Fin 128 → ℝ
  d : Fin 128 → Fin 128 → ℝ
  lg : Fin 128 → ℝ
  lb : Fin 128 → ℝ
  ws : Fin 128 → Fin 128 → ℝ
  b : Fin 128 → ℝ

variable (p : Pc)

def xc (t j : Fin 128) : ℝ := gel (p.v t j) - (∑ k, gel (p.v t k)) / 128
def rs (t : Fin 128) : ℝ := (Real.sqrt ((∑ j, xc p t j * xc p t j) / 128 + eps))⁻¹
theorem rs_arg_pos (t : Fin 128) : 0 < (∑ j, xc p t j * xc p t j) / 128 + eps :=
  add_pos_of_nonneg_of_pos (div_nonneg (Finset.sum_nonneg fun j _ => mul_self_nonneg _) (by norm_num)) eps_pos
def st (t j : Fin 128) : ℝ := xc p t j * rs p t
def lnv (t j : Fin 128) : ℝ := st p t j * p.lg j + p.lb j
def wm (t s : Fin 128) : ℝ := if s.val ≤ t.val then p.ws t s else 0
def sp (t j : Fin 128) : ℝ := ∑ s, wm p t s * lnv p s j + p.b t
def ga (t j : Fin 128) : ℝ := p.d t j * (p.z t j * sgm (p.z t j))
def ds (t j : Fin 128) : ℝ := gel (p.u t j) * ga p t j
def dln (s j : Fin 128) : ℝ := ∑ t, ds p t j * wm p t s
def dst (s j : Fin 128) : ℝ := dln p s j * p.lg j
def dgv (s j : Fin 128) : ℝ :=
  rs p s * (dst p s j - (∑ k, dst p s k) / 128 - st p s j * ((∑ k, dst p s k * st p s k) / 128))

def du (t j : Fin 128) : ℝ := ga p t j * sp p t j * gel' (p.u t j)
def dv (t j : Fin 128) : ℝ := dgv p t j * gel' (p.v t j)
def dz (t j : Fin 128) : ℝ := gel (p.u t j) * sp p t j * p.d t j * (sgm (p.z t j) * (1 + p.z t j * (1 - sgm (p.z t j))))
def dlg (j : Fin 128) : ℝ := ∑ s, st p s j * dln p s j
def dlb (j : Fin 128) : ℝ := ∑ s, dln p s j
def dws (t s : Fin 128) : ℝ := if s.val ≤ t.val then ∑ j, ds p t j * lnv p s j else 0
def db (t : Fin 128) : ℝ := ∑ j, ds p t j

/-! ## A tile of 256 rows -/

/-- The weights; `w` is the projection's, a row to a column of the projection, `wp` those of its padded end. -/
structure Wt where
  g : Fin 1024 → ℝ
  lg : Fin 512 → ℝ
  lb : Fin 512 → ℝ
  ws : Fin 4 → Fin 128 → Fin 128 → ℝ
  b : Fin 128 → Fin 4 → ℝ
  w : Fin 3592 → Fin 1024 → ℝ
  wp : Fin 128 → Fin 1024 → ℝ

/-- One row of the inputs: the forward values and the cotangents. -/
structure Tk where
  x : Fin 1024 → ℝ
  dh : Fin 1024 → ℝ
  uvz : Fin 1536 → ℝ
  da : Fin 512 → ℝ
  dq : Fin 1536 → ℝ
  dzz : Fin 512 → ℝ
  dl : Fin 128 → ℝ

variable (W : Wt)

/-- The piece of group `g` of a chunk of 128 rows. -/
def pc (q : Fin 128 → Tk) (g : Fin 4) : Pc where
  u t j := (q t).uvz ⟨128 * g + j, by omega⟩
  v t j := (q t).uvz ⟨512 + (128 * g + j), by omega⟩
  z t j := (q t).uvz ⟨1024 + (128 * g + j), by omega⟩
  d t j := (q t).da ⟨128 * g + j, by omega⟩
  lg j := W.lg ⟨128 * g + j, by omega⟩
  lb j := W.lb ⟨128 * g + j, by omega⟩
  ws := W.ws g
  b t := W.b t g

/-- The gradient of the gating's row of 1536 numbers. -/
def dRow (q : Fin 128 → Tk) (t : Fin 128) (c : Fin 1536) : ℝ :=
  if c.val < 512 then du (pc W q ⟨c % 512 / 128, by omega⟩) t ⟨c % 128, by omega⟩
  else if c.val < 1024 then dv (pc W q ⟨c % 512 / 128, by omega⟩) t ⟨c % 128, by omega⟩
  else dz (pc W q ⟨c % 512 / 128, by omega⟩) t ⟨c % 128, by omega⟩

/-- A chunk of a tile. -/
def chunk (Q : Fin 256 → Tk) (h : Fin 2) (t : Fin 128) : Tk := Q ⟨128 * h + t, by omega⟩

variable (Q : Fin 256 → Tk)

def dA (r : Fin 256) (c : Fin 1536) : ℝ := dRow W (chunk Q ⟨r / 128, by omega⟩) ⟨r % 128, by omega⟩ c
def nrm (q : Tk) (k : Fin 1024) : ℝ := q.x k * rinv q.x
def xn (q : Tk) (k : Fin 1024) : ℝ := nrm q k * W.g k
def dxnOf (q : Tk) (d : Fin 1536 → ℝ) (k : Fin 1024) : ℝ :=
  ∑ c, q.dl c * W.wp c k + ∑ c : Fin 512, q.dzz c * W.w ⟨3072 + c, by omega⟩ k + ∑ c : Fin 1536, q.dq c * W.w ⟨1536 + c, by omega⟩ k
    + ∑ c : Fin 1536, d c * W.w ⟨c, by omega⟩ k
def dxn (r : Fin 256) : Fin 1024 → ℝ := dxnOf W (Q r) (dA W Q r)
def dx (r : Fin 256) (k : Fin 1024) : ℝ := (Q r).dh k + rmsBack (rinv (Q r).x) (fun k => dxn W Q r k * W.g k) (nrm (Q r)) k

/-- The cotangent of the projection's row, with its padded end. -/
def dcol (q : Tk) (d : Fin 1536 → ℝ) (c : Fin 3712) : ℝ :=
  if h : c.val < 1536 then d ⟨c, h⟩ else if h : c.val < 3072 then q.dq ⟨c - 1536, by omega⟩
  else if h : c.val < 3584 then q.dzz ⟨c - 3072, by omega⟩ else q.dl ⟨c - 3584, by omega⟩

/-- What a tile adds to the running totals. -/
def totG (k : Fin 1024) : ℝ := ∑ r, dxn W Q r k * nrm (Q r) k
def totLg (c : Fin 512) : ℝ := ∑ h : Fin 2, dlg (pc W (chunk Q h) ⟨c / 128, by omega⟩) ⟨c % 128, by omega⟩
def totLb (c : Fin 512) : ℝ := ∑ h : Fin 2, dlb (pc W (chunk Q h) ⟨c / 128, by omega⟩) ⟨c % 128, by omega⟩
def totWs (g : Fin 4) (t s : Fin 128) : ℝ := ∑ h : Fin 2, dws (pc W (chunk Q h) g) t s
def totB (t : Fin 128) (g : Fin 4) : ℝ := ∑ h : Fin 2, db (pc W (chunk Q h) g) t
def totW (c : Fin 3712) (k : Fin 1024) : ℝ := ∑ r, dcol (Q r) (dA W Q r) c * xn W (Q r) k

theorem bits_128 : Ideal.ofBits .f32 0x43000000#32 = ((128 : ℝ) : EReal) := by
  simp [Ideal.ofBits, Ideal.ieee, -EReal.coe_mul]; norm_num
theorem bits_neg_half : Ideal.ofBits .f32 0xBF000000#32 = ((-1 / 2 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_zero : Ideal.ofBits .f32 0x00000000#32 = ((0 : ℝ) : EReal) := by
  simp [Ideal.ofBits, Ideal.ieee, -EReal.coe_mul]

end Cert.Gate
-- ==== Proof.Gate.Piece.lean ====
module

public import proofs.«01_k».proof.Proof.Gen.Kernel2Ideal.Skeleton
public import proofs.«01_k».proof.Proof.Gate.Spec

@[expose] public section

set_option maxRecDepth 65536

noncomputable section

namespace Cert.Gate

open Cert.Kernel2Ideal Cert.Kernel2Ideal.Gen Cert.Spec
open Idealize.ShloMosaic

theorem root_half : Named.named (F := Ideal) κ "root_half" (φ := .f32) 0x3F3504F3#32 = ((Real.sqrt 2⁻¹ : ℝ) : EReal) :=
  IdealRules.named_const.ideal_named_scalar _ _ _ _ rfl
theorem density : Named.named (F := Ideal) κ "density" (φ := .f32) 0x3ECC422A#32 = (((9465531 / 16777216) * Real.sqrt 2⁻¹ : ℝ) : EReal) :=
  IdealRules.named_const.ideal_named_scalar _ _ _ _ rfl

/-! The first piece's values, from the values they are computed of. -/

variable {p : Pc} {U V Z D : Vec Ideal S128x128 .f32} {G B : Vec Ideal S1x128 .f32} {Ws : Vec Ideal S1x128x128 .f32} {C : FVec Ideal S128x1 .f32}

theorem flat_of {a b : ℕ} {v w : (⟨2, ![a, b]⟩ : Shape).Idx → EReal} {f : Fin a → Fin b → ℝ} (h : Holds v f) (e : w = v) : Holds w f := e ▸ h

theorem p25 (h : Holds U p.u) : Holds (k0_pay25 (F := Ideal) U) p.u := by
  intro r j; pointwise [k0_pay25]; exact h r j
theorem p26 (h : Holds V p.v) : Holds (k0_pay26 (F := Ideal) V) p.v := by
  intro r j; pointwise [k0_pay26]; exact h r j
theorem p27 (h : Holds Z p.z) : Holds (k0_pay27 (F := Ideal) Z) p.z := by
  intro r j; pointwise [k0_pay27]; exact h r j
theorem p40 (h : Holds D p.d) : Holds (k0_pay40 (F := Ideal) D) p.d := by
  intro r j; pointwise [k0_pay40]; exact h r j
theorem p30 (h : Holds U p.u) : Holds (k0_pay30 (F := Ideal) U) fun t j => cdf (p.u t j) := by
  intro r j
  pointwise [k0_pay30]
  simp only [h r j, root_half, bits_half, ← EReal.coe_mul, ← EReal.coe_add, Ideal.erf_def, erf_real, cdf]
theorem p31 (h : Holds U p.u) : Holds (k0_pay31 (F := Ideal) U) fun t j => gel (p.u t j) := by
  intro r j
  pointwise [k0_pay31]
  simp only [h r j, p30 h r j, ← EReal.coe_mul, gel]
theorem p32 (h : Holds V p.v) : Holds (k0_pay32 (F := Ideal) V) fun t j => cdf (p.v t j) := by
  intro r j
  pointwise [k0_pay32]
  simp only [h r j, root_half, bits_half, ← EReal.coe_mul, ← EReal.coe_add, Ideal.erf_def, erf_real, cdf]
theorem p33 (h : Holds V p.v) : Holds (k0_pay33 (F := Ideal) V) (xc p) := by
  intro r j
  pointwise [k0_pay33]
  simp only [h r _, p32 h r _, ← EReal.coe_mul, ← EReal.coe_sub, coe_sum, bits_128, div_coe _ _ (by norm_num : (128 : ℝ) ≠ 0), xc, gel]
theorem p34 (h : Holds V p.v) : Holds (k0_pay34 (F := Ideal) V) fun t _ => rs p t := by
  intro r j
  pointwise [k0_pay34]
  simp only [p33 h r _, ← EReal.coe_mul, ← EReal.coe_add, coe_sum, bits_128, bits_eps, div_coe _ _ (by norm_num : (128 : ℝ) ≠ 0), rsqrt_pos _ (rs_arg_pos p _), rs]
theorem p35 (h : Holds V p.v) : Holds (k0_pay35 (F := Ideal) V) (st p) := by
  intro r j
  pointwise [k0_pay35]
  simp only [p33 h r _, p34 h r _, ← EReal.coe_mul, st]
theorem mask_sel : ∀ r j : Fin 128, IntOp.cmpi CmpIPredicate.sge (BitVec.ofNat 32 r.val) (BitVec.ofNat 32 j.val) = BitVec.ofBool (j.val ≤ r.val) := by
  decide +kernel
theorem sel_mask (r j : Fin 128) (a : ℝ) :
    Scalar.select (IntOp.cmpi CmpIPredicate.sge (BitVec.ofNat 32 r.val) (BitVec.ofNat 32 j.val)) (a : EReal) 0 = ((if j.val ≤ r.val then a else 0 : ℝ) : EReal) := by
  rw [mask_sel]
  by_cases h : j.val ≤ r.val <;> simp [h, Scalar.select]
theorem p36 (h : ∀ t s, Ws (ix3 0 t s) = ((p.ws t s : ℝ) : EReal)) : Holds (k0_pay36 (F := Ideal) Ws) (wm p) := by
  intro r j
  pointwise [k0_pay36, k0_pay29]
  simp only [h r _, wm, sel_mask]
theorem p37 (h : Holds V p.v) (hg : Holds G fun _ => p.lg) (hb : Holds B fun _ => p.lb) : Holds (k0_pay37 (F := Ideal) V G B) (lnv p) := by
  intro r j
  pointwise [k0_pay37]
  simp only [p35 h r _, hg _ j, hb _ j, ← EReal.coe_mul, ← EReal.coe_add, lnv]
theorem p38 (h : Holds V p.v) (hg : Holds G fun _ => p.lg) (hb : Holds B fun _ => p.lb) (hw : ∀ t s, Ws (ix3 0 t s) = ((p.ws t s : ℝ) : EReal))
    (hc : Holds C fun t _ => p.b t) : Holds (k0_pay38 (F := Ideal) V C G B Ws) (sp p) := by
  intro r j
  pointwise [k0_pay38]
  simp only [p36 hw r _, p37 h hg hb _ j, hc r _, ← EReal.coe_mul, ← EReal.coe_add, coe_sum, sp]
theorem p39 (h : Holds Z p.z) : Holds (k0_pay39 (F := Ideal) Z) fun t j => sgm (p.z t j) := by
  intro r j
  pointwise [k0_pay39]
  simp only [h r j, bits_half, ← EReal.coe_mul, ← EReal.coe_add, Ideal.tanh_coe, sgm]
theorem p41 (h : Holds Z p.z) (hd : Holds D p.d) : Holds (k0_pay41 (F := Ideal) Z D) (ga p) := by
  intro r j
  pointwise [k0_pay41]
  simp only [h r j, p39 h r j, p40 hd r j, ← EReal.coe_mul, ga]
theorem p42 {X Y : FVec Ideal S128x128 .f32} (h : Holds Z p.z) (hd : Holds D p.d) (hx : Holds X fun t j => gel (p.u t j)) (hy : Holds Y (sp p)) :
    Holds (k0_pay42 (F := Ideal) Z X Y D) (dz p) := by
  intro r j
  pointwise [k0_pay42]
  simp only [h r j, p39 h r j, p40 hd r j, hx r j, hy r j, bits_one, ← EReal.coe_one, ← EReal.coe_mul, ← EReal.coe_add, ← EReal.coe_sub, dz]
theorem p43 {X : FVec Ideal S128x128 .f32} (h : Holds Z p.z) (hd : Holds D p.d) (hx : Holds X fun t j => gel (p.u t j)) :
    Holds (k0_pay43 (F := Ideal) Z X D) (ds p) := by
  intro r j
  pointwise [k0_pay43]
  simp only [p41 h hd r j, hx r j, ← EReal.coe_mul, ds]
theorem p44 {Y : FVec Ideal S128x128 .f32} (h : Holds Z p.z) (hd : Holds D p.d) (hy : Holds Y (sp p)) :
    Holds (k0_pay44 (F := Ideal) Z Y D) fun t j => ga p t j * sp p t j := by
  intro r j
  pointwise [k0_pay44]
  simp only [p41 h hd r j, hy r j, ← EReal.coe_mul]
theorem p45 {X : FVec Ideal S128x128 .f32} (h : Holds Z p.z) (hd : Holds D p.d) (hx : Holds X fun t j => gel (p.u t j)) :
    Holds (k0_pay45 (F := Ideal) Z X D) fun t _ => db p t := by
  intro r j
  pointwise [k0_pay45]
  simp only [p43 h hd hx r _, coe_sum, db]
theorem p46 {X : FVec Ideal S128x128 .f32} {M : FVec Ideal S128x128 .bf16} (h : Holds Z p.z) (hd : Holds D p.d) (hx : Holds X fun t j => gel (p.u t j)) (hm : Holds M (wm p)) :
    Holds (k0_pay46 (F := Ideal) Z X M D) (dln p) := by
  intro r j
  pointwise [k0_pay46]
  simp only [p43 h hd hx _ j, hm _ r, ← EReal.coe_mul, coe_sum, dln]
theorem p47 {X : FVec Ideal S128x128 .f32} {M : FVec Ideal S128x128 .bf16} (h : Holds Z p.z) (hd : Holds D p.d) (hx : Holds X fun t j => gel (p.u t j)) (hm : Holds M (lnv p)) :
    Holds (k0_pay47 (F := Ideal) Z X M D) fun t s => ∑ j, ds p t j * lnv p s j := by
  intro r j
  pointwise [k0_pay47]
  simp only [p43 h hd hx r _, hm j _, ← EReal.coe_mul, coe_sum]
theorem p48 {X : FVec Ideal S128x128 .f32} {M : FVec Ideal S128x128 .bf16} (h : Holds Z p.z) (hd : Holds D p.d) (hx : Holds X fun t j => gel (p.u t j)) (hm : Holds M (wm p)) :
    Holds (k0_pay48 (F := Ideal) Z X M D) fun _ => dlb p := by
  intro r j
  pointwise [k0_pay48]
  simp only [p46 h hd hx hm _ j, coe_sum, dlb]
theorem p49 {X S : FVec Ideal S128x128 .f32} {M : FVec Ideal S128x128 .bf16} (h : Holds Z p.z) (hd : Holds D p.d) (hx : Holds X fun t j => gel (p.u t j)) (hs : Holds S (st p)) (hm : Holds M (wm p)) :
    Holds (k0_pay49 (F := Ideal) Z X S M D) fun _ => dlg p := by
  intro r j
  pointwise [k0_pay49]
  simp only [p46 h hd hx hm _ j, hs _ j, ← EReal.coe_mul, coe_sum, dlg]
theorem p50 {X : FVec Ideal S128x128 .f32} {M : FVec Ideal S128x128 .bf16} (h : Holds Z p.z) (hd : Holds D p.d) (hg : Holds G fun _ => p.lg) (hx : Holds X fun t j => gel (p.u t j)) (hm : Holds M (wm p)) :
    Holds (k0_pay50 (F := Ideal) Z G X M D) (dst p) := by
  intro r j
  pointwise [k0_pay50]
  simp only [p46 h hd hx hm r j, hg _ j, ← EReal.coe_mul, dst]
theorem p51 {X : FVec Ideal S128x128 .f32} {M : FVec Ideal S128x128 .bf16} (h : Holds Z p.z) (hd : Holds D p.d) (hg : Holds G fun _ => p.lg) (hx : Holds X fun t j => gel (p.u t j)) (hm : Holds M (wm p)) :
    Holds (k0_pay51 (F := Ideal) Z G X M D) fun s j => dst p s j - (∑ k, dst p s k) / 128 := by
  intro r j
  pointwise [k0_pay51]
  simp only [p50 h hd hg hx hm r _, coe_sum, bits_128, div_coe _ _ (by norm_num : (128 : ℝ) ≠ 0), ← EReal.coe_sub]
theorem p52 {X S : FVec Ideal S128x128 .f32} {M : FVec Ideal S128x128 .bf16} (h : Holds Z p.z) (hd : Holds D p.d) (hg : Holds G fun _ => p.lg) (hx : Holds X fun t j => gel (p.u t j)) (hs : Holds S (st p)) (hm : Holds M (wm p)) :
    Holds (k0_pay52 (F := Ideal) Z G X S M D) fun s j => dst p s j * st p s j := by
  intro r j
  pointwise [k0_pay52]
  simp only [p50 h hd hg hx hm r _, hs r j, ← EReal.coe_mul]
theorem p53 {X : FVec Ideal S128x128 .f32} (hx : Holds X fun t s => ∑ j, ds p t j * lnv p s j) : Holds (k0_pay53 (F := Ideal) k0_pay29 X) (dws p) := by
  intro r j
  pointwise [k0_pay53, k0_pay29]
  simp only [hx r j, sel_mask, dws]
theorem p54 {X Y : FVec Ideal S128x128 .f32} (h : Holds U p.u) (hx : Holds X fun t j => cdf (p.u t j)) (hy : Holds Y fun t j => ga p t j * sp p t j) :
    Holds (k0_pay54 (F := Ideal) U X Y) (du p) := by
  intro r j
  pointwise [k0_pay54]
  simp only [h r j, hx r j, hy r j, density, bits_neg_half, ← EReal.coe_mul, ← EReal.coe_add, Ideal.exp_def, Ideal.exp_coe, du, gel', pdf]
theorem p55 {X S K L : FVec Ideal S128x128 .f32} {R : FVec Ideal S128x1 .f32} (h : Holds V p.v) (hx : Holds X fun t j => cdf (p.v t j)) (hr : Holds R fun t _ => rs p t)
    (hs : Holds S (st p)) (hk : Holds K fun s j => dst p s j - (∑ k, dst p s k) / 128) (hl : Holds L fun s j => dst p s j * st p s j) :
    Holds (k0_pay55 (F := Ideal) V X R S K L) (dv p) := by
  intro r j
  pointwise [k0_pay55]
  simp only [h r j, hx r j, hr r _, hs r _, hk r _, hl r _, density, bits_neg_half, ← EReal.coe_mul, ← EReal.coe_add, ← EReal.coe_sub, coe_sum, bits_128,
    div_coe _ _ (by norm_num : (128 : ℝ) ≠ 0), Ideal.exp_def, Ideal.exp_coe, dv, dgv, gel', pdf]
theorem p56 {X : FVec Ideal S128x128 .f32} {f : Fin 128 → Fin 128 → ℝ} (h : Holds X f) : Holds (k0_pay56 (F := Ideal) X) f := by
  intro r j; pointwise [k0_pay56]; exact h r j
theorem p57 {X : Vec Ideal S1x128 .f32} {f : Fin 1 → Fin 128 → ℝ} (h : Holds X f) : Holds (k0_pay57 (F := Ideal) X) f := by
  intro r j; pointwise [k0_pay57]; exact h r j
theorem p58 {X Y : FVec Ideal S1x128 .f32} {f g : Fin 1 → Fin 128 → ℝ} (h : Holds X f) (h' : Holds Y g) : Holds (k0_pay58 (F := Ideal) X Y) fun r j => g r j + f r j := by
  intro r j; pointwise [k0_pay58]; rw [h r j, h' r j, EReal.coe_add]
theorem p59 {X Y : FVec Ideal S1x128 .f32} {f g : Fin 1 → Fin 128 → ℝ} (h : Holds X f) (h' : Holds Y g) : Holds (k0_pay59 (F := Ideal) X Y) fun r j => g r j + f r j := by
  intro r j; pointwise [k0_pay59]; rw [h r j, h' r j, EReal.coe_add]
theorem p60 {X : FVec Ideal S128x128 .f32} {Y : FVec Ideal S1x128x128 .f32} {f g : Fin 128 → Fin 128 → ℝ} (h : Holds X f) (h' : ∀ r j, Y (ix3 0 r j) = ((g r j : ℝ) : EReal)) (r j : Fin 128) :
    k0_pay60 (F := Ideal) X Y (ix3 0 r j) = ((g r j + f r j : ℝ) : EReal) := by
  pointwise [k0_pay60]; rw [h r j, h' r j, EReal.coe_add]
theorem hot (g k : Fin 4) : FloatOps.sitofp (F := Ideal) .f32 (BitVec.setWidth 32 (IntOp.cmpi CmpIPredicate.eq (BitVec.ofNat 32 k.val) (BitVec.ofNat 32 g.val)))
    = ((if k = g then 1 else 0 : ℝ) : EReal) := by
  have e : (BitVec.setWidth 32 (IntOp.cmpi CmpIPredicate.eq (BitVec.ofNat 32 k.val) (BitVec.ofNat 32 g.val))).toInt = if k = g then 1 else 0 := by
    revert g k; decide +kernel
  refine (Ideal.scalar_sitofp_def _).trans ?_
  rw [e]
  split <;> simp

/-- The column `g` of a table of four columns, as the body reads it. -/
def colOf (g : BitVec 32) (T : Vec Ideal S128x4 .f32) : FVec Ideal S128x1 .f32 :=
  shapeCast S128x1 (multiReduction .add [1] S128 (mulf (shapeCast S128x4 T shapeCasts_S128x4_S128x4)
    (broadcastTo S128x4 (sitofp .f32 (extui 32 (cmpi .eq (iota .tc S1x4 32 [1] iota_S1x4_d1_w32) (broadcast S1x4 g)) natLt_1_32)) broadcasts_S1x4_S128x4))
    0x00000000#32 reduces_S128x4_S128 (.inl rfl) rfl) shapeCasts_S128_S128x1

theorem col_of (g : Fin 4) {T : Vec Ideal S128x4 .f32} {f : Fin 128 → Fin 4 → ℝ} (h : Holds T f) : Holds (colOf (BitVec.ofNat 32 g.val) T) fun t _ => f t g := by
  intro r j
  pointwise [colOf]
  simp only [h r _, hot, ← EReal.coe_mul, coe_sum, mul_ite, mul_one, mul_zero, Finset.sum_ite_eq', Finset.mem_univ, ↓reduceIte]

/-- A column added to the column `g` of a table of four columns, as the body adds it. -/
def addCol (g : BitVec 32) (X : FVec Ideal S128x1 .f32) (Y : Vec Ideal S128x4 .f32) : FVec Ideal S128x4 .f32 :=
  addf (shapeCast S128x4 Y shapeCasts_S128x4_S128x4) (mulf (broadcastTo S128x4 X broadcasts_S128x1_S128x4)
    (broadcastTo S128x4 (sitofp .f32 (extui 32 (cmpi .eq (iota .tc S1x4 32 [1] iota_S1x4_d1_w32) (broadcast S1x4 g)) natLt_1_32)) broadcasts_S1x4_S128x4))

theorem add_col (G : Fin 4) {X : FVec Ideal S128x1 .f32} {Y : FVec Ideal S128x4 .f32} {f : Fin 128 → ℝ} {g : Fin 128 → Fin 4 → ℝ} (h : Holds X fun r _ => f r) (h' : Holds Y g) :
    Holds (addCol (BitVec.ofNat 32 G.val) X Y) fun r k => g r k + if k = G then f r else 0 := by
  intro r j
  pointwise [addCol]
  rw [h r _, h' r j, hot]
  simp only [← EReal.coe_mul, ← EReal.coe_add, mul_ite, mul_one, mul_zero]

/-! ## A whole piece -/

/-- The blocks a piece reads hold its numbers. -/
structure PcIn (p : Pc) (U V Z D : Vec Ideal S128x128 .f32) (G B : Vec Ideal S1x128 .f32) (Ws : Vec Ideal S1x128x128 .f32) (C : FVec Ideal S128x1 .f32) : Prop where
  u : Holds U p.u
  v : Holds V p.v
  z : Holds Z p.z
  d : Holds D p.d
  g : Holds G fun _ => p.lg
  b : Holds B fun _ => p.lb
  w : ∀ t s, Ws (ix3 0 t s) = ((p.ws t s : ℝ) : EReal)
  c : Holds C fun t _ => p.b t

/-- What the body computes of a piece: the gradients of its numbers. -/
def vDu (U V Z D : Vec Ideal S128x128 .f32) (G B : Vec Ideal S1x128 .f32) (Ws : Vec Ideal S1x128x128 .f32) (C : FVec Ideal S128x1 .f32) : FVec Ideal S128x128 .bf16 :=
  k0_pay54 (k0_pay25 U) (k0_pay30 (k0_pay25 U)) (k0_pay44 (k0_pay27 Z) (k0_pay38 (k0_pay26 V) C G B Ws) D)
def vDv (U V Z D : Vec Ideal S128x128 .f32) (G : Vec Ideal S1x128 .f32) (Ws : Vec Ideal S1x128x128 .f32) : FVec Ideal S128x128 .bf16 :=
  k0_pay55 (k0_pay26 V) (k0_pay32 (k0_pay26 V)) (k0_pay34 (k0_pay26 V)) (k0_pay35 (k0_pay26 V))
    (k0_pay51 (k0_pay27 Z) G (k0_pay31 (k0_pay25 U)) (k0_pay36 Ws) D) (k0_pay52 (k0_pay27 Z) G (k0_pay31 (k0_pay25 U)) (k0_pay35 (k0_pay26 V)) (k0_pay36 Ws) D)
def vDz (U V Z D : Vec Ideal S128x128 .f32) (G B : Vec Ideal S1x128 .f32) (Ws : Vec Ideal S1x128x128 .f32) (C : FVec Ideal S128x1 .f32) : FVec Ideal S128x128 .bf16 :=
  k0_pay56 (k0_pay42 (k0_pay27 Z) (k0_pay31 (k0_pay25 U)) (k0_pay38 (k0_pay26 V) C G B Ws) D)
def vDlg (U V Z D : Vec Ideal S128x128 .f32) (Ws : Vec Ideal S1x128x128 .f32) (X : Vec Ideal S1x128 .f32) : FVec Ideal S1x128 .f32 :=
  k0_pay58 (k0_pay49 (k0_pay27 Z) (k0_pay31 (k0_pay25 U)) (k0_pay35 (k0_pay26 V)) (k0_pay36 Ws) D) (k0_pay57 X)
def vDlb (U Z D : Vec Ideal S128x128 .f32) (Ws : Vec Ideal S1x128x128 .f32) (X : Vec Ideal S1x128 .f32) : FVec Ideal S1x128 .f32 :=
  k0_pay59 (k0_pay48 (k0_pay27 Z) (k0_pay31 (k0_pay25 U)) (k0_pay36 Ws) D) X
def vDws (U V Z D : Vec Ideal S128x128 .f32) (G B : Vec Ideal S1x128 .f32) (X : Vec Ideal S1x128x128 .f32) : FVec Ideal S1x128x128 .f32 :=
  k0_pay60 (k0_pay53 k0_pay29 (k0_pay47 (k0_pay27 Z) (k0_pay31 (k0_pay25 U)) (k0_pay37 (k0_pay26 V) G B) D)) X
def vDb (g : BitVec 32) (U Z D : Vec Ideal S128x128 .f32) (X : Vec Ideal S128x4 .f32) : FVec Ideal S128x4 .f32 :=
  addCol g (k0_pay45 (k0_pay27 Z) (k0_pay31 (k0_pay25 U)) D) X

theorem vDu_holds (h : PcIn p U V Z D G B Ws C) : Holds (vDu U V Z D G B Ws C) (du p) :=
  p54 (p25 h.u) (p30 (p25 h.u)) (p44 (p27 h.z) h.d (p38 (p26 h.v) h.g h.b h.w h.c))
theorem vDv_holds (h : PcIn p U V Z D G B Ws C) : Holds (vDv U V Z D G Ws) (dv p) :=
  p55 (p26 h.v) (p32 (p26 h.v)) (p34 (p26 h.v)) (p35 (p26 h.v)) (p51 (p27 h.z) h.d h.g (p31 (p25 h.u)) (p36 h.w))
    (p52 (p27 h.z) h.d h.g (p31 (p25 h.u)) (p35 (p26 h.v)) (p36 h.w))
theorem vDz_holds (h : PcIn p U V Z D G B Ws C) : Holds (vDz U V Z D G B Ws C) (dz p) :=
  p56 (p42 (p27 h.z) h.d (p31 (p25 h.u)) (p38 (p26 h.v) h.g h.b h.w h.c))
theorem vDlg_holds (h : PcIn p U V Z D G B Ws C) {X : Vec Ideal S1x128 .f32} {f : Fin 1 → Fin 128 → ℝ} (hx : Holds X f) :
    Holds (vDlg U V Z D Ws X) fun r j => f r j + dlg p j :=
  p58 (p49 (p27 h.z) h.d (p31 (p25 h.u)) (p35 (p26 h.v)) (p36 h.w)) (p57 hx)
theorem vDlb_holds (h : PcIn p U V Z D G B Ws C) {X : Vec Ideal S1x128 .f32} {f : Fin 1 → Fin 128 → ℝ} (hx : Holds X f) :
    Holds (vDlb U Z D Ws X) fun r j => f r j + dlb p j :=
  p59 (p48 (p27 h.z) h.d (p31 (p25 h.u)) (p36 h.w)) hx
theorem vDws_holds (h : PcIn p U V Z D G B Ws C) {X : Vec Ideal S1x128x128 .f32} {f : Fin 128 → Fin 128 → ℝ} (hx : ∀ t s, X (ix3 0 t s) = ((f t s : ℝ) : EReal)) (t s : Fin 128) :
    vDws U V Z D G B X (ix3 0 t s) = ((f t s + dws p t s : ℝ) : EReal) :=
  p60 (p53 (p47 (p27 h.z) h.d (p31 (p25 h.u)) (p37 (p26 h.v) h.g h.b))) hx t s
theorem vDb_holds (g : Fin 4) (h : PcIn p U V Z D G B Ws C) {X : Vec Ideal S128x4 .f32} {f : Fin 128 → Fin 4 → ℝ} (hx : Holds X f) :
    Holds (vDb (BitVec.ofNat 32 g.val) U Z D X) fun r k => f r k + if k = g then db p r else 0 :=
  add_col g (p45 (p27 h.z) h.d (p31 (p25 h.u))) hx

end Cert.Gate
-- ==== Proof.Gate.Rows.lean ====
module

public import proofs.«01_k».proof.Proof.Gate.Piece

@[expose] public section

set_option maxRecDepth 65536

noncomputable section

namespace Cert.Gate

open Cert.Kernel2Ideal Cert.Kernel2Ideal.Gen Cert.Spec
open Idealize.ShloMosaic

/-! The values of a tile of 256 rows, from the values they are computed of. -/

variable {W : Wt} {Q : Fin 256 → Tk} {X : Vec Ideal S256x1024 .f32} {G : Vec Ideal S1x1024 .f32}

theorem p16 (h : Holds X fun r => (Q r).x) : Holds (k0_pay16 (F := Ideal) X) fun r => (Q r).x := by
  intro r j; pointwise [k0_pay16]; exact h r j
theorem p17 (h : Holds X fun r => (Q r).x) : Holds (k0_pay17 (F := Ideal) X) fun r _ => rinv (Q r).x := by
  intro r j
  pointwise [k0_pay17]
  simp only [p16 h r _, ← EReal.coe_mul, ← EReal.coe_add, coe_sum, bits_1024, div_coe _ _ (by norm_num : (1024 : ℝ) ≠ 0), bits_eps, rsqrt_pos _ (rinv_arg_pos _), rinv]
theorem p18 (h : Holds X fun r => (Q r).x) : Holds (k0_pay18 (F := Ideal) X) fun r => nrm (Q r) := by
  intro r j
  pointwise [k0_pay18]
  simp only [p16 h r _, p17 h r _, ← EReal.coe_mul, nrm]
theorem p19 (hg : Holds G fun _ => W.g) (h : Holds X fun r => (Q r).x) : Holds (k0_pay19 (F := Ideal) G X) fun r => xn W (Q r) := by
  intro r j
  pointwise [k0_pay19]
  simp only [p18 h r _, hg _ j, ← EReal.coe_mul, xn]
theorem p20 {A : Vec Ideal S128x1024 .bf16} {B : Vec Ideal S256x128 .bf16} {f g} (ha : Holds A f) (hb : Holds B g) :
    Holds (k0_pay20 (F := Ideal) A B) fun r k => ∑ c, g r c * f c k := by
  intro r j
  pointwise [k0_pay20]
  simp only [ha _ j, hb r _, ← EReal.coe_mul, coe_sum]
theorem p21 (hg : Holds G fun _ => W.g) (h : Holds X fun r => (Q r).x) {A : Vec Ideal S128x1024 .f32} {B : Vec Ideal S256x128 .bf16} {f g} (ha : Holds A f) (hb : Holds B g) :
    Holds (k0_pay21 (F := Ideal) G X A B) fun c k => f c k + ∑ r, g r c * xn W (Q r) k := by
  intro r j
  pointwise [k0_pay21]
  simp only [ha r j, hb _ r, p19 hg h _ j, ← EReal.coe_mul, ← EReal.coe_add, coe_sum]
theorem p22 {A : Vec Ideal S512x1024 .bf16} {f} (ha : Holds A f) : Holds (k0_pay22 (F := Ideal) A) f := by
  intro r j; pointwise [k0_pay22]; exact ha r j
theorem p23 {T : FVec Ideal S256x1024 .f32} {A : FVec Ideal S512x1024 .bf16} {B : Vec Ideal S256x512 .bf16} {e f g} (ht : Holds T e) (ha : Holds A f) (hb : Holds B g) :
    Holds (k0_pay23 (F := Ideal) T A B) fun r k => e r k + ∑ c, g r c * f c k := by
  intro r j
  pointwise [k0_pay23]
  simp only [ht r j, ha _ j, hb r _, ← EReal.coe_mul, ← EReal.coe_add, coe_sum]
theorem p181 {A : Vec Ideal S1536x1024 .bf16} {f} (ha : Holds A f) : Holds (k0_pay181 (F := Ideal) A) f := by
  intro r j; pointwise [k0_pay181]; exact ha r j
theorem p182 {A : Vec Ideal S256x1536 .bf16} {f} (ha : Holds A f) : Holds (k0_pay182 (F := Ideal) A) f := by
  intro r j; pointwise [k0_pay182]; exact ha r j
theorem p183 {T : FVec Ideal S256x1024 .f32} {A : FVec Ideal S1536x1024 .bf16} {B : Vec Ideal S256x1536 .bf16} {e f g} (ht : Holds T e) (ha : Holds A f) (hb : Holds B g) :
    Holds (k0_pay183 (F := Ideal) T A B (constant S256x1024 .f32 0x00000000#32)) fun r k => e r k + ∑ c, g r c * f c k := by
  intro r j
  pointwise [k0_pay183]
  simp only [ht r j, ha _ j, hb r _, ← EReal.coe_mul, ← EReal.coe_add, coe_sum]
theorem p342 {T : FVec Ideal S256x1024 .f32} {A : Vec Ideal S1536x1024 .bf16} {B : Vec Ideal S256x1536 .bf16} {e f g} (ht : Holds T e) (ha : Holds A f) (hb : Holds B g) :
    Holds (k0_pay342 (F := Ideal) T A B) fun r k => e r k + ∑ c, g r c * f c k := by
  intro r j
  pointwise [k0_pay342]
  simp only [ht r j, ha _ j, hb r _, ← EReal.coe_mul, ← EReal.coe_add, coe_sum]
theorem p24 {T : FVec Ideal S256x1024 .bf16} {A : Vec Ideal S512x1024 .f32} {B : Vec Ideal S256x512 .bf16} {e f g} (ht : Holds T e) (ha : Holds A f) (hb : Holds B g) :
    Holds (k0_pay24 (F := Ideal) T A B) fun c k => f c k + ∑ r, g r c * e r k := by
  intro r j
  pointwise [k0_pay24]
  simp only [ht _ j, ha r j, hb _ r, ← EReal.coe_mul, ← EReal.coe_add, coe_sum]
theorem p343 {T : FVec Ideal S256x1024 .bf16} {A : Vec Ideal S512x1024 .f32} {B : Vec Ideal S256x512 .bf16} {e f g} (ht : Holds T e) (ha : Holds A f) (hb : Holds B g) :
    Holds (k0_pay343 (F := Ideal) T A B) fun c k => f c k + ∑ r, g r c * e r k := by
  intro r j
  pointwise [k0_pay343]
  simp only [ht _ j, ha r j, hb _ r, ← EReal.coe_mul, ← EReal.coe_add, coe_sum]
theorem p346 {N T : FVec Ideal S256x1024 .f32} {A : Vec Ideal S1x1024 .f32} {e f} {g : Fin 1024 → ℝ} (hn : Holds N e) (ht : Holds T f) (ha : Holds A fun _ => g) :
    Holds (k0_pay346 (F := Ideal) N T A) fun _ k => g k + ∑ r, f r k * e r k := by
  intro r j
  pointwise [k0_pay346]
  simp only [ht _ j, ha r j, hn _ j, ← EReal.coe_mul, ← EReal.coe_add, coe_sum]
theorem p1 {R : FVec Ideal S256x1 .f32} {N T : FVec Ideal S256x1024 .f32} {A : Vec Ideal S256x1024 .f32} (hg : Holds G fun _ => W.g) (hr : Holds R fun r _ => rinv (Q r).x)
    (hn : Holds N fun r => nrm (Q r)) (ht : Holds T (dxn W Q)) (ha : Holds A fun r => (Q r).dh) :
    Holds (k0_pay1 (F := Ideal) G R N T A) (dx W Q) := by
  intro r j
  pointwise [k0_pay1]
  simp only [hg _ _, hr r _, hn r _, ht r _, ha r j, ← EReal.coe_mul, ← EReal.coe_add, ← EReal.coe_sub, coe_sum, bits_1024, div_coe _ _ (by norm_num : (1024 : ℝ) ≠ 0), dx, rmsBack]

end Cert.Gate
-- ==== Proof.Gate.Tile.lean ====
module

public import proofs.«01_k».proof.Proof.Gen.Kernel2Ideal.Skeleton
public import proofs.«01_k».proof.Proof.Gate.Rows
public import Idealize.ShloMosaic.Lib.Pipeline.ReadBack
public import Idealize.ShloMosaic.Lib.Pipeline.ValueKit

@[expose] public section

set_option maxRecDepth 65536

noncomputable section

namespace Cert.Gate

open Cert.Kernel2Ideal Cert.Kernel2Ideal.Gen Cert.Spec
open Idealize.ShloMosaic Idealize.ShloMosaic.Tactic

variable (W : Wt) (Q : Fin 256 → Tk)

/-- The blocks a grid point reads hold the weights and the tile's rows. -/
structure Blk (x0 x1 : Vec Ideal S256x1024 .f32) (x2 : Vec Ideal S256x1536 .f32) (x3 : Vec Ideal S256x512 .f32) (x4 : Vec Ideal S256x1536 .bf16)
    (x5 : Vec Ideal S256x512 .bf16) (x6 : Vec Ideal S256x128 .bf16) (x7 : Vec Ideal S1x1024 .f32) (x8 x9 : Vec Ideal S1x512 .f32)
    (x10 : Vec Ideal S4x128x128 .f32) (x11 : Vec Ideal S128x4 .f32) (x12 : Vec Ideal S3592x1024 .bf16) (x13 : Vec Ideal S128x1024 .bf16) : Prop where
  x : Holds x0 fun r => (Q r).x
  dh : Holds x1 fun r => (Q r).dh
  uvz : Holds x2 fun r => (Q r).uvz
  da : Holds x3 fun r => (Q r).da
  dq : Holds x4 fun r => (Q r).dq
  dzz : Holds x5 fun r => (Q r).dzz
  dl : Holds x6 fun r => (Q r).dl
  g : Holds x7 fun _ => W.g
  lg : Holds x8 fun _ => W.lg
  lb : Holds x9 fun _ => W.lb
  ws : ∀ g t s, x10 (ix3 g t s) = ((W.ws g t s : ℝ) : EReal)
  b : Holds x11 W.b
  w : Holds x12 W.w
  wp : Holds x13 W.wp

variable {W Q} {x0 x1 : Vec Ideal S256x1024 .f32} {x2 : Vec Ideal S256x1536 .f32} {x3 : Vec Ideal S256x512 .f32} {x4 : Vec Ideal S256x1536 .bf16}
    {x5 : Vec Ideal S256x512 .bf16} {x6 : Vec Ideal S256x128 .bf16} {x7 : Vec Ideal S1x1024 .f32} {x8 x9 : Vec Ideal S1x512 .f32}
    {x10 : Vec Ideal S4x128x128 .f32} {x11 : Vec Ideal S128x4 .f32} {x12 : Vec Ideal S3592x1024 .bf16} {x13 : Vec Ideal S128x1024 .bf16}

/-- A block cut from a table. -/
theorem held_cut {a b a' b' p q : ℕ} {v : (⟨2, ![a, b]⟩ : Shape).Idx → EReal} {f : Fin a → Fin b → ℝ} (h : Holds v f)
    (inb : ∀ i, (![p, q] : Fin 2 → ℕ) i + (![a', b'] : Fin 2 → ℕ) i ≤ (![a, b] : Fin 2 → ℕ) i) :
    Holds (a := a') (b := b') (View.ld (Val := fun _ => EReal) (e' := .f32) v (Rect.unit (s := ⟨2, ![a, b]⟩) ![p, q] ![a', b'] inb)) fun r j =>
      f ⟨p + r, (Nat.add_lt_add_left r.isLt p).trans_le (inb 0)⟩ ⟨q + j, (Nat.add_lt_add_left j.isLt q).trans_le (inb 1)⟩ := by
  intro r j
  rw [View.ld_unit_apply_of (i := ix2 _ _)]
  · exact h _ _
  · intro i
    fin_cases i <;> rfl

theorem inb2 {a b a' b' p q : ℕ} (h : p + a' ≤ a) (h' : q + b' ≤ b) : ∀ i, (![p, q] : Fin 2 → ℕ) i + (![a', b'] : Fin 2 → ℕ) i ≤ (![a, b] : Fin 2 → ℕ) i := by
  intro i
  fin_cases i
  exacts [h, h']

/-- The blocks of the piece of chunk `h` and group `g`. -/
def cutA (n : ℕ) (x : (⟨2, ![256, n]⟩ : Shape).Idx → EReal) (p q : ℕ) (hp : p + 128 ≤ 256) (hq : q + 128 ≤ n) : Vec Ideal S128x128 .f32 :=
  View.ld (Val := fun _ => EReal) (e' := .f32) x (Rect.unit (s := ⟨2, ![256, n]⟩) ![p, q] ![128, 128] (inb2 hp hq))
def cutL (x : (⟨2, ![1, 512]⟩ : Shape).Idx → EReal) (q : ℕ) (hq : q + 128 ≤ 512) : Vec Ideal S1x128 .f32 :=
  View.ld (Val := fun _ => EReal) (e' := .f32) x (Rect.unit (s := ⟨2, ![1, 512]⟩) ![0, q] ![1, 128] (inb2 le_rfl hq))
theorem inb3 {g : ℕ} (hg : g < 4) : ∀ i, (![g, 0, 0] : Fin 3 → ℕ) i + (![1, 128, 128] : Fin 3 → ℕ) i ≤ (![4, 128, 128] : Fin 3 → ℕ) i := by
  intro i
  fin_cases i
  exacts [hg, le_rfl, le_rfl]
def cutW (x : (⟨3, ![4, 128, 128]⟩ : Shape).Idx → EReal) (g : ℕ) (hg : g < 4) : Vec Ideal S1x128x128 .f32 :=
  View.ld (Val := fun _ => EReal) (e' := .f32) x (Rect.unit (s := ⟨3, ![4, 128, 128]⟩) ![g, 0, 0] ![1, 128, 128] (inb3 hg))
theorem cutW_holds {x : (⟨3, ![4, 128, 128]⟩ : Shape).Idx → EReal} {f : Fin 4 → Fin 128 → Fin 128 → ℝ} (h : ∀ g t s, x (ix3 g t s) = ((f g t s : ℝ) : EReal))
    (g : ℕ) (hg : g < 4) (t s : Fin 128) : cutW x g hg (ix3 0 t s) = ((f ⟨g, hg⟩ t s : ℝ) : EReal) := by
  rw [cutW, View.ld_unit_apply_of (i := ix3 ⟨g, hg⟩ t s)]
  · exact h _ _ _
  · intro i
    fin_cases i
    exacts [rfl, (Nat.zero_add _).symm, (Nat.zero_add _).symm]

theorem Blk.pc (B : Blk W Q x0 x1 x2 x3 x4 x5 x6 x7 x8 x9 x10 x11 x12 x13) (h : Fin 2) (g : Fin 4) :
    PcIn (pc W (chunk Q h) g) (cutA 1536 x2 (128 * h) (128 * g) (by omega) (by omega)) (cutA 1536 x2 (128 * h) (512 + 128 * g) (by omega) (by omega))
      (cutA 1536 x2 (128 * h) (1024 + 128 * g) (by omega) (by omega)) (cutA 512 x3 (128 * h) (128 * g) (by omega) (by omega))
      (cutL x8 (128 * g) (by omega)) (cutL x9 (128 * g) (by omega)) (cutW x10 g g.isLt) (colOf (BitVec.ofNat 32 g.val) x11) := by
  have add (a b c : ℕ) : a + b + c = a + (b + c) := Nat.add_assoc a b c
  refine ⟨held_cut B.uvz _, fun r j => ?_, fun r j => ?_, held_cut B.da _, fun r j => ?_, fun r j => ?_, fun t s => cutW_holds B.ws g g.isLt t s, col_of g B.b⟩
  · exact (held_cut B.uvz _ r j).trans (by simp only [Gate.pc, chunk, add])
  · exact (held_cut B.uvz _ r j).trans (by simp only [Gate.pc, chunk, add])
  · exact held_cut B.lg _ r j
  · exact held_cut B.lb _ r j

/-- What the body stores of a piece: the gradients of its three blocks. -/
def daP (x2 : Vec Ideal S256x1536 .f32) (x3 : Vec Ideal S256x512 .f32) (x8 x9 : Vec Ideal S1x512 .f32) (x10 : Vec Ideal S4x128x128 .f32) (x11 : Vec Ideal S128x4 .f32)
    (h : Fin 2) (g : Fin 4) : Fin 3 → FVec Ideal S128x128 .bf16 :=
  let U := cutA 1536 x2 (128 * h) (128 * g) (by omega) (by omega)
  let V := cutA 1536 x2 (128 * h) (512 + 128 * g) (by omega) (by omega)
  let Z := cutA 1536 x2 (128 * h) (1024 + 128 * g) (by omega) (by omega)
  let D := cutA 512 x3 (128 * h) (128 * g) (by omega) (by omega)
  let G := cutL x8 (128 * g) (by omega)
  let B := cutL x9 (128 * g) (by omega)
  let S := cutW x10 g g.isLt
  let C := colOf (BitVec.ofNat 32 g.val) x11
  fun k => match k with
    | 0 => vDu U V Z D G B S C
    | 1 => vDv U V Z D G S
    | 2 => vDz U V Z D G B S C

theorem daP_holds (B : Blk W Q x0 x1 x2 x3 x4 x5 x6 x7 x8 x9 x10 x11 x12 x13) (h : Fin 2) (g : Fin 4) (k : Fin 3) :
    Holds (daP x2 x3 x8 x9 x10 x11 h g k) fun t j => dRow W (chunk Q h) t ⟨512 * k + (128 * g + j), by omega⟩ := by
  have e (j : Fin 128) (p : ℕ) (hp : p = 512 ∨ p = 1024 ∨ p = 0) : (p + (128 * g.val + j.val)) % 512 / 128 = g.val ∧ (p + (128 * g.val + j.val)) % 128 = j.val := by
    rcases hp with rfl | rfl | rfl <;> omega
  have n1 (j : Fin 128) : ¬512 + (128 * g.val + j.val) < 512 := by omega
  have n2 (j : Fin 128) : 512 + (128 * g.val + j.val) < 1024 := by omega
  have n3 (j : Fin 128) : ¬1024 + (128 * g.val + j.val) < 512 := by omega
  have n4 (j : Fin 128) : ¬1024 + (128 * g.val + j.val) < 1024 := by omega
  have n5 (j : Fin 128) : 0 + (128 * g.val + j.val) < 512 := by omega
  fin_cases k <;> intro t j
  · exact (vDu_holds (B.pc h g) t j).trans (by
      simp only [dRow, Nat.mul_zero, n5, ↓reduceIte, (e j 0 (by omega)).1, (e j 0 (by omega)).2])
  · exact (vDv_holds (B.pc h g) t j).trans (by
      simp only [dRow, Nat.mul_one, n1, n2, ↓reduceIte, (e j 512 (by omega)).1, (e j 512 (by omega)).2])
  · exact (vDz_holds (B.pc h g) t j).trans (by
      simp only [dRow, show 512 * 2 = 1024 from rfl, n3, n4, ↓reduceIte, (e j 1024 (by omega)).1, (e j 1024 (by omega)).2])

/-- The stores of a chunk and a group, the last first; and those of all eight. -/
def grp (P : Fin 2 → Fin 4 → Fin 3 → FVec Ideal S128x128 .bf16) (h : Fin 2) (g : Fin 4) : List (View.Piece (Elt Ideal) S256x1536 .bf16) :=
  let at' (k : Fin 3) : View.Piece (Elt Ideal) S256x1536 .bf16 :=
    ⟨Rect.unit ![128 * h, 512 * k + 128 * g] ![128, 128] (inb2 (by omega) (by omega)), P h g k⟩
  [at' 2, at' 1, at' 0]
def grps (P : Fin 2 → Fin 4 → Fin 3 → FVec Ideal S128x128 .bf16) : List (View.Piece (Elt Ideal) S256x1536 .bf16) :=
  let row (h : Fin 2) := grp P h 3 ++ (grp P h 2 ++ (grp P h 1 ++ grp P h 0))
  row 1 ++ row 0

theorem grps_holds (B : Blk W Q x0 x1 x2 x3 x4 x5 x6 x7 x8 x9 x10 x11 x12 x13) : Holds (View.canon (grps (daP x2 x3 x8 x9 x10 x11))) (dA W Q) := by
  intro r c
  refine View.canon_eq_of_allAt _ _ _ (View.cover_of_tiled_head _ _ _ rfl _) ?_
  have hm : ∀ p ∈ grps (daP x2 x3 x8 x9 x10 x11), ∃ (h : Fin 2) (g : Fin 4) (k : Fin 3),
      p = ⟨Rect.unit ![128 * h, 512 * k + 128 * g] ![128, 128] (inb2 (by omega) (by omega)), daP x2 x3 x8 x9 x10 x11 h g k⟩ := by
    intro p hp
    simp only [grps, grp, List.mem_append, List.mem_cons, List.not_mem_nil, or_false] at hp
    rcases hp with ((hp | hp | hp) | (hp | hp | hp) | (hp | hp | hp) | (hp | hp | hp)) | (hp | hp | hp) | (hp | hp | hp) | (hp | hp | hp) | (hp | hp | hp) <;> exact ⟨_, _, _, hp⟩
  intro p hp x hx
  obtain ⟨h, g, k, rfl⟩ := hm p hp
  have e0 : r.val = 128 * h + (x 0).val := by
    have := congrArg (fun y => (y 0).val) hx
    simpa [Rect.emb_apply] using this.symm
  have e1 : c.val = 512 * k + 128 * g + (x 1).val := by
    have := congrArg (fun y => (y 1).val) hx
    simpa [Rect.emb_apply] using this.symm
  have b0 : (x 0).val < 128 := (x 0).isLt
  have b1 : (x 1).val < 128 := (x 1).isLt
  refine (congrArg _ (eq_ix2 x)).trans ((daP_holds B h g k (x 0) (x 1)).trans ?_)
  rw [dA, show (⟨r.val / 128, by omega⟩ : Fin 2) = h from Fin.ext (by show r.val / 128 = h.val; omega),
    show (⟨r.val % 128, by omega⟩ : Fin 128) = x 0 from Fin.ext (by show r.val % 128 = (x 0).val; omega),
    show c = ⟨512 * k + (128 * g + (x 1).val), by omega⟩ from Fin.ext (by show c.val = 512 * k.val + (128 * g.val + (x 1).val); omega)]

/-- A block read back from what the pieces stored. -/
theorem scr_holds (B : Blk W Q x0 x1 x2 x3 x4 x5 x6 x7 x8 x9 x10 x11 x12 x13) {sig : RefSig} {κ : Kind} {sp : Space} (v : View sig κ sp S256x1536 .bf16) {a' b' p q : ℕ}
    (inb : ∀ i, (![p, q] : Fin 2 → ℕ) i + (![a', b'] : Fin 2 → ℕ) i ≤ (![256, 1536] : Fin 2 → ℕ) i) :
    Holds (a := a') (b := b') (v.readCov (grps (daP x2 x3 x8 x9 x10 x11)) (Rect.unit (s := S256x1536) ![p, q] ![a', b'] inb).toLoadRect) fun r j =>
      dA W Q ⟨p + r, (Nat.add_lt_add_left r.isLt p).trans_le (inb 0)⟩ ⟨q + j, (Nat.add_lt_add_left j.isLt q).trans_le (inb 1)⟩ := by
  rw [View.readCov_eq_canon']
  exact held_cut (grps_holds B) inb

/-- The cotangent of the normalised rows. -/
theorem dxn_holds (B : Blk W Q x0 x1 x2 x3 x4 x5 x6 x7 x8 x9 x10 x11 x12 x13) {sig : RefSig} {κ : Kind} {sp : Space} (v : View sig κ sp S256x1536 .bf16) :
    Holds (k0_pay342 (F := Ideal) (k0_pay183 (k0_pay23 (k0_pay20 x13 x6) (k0_pay22 (View.ld x12 (Rect.unit (s := S3592x1024) ![3072, 0] ![512, 1024] (inb2 (by omega) (by omega))))) x5)
        (k0_pay181 (View.ld x12 (Rect.unit (s := S3592x1024) ![1536, 0] ![1536, 1024] (inb2 (by omega) (by omega))))) (k0_pay182 x4) (constant S256x1024 .f32 0x00000000#32))
      (View.ld x12 (Rect.unit (s := S3592x1024) ![0, 0] ![1536, 1024] (inb2 (by omega) (by omega))))
      (v.readCov (grps (daP x2 x3 x8 x9 x10 x11)) (Rect.unit (s := S256x1536) ![0, 0] ![256, 1536] (inb2 (by omega) (by omega))).toLoadRect)) (dxn W Q) := by
  intro r k
  refine (p342 (p183 (p23 (p20 B.wp B.dl) (p22 (held_cut B.w (inb2 (by omega) (by omega)))) B.dzz) (p181 (held_cut B.w (inb2 (by omega) (by omega)))) (p182 B.dq)) (held_cut B.w (inb2 (by omega) (by omega))) (scr_holds B v (inb2 (by omega) (by omega))) r k).trans ?_
  simp only [Nat.zero_add, dxn, dxnOf]

end Cert.Gate
-- ==== Proof.Gate.Stack.lean ====
module

public import proofs.«01_k».proof.Proof.Gen.Kernel2Ideal.Skeleton
public import proofs.«01_k».proof.Proof.Gate.Tile
public import Idealize.ShloMosaic.Lib.Pipeline.ReadBack
public import Idealize.ShloMosaic.Lib.Pipeline.ValueKit

@[expose] public section

set_option maxRecDepth 65536

noncomputable section

namespace Cert.Gate

open Cert.Kernel2Ideal Cert.Kernel2Ideal.Gen Cert.Spec
open Idealize.ShloMosaic Idealize.ShloMosaic.Tactic

variable {W : Wt} {Q : Fin 256 → Tk} {x0 x1 : Vec Ideal S256x1024 .f32} {x2 : Vec Ideal S256x1536 .f32} {x3 : Vec Ideal S256x512 .f32} {x4 : Vec Ideal S256x1536 .bf16}
    {x5 : Vec Ideal S256x512 .bf16} {x6 : Vec Ideal S256x128 .bf16} {x7 : Vec Ideal S1x1024 .f32} {x8 x9 : Vec Ideal S1x512 .f32}
    {x10 : Vec Ideal S4x128x128 .f32} {x11 : Vec Ideal S128x4 .f32} {x12 : Vec Ideal S3592x1024 .bf16} {x13 : Vec Ideal S128x1024 .bf16}

/-- What earlier stores left is not seen where the later ones cover. -/
theorem canon_over {S : Shape} {e : EltTy} (K L : List (View.Piece (Elt Ideal) S e)) (y : S.Idx) (h : ∃ p ∈ K, y ∈ p.1.set) : View.canon (K ++ L) y = View.canon K y := by
  induction K with
  | nil => obtain ⟨p, hp, _⟩ := h; exact absurd hp List.not_mem_nil
  | cons p K ih =>
    rw [List.cons_append]
    by_cases hp : y ∈ p.1.set
    · obtain ⟨x, rfl⟩ := p.1.exists_idx_of_mem hp
      exact (View.canon_cons_emb _ _ _ x).trans (View.canon_cons_emb _ _ _ x).symm
    · rw [View.canon_cons_of_not_mem _ _ hp, View.canon_cons_of_not_mem _ _ hp]
      refine ih ?_
      obtain ⟨q, hq, hy⟩ := h
      rcases List.mem_cons.mp hq with rfl | hq
      exacts [absurd hy hp, ⟨q, hq, hy⟩]

theorem held {a b : ℕ} {v : (⟨2, ![a, b]⟩ : Shape).Idx → EReal} {f : Fin a → Fin b → ℝ} (h : Holds v f) (x : (⟨2, ![a, b]⟩ : Shape).Idx) : v x = ((f (x 0) (x 1) : ℝ) : EReal) := by
  rw [← h (x 0) (x 1)]
  exact congrArg v (eq_ix2 x)

/-- The last stores of the four lane groups of a row of 512. -/
def rowL (P : Fin 4 → FVec Ideal S1x128 .f32) : List (View.Piece (Elt Ideal) S1x512 .f32) :=
  let at' (g : Fin 4) : View.Piece (Elt Ideal) S1x512 .f32 := ⟨Rect.unit ![0, 128 * g] ![1, 128] (inb2 le_rfl (by omega)), P g⟩
  [at' 3, at' 2, at' 1, at' 0]

theorem rowL_holds {P : Fin 4 → FVec Ideal S1x128 .f32} {f : Fin 512 → ℝ} (h : ∀ g, Holds (P g) fun _ j => f ⟨128 * g + j, by omega⟩)
    (L : List (View.Piece (Elt Ideal) S1x512 .f32)) : Holds (View.canon (rowL P ++ L)) fun _ => f := by
  intro r j
  rw [canon_over (rowL P) L _ (View.cover_of_tiled_head _ _ _ rfl _)]
  refine View.canon_eq_of_allAt _ _ _ (View.cover_of_tiled_head _ _ _ rfl _) ?_
  have hm : ∀ p ∈ rowL P, ∃ g : Fin 4, p = ⟨Rect.unit ![0, 128 * g] ![1, 128] (inb2 le_rfl (by omega)), P g⟩ := by
    intro p hp
    simp only [rowL, List.mem_cons, List.not_mem_nil, or_false] at hp
    rcases hp with hp | hp | hp | hp <;> exact ⟨_, hp⟩
  intro p hp x hx
  obtain ⟨g, rfl⟩ := hm p hp
  have e1 : j.val = 128 * g + (x 1).val := by
    have := congrArg (fun y => (y 1).val) hx
    simpa [Rect.emb_apply] using this.symm
  exact (held (h g) x).trans (by rw [show j = ⟨128 * g + (x 1).val, e1 ▸ j.isLt⟩ from Fin.ext e1])

/-- The last stores of the four groups of a table of four squares. -/
def sqL (P : Fin 4 → FVec Ideal S1x128x128 .f32) : List (View.Piece (Elt Ideal) S4x128x128 .f32) :=
  let at' (g : Fin 4) : View.Piece (Elt Ideal) S4x128x128 .f32 := ⟨Rect.unit ![g, 0, 0] ![1, 128, 128] (inb3 g.isLt), P g⟩
  [at' 3, at' 2, at' 1, at' 0]

theorem sqL_holds {P : Fin 4 → FVec Ideal S1x128x128 .f32} {f : Fin 4 → Fin 128 → Fin 128 → ℝ} (h : ∀ g t s, P g (ix3 0 t s) = ((f g t s : ℝ) : EReal))
    (L : List (View.Piece (Elt Ideal) S4x128x128 .f32)) (g : Fin 4) (t s : Fin 128) : View.canon (sqL P ++ L) (ix3 g t s) = ((f g t s : ℝ) : EReal) := by
  rw [canon_over (sqL P) L _ (View.cover_of_tiled_head _ _ _ rfl _)]
  refine View.canon_eq_of_allAt _ _ _ (View.cover_of_tiled_head _ _ _ rfl _) ?_
  have hm : ∀ p ∈ sqL P, ∃ g : Fin 4, p = ⟨Rect.unit ![g, 0, 0] ![1, 128, 128] (inb3 g.isLt), P g⟩ := by
    intro p hp
    simp only [sqL, List.mem_cons, List.not_mem_nil, or_false] at hp
    rcases hp with hp | hp | hp | hp <;> exact ⟨_, hp⟩
  intro p hp x hx
  obtain ⟨k, rfl⟩ := hm p hp
  have b0 : (x 0).val < 1 := (x 0).isLt
  have e0 : g = k := Fin.ext (by
    have := congrArg (fun y => (y 0).val) hx
    simp [Rect.emb_apply] at this
    omega)
  have e1 : t = x 1 := Fin.ext (by
    have := congrArg (fun y => (y 1).val) hx
    simpa [Rect.emb_apply] using this.symm)
  have e2 : s = x 2 := Fin.ext (by
    have := congrArg (fun y => (y 2).val) hx
    simpa [Rect.emb_apply] using this.symm)
  refine (congrArg _ (eq_ix3 x)).trans ?_
  rw [show x 0 = (0 : Fin 1) from Fin.ext (by show (x 0).val = 0; omega), e0, e1, e2]
  exact h k _ _

/-- The stores of the projection's rows: three blocks of the gating's gradient, three of the recurrence's inputs, one of its gate, and the padded end. -/
def accL (A0 A1 A2 D0 D1 D2 Z : FVec Ideal S512x1024 .f32) (E : FVec Ideal S128x1024 .f32) : List (View.Piece (Elt Ideal) S3712x1024 .f32) :=
  [⟨Rect.unit ![1024, 0] ![512, 1024] (inb2 (by omega) le_rfl), A2⟩, ⟨Rect.unit ![512, 0] ![512, 1024] (inb2 (by omega) le_rfl), A1⟩,
    ⟨Rect.unit ![0, 0] ![512, 1024] (inb2 (by omega) le_rfl), A0⟩, ⟨Rect.unit ![2560, 0] ![512, 1024] (inb2 (by omega) le_rfl), D2⟩,
    ⟨Rect.unit ![2048, 0] ![512, 1024] (inb2 (by omega) le_rfl), D1⟩, ⟨Rect.unit ![1536, 0] ![512, 1024] (inb2 (by omega) le_rfl), D0⟩,
    ⟨Rect.unit ![3072, 0] ![512, 1024] (inb2 (by omega) le_rfl), Z⟩, ⟨Rect.unit ![3584, 0] ![128, 1024] (inb2 le_rfl le_rfl), E⟩]

/-- The rows from `o` on of a table. -/
abbrev rowsAt (f : Fin 3712 → Fin 1024 → ℝ) (n o : ℕ) (ho : o + n ≤ 3712) (c : Fin n) : Fin 1024 → ℝ := f ⟨o + c, by omega⟩

theorem accL_holds {A0 A1 A2 D0 D1 D2 Z : FVec Ideal S512x1024 .f32} {E : FVec Ideal S128x1024 .f32} {f : Fin 3712 → Fin 1024 → ℝ}
    (hA0 : Holds A0 (rowsAt f 512 0 (by omega))) (hA1 : Holds A1 (rowsAt f 512 512 (by omega))) (hA2 : Holds A2 (rowsAt f 512 1024 (by omega)))
    (hD0 : Holds D0 (rowsAt f 512 1536 (by omega))) (hD1 : Holds D1 (rowsAt f 512 2048 (by omega))) (hD2 : Holds D2 (rowsAt f 512 2560 (by omega)))
    (hZ : Holds Z (rowsAt f 512 3072 (by omega))) (hE : Holds E (rowsAt f 128 3584 (by omega)))
    (L : List (View.Piece (Elt Ideal) S3712x1024 .f32)) : Holds (View.canon (accL A0 A1 A2 D0 D1 D2 Z E ++ L)) f := by
  intro r j
  have hm (o n : ℕ) (ho : o + n ≤ 3712) (h : o ≤ r.val ∧ r.val < o + n) : ix2 r j ∈ (Rect.unit (s := S3712x1024) ![o, 0] ![n, 1024] (inb2 ho le_rfl)).set := by
    refine Rect.mem_set_unit.mpr fun a => ?_
    fin_cases a
    exacts [h, ⟨Nat.zero_le _, (Nat.zero_add 1024).symm ▸ j.isLt⟩]
  have hc : ∃ p ∈ accL A0 A1 A2 D0 D1 D2 Z E, ix2 r j ∈ p.1.set := by
    unfold accL
    simp only [List.mem_cons, List.not_mem_nil, or_false, exists_eq_or_imp, exists_eq_left]
    rcases (by omega : (1024 ≤ r.val ∧ r.val < 1536) ∨ (512 ≤ r.val ∧ r.val < 1024) ∨ (0 ≤ r.val ∧ r.val < 512) ∨ (2560 ≤ r.val ∧ r.val < 3072) ∨ (2048 ≤ r.val ∧ r.val < 2560)
      ∨ (1536 ≤ r.val ∧ r.val < 2048) ∨ (3072 ≤ r.val ∧ r.val < 3584) ∨ (3584 ≤ r.val ∧ r.val < 3712)) with h | h | h | h | h | h | h | h
    exacts [.inl (hm _ _ (by omega) h), .inr (.inl (hm _ _ (by omega) h)), .inr (.inr (.inl (hm _ _ (by omega) h))), .inr (.inr (.inr (.inl (hm _ _ (by omega) h)))),
      .inr (.inr (.inr (.inr (.inl (hm _ _ (by omega) h))))), .inr (.inr (.inr (.inr (.inr (.inl (hm _ _ (by omega) h)))))),
      .inr (.inr (.inr (.inr (.inr (.inr (.inl (hm _ _ (by omega) h))))))), .inr (.inr (.inr (.inr (.inr (.inr (.inr (hm _ _ (by omega) h)))))))]
  rw [canon_over (accL A0 A1 A2 D0 D1 D2 Z E) L _ hc]
  have at' {o n : ℕ} (ho : o + n ≤ 3712) {X : FVec Ideal ⟨2, ![n, 1024]⟩ .f32} (h : Holds X fun c => f ⟨o + c, by omega⟩) {K} (hK : View.AllAt (Val := Elt Ideal) (e := .f32) K (ix2 r j) ((f r j : ℝ) : EReal)) :
      View.AllAt (Val := Elt Ideal) (e := .f32) (⟨Rect.unit (s := S3712x1024) ![o, 0] ![n, 1024] (inb2 ho le_rfl), X⟩ :: K) (ix2 r j) ((f r j : ℝ) : EReal) := by
    refine View.allAt_cons_unit _ _ _ _ _ (fun x hx => (held h x).trans ?_) hK
    rw [show r = ⟨o + (x 0).val, (hx 0) ▸ r.isLt⟩ from Fin.ext (hx 0), show j = x 1 from Fin.ext ((hx 1).trans (Nat.zero_add _))]
  refine View.canon_eq_of_allAt _ _ _ hc ?_
  exact at' (by omega) hA2 (at' (by omega) hA1 (at' (by omega) hA0 (at' (by omega) hD2 (at' (by omega) hD1 (at' (by omega) hD0 (at' (by omega) hZ (at' (by omega) hE (View.allAt_nil _ _))))))))

/-! ## What a tile's two chunks add to a total -/

section
variable (x2 : Vec Ideal S256x1536 .f32) (x3 : Vec Ideal S256x512 .f32) (x8 x9 : Vec Ideal S1x512 .f32) (x10 : Vec Ideal S4x128x128 .f32)

def uB (h : Fin 2) (g : Fin 4) : Vec Ideal S128x128 .f32 := cutA 1536 x2 (128 * h) (128 * g) (by omega) (by omega)
def vB (h : Fin 2) (g : Fin 4) : Vec Ideal S128x128 .f32 := cutA 1536 x2 (128 * h) (512 + 128 * g) (by omega) (by omega)
def zB (h : Fin 2) (g : Fin 4) : Vec Ideal S128x128 .f32 := cutA 1536 x2 (128 * h) (1024 + 128 * g) (by omega) (by omega)
def dB (h : Fin 2) (g : Fin 4) : Vec Ideal S128x128 .f32 := cutA 512 x3 (128 * h) (128 * g) (by omega) (by omega)

def lgP (X : Fin 4 → Vec Ideal S1x128 .f32) (g : Fin 4) : FVec Ideal S1x128 .f32 :=
  let at' (h : Fin 2) := vDlg (uB x2 h g) (vB x2 h g) (zB x2 h g) (dB x3 h g) (cutW x10 g g.isLt)
  at' 1 (at' 0 (X g))
def lbP (X : Fin 4 → Vec Ideal S1x128 .f32) (g : Fin 4) : FVec Ideal S1x128 .f32 :=
  let at' (h : Fin 2) := vDlb (uB x2 h g) (zB x2 h g) (dB x3 h g) (cutW x10 g g.isLt)
  at' 1 (at' 0 (X g))
def wsP (X : Fin 4 → Vec Ideal S1x128x128 .f32) (g : Fin 4) : FVec Ideal S1x128x128 .f32 :=
  let at' (h : Fin 2) := vDws (uB x2 h g) (vB x2 h g) (zB x2 h g) (dB x3 h g) (cutL x8 (128 * g) (by omega)) (cutL x9 (128 * g) (by omega))
  at' 1 (at' 0 (X g))
def bP (X : Vec Ideal S128x4 .f32) : FVec Ideal S128x4 .f32 :=
  let at' (h : Fin 2) (g : Fin 4) := vDb (BitVec.ofNat 32 g.val) (uB x2 h g) (zB x2 h g) (dB x3 h g)
  let row (h : Fin 2) (Y : Vec Ideal S128x4 .f32) := at' h 3 (at' h 2 (at' h 1 (at' h 0 Y)))
  row 1 (row 0 X)
end

variable (B : Blk W Q x0 x1 x2 x3 x4 x5 x6 x7 x8 x9 x10 x11 x12 x13)
include B

theorem lg_holds {X : Fin 4 → Vec Ideal S1x128 .f32} {f : Fin 512 → ℝ} (h : ∀ g, Holds (X g) fun _ j => f ⟨128 * g + j, by omega⟩)
    (L : List (View.Piece (Elt Ideal) S1x512 .f32)) : Holds (View.canon (rowL (lgP x2 x3 x10 X) ++ L)) fun _ c => f c + totLg W Q c := by
  refine rowL_holds (fun g r j => ((vDlg_holds (B.pc 1 g) (vDlg_holds (B.pc 0 g) (h g))) r j).trans ?_) L
  have e : (128 * g.val + j.val) / 128 = g.val ∧ (128 * g.val + j.val) % 128 = j.val := by omega
  simp only [totLg, Fin.sum_univ_two, e.1, e.2, add_assoc]

theorem lb_holds {X : Fin 4 → Vec Ideal S1x128 .f32} {f : Fin 512 → ℝ} (h : ∀ g, Holds (X g) fun _ j => f ⟨128 * g + j, by omega⟩)
    (L : List (View.Piece (Elt Ideal) S1x512 .f32)) : Holds (View.canon (rowL (lbP x2 x3 x10 X) ++ L)) fun _ c => f c + totLb W Q c := by
  refine rowL_holds (fun g r j => ((vDlb_holds (B.pc 1 g) (vDlb_holds (B.pc 0 g) (h g))) r j).trans ?_) L
  have e : (128 * g.val + j.val) / 128 = g.val ∧ (128 * g.val + j.val) % 128 = j.val := by omega
  simp only [totLb, Fin.sum_univ_two, e.1, e.2, add_assoc]

theorem ws_holds {X : Fin 4 → Vec Ideal S1x128x128 .f32} {f : Fin 4 → Fin 128 → Fin 128 → ℝ} (h : ∀ g t s, X g (ix3 0 t s) = ((f g t s : ℝ) : EReal))
    (L : List (View.Piece (Elt Ideal) S4x128x128 .f32)) (g : Fin 4) (t s : Fin 128) :
    View.canon (sqL (wsP x2 x3 x8 x9 X) ++ L) (ix3 g t s) = ((f g t s + totWs W Q g t s : ℝ) : EReal) := by
  refine sqL_holds (f := fun g t s => f g t s + totWs W Q g t s) (fun g t s => (vDws_holds (B.pc 1 g) (vDws_holds (B.pc 0 g) (h g)) t s).trans ?_) L g t s
  simp only [totWs, Fin.sum_univ_two, add_assoc]

theorem b_holds {X : Vec Ideal S128x4 .f32} {f : Fin 128 → Fin 4 → ℝ} (h : Holds X f) : Holds (bP x2 x3 X) fun t g => f t g + totB W Q t g := by
  intro t g
  refine ((vDb_holds 3 (B.pc 1 3) (vDb_holds 2 (B.pc 1 2) (vDb_holds 1 (B.pc 1 1) (vDb_holds 0 (B.pc 1 0) (vDb_holds 3 (B.pc 0 3) (vDb_holds 2 (B.pc 0 2)
    (vDb_holds 1 (B.pc 0 1) (vDb_holds 0 (B.pc 0 0) h)))))))) t g).trans ?_
  simp only [totB, Fin.sum_univ_two]
  fin_cases g <;> simp [add_assoc]

variable {X : Vec Ideal S3712x1024 .f32} {f : Fin 3712 → Fin 1024 → ℝ} (h : Holds X f) {N : FVec Ideal S256x1024 .bf16} (hN : Holds N fun r => xn W (Q r))
include h

include hN in
theorem wA_holds {sig : RefSig} {κ : Kind} {sp : Space} (v : View sig κ sp S256x1536 .bf16) (o : ℕ) (ho : o + 512 ≤ 1536) :
    Holds (k0_pay343 (F := Ideal) N (View.ld X (Rect.unit (s := S3712x1024) ![o, 0] ![512, 1024] (inb2 (by omega) le_rfl)))
        (v.readCov (grps (daP x2 x3 x8 x9 x10 x11)) (Rect.unit (s := S256x1536) ![0, o] ![256, 512] (inb2 le_rfl ho)).toLoadRect))
      (rowsAt (fun c k => f c k + totW W Q c k) 512 o (by omega)) := by
  intro r j
  refine (p343 hN (held_cut h (inb2 (by omega) le_rfl)) (scr_holds B v (inb2 le_rfl (by omega))) r j).trans ?_
  have e : o + r.val < 1536 := by omega
  simp only [rowsAt, Nat.zero_add, totW, dcol, e, ↓reduceDIte]

include hN in
theorem wD_holds (o p : ℕ) (ho : o + 512 ≤ 1536) (hp : p = 1536 + o) :
    Holds (k0_pay24 (F := Ideal) N (View.ld X (Rect.unit (s := S3712x1024) ![p, 0] ![512, 1024] (inb2 (by omega) le_rfl)))
        (View.ld x4 (Rect.unit (s := S256x1536) ![0, o] ![256, 512] (inb2 le_rfl ho))))
      (rowsAt (fun c k => f c k + totW W Q c k) 512 p (by omega)) := by
  subst hp
  intro r j
  refine (p24 hN (held_cut h (inb2 (by omega) le_rfl)) (held_cut B.dq (inb2 le_rfl (by omega))) r j).trans ?_
  have e : ¬1536 + o + r.val < 1536 := by omega
  have e' : 1536 + o + r.val < 3072 := by omega
  have e2 : 1536 + o + r.val - 1536 = o + r.val := by omega
  simp only [rowsAt, Nat.zero_add, totW, dcol, e, e', e2, ↓reduceDIte]

include hN in
theorem wZ_holds : Holds (k0_pay24 (F := Ideal) N (View.ld X (Rect.unit (s := S3712x1024) ![3072, 0] ![512, 1024] (inb2 (by omega) le_rfl))) x5)
      (rowsAt (fun c k => f c k + totW W Q c k) 512 3072 (by omega)) := by
  intro r j
  refine (p24 hN (held_cut h (inb2 (by omega) le_rfl)) B.dzz r j).trans ?_
  have e : ¬3072 + r.val < 1536 := by omega
  have e1 : ¬3072 + r.val < 3072 := by omega
  have e' : 3072 + r.val < 3584 := by omega
  simp only [rowsAt, Nat.zero_add, totW, dcol, e, e1, e', Nat.add_sub_cancel_left, ↓reduceDIte]

theorem wE_holds : Holds (k0_pay21 (F := Ideal) x7 x0 (View.ld X (Rect.unit (s := S3712x1024) ![3584, 0] ![128, 1024] (inb2 le_rfl le_rfl))) x6)
      (rowsAt (fun c k => f c k + totW W Q c k) 128 3584 (by omega)) := by
  intro r j
  refine (p21 B.g B.x (held_cut h (inb2 le_rfl le_rfl)) B.dl r j).trans ?_
  have e : ¬3584 + r.val < 1536 := by omega
  have e1 : ¬3584 + r.val < 3072 := by omega
  have e' : ¬3584 + r.val < 3584 := by omega
  simp only [rowsAt, Nat.zero_add, totW, dcol, e, e1, e', Nat.add_sub_cancel_left, ↓reduceDIte]

end Cert.Gate
-- ==== Proof.Gate.Step.lean ====
module

public import proofs.«01_k».proof.Proof.Gen.Kernel2Ideal.Frame
public import proofs.«01_k».proof.Proof.Gate.Stack
public import Idealize.ShloMosaic.Lib.Pipeline.ReadBack
public import Idealize.ShloMosaic.Lib.Pipeline.ValueKit

@[expose] public section

set_option maxRecDepth 65536
set_option maxHeartbeats 2000000

noncomputable section

namespace Cert.Gate

open Cert.Kernel2Ideal Cert.Kernel2Ideal.Gen Cert.Spec
open Idealize.ShloMosaic Idealize.ShloMosaic.Tactic

variable (W : Wt) (Q : Fin 256 → Tk)
variable (m : (ℓ : Loc nD τ sig) → Buf (Elt Ideal) ℓ)

/-- What a point leaves in its outputs and its running totals. -/
abbrev Left := Vec Ideal S256x1024 .f32 × Vec Ideal S1x1024 .f32 × Vec Ideal S1x512 .f32 × Vec Ideal S1x512 .f32 × Vec Ideal S4x128x128 .f32 × Vec Ideal S128x4 .f32 × Vec Ideal S3712x1024 .f32

/-- The running totals. -/
structure Totals (o : Left) (g : Fin 1024 → ℝ) (lg lb : Fin 512 → ℝ) (ws : Fin 4 → Fin 128 → Fin 128 → ℝ) (b : Fin 128 → Fin 4 → ℝ) (w : Fin 3712 → Fin 1024 → ℝ) : Prop where
  g : Holds o.2.1 fun _ => g
  lg : Holds o.2.2.1 fun _ => lg
  lb : Holds o.2.2.2.1 fun _ => lb
  ws : ∀ g t s, o.2.2.2.2.1 (ix3 g t s) = ((ws g t s : ℝ) : EReal)
  b : Holds o.2.2.2.2.2.1 b
  w : Holds o.2.2.2.2.2.2 w

theorem zeros (o : Left) (h1 : o.2.1 = k0_pay11 (F := Ideal)) (h2 : o.2.2.1 = k0_pay12 (F := Ideal)) (h3 : o.2.2.2.1 = k0_pay13 (F := Ideal)) (h4 : o.2.2.2.2.1 = k0_pay14 (F := Ideal)) (h5 : o.2.2.2.2.2.1 = k0_pay15 (F := Ideal))
    (h6 : o.2.2.2.2.2.2 = k0_pay10 (F := Ideal)) : Totals o (fun _ => 0) (fun _ => 0) (fun _ => 0) (fun _ _ _ => 0) (fun _ _ => 0) (fun _ _ => 0) := by
  refine ⟨?_, ?_, ?_, ?_, ?_, ?_⟩
  on_goal 4 => intro g
  all_goals
    intro r j
    first | rw [h1] | rw [h2] | rw [h3] | rw [h4] | rw [h5] | rw [h6]
    pointwise [k0_pay10, k0_pay11, k0_pay12, k0_pay13, k0_pay14, k0_pay15]
    rfl

/-- A lane block of a row. -/
theorem cutL_holds {x : (⟨2, ![1, 512]⟩ : Shape).Idx → EReal} {f : Fin 512 → ℝ} (h : Holds x fun _ => f) (q : ℕ) (hq : q + 128 ≤ 512) :
    Holds (cutL x q hq) fun _ j => f ⟨q + j, by omega⟩ := held_cut h _

/-- The first point starts the totals at zero. -/
theorem step_first (c : Dev nD) (t : Fin cfg0.N) (h0 : t.val % 32 = 0) (h1 : ¬t.val % 32 = 31)
    (B : Blk W Q (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t)) :
    Holds (outsAt0 m c t.val t.isLt).1 (dx W Q) ∧ Totals (outsAt0 m c t.val t.isLt) (fun k => 0 + totG W Q k) (fun c => 0 + totLg W Q c) (fun c => 0 + totLb W Q c)
      (fun g t s => 0 + totWs W Q g t s) (fun t g => 0 + totB W Q t g) (fun c k => 0 + totW W Q c k) := by
  obtain ⟨hg, hlg, hlb, hws, hb, hw⟩ := zeros ((fun _ => 0 : Vec Ideal S256x1024 .f32), k0_pay11 (F := Ideal), k0_pay12 (F := Ideal), k0_pay13 (F := Ideal), k0_pay14 (F := Ideal), k0_pay15 (F := Ideal), k0_pay10 (F := Ideal)) rfl rfl rfl rfl rfl rfl
  dsimp only at hg hlg hlb hws hb hw
  rw [outsAt0_A m c t h0 h1]
  refine ⟨?_, ?_, ?_, ?_, ?_, ?_, ?_⟩
  on_goal 5 => intro g
  all_goals
    intro r j
    dsimp only
    frame_open
    try simp (disch := decide) only [↓ View.readCov_skip (s := S1x512), ↓ View.readCov_skip (s := S4x128x128), ↓ View.readCov_skip (s := S3712x1024), ↓ View.readCov_cons_toLoadRect, ↓ View.readCov_fill]
    frame_out
  · exact p1 B.g (p17 B.x) (p18 B.x) (dxn_holds B (View.whole cc0_scratch2)) B.dh r j
  · exact p346 (p18 B.x) (dxn_holds B (View.whole cc0_scratch2)) hg r j
  · exact lg_holds B (f := fun _ => 0) (X := fun g => cutL (k0_pay12 (F := Ideal)) (128 * g) (by omega)) (fun g => cutL_holds hlg (128 * g) (by omega)) _ r j
  · exact lb_holds B (f := fun _ => 0) (X := fun g => cutL (k0_pay13 (F := Ideal)) (128 * g) (by omega)) (fun g => cutL_holds hlb (128 * g) (by omega)) _ r j
  · exact ws_holds B (fun g => cutW_holds hws g g.isLt) _ g r j
  · exact b_holds B hb r j
  · refine accL_holds (f := fun c k => 0 + totW W Q c k) ?_ ?_ ?_ ?_ ?_ ?_ ?_ ?_ _ r j
    · exact wA_holds B hw (p19 B.g B.x) _ 0 (by omega)
    · exact wA_holds B hw (p19 B.g B.x) _ 512 (by omega)
    · exact wA_holds B hw (p19 B.g B.x) _ 1024 (by omega)
    · exact wD_holds B hw (p19 B.g B.x) 0 _ (by omega) rfl
    · exact wD_holds B hw (p19 B.g B.x) 512 _ (by omega) rfl
    · exact wD_holds B hw (p19 B.g B.x) 1024 _ (by omega) rfl
    · exact wZ_holds B hw (p19 B.g B.x)
    · exact wE_holds B hw

/-- A later point adds its tile's terms to the totals the point before left. -/
theorem step_next (c : Dev nD) (t : Fin cfg0.N) (h0 : ¬t.val % 32 = 0)
    (B : Blk W Q (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t))
    {g : Fin 1024 → ℝ} {lg lb : Fin 512 → ℝ} {ws : Fin 4 → Fin 128 → Fin 128 → ℝ} {b : Fin 128 → Fin 4 → ℝ} {w : Fin 3712 → Fin 1024 → ℝ} (hp)
    (T : Totals (outsAt0 m c (t.val - 1) hp) g lg lb ws b w) :
    Holds (outsAt0 m c t.val t.isLt).1 (dx W Q) ∧ Totals (outsAt0 m c t.val t.isLt) (fun k => g k + totG W Q k) (fun c => lg c + totLg W Q c) (fun c => lb c + totLb W Q c)
      (fun g t s => ws g t s + totWs W Q g t s) (fun t g => b t g + totB W Q t g) (fun c k => w c k + totW W Q c k) := by
  by_cases h1 : t.val % 32 = 31
  on_goal 1 => rw [outsAt0_C m c t h0 h1]
  on_goal 2 => rw [outsAt0_B m c t h0 h1]
  all_goals
    refine ⟨?_, ?_, ?_, ?_, ?_, ?_, ?_⟩
    on_goal 5 => intro g
    all_goals
      intro r j
      dsimp only
      frame_open
      try simp (disch := decide) only [↓ View.readCov_skip (s := S1x512), ↓ View.readCov_skip (s := S4x128x128), ↓ View.readCov_skip (s := S3712x1024), ↓ View.readCov_cons_toLoadRect]
      frame_out
      try simp only [read_unread_whole]
    · exact p1 B.g (p17 B.x) (p18 B.x) (dxn_holds B (View.whole cc0_scratch2)) B.dh r j
    · exact p346 (p18 B.x) (dxn_holds B (View.whole cc0_scratch2)) T.g r j
    · exact lg_holds B (X := fun g => cutL _ (128 * g) (by omega)) (fun g => cutL_holds T.lg (128 * g) (by omega)) _ r j
    · exact lb_holds B (X := fun g => cutL _ (128 * g) (by omega)) (fun g => cutL_holds T.lb (128 * g) (by omega)) _ r j
    · exact ws_holds B (fun g => cutW_holds T.ws g g.isLt) _ g r j
    · exact b_holds B T.b r j
    · refine accL_holds (f := fun c k => w c k + totW W Q c k) ?_ ?_ ?_ ?_ ?_ ?_ ?_ ?_ _ r j
      · exact wA_holds B T.w (p19 B.g B.x) _ 0 (by omega)
      · exact wA_holds B T.w (p19 B.g B.x) _ 512 (by omega)
      · exact wA_holds B T.w (p19 B.g B.x) _ 1024 (by omega)
      · exact wD_holds B T.w (p19 B.g B.x) 0 _ (by omega) rfl
      · exact wD_holds B T.w (p19 B.g B.x) 512 _ (by omega) rfl
      · exact wD_holds B T.w (p19 B.g B.x) 1024 _ (by omega) rfl
      · exact wZ_holds B T.w (p19 B.g B.x)
      · exact wE_holds B T.w

end Cert.Gate
-- ==== Proof.Gate.Inputs.lean ====
module

public import proofs.«01_k».proof.Proof.Gate.Step

@[expose] public section

set_option maxRecDepth 65536
set_option maxHeartbeats 2000000

noncomputable section

namespace Cert.Gate

open Cert.Kernel2Ideal Cert.Kernel2Ideal.Gen Cert.Spec
open Idealize.ShloMosaic Idealize.ShloMosaic.TcCoe Idealize.ShloMosaic.Tactic

variable (m : (ℓ : Loc nD τ sig) → Buf (Elt Ideal) ℓ) (c : Dev nD)
/-- The weights the arguments hold. -/
def wts : Wt where
  g k := (m ((c : Thread nD τ).loc main_arg1) (ix2 (0 : Fin 1) k)).toReal
  lg k := (m ((c : Thread nD τ).loc main_arg3) (ix2 (0 : Fin 1) k)).toReal
  lb k := (m ((c : Thread nD τ).loc main_arg4) (ix2 (0 : Fin 1) k)).toReal
  ws g t s := (m ((c : Thread nD τ).loc main_arg5) (ix4 (0 : Fin 1) g t s)).toReal
  b t g := (m ((c : Thread nD τ).loc main_arg6) (ix3 (0 : Fin 1) g t)).toReal
  w r k := (m ((c : Thread nD τ).loc main_arg2) (ix3 (0 : Fin 1) k r)).toReal
  wp r k := if h : r.val < 8 then (m ((c : Thread nD τ).loc main_arg2) (ix3 (0 : Fin 1) k (⟨3584 + r, by omega⟩ : Fin 3592))).toReal else 0

/-- The numbers of a token's row: the arguments', and the projection the host computes from them. -/
def tok (s : Fin 2) (r : Fin 4096) : Tk where
  x k := (m ((c : Thread nD τ).loc main_arg0) (ix3 s r k)).toReal
  dh k := (m ((c : Thread nD τ).loc main_arg7) (ix3 s r k)).toReal
  uvz p := ∑ k, (m ((c : Thread nD τ).loc main_arg0) (ix3 s r k)).toReal * rinv (fun k => (m ((c : Thread nD τ).loc main_arg0) (ix3 s r k)).toReal)
    * (wts m c).g k * (wts m c).w ⟨p, by omega⟩ k
  da k := (m ((c : Thread nD τ).loc main_arg8) (ix3 s r k)).toReal
  dq k := (m ((c : Thread nD τ).loc main_arg9) (ix3 s r k)).toReal
  dzz k := (m ((c : Thread nD τ).loc main_arg10) (ix3 s r k)).toReal
  dl k := if h : k.val < 8 then (m ((c : Thread nD τ).loc main_arg11) (ix3 s r (⟨k, h⟩ : Fin 8))).toReal else 0

/-- The tokens of the 8192 rows, and those of a grid point's tile. -/
def row (R : Fin 8192) : Tk := tok m c ⟨R / 4096, by omega⟩ ⟨R % 4096, by omega⟩
def tile (t : Fin cfg0.N) (r : Fin 256) : Tk := row m c ⟨t.val * 256 + r, by have h : t.val < 32 := lt_of_lt_of_eq t.isLt N_0; omega⟩

/-- Every element of the arguments is finite. -/
structure Finite : Prop where
  x i : ((m ((c : Thread nD τ).loc main_arg0) i).toReal : EReal) = m ((c : Thread nD τ).loc main_arg0) i
  g i : ((m ((c : Thread nD τ).loc main_arg1) i).toReal : EReal) = m ((c : Thread nD τ).loc main_arg1) i
  w i : ((m ((c : Thread nD τ).loc main_arg2) i).toReal : EReal) = m ((c : Thread nD τ).loc main_arg2) i
  lg i : ((m ((c : Thread nD τ).loc main_arg3) i).toReal : EReal) = m ((c : Thread nD τ).loc main_arg3) i
  lb i : ((m ((c : Thread nD τ).loc main_arg4) i).toReal : EReal) = m ((c : Thread nD τ).loc main_arg4) i
  ws i : ((m ((c : Thread nD τ).loc main_arg5) i).toReal : EReal) = m ((c : Thread nD τ).loc main_arg5) i
  b i : ((m ((c : Thread nD τ).loc main_arg6) i).toReal : EReal) = m ((c : Thread nD τ).loc main_arg6) i
  dh i : ((m ((c : Thread nD τ).loc main_arg7) i).toReal : EReal) = m ((c : Thread nD τ).loc main_arg7) i
  da i : ((m ((c : Thread nD τ).loc main_arg8) i).toReal : EReal) = m ((c : Thread nD τ).loc main_arg8) i
  dq i : ((m ((c : Thread nD τ).loc main_arg9) i).toReal : EReal) = m ((c : Thread nD τ).loc main_arg9) i
  dz i : ((m ((c : Thread nD τ).loc main_arg10) i).toReal : EReal) = m ((c : Thread nD τ).loc main_arg10) i
  dl i : ((m ((c : Thread nD τ).loc main_arg11) i).toReal : EReal) = m ((c : Thread nD τ).loc main_arg11) i

/-- The block each input window reads at a grid point. -/
theorem idx : ∀ t : Fin cfg0.N, (win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0])
    ∧ win0_7.index t = ![0, 0] ∧ win0_8.index t = ![0, 0] ∧ win0_9.index t = ![0, 0] ∧ win0_10.index t = ![0, 0, 0] ∧ win0_11.index t = ![0, 0] ∧ win0_12.index t = ![0, 0] ∧ win0_13.index t = ![0, 0] := by
  decide +kernel

variable {m c}

/-- The arguments' elements at an index, by the numbers they hold. -/
theorem Finite.x3 (h : Finite m c) (s : Fin 2) (r : Fin 4096) (k : Fin 1024) : m (c, Proc.tc.devRef main_arg0) (ix3 s r k) = (((tok m c s r).x k : ℝ) : EReal) := (h.x _).symm
theorem Finite.w3 (h : Finite m c) (k : Fin 1024) (r : Fin 3592) : m (c, Proc.tc.devRef main_arg2) (ix3 (0 : Fin 1) k r) = (((wts m c).w r k : ℝ) : EReal) := (h.w _).symm
theorem Finite.g2 (h : Finite m c) (k : Fin 1024) : m (c, Proc.tc.devRef main_arg1) (ix2 (0 : Fin 1) k) = (((wts m c).g k : ℝ) : EReal) := (h.g _).symm

/-- What the host's operations before the call leave in the arrays it reads. -/
theorem Finite.host (h : Finite m c) :
    Holds (V m c main_v8) (fun R => (row m c R).x) ∧ Holds (V m c main_v28) (fun R => (row m c R).dh) ∧ Holds (V m c main_v25) (fun R => (row m c R).uvz)
    ∧ Holds (V m c main_v29) (fun R => (row m c R).da) ∧ Holds (V m c main_v31) (fun R => (row m c R).dq) ∧ Holds (V m c main_v33) (fun R => (row m c R).dzz)
    ∧ Holds (V m c main_v34) (fun R => (row m c R).dl) ∧ (∀ g t s, V m c main_v5 (ix3 g t s) = (((wts m c).ws g t s : ℝ) : EReal)) ∧ Holds (V m c main_v7) (wts m c).b
    ∧ Holds (V m c main_v2) (wts m c).w ∧ Holds (V m c main_v4) (wts m c).wp := by
  refine ⟨fun R k => ?_, fun R k => ?_, fun R k => ?_, fun R k => ?_, fun R k => ?_, fun R k => ?_, fun R k => ?_, fun R t k => ?_, fun R k => ?_, fun R k => ?_, fun R k => ?_⟩
  all_goals
    simp only [V, hostOps0, hostOps0_1, hostOps0_2, hostOps0_3, hostOps0_4, List.flatten_cons, List.flatten_nil, List.append_nil, List.cons_append, List.nil_append]
    entry_read
    try simp only [StableHlo.TRef.toBuf, StableHlo.TRef.ofBuf, eq_mpr_eq_cast, cast_eq]
    pointwise
  · exact (h.x _).symm
  · exact (h.dh _).symm
  · simp only [h.x3, h.g2, h.w3, ← EReal.coe_mul, ← EReal.coe_add, coe_sum, bits_1024, div_coe _ _ (by norm_num : (1024 : ℝ) ≠ 0), bits_eps, rsqrt_pos _ (rinv_arg_pos _)]
    rfl
  · exact (h.da _).symm
  · exact (h.dq _).symm
  · exact (h.dz _).symm
  · simp only [row, tok]
    split
    · exact (h.dl _).symm
    · exact congrArg (fun n : ℝ => (n : EReal)) (by norm_num)
  · exact (h.ws _).symm
  · exact (h.b _).symm
  · exact (h.w _).symm
  · simp only [wts]
    split
    · exact (h.w _).symm
    · exact congrArg (fun n : ℝ => (n : EReal)) (by norm_num)

theorem Finite.blk (h : Finite m c) (t : Fin cfg0.N) : Blk (wts m c) (tile m c t) (iblk m c 0 t) (iblk m c 1 t) (iblk m c 2 t) (iblk m c 3 t) (iblk m c 4 t) (iblk m c 5 t) (iblk m c 6 t) (iblk m c 7 t) (iblk m c 8 t) (iblk m c 9 t)
    (iblk m c 10 t) (iblk m c 11 t) (iblk m c 12 t) (iblk m c 13 t) := by
  obtain ⟨hx, hdh, huvz, hda, hdq, hdz, hdl, hws, hb, hw, hwp⟩ := h.host
  refine ⟨fun r j => ?_, fun r j => ?_, fun r j => ?_, fun r j => ?_, fun r j => ?_, fun r j => ?_, fun r j => ?_, fun r j => ?_, fun r j => ?_, fun r j => ?_, fun g r j => ?_, fun r j => ?_, fun r j => ?_, fun r j => ?_⟩
  · refine Eq.trans ?_ (hx _ _)
    blk_ext [iblk, idx t]
  · refine Eq.trans ?_ (hdh _ _)
    blk_ext [iblk, idx t]
  · refine Eq.trans ?_ (huvz _ _)
    blk_ext [iblk, idx t]
  · refine Eq.trans ?_ (hda _ _)
    blk_ext [iblk, idx t]
  · refine Eq.trans ?_ (hdq _ _)
    blk_ext [iblk, idx t]
  · refine Eq.trans ?_ (hdz _ _)
    blk_ext [iblk, idx t]
  · refine Eq.trans ?_ (hdl _ _)
    blk_ext [iblk, idx t]
  · refine Eq.trans ?_ (h.g _).symm
    blk_ext! [iblk, idx t]
  · refine Eq.trans ?_ (h.lg _).symm
    blk_ext! [iblk, idx t]
  · refine Eq.trans ?_ (h.lb _).symm
    blk_ext! [iblk, idx t]
  · refine Eq.trans ?_ (hws _ _ _)
    blk_ext [iblk, idx t]
  · refine Eq.trans ?_ (hb _ _)
    blk_ext [iblk, idx t]
  · refine Eq.trans ?_ (hw _ _)
    blk_ext [iblk, idx t]
  · refine Eq.trans ?_ (hwp _ _)
    blk_ext [iblk, idx t]

end Cert.Gate
-- ==== Proof.Head.Back.lean ====
module

public import proofs.«01_k».proof.Proof.Gen.ReferenceIdeal.Run
public import proofs.«01_k».proof.Proof.Head.Spec

@[expose] public section

set_option maxRecDepth 65536
set_option maxHeartbeats 2000000

noncomputable section

namespace Cert.Back

open Cert.ReferenceIdeal Cert.ReferenceIdeal.Gen Cert.ReferenceIdeal.Value Cert.Spec
open Idealize.ShloMosaic Idealize.ShloMosaic.TcCoe Idealize.ShloMosaic.Tactic

/-- The array `v` of two sequences holds the real numbers `f`. -/
def Holds3 {a b n : ℕ} (v : (⟨3, ![a, b, n]⟩ : Shape).Idx → EReal) (f : Fin a → Fin b → Fin n → ℝ) : Prop :=
  ∀ s r j, v (ix3 s r j) = ((f s r j : ℝ) : EReal)

variable (V0 : Valuation τ sig (Elt Ideal)) (W : Wts) (Q : Fin 2 → Fin 4096 → Row)

/-- The arguments hold the rows and the weights. -/
structure Args : Prop where
  a : Holds3 (V0 (Proc.devRef .tc main_arg0)) fun s r => (Q s r).a
  b : Holds3 (V0 (Proc.devRef .tc main_arg1)) fun s r => (Q s r).b
  x : Holds3 (V0 (Proc.devRef .tc main_arg2)) fun s r => (Q s r).x
  p : ∀ s r k, V0 (Proc.devRef .tc main_arg3) (ix4 (0 : Fin 1) s r k) = (((Q s r).p k : ℝ) : EReal)
  y : Holds3 (V0 (Proc.devRef .tc main_arg4)) fun s r => (Q s r).y
  wo : Holds3 (V0 (Proc.devRef .tc main_arg5)) fun _ => W.wo
  wg : Holds3 (V0 (Proc.devRef .tc main_arg6)) fun _ => W.wg
  wp : Holds3 (V0 (Proc.devRef .tc main_arg7)) fun _ => W.wp
  pg : Holds (V0 (Proc.devRef .tc main_arg8)) fun _ => W.pg
  fg : ∀ j, V0 (Proc.devRef .tc main_arg9) (ix1 j) = ((W.fg j : ℝ) : EReal)

variable {V0 W Q}

/-! ## The identities -/

theorem bits_neg_half : Ideal.ofBits .f32 0xBF000000#32 = ((-(1 / 2) : ℝ) : EReal) := by
  simp [Ideal.ofBits, Ideal.ieee, -EReal.coe_mul, -EReal.coe_neg]; norm_num
theorem bits_two : Ideal.ofBits .f32 0x40000000#32 = ((2 : ℝ) : EReal) := by
  simp [Ideal.ofBits, Ideal.ieee, -EReal.coe_mul]; norm_num

/-- The product with the two branches side by side is the sum of the two products. -/
theorem h1_ab (W : Wts) (q : Row) (j : Fin 1024) : q.x j + ∑ k, ab q k * W.wo k j = h1 W q j := by
  rw [h1, add_assoc]
  refine congrArg _ ((Fin.sum_univ_add (a := 512) (b := 512) fun k : Fin 1024 => ab q k * W.wo k j).trans ?_)
  refine congrArg₂ _ (Finset.sum_congr rfl fun k _ => ?_) (Finset.sum_congr rfl fun k _ => ?_)
  · simp only [ab, Fin.val_castAdd, k.isLt, ↓reduceDIte]; rfl
  · simp only [ab, Fin.val_natAdd, show ¬512 + k.val < 512 by omega, ↓reduceDIte, Nat.add_sub_cancel_left]; rfl

/-- The logistic function through the hyperbolic tangent. -/
theorem logistic (x : ℝ) : 1 / (1 + Real.exp (-x)) = 1 / 2 * Real.tanh (1 / 2 * x) + 1 / 2 := by
  have e : Real.exp (-x) = Real.exp (-(1 / 2 * x)) * Real.exp (-(1 / 2 * x)) := by rw [← Real.exp_add]; congr 1; ring
  have p : 0 < Real.exp (1 / 2 * x) := Real.exp_pos _
  rw [Real.tanh_eq_sinh_div_cosh, Real.sinh_eq, Real.cosh_eq, e, Real.exp_neg]
  generalize Real.exp (1 / 2 * x) = u at p
  have h1 : u ^ 2 + 1 ≠ 0 := by positivity
  field_simp
  ring

/-- The gradient of a normalisation, from the derivative of the inverse square root. -/
theorem rms_eq (v d : Fin 1024 → ℝ) (j : Fin 1024) :
    d j * rinv v + v j * ((∑ k, v k * d k) * (-(1 / 2) * (rinv v / ((∑ k, v k * v k) / 1024 + eps))) / 1024)
      + (∑ k, v k * d k) * (-(1 / 2) * (rinv v / ((∑ k, v k * v k) / 1024 + eps))) / 1024 * v j
      = rmsBack (rinv v) d (fun k => v k * rinv v) j := by
  have hp := rinv_arg_pos v
  have e : rinv v * rinv v = ((∑ k, v k * v k) / 1024 + eps)⁻¹ := by
    rw [rinv, ← mul_inv, Real.mul_self_sqrt hp.le]
  have s : ∑ k, d k * (v k * rinv v) = (∑ k, v k * d k) * rinv v := by
    rw [Finset.sum_mul]; exact Finset.sum_congr rfl fun k _ => by ring
  rw [rmsBack, s, div_eq_mul_inv (rinv v), ← e]
  ring

/-! ## The forward values -/

theorem v0 (h : Args V0 W Q) : Holds3 (res_main_v0 V0) fun s r => ab (Q s r) := by
  intro s r j
  pointwise [res_main_v0]
  unfold ab
  split
  · exact h.a s r _
  · exact h.b s r _

theorem v1 (h : Args V0 W Q) : Holds (res_main_v1 V0) W.wo := by
  intro r j
  pointwise [res_main_v1]
  exact h.wo 0 r j

theorem v3 (h : Args V0 W Q) : Holds3 (res_main_v3 V0) fun s r => h1 W (Q s r) := by
  intro s r j
  pointwise [res_main_v3]
  simp only [h.x s r j, v0 h s r _, v1 h _ j, ← EReal.coe_mul, ← EReal.coe_add, coe_sum, h1_ab]

theorem v11 (h : Args V0 W Q) : Holds3 (res_main_v11 V0) fun s r _ => (∑ j, h1 W (Q s r) j * h1 W (Q s r) j) / 1024 + eps := by
  intro s r j
  pointwise [res_main_v11]
  simp only [v3 h s r _, ← EReal.coe_mul, ← EReal.coe_add, coe_sum, bits_1024, div_coe _ _ (by norm_num : (1024 : ℝ) ≠ 0), bits_eps]

theorem v12 (h : Args V0 W Q) : Holds3 (res_main_v12 V0) fun s r _ => r1 W (Q s r) := by
  intro s r j
  pointwise [res_main_v12]
  simp only [v11 h s r j, rsqrt_pos _ (rinv_arg_pos _)]
  rfl

theorem v17 (h : Args V0 W Q) : Holds3 (res_main_v17 V0) fun s r => n1 W (Q s r) := by
  intro s r j
  pointwise [res_main_v17]
  simp only [v3 h s r j, v12 h s r _, ← EReal.coe_mul, n1]

theorem v18 (h : Args V0 W Q) (s : Fin 1) (r : Fin 1) (j : Fin 1024) : res_main_v18 V0 (ix3 s r j) = ((W.pg j : ℝ) : EReal) := by
  pointwise [res_main_v18]
  exact h.pg 0 j

theorem v20 (h : Args V0 W Q) : Holds3 (res_main_v20 V0) fun s r => rn W (Q s r) := by
  intro s r j
  pointwise [res_main_v20]
  simp only [v17 h s r j, v18 h _ _ j, ← EReal.coe_mul, rn]

theorem v21 (h : Args V0 W Q) : Holds (res_main_v21 V0) W.wg := by
  intro r j
  pointwise [res_main_v21]
  exact h.wg 0 r j

theorem v28 (h : Args V0 W Q) : Holds3 (res_main_v28 V0) fun s r => gate W (Q s r) := by
  intro s r j
  pointwise [res_main_v28]
  have e (x : ℝ) : (1 + Real.exp (-x)) ≠ 0 := by positivity
  simp only [v20 h s r _, v21 h _ j, ← EReal.coe_mul, coe_sum, ← EReal.coe_neg, Ideal.exp_coe, one_coe, ← EReal.coe_add, div_coe _ _ (e _), logistic, gate]

theorem v32 (h : Args V0 W Q) : Holds3 (res_main_v32 V0) fun s r => (Q s r).p := by
  intro s r j
  pointwise [res_main_v32]
  exact h.p s r j

theorem v34 (h : Args V0 W Q) : Holds3 (res_main_v34 V0) fun s r => pp W (Q s r) := by
  intro s r j
  pointwise [res_main_v34]
  simp only [v32 h s r _, h.wp _ _ j, ← EReal.coe_mul, coe_sum, pp]

theorem v36 (h : Args V0 W Q) : Holds3 (res_main_v36 V0) fun s r => h2 W (Q s r) := by
  intro s r j
  pointwise [res_main_v36]
  simp only [v3 h s r j, v28 h s r j, v34 h s r j, ← EReal.coe_mul, ← EReal.coe_add, h2]

theorem v43 (h : Args V0 W Q) : Holds3 (res_main_v43 V0) fun s r _ => (∑ j, h2 W (Q s r) j * h2 W (Q s r) j) / 1024 + eps := by
  intro s r j
  pointwise [res_main_v43]
  simp only [v36 h s r _, ← EReal.coe_mul, ← EReal.coe_add, coe_sum, bits_1024, div_coe _ _ (by norm_num : (1024 : ℝ) ≠ 0), bits_eps]

theorem v44 (h : Args V0 W Q) : Holds3 (res_main_v44 V0) fun s r _ => r2 W (Q s r) := by
  intro s r j
  pointwise [res_main_v44]
  simp only [v43 h s r j, rsqrt_pos _ (rinv_arg_pos _)]
  rfl

theorem v49 (h : Args V0 W Q) : Holds3 (res_main_v49 V0) fun s r => n2 W (Q s r) := by
  intro s r j
  pointwise [res_main_v49]
  simp only [v36 h s r j, v44 h s r _, ← EReal.coe_mul, n2]

theorem v50 (h : Args V0 W Q) (s : Fin 1) (r : Fin 1) (j : Fin 1024) : res_main_v50 V0 (ix3 s r j) = ((W.fg j : ℝ) : EReal) := by
  pointwise [res_main_v50]
  exact h.fg j

theorem v53 (h : Args V0 W Q) : Holds3 (res_main_v53 V0) fun s r => err W (Q s r) := by
  intro s r j
  pointwise [res_main_v53]
  simp only [v49 h s r j, v50 h _ _ j, h.y s r j, ← EReal.coe_mul, ← EReal.coe_sub, err]

/-! ## The gradients -/

theorem v67 (h : Args V0 W Q) : Holds3 (res_main_v67 V0) fun s r => dy W (Q s r) := by
  intro s r j
  pointwise [res_main_v67]
  simp only [v53 h s r j, bits_half, bits_1024, bits_two, div_coe _ _ (by norm_num : (1024 : ℝ) ≠ 0), ← EReal.coe_mul, dy]
  exact congrArg _ (by ring)

theorem v72 (h : Args V0 W Q) : Holds3 (res_main_v72 V0) fun s r j => dy W (Q s r) j * W.fg j := by
  intro s r j
  pointwise [res_main_v72]
  simp only [v67 h s r j, v50 h _ _ j, ← EReal.coe_mul]

theorem v83 (h : Args V0 W Q) : Holds3 (res_main_v83 V0) fun s r _ =>
    (∑ k, h2 W (Q s r) k * (dy W (Q s r) k * W.fg k)) * (-(1 / 2) * (r2 W (Q s r) / ((∑ k, h2 W (Q s r) k * h2 W (Q s r) k) / 1024 + eps))) / 1024 := by
  intro s r j
  pointwise [res_main_v83]
  simp only [v36 h s r _, v72 h s r _, v44 h s r _, v43 h s r _, bits_neg_half, bits_1024, div_coe _ _ (rinv_arg_pos (h2 W (Q s r))).ne',
    div_coe _ _ (by norm_num : (1024 : ℝ) ≠ 0), ← EReal.coe_mul, coe_sum, Fin.sum_univ_one]

theorem v87 (h : Args V0 W Q) : Holds3 (res_main_v87 V0) fun s r => dh2 W (Q s r) := by
  intro s r j
  pointwise [res_main_v87]
  simp only [v36 h s r j, v72 h s r j, v44 h s r _, v83 h s r j, ← EReal.coe_mul, ← EReal.coe_add]
  exact congrArg _ (rms_eq (h2 W (Q s r)) (fun j => dy W (Q s r) j * W.fg j) j)

theorem v93 (h : Args V0 W Q) : Holds3 (res_main_v93 V0) fun s r => dgl W (Q s r) := by
  intro s r j
  pointwise [res_main_v93]
  simp only [v87 h s r j, v34 h s r j, v28 h s r j, one_coe, ← EReal.coe_mul, ← EReal.coe_sub, dgl, mul_assoc]

theorem v96 (h : Args V0 W Q) : Holds3 (res_main_v96 V0) fun s r => drn W (Q s r) := by
  intro s r j
  pointwise [res_main_v96]
  simp only [v93 h s r _, v21 h j _, ← EReal.coe_mul, coe_sum, drn]

theorem v102 (h : Args V0 W Q) : Holds3 (res_main_v102 V0) fun s r j => drn W (Q s r) j * W.pg j := by
  intro s r j
  pointwise [res_main_v102]
  simp only [v96 h s r j, v18 h _ _ j, ← EReal.coe_mul]

theorem v114 (h : Args V0 W Q) : Holds3 (res_main_v114 V0) fun s r _ =>
    (∑ k, h1 W (Q s r) k * (drn W (Q s r) k * W.pg k)) * (-(1 / 2) * (r1 W (Q s r) / ((∑ k, h1 W (Q s r) k * h1 W (Q s r) k) / 1024 + eps))) / 1024 := by
  intro s r j
  pointwise [res_main_v114]
  simp only [v3 h s r _, v102 h s r _, v12 h s r _, v11 h s r _, bits_neg_half, bits_1024, div_coe _ _ (rinv_arg_pos (h1 W (Q s r))).ne',
    div_coe _ _ (by norm_num : (1024 : ℝ) ≠ 0), ← EReal.coe_mul, coe_sum, Fin.sum_univ_one]

theorem v118 (h : Args V0 W Q) : Holds3 (res_main_v118 V0) fun s r => dh1 W (Q s r) := by
  intro s r j
  pointwise [res_main_v118]
  simp only [v87 h s r j, v3 h s r j, v102 h s r j, v12 h s r _, v114 h s r j, ← EReal.coe_mul, ← EReal.coe_add]
  refine congrArg _ ?_
  rw [add_assoc, add_assoc, ← add_assoc (_ * r1 W (Q s r)), dh1]
  exact congrArg _ (rms_eq (h1 W (Q s r)) (fun j => drn W (Q s r) j * W.pg j) j)

theorem v122 (h : Args V0 W Q) : Holds3 (res_main_v122 V0) fun s r k => ∑ j, dh1 W (Q s r) j * W.wo k j := by
  intro s r j
  pointwise [res_main_v122]
  simp only [v118 h s r _, v1 h j _, ← EReal.coe_mul, coe_sum]

/-- A sum over the two leading axes, at an index of the last one. -/
theorem sum_leading {a b n : ℕ} (h : (⟨3, ![a, b, n]⟩ : Shape).ReducesTo [0, 1] ⟨1, ![n]⟩) (v : (⟨3, ![a, b, n]⟩ : Shape).Idx → EReal) (init : EReal) (j : Fin n) :
    Ideal.hostReduceAdd h v init (ix1 j) = init + ∑ s, ∑ r, v (ix3 s r j) := by
  refine congrArg (init + ·) ((Finset.sum_filter_eq_sum_of_fiber _ (fun k : Fin a × Fin b => ix3 k.1 k.2 j)
    (fun _ _ e => Prod.ext (congrFun e 0) (congrFun e 1)) (fun i => ⟨fun e => ⟨(i 0, i 1), ?_⟩, ?_⟩) v).trans (Fintype.sum_prod_type _))
  · funext x
    match x with
    | ⟨0, _⟩ => rfl
    | ⟨1, _⟩ => rfl
    | ⟨2, _⟩ => exact Fin.ext (congrArg Fin.val (congrFun e 0)).symm
  · rintro ⟨k, rfl⟩
    funext x
    match x with
    | ⟨0, _⟩ => rfl

/-! ## The results -/

theorem res126 (h : Args V0 W Q) (g : Fin 8192) (k : Fin 512) :
    (shapeCast _ (extractStridedSlice S2x4096x512 ![0, 0, 0] (res_main_v122 V0) slices_S2x4096x1024_S2x4096x512_0_0_0) shapeCasts_S2x4096x512_S8192x512 : Vec Ideal S8192x512 .f32) (ix2 g k)
      = ((da W (Q ⟨g / 4096, by omega⟩ ⟨g % 4096, by omega⟩) k : ℝ) : EReal) := by
  pointwise
  exact v122 h _ _ _

theorem res127 (h : Args V0 W Q) (g : Fin 8192) (k : Fin 512) :
    (shapeCast _ (extractStridedSlice S2x4096x512 ![0, 0, 512] (res_main_v122 V0) slices_S2x4096x1024_S2x4096x512_0_0_512) shapeCasts_S2x4096x512_S8192x512 : Vec Ideal S8192x512 .f32) (ix2 g k)
      = ((db W (Q ⟨g / 4096, by omega⟩ ⟨g % 4096, by omega⟩) k : ℝ) : EReal) := by
  pointwise
  exact v122 h _ _ _

theorem res128 (h : Args V0 W Q) (g : Fin 8192) (k : Fin 1024) :
    (shapeCast _ (res_main_v118 V0) shapeCasts_S2x4096x1024_S8192x1024 : Vec Ideal S8192x1024 .f32) (ix2 g k)
      = ((dh1 W (Q ⟨g / 4096, by omega⟩ ⟨g % 4096, by omega⟩) k : ℝ) : EReal) := by
  pointwise
  exact v118 h _ _ _

theorem res130 (h : Args V0 W Q) (p : Fin 8) (q : Fin 128) (j : Fin 1024) :
    (truncf .bf16 (shapeCast _ (broadcastInDim S1x1024x1024 ![1, 2] bcast_S1024x1024_S1x1024x1024_1_2 (transpose S1024x1024 [1, 0] (Host.dotGeneral dot_S2x4096x1024_S2x4096x1024_S1024x1024_01_01_2_2_n_n none (res_main_v118 V0) (res_main_v0 V0) (φ₂ := .f32)) transposes_S1024x1024_S1024x1024_1_0)) shapeCasts_S1x1024x1024_S8x128x1024) bitsLt_bf16_f32 : Vec Ideal S8x128x1024 .bf16) (ix3 p q j)
      = ((∑ s, ∑ r, ab (Q s r) ⟨128 * p.val + q.val, by omega⟩ * dh1 W (Q s r) j : ℝ) : EReal) := by
  pointwise
  simp only [v118 h _ _ j, v0 h _ _ _, ← EReal.coe_mul, coe_sum]
  refine congrArg _ (Finset.sum_congr rfl fun s _ => Finset.sum_congr rfl fun r _ => (mul_comm _ _).trans (congrArg (· * _) (congrArg _ (Fin.ext ?_))))
  exact congrArg (· + _) (mul_comm _ _)

theorem res132 (h : Args V0 W Q) (p : Fin 8) (q : Fin 128) (j : Fin 1024) :
    (truncf .bf16 (shapeCast _ (broadcastInDim S1x1024x1024 ![1, 2] bcast_S1024x1024_S1x1024x1024_1_2 (transpose S1024x1024 [1, 0] (Host.dotGeneral dot_S2x4096x1024_S2x4096x1024_S1024x1024_01_01_2_2_n_n none (res_main_v93 V0) (res_main_v20 V0) (φ₂ := .f32)) transposes_S1024x1024_S1024x1024_1_0)) shapeCasts_S1x1024x1024_S8x128x1024) bitsLt_bf16_f32 : Vec Ideal S8x128x1024 .bf16) (ix3 p q j)
      = ((∑ s, ∑ r, rn W (Q s r) ⟨128 * p.val + q.val, by omega⟩ * dgl W (Q s r) j : ℝ) : EReal) := by
  pointwise
  simp only [v93 h _ _ j, v20 h _ _ _, ← EReal.coe_mul, coe_sum]
  refine congrArg _ (Finset.sum_congr rfl fun s _ => Finset.sum_congr rfl fun r _ => (mul_comm _ _).trans (congrArg (· * _) (congrArg _ (Fin.ext ?_))))
  exact congrArg (· + _) (mul_comm _ _)

theorem res135 (h : Args V0 W Q) (p : Fin 8) (q : Fin 256) (j : Fin 128) :
    (truncf .bf16 (transpose S8x256x128 [1, 0, 2] (shapeCast _ (broadcastInDim S1x256x1024 ![1, 2] bcast_S256x1024_S1x256x1024_1_2 (transpose S256x1024 [1, 0] (Host.dotGeneral dot_S2x4096x1024_S2x4096x256_S1024x256_01_01_2_2_n_n none (mulf (res_main_v28 V0) (res_main_v87 V0)) (res_main_v32 V0) (φ₂ := .f32)) transposes_S1024x256_S256x1024_1_0)) shapeCasts_S1x256x1024_S256x8x128) transposes_S256x8x128_S8x256x128_1_0_2) bitsLt_bf16_f32 : Vec Ideal S8x256x128 .bf16) (ix3 p q j)
      = ((∑ s, ∑ r, (Q s r).p q * dpp W (Q s r) ⟨128 * p.val + j.val, by omega⟩ : ℝ) : EReal) := by
  pointwise
  simp only [v28 h _ _ _, v87 h _ _ _, v32 h _ _ _, ← EReal.coe_mul, coe_sum, mul_comm p.val]
  exact congrArg _ (Finset.sum_congr rfl fun s _ => Finset.sum_congr rfl fun r _ => by rw [dpp]; ring)

theorem res119 (h : Args V0 W Q) (i : Fin 1) (j : Fin 1024) :
    (broadcastInDim S1x1024 ![1] bcast_S1024_S1x1024_1 (Host.reduceAdd (shapeCast _ (Host.reduceAdd (mulf (res_main_v17 V0) (res_main_v96 V0)) (constant S_ .f32 0x00000000#32) reducesTo_S2x4096x1024_S1024_d0_1 h_S_) shapeCasts_S1024_S1x1x1024) (constant S_ .f32 0x00000000#32) reducesTo_S1x1x1024_S1024_d0_1 h_S_) : Vec Ideal S1x1024 .f32) (ix2 i j)
      = ((∑ s, ∑ r, drn W (Q s r) j * n1 W (Q s r) j : ℝ) : EReal) := by
  pointwise
  rw [sum_leading]
  pointwise
  rw [sum_leading]
  pointwise
  simp only [v17 h _ _ j, v96 h _ _ j, ← EReal.coe_mul, coe_sum, Fin.sum_univ_one]
  exact congrArg _ (Finset.sum_congr rfl fun s _ => Finset.sum_congr rfl fun r _ => mul_comm _ _)

theorem res136 (h : Args V0 W Q) (i : Fin 1) (j : Fin 1024) :
    (shapeCast _ (Host.reduceAdd (shapeCast _ (Host.reduceAdd (mulf (res_main_v49 V0) (res_main_v67 V0)) (constant S_ .f32 0x00000000#32) reducesTo_S2x4096x1024_S1024_d0_1 h_S_) shapeCasts_S1024_S1x1x1024) (constant S_ .f32 0x00000000#32) reducesTo_S1x1x1024_S1024_d0_1 h_S_) shapeCasts_S1024_S1x1024 : Vec Ideal S1x1024 .f32) (ix2 i j)
      = ((∑ s, ∑ r, dy W (Q s r) j * n2 W (Q s r) j : ℝ) : EReal) := by
  pointwise
  rw [sum_leading]
  pointwise
  rw [sum_leading]
  pointwise
  simp only [v49 h _ _ j, v67 h _ _ j, ← EReal.coe_mul, coe_sum, Fin.sum_univ_one]
  exact congrArg _ (Finset.sum_congr rfl fun s _ => Finset.sum_congr rfl fun r _ => mul_comm _ _)

theorem res137 (h : Args V0 W Q) (i : Fin 8) (j : Fin 128) :
    (broadcastInDim S8x128 ![] bcast_S_S8x128 (mulf (constant S_ .f32 0x3F000000#32) (Host.reduceAdd (Host.divf (Host.reduceAdd (mulf (res_main_v53 V0) (res_main_v53 V0)) (constant S_ .f32 0x00000000#32) reducesTo_S2x4096x1024_S2x4096_d2 h_S_) (broadcastInDim S2x4096 ![] bcast_S_S2x4096 (constant S_ .f32 0x44800000#32))) (constant S_ .f32 0x00000000#32) reducesTo_S2x4096_S_d0_1 h_S_)) : Vec Ideal S8x128 .f32) (ix2 i j)
      = ((1 / 2048 * ∑ s, ∑ r, ∑ k, err W (Q s r) k * err W (Q s r) k : ℝ) : EReal) := by
  pointwise
  simp only [v53 h _ _ _, bits_half, bits_1024, ← EReal.coe_mul, coe_sum, div_coe _ _ (by norm_num : (1024 : ℝ) ≠ 0)]
  refine congrArg _ ?_
  simp only [← Finset.sum_div]
  ring

end Cert.Back
-- ==== Proof.Gate.Back.lean ====
module

public import proofs.«01_k».proof.Proof.Gen.Reference2Ideal.Run
public import proofs.«01_k».proof.Proof.Gate.Spec
public import proofs.«01_k».proof.Proof.Head.Back
public import Idealize.ShloMosaic.PureOps.Ideal.Laws

@[expose] public section

set_option maxRecDepth 65536
set_option maxHeartbeats 2000000

noncomputable section

namespace Cert.GateBack

open Cert.Reference2Ideal Cert.Reference2Ideal.Gen Cert.Reference2Ideal.Value Cert.Spec Cert.Gate
open Cert.Back (Holds3 rms_eq logistic sum_leading)
open Idealize.ShloMosaic Idealize.ShloMosaic.TcCoe Idealize.ShloMosaic.Tactic

/-- The array `v`, cut into chunks and groups, holds the real numbers `f`. -/
def Holds5 {a b n k l : ℕ} (v : (⟨5, ![a, b, n, k, l]⟩ : Shape).Idx → EReal) (f : Fin a → Fin b → Fin n → Fin k → Fin l → ℝ) : Prop :=
  ∀ s r t g j, v (ix5 s r t g j) = ((f s r t g j : ℝ) : EReal)

variable (V0 : Valuation τ sig (Elt Ideal)) (W : Wt) (T : Fin 2 → Fin 4096 → Tk)

/-- The arguments hold the tokens' numbers and the weights. -/
structure Args : Prop where
  x : Holds3 (V0 (Proc.devRef .tc main_arg0)) fun s r => (T s r).x
  g : Holds (V0 (Proc.devRef .tc main_arg1)) fun _ => W.g
  w : ∀ k c, V0 (Proc.devRef .tc main_arg2) (ix3 (0 : Fin 1) k c) = ((W.w c k : ℝ) : EReal)
  lg : Holds (V0 (Proc.devRef .tc main_arg3)) fun _ => W.lg
  lb : Holds (V0 (Proc.devRef .tc main_arg4)) fun _ => W.lb
  ws : ∀ g t s, V0 (Proc.devRef .tc main_arg5) (ix4 (0 : Fin 1) g t s) = ((W.ws g t s : ℝ) : EReal)
  b : ∀ g t, V0 (Proc.devRef .tc main_arg6) (ix3 (0 : Fin 1) g t) = ((W.b t g : ℝ) : EReal)
  dh : Holds3 (V0 (Proc.devRef .tc main_arg7)) fun s r => (T s r).dh
  da : Holds3 (V0 (Proc.devRef .tc main_arg8)) fun s r => (T s r).da
  dq : Holds3 (V0 (Proc.devRef .tc main_arg9)) fun s r => (T s r).dq
  dz : Holds3 (V0 (Proc.devRef .tc main_arg10)) fun s r => (T s r).dzz
  dl : Holds3 (V0 (Proc.devRef .tc main_arg11)) fun s r c => (T s r).dl ⟨c, by omega⟩
  uvz : ∀ s r c, (T s r).uvz c = ∑ k, xn W (T s r) k * W.w ⟨c, by omega⟩ k
  pad : ∀ c k, W.wp c k = if h : c.val < 8 then W.w ⟨3584 + c, by omega⟩ k else 0

variable {V0 W T}

/-- A chunk of 128 rows of a sequence. -/
def ck (T : Fin 2 → Fin 4096 → Tk) (b : Fin 2) (n : Fin 32) (t : Fin 128) : Tk := T b ⟨128 * n + t, by omega⟩
/-- The piece of a chunk and a group. -/
def pp (W : Wt) (T : Fin 2 → Fin 4096 → Tk) (b : Fin 2) (n : Fin 32) (g : Fin 4) : Pc := pc W (ck T b n) g

/-! ## The identities -/

theorem bits_slope : Ideal.ofBits .f32 0xBF906EBB#32 = ((-(9465531 / 8388608) : ℝ) : EReal) := by
  simp [Ideal.ofBits, Ideal.ieee, -EReal.coe_mul, -EReal.coe_neg]; norm_num

theorem erfc_real (x : ℝ) : Ideal.erfc ((-x : ℝ) : EReal) = ((1 + rerf x : ℝ) : EReal) := by
  rw [EReal.coe_neg, Ideal.erfc_neg, erf_real, EReal.coe_add]; rfl

theorem root (y : ℝ) (h : 0 ≤ y) : Ideal.sqrt (y : EReal) = ((Real.sqrt y : ℝ) : EReal) := by
  rw [Ideal.sqrt_coe, if_neg (not_lt.mpr h)]

theorem half_inv : (1 / 2 : ℝ) = 2⁻¹ := by norm_num

theorem gel_eq (x : ℝ) : 1 / 2 * x * (1 + rerf (x * Real.sqrt 2⁻¹)) = gel x := by unfold gel cdf; ring

/-- The gradient of the exact form of the unit, from the derivative of the error function. -/
theorem gel_back (x d : ℝ) : -(-(9465531 / 8388608) * (1 / 2 * x * d) * Real.exp (-(-x * Real.sqrt 2⁻¹ * (-x * Real.sqrt 2⁻¹))) * Real.sqrt 2⁻¹)
    + 1 / 2 * (d * (1 + rerf (x * Real.sqrt 2⁻¹))) = d * gel' x := by
  have e : -(-x * Real.sqrt 2⁻¹ * (-x * Real.sqrt 2⁻¹)) = -1 / 2 * x * x := by
    have : Real.sqrt 2⁻¹ * Real.sqrt 2⁻¹ = 2⁻¹ := Real.mul_self_sqrt (by norm_num)
    linear_combination (-x * x) * this
  rw [e, gel', cdf, pdf]
  ring

/-! ## The forward values -/

theorem v7 (h : Args V0 W T) : Holds3 (res_main_v7 V0) fun s r _ => (∑ j, (T s r).x j * (T s r).x j) / 1024 + eps := by
  intro s r j
  pointwise [res_main_v7]
  simp only [h.x s r _, ← EReal.coe_mul, ← EReal.coe_add, coe_sum, bits_1024, div_coe _ _ (by norm_num : (1024 : ℝ) ≠ 0), bits_eps]
theorem v8 (h : Args V0 W T) : Holds3 (res_main_v8 V0) fun s r _ => rinv (T s r).x := by
  intro s r j
  pointwise [res_main_v8]
  simp only [v7 h s r j, rsqrt_pos _ (rinv_arg_pos _)]
  rfl
theorem v13 (h : Args V0 W T) : Holds3 (res_main_v13 V0) fun s r => nrm (T s r) := by
  intro s r j
  pointwise [res_main_v13]
  simp only [h.x s r j, v8 h s r _, ← EReal.coe_mul, nrm]
theorem v14 (h : Args V0 W T) (s r : Fin 1) (j : Fin 1024) : res_main_v14 V0 (ix3 s r j) = ((W.g j : ℝ) : EReal) := by
  pointwise [res_main_v14]
  exact h.g 0 j
theorem v16 (h : Args V0 W T) : Holds3 (res_main_v16 V0) fun s r => xn W (T s r) := by
  intro s r j
  pointwise [res_main_v16]
  simp only [v13 h s r j, v14 h _ _ j, ← EReal.coe_mul, xn]
theorem v17 (h : Args V0 W T) : Holds (res_main_v17 V0) fun k c => W.w c k := by
  intro r j
  pointwise [res_main_v17]
  exact h.w r j
theorem v18 (h : Args V0 W T) : Holds3 (res_main_v18 V0) fun s r c => ∑ k, xn W (T s r) k * W.w c k := by
  intro s r j
  pointwise [res_main_v18]
  simp only [v16 h s r _, v17 h _ j, ← EReal.coe_mul, coe_sum]
theorem v19 (h : Args V0 W T) : Holds3 (res_main_v19 V0) fun s r c => (T s r).uvz ⟨c, by omega⟩ := by
  intro s r j
  pointwise [res_main_v19]
  exact (v18 h s r _).trans (congrArg _ (h.uvz s r ⟨j, by omega⟩).symm)
theorem v20 (h : Args V0 W T) : Holds3 (res_main_v20 V0) fun s r c => (T s r).uvz ⟨512 + c, by omega⟩ := by
  intro s r j
  pointwise [res_main_v20]
  exact (v18 h s r _).trans (congrArg _ (h.uvz s r ⟨512 + j, by omega⟩).symm)
theorem v21 (h : Args V0 W T) : Holds3 (res_main_v21 V0) fun s r c => (T s r).uvz ⟨1024 + c, by omega⟩ := by
  intro s r j
  pointwise [res_main_v21]
  exact (v18 h s r _).trans (congrArg _ (h.uvz s r ⟨1024 + j, by omega⟩).symm)
theorem v30 (h : Args V0 W T) : Holds3 (res_main_v30 V0) fun s r c => 1 / 2 * (T s r).uvz ⟨c, by omega⟩ := by
  intro s r j
  pointwise [res_main_v30]
  simp only [v19 h s r j, bits_half, ← EReal.coe_mul]
theorem v41 (h : Args V0 W T) : Holds3 (res_main_v41 V0) fun s r c => 1 / 2 * (T s r).uvz ⟨512 + c, by omega⟩ := by
  intro s r j
  pointwise [res_main_v41]
  simp only [v20 h s r j, bits_half, ← EReal.coe_mul]
theorem v32 (j) : res_main_v32 V0 j = ((Real.sqrt 2⁻¹ : ℝ) : EReal) := by
  pointwise [res_main_v32]
  rw [bits_half, root _ (by norm_num), half_inv]
theorem v43 (j) : res_main_v43 V0 j = ((Real.sqrt 2⁻¹ : ℝ) : EReal) := by
  pointwise [res_main_v43]
  rw [bits_half, root _ (by norm_num), half_inv]
theorem v34 (h : Args V0 W T) : Holds3 (res_main_v34 V0) fun s r c => -(T s r).uvz ⟨c, by omega⟩ * Real.sqrt 2⁻¹ := by
  intro s r j
  pointwise [res_main_v34]
  simp only [v19 h s r j, v32, ← EReal.coe_neg, ← EReal.coe_mul]
theorem v45 (h : Args V0 W T) : Holds3 (res_main_v45 V0) fun s r c => -(T s r).uvz ⟨512 + c, by omega⟩ * Real.sqrt 2⁻¹ := by
  intro s r j
  pointwise [res_main_v45]
  simp only [v20 h s r j, v43, ← EReal.coe_neg, ← EReal.coe_mul]
theorem v35 (h : Args V0 W T) : Holds3 (res_main_v35 V0) fun s r c => 1 + rerf ((T s r).uvz ⟨c, by omega⟩ * Real.sqrt 2⁻¹) := by
  intro s r j
  pointwise [res_main_v35]
  simp only [v34 h s r j, neg_mul, erfc_real]
theorem v46 (h : Args V0 W T) : Holds3 (res_main_v46 V0) fun s r c => 1 + rerf ((T s r).uvz ⟨512 + c, by omega⟩ * Real.sqrt 2⁻¹) := by
  intro s r j
  pointwise [res_main_v46]
  simp only [v45 h s r j, neg_mul, erfc_real]
theorem v39 (h : Args V0 W T) : Holds3 (res_main_v39 V0) fun s r c => gel ((T s r).uvz ⟨c, by omega⟩) := by
  intro s r j
  pointwise [res_main_v39]
  simp only [v30 h s r j, v35 h s r j, ← EReal.coe_mul, gel_eq]
theorem v51 (h : Args V0 W T) : Holds5 (res_main_v51 V0) fun b n t g j => gel ((pp W T b n g).v t j) := by
  intro b n t g j
  pointwise [res_main_v51]
  simp only [v41 h _ _ _, v46 h _ _ _, ← EReal.coe_mul, gel_eq, pp, pc, ck, mul_comm n.val 128, mul_comm g.val 128]
theorem v59 (h : Args V0 W T) : Holds5 (res_main_v59 V0) fun b n t g j => xc (pp W T b n g) t j := by
  intro b n t g j
  pointwise [res_main_v59]
  simp only [v51 h _ _ _ _ _, coe_sum, bits_128, div_coe _ _ (by norm_num : (128 : ℝ) ≠ 0), ← EReal.coe_sub, xc]
theorem v66 (h : Args V0 W T) : Holds5 (res_main_v66 V0) fun b n t g _ => (∑ j, xc (pp W T b n g) t j * xc (pp W T b n g) t j) / 128 + eps := by
  intro b n t g j
  pointwise [res_main_v66]
  simp only [v59 h _ _ _ _ _, ← EReal.coe_mul, ← EReal.coe_add, coe_sum, bits_128, div_coe _ _ (by norm_num : (128 : ℝ) ≠ 0), bits_eps]
theorem v67 (h : Args V0 W T) : Holds5 (res_main_v67 V0) fun b n t g _ => rs (pp W T b n g) t := by
  intro b n t g j
  pointwise [res_main_v67]
  simp only [v66 h b n t g _, rsqrt_pos _ (rs_arg_pos _ _), rs]
theorem v72 (h : Args V0 W T) : Holds5 (res_main_v72 V0) fun b n t g j => st (pp W T b n g) t j := by
  intro b n t g j
  pointwise [res_main_v72]
  simp only [v59 h _ _ _ _ _, v67 h _ _ _ _ _, ← EReal.coe_mul, st]
theorem v73 (h : Args V0 W T) (a b c : Fin 1) (g : Fin 4) (j : Fin 128) : res_main_v73 V0 (ix5 a b c g j) = ((W.lg ⟨128 * g + j, by omega⟩ : ℝ) : EReal) := by
  pointwise [res_main_v73]
  simp only [h.lg _ _, mul_comm g.val 128]
theorem v78 (h : Args V0 W T) : Holds5 (res_main_v78 V0) fun b n t g j => lnv (pp W T b n g) t j := by
  intro b n t g j
  pointwise [res_main_v78]
  simp only [v72 h _ _ _ _ _, v73 h _ _ _ _ _, h.lb _ _, mul_comm g.val 128, ← EReal.coe_mul, ← EReal.coe_add, lnv, pp, pc]
theorem v82_1 (g : Fin 4) (t s : Fin 128) : res_main_v82_1 V0 (ix3 g t s) = BitVec.ofBool (s.val ≤ t.val) := by
  pointwise [res_main_v82_1]
  revert t s; decide +kernel
theorem v82_0 (h : Args V0 W T) (b : Fin 2) (n : Fin 32) (g : Fin 4) (t s : Fin 128) : res_main_v82_0 V0 (ix3 g t s) = ((wm (pp W T b n g) t s : ℝ) : EReal) := by
  pointwise [res_main_v82_0]
  rw [v82_1, h.ws, wm]
  by_cases e : s.val ≤ t.val <;> simp [e, Scalar.select, pp, pc]

/-- The chunk, the row in it, the group and the lane in it of a row and a column. -/
def cn (r : Fin 4096) : Fin 32 := ⟨r / 128, by omega⟩
def ct (r : Fin 4096) : Fin 128 := ⟨r % 128, by omega⟩
def cg (c : Fin 512) : Fin 4 := ⟨c / 128, by omega⟩
def cj (c : Fin 512) : Fin 128 := ⟨c % 128, by omega⟩

theorem cn_of (n : Fin 32) (t : Fin 128) (h) : cn ⟨n.val * 128 + t.val, h⟩ = n := Fin.ext (by dsimp only [cn]; omega)
theorem ct_of (n : Fin 32) (t : Fin 128) (h) : ct ⟨n.val * 128 + t.val, h⟩ = t := Fin.ext (by dsimp only [ct]; omega)
theorem cg_of (n : Fin 4) (t : Fin 128) (h) : cg ⟨n.val * 128 + t.val, h⟩ = n := Fin.ext (by dsimp only [cg]; omega)
theorem cj_of (n : Fin 4) (t : Fin 128) (h) : cj ⟨n.val * 128 + t.val, h⟩ = t := Fin.ext (by dsimp only [cj]; omega)
theorem ck_at (s : Fin 2) (r : Fin 4096) : ck T s (cn r) (ct r) = T s r := congrArg (T s) (Fin.ext (Nat.div_add_mod r.val 128))
theorem pp_u (s : Fin 2) (r : Fin 4096) (c : Fin 512) : (pp W T s (cn r) (cg c)).u (ct r) (cj c) = (T s r).uvz ⟨c, by omega⟩ := by
  simp only [pp, pc, ck_at, cg, cj, Nat.div_add_mod]
theorem pp_v (s : Fin 2) (r : Fin 4096) (c : Fin 512) : (pp W T s (cn r) (cg c)).v (ct r) (cj c) = (T s r).uvz ⟨512 + c, by omega⟩ := by
  simp only [pp, pc, ck_at, cg, cj, Nat.div_add_mod]
theorem pp_z (s : Fin 2) (r : Fin 4096) (c : Fin 512) : (pp W T s (cn r) (cg c)).z (ct r) (cj c) = (T s r).uvz ⟨1024 + c, by omega⟩ := by
  simp only [pp, pc, ck_at, cg, cj, Nat.div_add_mod]
theorem pp_d (s : Fin 2) (r : Fin 4096) (c : Fin 512) : (pp W T s (cn r) (cg c)).d (ct r) (cj c) = (T s r).da c := by
  simp only [pp, pc, ck_at, cg, cj, Nat.div_add_mod]

theorem v90 (h : Args V0 W T) : Holds3 (res_main_v90 V0) fun s r c => sp (pp W T s (cn r) (cg c)) (ct r) (cj c) := by
  intro s r c
  pointwise [res_main_v90]
  simp only [v78 h _ _ _ _ _, v82_0 h s (cn r) _ _ _, h.b _ _, ← EReal.coe_mul, ← EReal.coe_add, coe_sum]
  exact congrArg _ (congrArg (· + _) (Finset.sum_congr rfl fun k _ => mul_comm _ _))
theorem v92_2 (h : Args V0 W T) : Holds3 (res_main_v92_2 V0) fun s r c => sgm ((T s r).uvz ⟨1024 + c, by omega⟩) := by
  intro s r c
  pointwise [res_main_v92_2]
  have e (x : ℝ) : (1 + Real.exp (-x)) ≠ 0 := by positivity
  simp only [v21 h s r c, ← EReal.coe_neg, Ideal.exp_coe, one_coe, ← EReal.coe_add, div_coe _ _ (e _), logistic, sgm]
theorem v95 (h : Args V0 W T) : Holds3 (res_main_v95 V0) fun s r c => ga (pp W T s (cn r) (cg c)) (ct r) (cj c) := by
  intro s r c
  pointwise [res_main_v95, res_main_v92_0]
  simp only [v21 h s r c, v92_2 h s r c, h.da s r c, ← EReal.coe_mul, ga, pp_z, pp_d]
theorem v98 (h : Args V0 W T) : Holds3 (res_main_v98 V0) fun s r c => ga (pp W T s (cn r) (cg c)) (ct r) (cj c) * sp (pp W T s (cn r) (cg c)) (ct r) (cj c) := by
  intro s r c
  pointwise [res_main_v98]
  simp only [v95 h s r c, v90 h s r c, ← EReal.coe_mul]
theorem v94 (h : Args V0 W T) : Holds3 (res_main_v94 V0) fun s r c => gel ((T s r).uvz ⟨c, by omega⟩) * sp (pp W T s (cn r) (cg c)) (ct r) (cj c) * (T s r).da c := by
  intro s r c
  pointwise [res_main_v94, res_main_v91]
  simp only [v39 h s r c, v90 h s r c, h.da s r c, ← EReal.coe_mul]
theorem v99 (h : Args V0 W T) : Holds5 (res_main_v99 V0) fun b n t g j => ds (pp W T b n g) t j := by
  intro b n t g j
  pointwise [res_main_v99]
  simp only [v39 h _ _ _, v95 h _ _ _, ← EReal.coe_mul, cn_of, ct_of, cg_of, cj_of, ds]
  simp only [pp, pc, ck, mul_comm n.val 128, mul_comm g.val 128]
theorem v106 (h : Args V0 W T) (g : Fin 4) (b : Fin 2) (n : Fin 32) (j t : Fin 128) : res_main_v106 V0 (ix5 g b n j t) = ((ds (pp W T b n g) t j : ℝ) : EReal) := by
  pointwise [res_main_v106]
  exact v99 h _ _ _ _ _
theorem v109 (h : Args V0 W T) : Holds5 (res_main_v109 V0) fun b n t g j => dln (pp W T b n g) t j := by
  intro b n t g j
  pointwise [res_main_v109]
  simp only [v106 h _ _ _ _ _, v82_0 h b n _ _ _, ← EReal.coe_mul, coe_sum, dln]
theorem v118 (h : Args V0 W T) : Holds5 (res_main_v118 V0) fun b n t g j => dst (pp W T b n g) t j := by
  intro b n t g j
  pointwise [res_main_v118]
  simp only [v109 h _ _ _ _ _, v73 h _ _ _ _ _, ← EReal.coe_mul, dst]
  rfl
theorem v129 (h : Args V0 W T) : Holds5 (res_main_v129 V0) fun b n t g _ => (∑ k, xc (pp W T b n g) t k * dst (pp W T b n g) t k)
      * (-(1 / 2) * (rs (pp W T b n g) t / ((∑ j, xc (pp W T b n g) t j * xc (pp W T b n g) t j) / 128 + eps))) / 128 := by
  intro b n t g j
  pointwise [res_main_v129]
  simp only [v59 h _ _ _ _ _, v118 h _ _ _ _ _, v67 h b n t g _, v66 h b n t g _, Back.bits_neg_half, bits_128, div_coe _ _ (rs_arg_pos (pp W T b n g) t).ne',
    div_coe _ _ (by norm_num : (128 : ℝ) ≠ 0), ← EReal.coe_mul, coe_sum, Fin.sum_univ_one]

/-- The gradient of a normalised row, from the derivative of the inverse square root: before the mean is taken off. -/
def pre (p : Pc) (t j : Fin 128) : ℝ := dst p t j * rs p t + xc p t j * ((∑ k, xc p t k * dst p t k) * (-(1 / 2) * (rs p t / ((∑ j, xc p t j * xc p t j) / 128 + eps))) / 128)
  + (∑ k, xc p t k * dst p t k) * (-(1 / 2) * (rs p t / ((∑ j, xc p t j * xc p t j) / 128 + eps))) / 128 * xc p t j

theorem xc_sum (p : Pc) (t : Fin 128) : ∑ j, xc p t j = 0 := by
  simp only [xc, Finset.sum_sub_distrib, Finset.sum_const, Finset.card_univ, Fintype.card_fin, nsmul_eq_mul]
  ring

theorem pre_eq (p : Pc) (t j : Fin 128) : pre p t j = rs p t * (dst p t j - st p t j * ((∑ k, dst p t k * st p t k) / 128)) := by
  have hp := rs_arg_pos p t
  have e : rs p t * rs p t = ((∑ j, xc p t j * xc p t j) / 128 + eps)⁻¹ := by
    rw [rs, ← mul_inv, Real.mul_self_sqrt hp.le]
  have s : ∑ k, dst p t k * st p t k = (∑ k, xc p t k * dst p t k) * rs p t := by
    rw [Finset.sum_mul]; exact Finset.sum_congr rfl fun k _ => by rw [st]; ring
  rw [pre, s, div_eq_mul_inv (rs p t), ← e, st]
  ring

theorem pre_sum (p : Pc) (t : Fin 128) : ∑ j, pre p t j = rs p t * ∑ j, dst p t j := by
  simp only [pre_eq, ← Finset.mul_sum, Finset.sum_sub_distrib, ← Finset.sum_mul, st, xc_sum]
  ring

theorem pre_back (p : Pc) (t j : Fin 128) : pre p t j + (∑ k, -pre p t k) / 128 = dgv p t j := by
  rw [Finset.sum_neg_distrib, pre_sum, pre_eq, dgv]
  ring

theorem v133 (h : Args V0 W T) : Holds5 (res_main_v133 V0) fun b n t g j => pre (pp W T b n g) t j := by
  intro b n t g j
  pointwise [res_main_v133]
  simp only [v118 h _ _ _ _ _, v67 h _ _ _ _ _, v59 h _ _ _ _ _, v129 h b n t g j, ← EReal.coe_mul, ← EReal.coe_add, pre]
theorem v144 (h : Args V0 W T) : Holds3 (res_main_v144 V0) fun s r c => dgv (pp W T s (cn r) (cg c)) (ct r) (cj c) := by
  intro s r c
  pointwise [res_main_v144]
  simp only [v133 h _ _ _ _ _, ← EReal.coe_neg, ← EReal.coe_add, coe_sum, Fin.sum_univ_one, bits_128, div_coe _ _ (by norm_num : (128 : ℝ) ≠ 0), pre_back]
  rfl

/-! ## The gradients -/

/-- The cotangent of a row of the projection. -/
def dproj (W : Wt) (T : Fin 2 → Fin 4096 → Tk) (s : Fin 2) (r : Fin 4096) (c : Fin 3712) : ℝ := dcol (T s r) (dRow W (ck T s (cn r)) (ct r)) c

theorem proj_u (s : Fin 2) (r : Fin 4096) (c : Fin 512) : dproj W T s r ⟨c, by omega⟩ = du (pp W T s (cn r) (cg c)) (ct r) (cj c) := by
  have e : c.val % 512 = c.val := Nat.mod_eq_of_lt c.isLt
  simp only [dproj, dcol, dRow, show c.val < 1536 by omega, c.isLt, ↓reduceDIte, ↓reduceIte, e]
  rfl
theorem proj_v (s : Fin 2) (r : Fin 4096) (c : Fin 512) : dproj W T s r ⟨512 + c, by omega⟩ = dv (pp W T s (cn r) (cg c)) (ct r) (cj c) := by
  have e : (512 + c.val) % 512 = c.val := by omega
  have e' : (512 + c.val) % 128 = c.val % 128 := by omega
  simp only [dproj, dcol, dRow, show 512 + c.val < 1536 by omega, show ¬512 + c.val < 512 by omega, show 512 + c.val < 1024 by omega, ↓reduceDIte, ↓reduceIte, e, e']
  rfl
theorem proj_z (s : Fin 2) (r : Fin 4096) (c : Fin 512) : dproj W T s r ⟨1024 + c, by omega⟩ = dz (pp W T s (cn r) (cg c)) (ct r) (cj c) := by
  have e : (1024 + c.val) % 512 = c.val := by omega
  have e' : (1024 + c.val) % 128 = c.val % 128 := by omega
  simp only [dproj, dcol, dRow, show 1024 + c.val < 1536 by omega, show ¬1024 + c.val < 512 by omega, show ¬1024 + c.val < 1024 by omega, ↓reduceDIte, ↓reduceIte, e, e']
  rfl

/-- The sum over the projection's columns, branch by branch. -/
theorem proj_sum (hp : ∀ c k, W.wp c k = if h : c.val < 8 then W.w ⟨3584 + c, by omega⟩ k else 0) (q : Tk) (d : Fin 1536 → ℝ) (k : Fin 1024) :
    ∑ c : Fin 3592, dcol q d ⟨c, by omega⟩ * W.w c k = dxnOf W q d k := by
  have e1 : ∑ c : Fin 128, q.dl c * W.wp c k = ∑ c : Fin 8, q.dl ⟨c, by omega⟩ * W.w ⟨3584 + c, by omega⟩ k := by
    refine (Fin.sum_univ_add (a := 8) (b := 120) fun c : Fin 128 => q.dl c * W.wp c k).trans ?_
    rw [Finset.sum_eq_zero (s := (Finset.univ : Finset (Fin 120))), add_zero]
    · refine Finset.sum_congr rfl fun c _ => ?_
      rw [hp, dif_pos (show (Fin.castAdd 120 c).val < 8 from c.isLt)]
      rfl
    · intro c _
      rw [hp, dif_neg (by simp only [Fin.val_natAdd]; omega), mul_zero]
  rw [dxnOf, e1]
  refine (Fin.sum_univ_add (a := 1536) (b := 2056) fun c : Fin 3592 => dcol q d ⟨c, by omega⟩ * W.w c k).trans ?_
  rw [add_comm]
  refine congrArg₂ _ ?_ (Finset.sum_congr rfl fun c _ => ?_)
  · refine (Fin.sum_univ_add (a := 1536) (b := 520) fun c : Fin 2056 => dcol q d ⟨Fin.natAdd 1536 c, by omega⟩ * W.w (Fin.natAdd 1536 c) k).trans ?_
    rw [add_comm]
    refine congrArg₂ _ ?_ (Finset.sum_congr rfl fun c _ => ?_)
    · refine (Fin.sum_univ_add (a := 512) (b := 8) fun c : Fin 520 => dcol q d ⟨Fin.natAdd 1536 (Fin.natAdd 1536 c), by omega⟩ * W.w (Fin.natAdd 1536 (Fin.natAdd 1536 c)) k).trans ?_
      rw [add_comm]
      refine congrArg₂ _ (Finset.sum_congr rfl fun c _ => ?_) (Finset.sum_congr rfl fun c _ => ?_)
      · refine congrArg₂ _ ?_ (congrArg (W.w · k) (Fin.ext ?_))
        · simp only [dcol, Fin.val_natAdd, show ¬1536 + (1536 + (512 + c.val)) < 1536 by omega, show ¬1536 + (1536 + (512 + c.val)) < 3072 by omega, show ¬1536 + (1536 + (512 + c.val)) < 3584 by omega, ↓reduceDIte]
          exact congrArg q.dl (Fin.ext (by dsimp only; omega))
        · simp only [Fin.val_natAdd]; omega
      · refine congrArg₂ _ ?_ (congrArg (W.w · k) (Fin.ext ?_))
        · simp only [dcol, Fin.val_natAdd, Fin.val_castAdd, show ¬1536 + (1536 + c.val) < 1536 by omega, show ¬1536 + (1536 + c.val) < 3072 by omega, show 1536 + (1536 + c.val) < 3584 by omega, ↓reduceDIte]
          exact congrArg q.dzz (Fin.ext (by dsimp only; omega))
        · simp only [Fin.val_natAdd, Fin.val_castAdd]; omega
    · refine congrArg₂ _ ?_ (congrArg (W.w · k) (Fin.ext ?_))
      · simp only [dcol, Fin.val_natAdd, Fin.val_castAdd, show ¬1536 + c.val < 1536 by omega, show 1536 + c.val < 3072 by omega, ↓reduceDIte]
        exact congrArg q.dq (Fin.ext (by dsimp only; omega))
      · simp only [Fin.val_natAdd, Fin.val_castAdd]
  · simp only [dcol, Fin.val_castAdd, c.isLt, ↓reduceDIte]
    rfl

theorem v171 (h : Args V0 W T) : Holds3 (res_main_v171 V0) fun s r c => dproj W T s r ⟨c, by omega⟩ := by
  intro s r c
  pointwise [res_main_v171]
  split
  · rename_i e
    refine Eq.trans ?_ (congrArg _ (proj_u s r ⟨c.val, e⟩).symm)
    simp only [v30 h s r _, v98 h s r _, v34 h s r _, v32, v35 h s r _, bits_slope, bits_half, ← EReal.coe_mul, ← EReal.coe_neg, ← EReal.coe_add, Ideal.exp_coe, gel_back, du, pp_u]
  split
  · rename_i e0 e
    refine Eq.trans ?_ (congrArg _ ((proj_v s r ⟨c.val - 512, e⟩).symm.trans (congrArg (dproj W T s r) (Fin.ext (by dsimp only; omega)))))
    simp only [v41 h s r _, v144 h s r _, v45 h s r _, v43, v46 h s r _, bits_slope, bits_half, ← EReal.coe_mul, ← EReal.coe_neg, ← EReal.coe_add, Ideal.exp_coe, gel_back, dv, pp_v]
  split
  · rename_i e0 e1 e
    refine Eq.trans ?_ (congrArg _ ((proj_z s r ⟨c.val - 512 - 512, e⟩).symm.trans (congrArg (dproj W T s r) (Fin.ext (by dsimp only; omega)))))
    simp only [v94 h s r _, v92_2 h s r _, v21 h s r _, one_coe, ← EReal.coe_mul, ← EReal.coe_sub, ← EReal.coe_add, dz, pp_u, pp_z, pp_d]
    exact congrArg _ (by ring)
  split
  · rename_i e0 e1 e2 e
    refine (h.dq s r _).trans (congrArg _ ?_)
    simp only [dproj, dcol, show ¬c.val < 1536 by omega, show c.val < 3072 by omega, ↓reduceDIte]
    exact congrArg (T s r).dq (Fin.ext (by dsimp only; omega))
  split
  · rename_i e0 e1 e2 e3 e
    refine (h.dz s r _).trans (congrArg _ ?_)
    simp only [dproj, dcol, show ¬c.val < 1536 by omega, show ¬c.val < 3072 by omega, show c.val < 3584 by omega, ↓reduceDIte]
    exact congrArg (T s r).dzz (Fin.ext (by dsimp only; omega))
  · rename_i e0 e1 e2 e3 e
    refine (h.dl s r _).trans (congrArg _ ?_)
    simp only [dproj, dcol, show ¬c.val < 1536 by omega, show ¬c.val < 3072 by omega, show ¬c.val < 3584 by omega, ↓reduceDIte]
    exact congrArg (T s r).dl (Fin.ext (by dsimp only; omega))
theorem v174 (h : Args V0 W T) : Holds3 (res_main_v174 V0) fun s r => dxnOf W (T s r) (dRow W (ck T s (cn r)) (ct r)) := by
  intro s r k
  pointwise [res_main_v174]
  simp only [v171 h s r _, v17 h k _, ← EReal.coe_mul, coe_sum, dproj, proj_sum h.pad]
theorem v180 (h : Args V0 W T) : Holds3 (res_main_v180 V0) fun s r k => dxnOf W (T s r) (dRow W (ck T s (cn r)) (ct r)) k * W.g k := by
  intro s r k
  pointwise [res_main_v180]
  simp only [v174 h s r k, v14 h _ _ k, ← EReal.coe_mul]
theorem v192 (h : Args V0 W T) : Holds3 (res_main_v192 V0) fun s r _ =>
    (∑ k, (T s r).x k * (dxnOf W (T s r) (dRow W (ck T s (cn r)) (ct r)) k * W.g k)) * (-(1 / 2) * (rinv (T s r).x / ((∑ k, (T s r).x k * (T s r).x k) / 1024 + eps))) / 1024 := by
  intro s r k
  pointwise [res_main_v192]
  simp only [h.x s r _, v180 h s r _, v8 h s r _, v7 h s r _, Back.bits_neg_half, bits_1024, div_coe _ _ (rinv_arg_pos (T s r).x).ne',
    div_coe _ _ (by norm_num : (1024 : ℝ) ≠ 0), ← EReal.coe_mul, coe_sum, Fin.sum_univ_one]

/-- A sum over the three leading of five axes. -/
theorem sum_rows {a b n k l : ℕ} (h : (⟨5, ![a, b, n, k, l]⟩ : Shape).ReducesTo [0, 1, 2] ⟨2, ![k, l]⟩) (v : (⟨5, ![a, b, n, k, l]⟩ : Shape).Idx → EReal) (init : EReal) (g : Fin k) (j : Fin l) :
    Ideal.hostReduceAdd h v init (ix2 g j) = init + ∑ s, ∑ r, ∑ t, v (ix5 s r t g j) := by
  refine congrArg (init + ·) ((Finset.sum_filter_eq_sum_of_fiber _ (fun q : Fin a × Fin b × Fin n => ix5 q.1 q.2.1 q.2.2 g j)
    (fun _ _ e => Prod.ext (congrFun e 0) (Prod.ext (congrFun e 1) (congrFun e 2))) (fun i => ⟨fun e => ⟨(i 0, i 1, i 2), ?_⟩, ?_⟩) v).trans
    ((Fintype.sum_prod_type _).trans (Finset.sum_congr rfl fun _ _ => Fintype.sum_prod_type _)))
  · funext x
    match x with
    | ⟨0, _⟩ => rfl
    | ⟨1, _⟩ => rfl
    | ⟨2, _⟩ => rfl
    | ⟨3, _⟩ => exact Fin.ext (congrArg Fin.val (congrFun e 0)).symm
    | ⟨4, _⟩ => exact Fin.ext (congrArg Fin.val (congrFun e 1)).symm
  · rintro ⟨q, rfl⟩
    funext x
    match x with
    | ⟨0, _⟩ => rfl
    | ⟨1, _⟩ => rfl

/-- A sum over the two leading and the last of five axes. -/
theorem sum_lanes {a b n k l : ℕ} (h : (⟨5, ![a, b, n, k, l]⟩ : Shape).ReducesTo [0, 1, 4] ⟨2, ![n, k]⟩) (v : (⟨5, ![a, b, n, k, l]⟩ : Shape).Idx → EReal) (init : EReal) (t : Fin n) (g : Fin k) :
    Ideal.hostReduceAdd h v init (ix2 t g) = init + ∑ s, ∑ r, ∑ j, v (ix5 s r t g j) := by
  refine congrArg (init + ·) ((Finset.sum_filter_eq_sum_of_fiber _ (fun q : Fin a × Fin b × Fin l => ix5 q.1 q.2.1 t g q.2.2)
    (fun _ _ e => Prod.ext (congrFun e 0) (Prod.ext (congrFun e 1) (congrFun e 4))) (fun i => ⟨fun e => ⟨(i 0, i 1, i 4), ?_⟩, ?_⟩) v).trans
    ((Fintype.sum_prod_type _).trans (Finset.sum_congr rfl fun _ _ => Fintype.sum_prod_type _)))
  · funext x
    match x with
    | ⟨0, _⟩ => rfl
    | ⟨1, _⟩ => rfl
    | ⟨2, _⟩ => exact Fin.ext (congrArg Fin.val (congrFun e 0)).symm
    | ⟨3, _⟩ => exact Fin.ext (congrArg Fin.val (congrFun e 1)).symm
    | ⟨4, _⟩ => rfl
  · rintro ⟨q, rfl⟩
    funext x
    match x with
    | ⟨0, _⟩ => rfl
    | ⟨1, _⟩ => rfl

/-- The sequence, the chunk and the lane, of an index of the three contracted axes. -/
def contrTriple : dot_S4x2x32x128x128_S2x32x128x4x128_S4x128x128_123_014_4_2_0_3.contr.Idx ≃ Fin 2 × Fin 32 × Fin 128 where
  toFun k := (k ⟨0, by decide⟩, k ⟨1, by decide⟩, k ⟨2, by decide⟩)
  invFun q := fun a => match a with
    | ⟨0, _⟩ => q.1
    | ⟨1, _⟩ => q.2.1
    | ⟨2, _⟩ => q.2.2
  left_inv k := by
    funext a
    match a with
    | ⟨0, _⟩ => rfl
    | ⟨1, _⟩ => rfl
    | ⟨2, _⟩ => rfl
  right_inv q := rfl

/-- The product over sequences, chunks and lanes, at an index. -/
theorem dot_chunks (L : S4x2x32x128x128.Idx → EReal) (R : S2x32x128x4x128.Idx → EReal) (g : Fin 4) (t s : Fin 128) :
    Ideal.matmul dot_S4x2x32x128x128_S2x32x128x4x128_S4x128x128_123_014_4_2_0_3 L R (fun _ => 0) (ix3 g t s) = ∑ b, ∑ n, ∑ j, L (ix5 g b n j t) * R (ix5 b n s g j) := by
  refine (zero_add _).trans ?_
  rw [← Equiv.sum_comp contrTriple.symm, Fintype.sum_prod_type]
  refine Finset.sum_congr rfl fun b _ => (Fintype.sum_prod_type _).trans (Finset.sum_congr rfl fun n _ => Finset.sum_congr rfl fun j _ => congrArg₂ _ (congrArg L ?_) (congrArg R ?_))
  · funext a; apply Fin.ext
    match a with
    | ⟨0, _⟩ => rfl
    | ⟨1, _⟩ => rfl
    | ⟨2, _⟩ => rfl
    | ⟨3, _⟩ => rfl
    | ⟨4, _⟩ => rfl
  · funext a; apply Fin.ext
    match a with
    | ⟨0, _⟩ => rfl
    | ⟨1, _⟩ => rfl
    | ⟨2, _⟩ => rfl
    | ⟨3, _⟩ => rfl
    | ⟨4, _⟩ => rfl

/-! ## The results -/

theorem res198 (h : Args V0 W T) (R : Fin 8192) (k : Fin 1024) :
    (shapeCast _ (addf (addf (addf (V0 (Proc.devRef .tc main_arg7)) (mulf (res_main_v180 V0) (broadcastInDim S2x4096x1024 ![0, 1, 2] bcast_S2x4096x1_S2x4096x1024_0_1_2 (res_main_v8 V0)))) (mulf (V0 (Proc.devRef .tc main_arg0)) (res_main_v192 V0))) (mulf (res_main_v192 V0) (V0 (Proc.devRef .tc main_arg0)))) shapeCasts_S2x4096x1024_S8192x1024 : Vec Ideal S8192x1024 .f32) (ix2 R k)
      = (((T ⟨R / 4096, by omega⟩ ⟨R % 4096, by omega⟩).dh k + rmsBack (rinv (T ⟨R / 4096, by omega⟩ ⟨R % 4096, by omega⟩).x)
          (fun k => dxnOf W (T ⟨R / 4096, by omega⟩ ⟨R % 4096, by omega⟩) (dRow W (ck T ⟨R / 4096, by omega⟩ (cn ⟨R % 4096, by omega⟩)) (ct ⟨R % 4096, by omega⟩)) k * W.g k)
          (nrm (T ⟨R / 4096, by omega⟩ ⟨R % 4096, by omega⟩)) k : ℝ) : EReal) := by
  pointwise
  simp only [h.dh _ _ _, v180 h _ _ _, v8 h _ _ _, h.x _ _ _, v192 h _ _ k, ← EReal.coe_mul, ← EReal.coe_add]
  refine congrArg _ ?_
  rw [add_assoc, add_assoc, ← add_assoc (_ * rinv _)]
  exact congrArg _ (rms_eq _ (fun k => dxnOf W _ _ k * W.g k) k)

theorem res200 (h : Args V0 W T) (p : Fin 8) (q : Fin 449) (k : Fin 1024) :
    (shapeCast _ (transpose S3592x1x1024 [2, 0, 1] (broadcastInDim S1x1024x3592 ![1, 2] bcast_S1024x3592_S1x1024x3592_1_2 (transpose S1024x3592 [1, 0] (Host.dotGeneral dot_S2x4096x3592_S2x4096x1024_S3592x1024_01_01_2_2_n_n none (res_main_v171 V0) (res_main_v16 V0) (φ₂ := .f32)) transposes_S3592x1024_S1024x3592_1_0)) transposes_S1x1024x3592_S3592x1x1024_2_0_1) shapeCasts_S3592x1x1024_S8x449x1024 : Vec Ideal S8x449x1024 .f32) (ix3 p q k)
      = ((∑ s, ∑ r, dproj W T s r ⟨449 * p + q, by omega⟩ * xn W (T s r) k : ℝ) : EReal) := by
  pointwise
  simp only [v171 h _ _ _, v16 h _ _ _, ← EReal.coe_mul, coe_sum, mul_comm p.val 449]

theorem res197 (h : Args V0 W T) (i : Fin 1) (k : Fin 1024) :
    (broadcastInDim S1x1024 ![1] bcast_S1024_S1x1024_1 (Host.reduceAdd (shapeCast _ (Host.reduceAdd (mulf (res_main_v13 V0) (res_main_v174 V0)) (constant S_ .f32 0x00000000#32) reducesTo_S2x4096x1024_S1024_d0_1 h_S_) shapeCasts_S1024_S1x1x1024) (constant S_ .f32 0x00000000#32) reducesTo_S1x1x1024_S1024_d0_1 h_S_) : Vec Ideal S1x1024 .f32) (ix2 i k)
      = ((∑ s, ∑ r, dxnOf W (T s r) (dRow W (ck T s (cn r)) (ct r)) k * nrm (T s r) k : ℝ) : EReal) := by
  pointwise
  rw [sum_leading]
  pointwise
  rw [sum_leading]
  pointwise
  simp only [v13 h _ _ k, v174 h _ _ k, ← EReal.coe_mul, coe_sum, Fin.sum_univ_one]
  exact congrArg _ (Finset.sum_congr rfl fun s _ => Finset.sum_congr rfl fun r _ => mul_comm _ _)

theorem res170 (h : Args V0 W T) (i : Fin 1) (c : Fin 512) :
    (broadcastInDim S1x512 ![1] bcast_S512_S1x512_1 (shapeCast _ (Host.reduceAdd (shapeCast _ (Host.reduceAdd (mulf (res_main_v72 V0) (res_main_v109 V0)) (constant S_ .f32 0x00000000#32) reducesTo_S2x32x128x4x128_S4x128_d0_1_2 h_S_) shapeCasts_S4x128_S1x1x1x4x128) (constant S_ .f32 0x00000000#32) reducesTo_S1x1x1x4x128_S4x128_d0_1_2 h_S_) shapeCasts_S4x128_S512) : Vec Ideal S1x512 .f32) (ix2 i c)
      = ((∑ s, ∑ n, dlg (pp W T s n (cg c)) (cj c) : ℝ) : EReal) := by
  pointwise
  rw [sum_rows]
  pointwise
  rw [sum_rows]
  pointwise
  simp only [v72 h _ _ _ _ _, v109 h _ _ _ _ _, ← EReal.coe_mul, coe_sum, Fin.sum_univ_one, dlg]
  rfl

theorem res169 (h : Args V0 W T) (i : Fin 1) (c : Fin 512) :
    (broadcastInDim S1x512 ![1] bcast_S512_S1x512_1 (shapeCast _ (Host.reduceAdd (shapeCast _ (Host.reduceAdd (res_main_v109 V0) (constant S_ .f32 0x00000000#32) reducesTo_S2x32x128x4x128_S4x128_d0_1_2 h_S_) shapeCasts_S4x128_S1x1x1x4x128) (constant S_ .f32 0x00000000#32) reducesTo_S1x1x1x4x128_S4x128_d0_1_2 h_S_) shapeCasts_S4x128_S512) : Vec Ideal S1x512 .f32) (ix2 i c)
      = ((∑ s, ∑ n, dlb (pp W T s n (cg c)) (cj c) : ℝ) : EReal) := by
  pointwise
  rw [sum_rows]
  pointwise
  rw [sum_rows]
  pointwise
  simp only [v109 h _ _ _ _ _, ← EReal.coe_mul, coe_sum, Fin.sum_univ_one, dlb]
  rfl

theorem res201 (h : Args V0 W T) (g : Fin 4) (t s : Fin 128) :
    (shapeCast _ (broadcastInDim S1x4x128x128 ![1, 2, 3] bcast_S4x128x128_S1x4x128x128_1_2_3 (select (res_main_v82_1 V0) (Host.dotGeneral dot_S4x2x32x128x128_S2x32x128x4x128_S4x128x128_123_014_4_2_0_3 none (res_main_v106 V0) (res_main_v78 V0) (φ₂ := .f32)) (broadcastInDim S4x128x128 ![] bcast_S_S4x128x128 (constant (F := Ideal) S_ .f32 0x00000000#32 : Vec Ideal S_ .f32)))) shapeCasts_S1x4x128x128_S4x128x128 : Vec Ideal S4x128x128 .f32) (ix3 g t s)
      = ((∑ b, ∑ n, dws (pp W T b n g) t s : ℝ) : EReal) := by
  pointwise
  rw [v82_1, dot_chunks]
  simp only [v106 h _ _ _ _ _, v78 h _ _ _ _ _, ← EReal.coe_mul, coe_sum, dws]
  by_cases e : s.val ≤ t.val <;> simp [e, Scalar.select]

theorem res203 (h : Args V0 W T) (t : Fin 128) (g : Fin 4) :
    (transpose S128x4 [1, 0] (shapeCast _ (broadcastInDim S1x4x128 ![1, 2] bcast_S4x128_S1x4x128_1_2 (transpose S4x128 [1, 0] (Host.reduceAdd (broadcastInDim S128x4x1 ![0, 1] bcast_S128x4_S128x4x1_0_1 (Host.reduceAdd (shapeCast _ (Host.reduceAdd (res_main_v99 V0) (constant S_ .f32 0x00000000#32) reducesTo_S2x32x128x4x128_S128x4_d0_1_4 h_S_) shapeCasts_S128x4_S1x1x128x4x1) (constant S_ .f32 0x00000000#32) reducesTo_S1x1x128x4x1_S128x4_d0_1_4 h_S_)) (constant S_ .f32 0x00000000#32) reducesTo_S128x4x1_S128x4_d2 h_S_) transposes_S128x4_S4x128_1_0)) shapeCasts_S1x4x128_S4x128) transposes_S4x128_S128x4_1_0 : Vec Ideal S128x4 .f32) (ix2 t g)
      = ((∑ b, ∑ n, Gate.db (pp W T b n g) t : ℝ) : EReal) := by
  pointwise
  rw [sum_lanes]
  pointwise
  rw [sum_lanes]
  pointwise
  simp only [v99 h _ _ _ _ _, coe_sum, Fin.sum_univ_one, Gate.db]

end Cert.GateBack
-- ==== Proof.Gate.Result.lean ====
module

public import proofs.«01_k».proof.Proof.Gate.Run
public import proofs.«01_k».proof.Proof.Gate.Inputs
public import proofs.«01_k».proof.Proof.Gate.Back
public import Idealize.ShloMosaic.Lib.Pipeline.ValueKit

@[expose] public section

set_option maxRecDepth 65536

noncomputable section

namespace Cert.Gate

open Cert.Kernel2Ideal Cert.Kernel2Ideal.Gen Cert.Spec Cert.Blocks
open Cert.GateBack (ck pp cn ct cg cj dproj)
open Idealize.ShloMosaic Idealize.ShloMosaic.TcCoe Idealize.ShloMosaic.Tactic Pipeline

/-! ## Sums over tiles and over sequences -/

theorem sum_blocks (F : ℕ → ℝ) (w N : ℕ) : ∑ n ∈ Finset.range N, ∑ r ∈ Finset.range w, F (n * w + r) = ∑ i ∈ Finset.range (N * w), F i := by
  induction N with
  | zero => simp
  | succ N ih => rw [Finset.sum_range_succ, ih, Nat.succ_mul, Finset.sum_range_add]

/-- A sum cut into blocks of one size is the sum cut into blocks of another. -/
theorem sum_recut (F : ℕ → ℝ) (N w M v : ℕ) (h : N * w = M * v) :
    ∑ n ∈ Finset.range N, ∑ r : Fin w, F (n * w + r) = ∑ s : Fin M, ∑ r : Fin v, F (s * v + r) := by
  have e (u P : ℕ) : ∑ n ∈ Finset.range P, ∑ r : Fin u, F (n * u + r) = ∑ i ∈ Finset.range (P * u), F i :=
    (Finset.sum_congr rfl fun n _ => (Finset.sum_range fun r => F (n * u + r)).symm).trans (sum_blocks F u P)
  exact (e w N).trans ((congrArg (fun K => ∑ i ∈ Finset.range K, F i) h).trans ((e v M).symm.trans (Finset.sum_range fun s => ∑ r : Fin v, F (s * v + r))))

variable (m : (ℓ : Loc nD τ sig) → Buf (Elt Ideal) ℓ) (c : Dev nD)

/-- The row of any number, a chunk of rows, a tile of rows, and the gating's gradient at a row. -/
def rowN (R : ℕ) : Tk := row m c ⟨R % 8192, by omega⟩
def chunkN (C : ℕ) (t : Fin 128) : Tk := rowN m c (128 * C + t)
def tileAt (n : ℕ) (r : Fin 256) : Tk := rowN m c (n * 256 + r)
def dN (R : ℕ) : Fin 1536 → ℝ := dRow (wts m c) (chunkN m c (R / 128)) ⟨R % 128, by omega⟩

theorem tile_eq (t : Fin cfg0.N) : tile m c t = tileAt m c t.val := by
  have h : t.val < 32 := lt_of_lt_of_eq t.isLt N_0
  funext r
  exact congrArg (row m c) (Fin.ext (Nat.mod_eq_of_lt (by omega)).symm)

theorem rowN_tok (s : Fin 2) (r : Fin 4096) : rowN m c (s * 4096 + r) = tok m c s r := by
  unfold rowN row
  congr 1 <;> (apply Fin.ext; dsimp only; omega)

theorem chunk_eq (n : ℕ) (h : Fin 2) : chunk (tileAt m c n) h = chunkN m c (n * 2 + h) := by
  funext t
  exact congrArg (rowN m c) (by dsimp only; omega)

theorem chunk_tok (s : Fin 2) (n : Fin 32) : chunkN m c (s * 32 + n) = ck (tok m c) s n := by
  funext t
  exact (congrArg (rowN m c) (show 128 * (s.val * 32 + n.val) + t.val = s.val * 4096 + (⟨128 * n + t, by omega⟩ : Fin 4096).val by dsimp only; omega)).trans (rowN_tok m c s _)

theorem dA_eq (n : ℕ) (r : Fin 256) : dA (wts m c) (tileAt m c n) r = dN m c (n * 256 + r) := by
  funext p
  unfold dA dN
  rw [chunk_eq]
  congr 1
  · exact congrArg (chunkN m c) (by dsimp only; omega)
  · exact Fin.ext (by dsimp only; omega)

theorem dN_tok (s : Fin 2) (r : Fin 4096) : dN m c (s * 4096 + r) = dRow (wts m c) (ck (tok m c) s (cn r)) (ct r) := by
  unfold dN
  rw [← chunk_tok]
  congr 1
  · exact congrArg (chunkN m c) (by dsimp only [cn]; omega)
  · exact Fin.ext (by dsimp only [ct]; omega)

/-- The tiles' sums over their rows add up to the sum over the sequences' rows. -/
theorem sum_rows (f : Tk → (Fin 1536 → ℝ) → ℝ) :
    ∑ n ∈ Finset.range 32, ∑ r, f (tileAt m c n r) (dA (wts m c) (tileAt m c n) r) = ∑ s, ∑ r, f (tok m c s r) (dRow (wts m c) (ck (tok m c) s (cn r)) (ct r)) := by
  simp only [dA_eq, ← dN_tok, ← rowN_tok]
  exact sum_recut (fun R => f (rowN m c R) (dN m c R)) 32 256 2 4096 rfl

/-- The tiles' sums over their chunks add up to the sum over the sequences' chunks. -/
theorem sum_chunks (f : (Fin 128 → Tk) → ℝ) : ∑ n ∈ Finset.range 32, ∑ h, f (chunk (tileAt m c n) h) = ∑ s, ∑ n, f (ck (tok m c) s n) := by
  simp only [chunk_eq, ← chunk_tok]
  exact sum_recut (fun C => f (chunkN m c C)) 32 2 2 32 rfl

variable {m c}

/-- What each grid point leaves: its rows, and the totals up to it. -/
theorem Finite.point (h : Finite m c) (n : ℕ) (hn : n < cfg0.N) :
    Holds (outsAt0 m c n hn).1 (dx (wts m c) (tileAt m c n)) ∧ Totals (outsAt0 m c n hn)
      (fun k => ∑ u ∈ Finset.range (n + 1), totG (wts m c) (tileAt m c u) k) (fun p => ∑ u ∈ Finset.range (n + 1), totLg (wts m c) (tileAt m c u) p)
      (fun p => ∑ u ∈ Finset.range (n + 1), totLb (wts m c) (tileAt m c u) p) (fun g t s => ∑ u ∈ Finset.range (n + 1), totWs (wts m c) (tileAt m c u) g t s)
      (fun t g => ∑ u ∈ Finset.range (n + 1), totB (wts m c) (tileAt m c u) t g) (fun p k => ∑ u ∈ Finset.range (n + 1), totW (wts m c) (tileAt m c u) p k) := by
  have hN : n < 32 := lt_of_lt_of_eq hn N_0
  induction n with
  | zero =>
    have e := step_first (wts m c) (tile m c ⟨0, hn⟩) m c ⟨0, hn⟩ rfl (by dsimp only; omega) (h.blk _)
    rw [tile_eq] at e
    simpa only [zero_add, Finset.sum_range_one] using e
  | succ n ih =>
    have e := step_next (wts m c) (tile m c ⟨n + 1, hn⟩) m c ⟨n + 1, hn⟩ (by dsimp only; omega) (h.blk _) (Nat.lt_of_succ_lt hn) (ih (Nat.lt_of_succ_lt hn) (by omega)).2
    rw [tile_eq] at e
    simpa only [Finset.sum_range_succ _ (n + 1)] using e

/-- The totals after the last point are sums over the sequences. -/
theorem Finite.last (h : Finite m c) : Totals (outsAt0 m c 31 tLast.isLt)
    (fun k => ∑ s, ∑ r, dxnOf (wts m c) (tok m c s r) (dRow (wts m c) (ck (tok m c) s (cn r)) (ct r)) k * nrm (tok m c s r) k)
    (fun p => ∑ s, ∑ n, dlg (pp (wts m c) (tok m c) s n (cg p)) (cj p)) (fun p => ∑ s, ∑ n, dlb (pp (wts m c) (tok m c) s n (cg p)) (cj p))
    (fun g t u => ∑ s, ∑ n, dws (pp (wts m c) (tok m c) s n g) t u) (fun t g => ∑ s, ∑ n, Gate.db (pp (wts m c) (tok m c) s n g) t)
    (fun p k => ∑ s, ∑ r, dproj (wts m c) (tok m c) s r p * xn (wts m c) (tok m c s r) k) := by
  have e := (h.point 31 tLast.isLt).2
  exact
    { g := fun r k => (e.g r k).trans (congrArg _ (sum_rows m c fun q d => dxnOf (wts m c) q d k * nrm q k))
      lg := fun r p => (e.lg r p).trans (congrArg _ (sum_chunks m c fun Q => dlg (pc (wts m c) Q (cg p)) (cj p)))
      lb := fun r p => (e.lb r p).trans (congrArg _ (sum_chunks m c fun Q => dlb (pc (wts m c) Q (cg p)) (cj p)))
      ws := fun g t u => (e.ws g t u).trans (congrArg _ (sum_chunks m c fun Q => dws (pc (wts m c) Q g) t u))
      b := fun t g => (e.b t g).trans (congrArg _ (sum_chunks m c fun Q => Gate.db (pc (wts m c) Q g) t))
      w := fun p k => (e.w p k).trans (congrArg _ (sum_rows m c fun q d => dcol q d p * xn (wts m c) q k)) }

/-! ## The result arrays -/

variable (m c)

/-- The gradient of the input at a row. -/
def dxAt (s : Fin 2) (r : Fin 4096) (k : Fin 1024) : ℝ :=
  (tok m c s r).dh k + rmsBack (rinv (tok m c s r).x) (fun k => dxnOf (wts m c) (tok m c s r) (dRow (wts m c) (ck (tok m c) s (cn r)) (ct r)) k * (wts m c).g k) (nrm (tok m c s r)) k

def outX : S8192x1024.Idx → EReal := fun i => ((dxAt m c ⟨(i 0).val / 4096, by have h : (i 0).val < 8192 := (i 0).isLt; omega⟩ ⟨(i 0).val % 4096, by omega⟩ (i 1) : ℝ) : EReal)
def outG : S1x1024.Idx → EReal := fun i => ((∑ s, ∑ r, dxnOf (wts m c) (tok m c s r) (dRow (wts m c) (ck (tok m c) s (cn r)) (ct r)) (i 1) * nrm (tok m c s r) (i 1) : ℝ) : EReal)
def outLg : S1x512.Idx → EReal := fun i => ((∑ s, ∑ n, dlg (pp (wts m c) (tok m c) s n (cg (i 1))) (cj (i 1)) : ℝ) : EReal)
def outLb : S1x512.Idx → EReal := fun i => ((∑ s, ∑ n, dlb (pp (wts m c) (tok m c) s n (cg (i 1))) (cj (i 1)) : ℝ) : EReal)
def outWs : S4x128x128.Idx → EReal := fun i => ((∑ s, ∑ n, dws (pp (wts m c) (tok m c) s n (i 0)) (i 1) (i 2) : ℝ) : EReal)
def outB : S128x4.Idx → EReal := fun i => ((∑ s, ∑ n, Gate.db (pp (wts m c) (tok m c) s n (i 1)) (i 0) : ℝ) : EReal)
def outW : S8x449x1024.Idx → EReal := fun i =>
  ((∑ s, ∑ r, dproj (wts m c) (tok m c) s r ⟨449 * (i 0).val + (i 1).val, by have h0 : (i 0).val < 8 := (i 0).isLt; have h1 : (i 1).val < 449 := (i 1).isLt; omega⟩ * xn (wts m c) (tok m c s r) (i 2) : ℝ) : EReal)

theorem idx_out : ∀ t : Fin cfg0.N, win0_14.index t = ![t.val, 0] := by
  decide +kernel

/-- A tile's row, by its sequence and place. -/
theorem dx_eq (n : ℕ) (r : Fin 256) (s : Fin 2) (p : Fin 4096) (k : Fin 1024) (e : n * 256 + r.val = s.val * 4096 + p.val) : dx (wts m c) (tileAt m c n) r k = dxAt m c s p k := by
  have a : tileAt m c n r = tok m c s p := (congrArg (rowN m c) e).trans (rowN_tok m c s p)
  have b : dA (wts m c) (tileAt m c n) r = dRow (wts m c) (ck (tok m c) s (cn p)) (ct p) := (dA_eq m c n r).trans ((congrArg (dN m c) e).trans (dN_tok m c s p))
  unfold dx dxAt dxn
  rw [a, b]

variable {m c}

theorem Finite.arr14 (h : Finite m c) : (dats m 0 c).arrAt 14 cfg0.N = outX m c := by
  refine (dats m 0 c).arrAt_eq_of_covers 14 _ (by decide +kernel) fun t hf y => ?_
  blk_simp
  rw [after0_14]
  have ht : t.val < 32 := lt_of_lt_of_eq t.isLt N_0
  have hy : (y 0).val < 256 := (y 0).isLt
  have e : (win0_14.blk t).view.emb y = ix2 (⟨t.val * 256 + (y 0).val, by omega⟩ : Fin 8192) (y 1 : Fin 1024) := by
    blk_ext [idx_out t]
  rw [e]
  exact (congrArg _ (ix2_eta (n0 := 256) (n1 := 1024) y)).symm.trans (((h.point t.val t.isLt).1 (y 0) (y 1)).trans
    (congrArg _ (dx_eq m c t.val (y 0) _ _ (y 1) (Nat.div_add_mod' _ _).symm)))

theorem Finite.arr15 (h : Finite m c) : (dats m 0 c).arrAt 15 cfg0.N = outG m c := by
  refine (dats m 0 c).arrAt_eq_of_after_last 15 tLast (by decide +kernel) _ fun j => ?_
  blk_simp
  rw [after0_15]
  exact (congrArg _ (ix2_eta (n0 := 1) (n1 := 1024) j)).symm.trans (h.last.g (j 0) (j 1))

theorem Finite.arr16 (h : Finite m c) : (dats m 0 c).arrAt 16 cfg0.N = outLg m c := by
  refine (dats m 0 c).arrAt_eq_of_after_last 16 tLast (by decide +kernel) _ fun j => ?_
  blk_simp
  rw [after0_16]
  exact (congrArg _ (ix2_eta (n0 := 1) (n1 := 512) j)).symm.trans (h.last.lg (j 0) (j 1))

theorem Finite.arr17 (h : Finite m c) : (dats m 0 c).arrAt 17 cfg0.N = outLb m c := by
  refine (dats m 0 c).arrAt_eq_of_after_last 17 tLast (by decide +kernel) _ fun j => ?_
  blk_simp
  rw [after0_17]
  exact (congrArg _ (ix2_eta (n0 := 1) (n1 := 512) j)).symm.trans (h.last.lb (j 0) (j 1))

theorem Finite.arr18 (h : Finite m c) : (dats m 0 c).arrAt 18 cfg0.N = outWs m c := by
  refine (dats m 0 c).arrAt_eq_of_after_last 18 tLast (by decide +kernel) _ fun j => ?_
  blk_simp
  rw [after0_18]
  exact (congrArg _ (ix3_eta (n0 := 4) (n1 := 128) (n2 := 128) j)).symm.trans (h.last.ws (j 0) (j 1) (j 2))

theorem Finite.arr19 (h : Finite m c) : (dats m 0 c).arrAt 19 cfg0.N = outB m c := by
  refine (dats m 0 c).arrAt_eq_of_after_last 19 tLast (by decide +kernel) _ fun j => ?_
  blk_simp
  rw [after0_19]
  exact (congrArg _ (ix2_eta (n0 := 128) (n1 := 4) j)).symm.trans (h.last.b (j 0) (j 1))

set_option maxHeartbeats 4000000 in
theorem g1_eq : G m c main_v35_1 = rowBlocks (R := 3712) (p := 449) (q := 1024) (by decide) (outsAt0 m c 31 tLast.isLt).2.2.2.2.2.2 :=
  Function.update_self main_v35_1 _ (V m c)

theorem Finite.g1 (h : Finite m c) : G m c main_v35_1 = outW m c :=
  g1_eq.trans (funext fun i => h.last.w _ _)

end Cert.Gate
-- ==== Proof.Head.Pays.lean ====
module

public import proofs.«01_k».proof.Proof.Gen.KernelIdeal.Skeleton
public import proofs.«01_k».proof.Proof.Head.Spec

@[expose] public section

set_option maxRecDepth 65536

noncomputable section

namespace Cert.Head

open Cert.KernelIdeal Cert.KernelIdeal.Gen Cert.Spec
open Idealize.ShloMosaic

/-! Each value of a block of 256 rows, from the values it is computed of. -/

variable (W : Wts) (q : Fin 256 → Row)

theorem pay33 {v6 v8 v10 v14 v16} (h6 : Holds v6 fun r => (q r).x) (h8 : Holds v8 fun r => (q r).a)
    (h10 : Holds v10 fun k j => W.wo ⟨k, by omega⟩ j) (h14 : Holds v14 fun r => (q r).b)
    (h16 : Holds v16 fun k j => W.wo ⟨512 + k, by omega⟩ j) :
    Holds (k0_pay33 (F := Ideal) v6 v8 v10 v14 v16) fun r => h1 W (q r) := by
  intro r j
  pointwise [k0_pay33]
  simp only [h6 r j, h8 r _, h10 _ j, h14 r _, h16 _ j, ← EReal.coe_mul, ← EReal.coe_add, ← EReal.coe_sub, coe_sum, h1]

theorem pay34 {v6 v8 v10 v14 v16} (h : Holds (k0_pay33 (F := Ideal) v6 v8 v10 v14 v16) fun r => h1 W (q r)) :
    Holds (k0_pay34 (F := Ideal) v6 v8 v10 v14 v16) fun r _ => r1 W (q r) := by
  intro r j
  pointwise [k0_pay34]
  simp only [h r _, ← EReal.coe_mul, ← EReal.coe_add, ← EReal.coe_sub, coe_sum, bits_1024, div_coe _ _ (by norm_num : (1024 : ℝ) ≠ 0), bits_eps, rsqrt_pos _ (rinv_arg_pos _)]
  rfl

theorem pay35 {v6 v8 v10 v14 v16} (h : Holds (k0_pay33 (F := Ideal) v6 v8 v10 v14 v16) fun r => h1 W (q r))
    (h27 : Holds (k0_pay34 (F := Ideal) v6 v8 v10 v14 v16) fun r _ => r1 W (q r)) :
    Holds (k0_pay35 (F := Ideal) v6 v8 v10 v14 v16) fun r => n1 W (q r) := by
  intro r j
  pointwise [k0_pay35]
  simp only [h r _, h27 r _, ← EReal.coe_mul, ← EReal.coe_add, ← EReal.coe_sub, coe_sum, n1]

theorem pay36 {v30} {f : Fin 256 → Fin 256 → ℝ} (h30 : Holds v30 f) : Holds (k0_pay36 (F := Ideal) v30) f := by
  intro r j
  pointwise [k0_pay36]
  exact h30 r j

theorem pay68 {v200} {f : Fin 1024 → Fin 1024 → ℝ} (h200 : Holds v200 f) : Holds (k0_pay68 (F := Ideal) v200) f := by
  intro r j
  pointwise [k0_pay68]
  exact h200 r j

theorem pay37 {v30 v33} (h30 : Holds v30 fun r => (q r).p) (h33 : Holds v33 W.wp) :
    Holds (k0_pay37 (F := Ideal) v30 v33) fun r => pp W (q r) := by
  intro r j
  pointwise [k0_pay37]
  simp only [h30 r _, h33 _ j, ← EReal.coe_mul, ← EReal.coe_add, ← EReal.coe_sub, coe_sum, pp]

theorem pay38 {v3 v29} (h3 : Holds v3 fun _ => W.pg) (h29 : Holds v29 fun r => n1 W (q r)) :
    Holds (k0_pay38 (F := Ideal) v3 v29) fun r => rn W (q r) := by
  intro r j
  pointwise [k0_pay38]
  simp only [h3 _ j, h29 r j, ← EReal.coe_mul, ← EReal.coe_add, ← EReal.coe_sub, coe_sum, rn]

theorem pay44 {v38 v72} (h38 : Holds v38 fun r => rn W (q r)) (h72 : Holds v72 W.wg) :
    Holds (k0_pay44 (F := Ideal) v38 v72) fun r => gate W (q r) := by
  intro r j
  pointwise [k0_pay44]
  simp only [h38 r _, h72 _ j, ← EReal.coe_mul, ← EReal.coe_add, ← EReal.coe_sub, coe_sum, bits_half, Ideal.tanh_coe, gate]

theorem pay45 {v19 v35 v38 v72} (h19 : Holds v19 fun r => h1 W (q r)) (h35 : Holds v35 fun r => pp W (q r))
    (h : Holds (k0_pay44 (F := Ideal) v38 v72) fun r => gate W (q r)) :
    Holds (k0_pay45 (F := Ideal) v19 v35 v38 v72) fun r => h2 W (q r) := by
  intro r j
  pointwise [k0_pay45]
  simp only [h19 r j, h35 r j, h r j, ← EReal.coe_mul, ← EReal.coe_add, ← EReal.coe_sub, coe_sum, h2]

theorem pay46 {v19 v35 v38 v72} (h : Holds (k0_pay45 (F := Ideal) v19 v35 v38 v72) fun r => h2 W (q r)) :
    Holds (k0_pay46 (F := Ideal) v19 v35 v38 v72) fun r _ => r2 W (q r) := by
  intro r j
  pointwise [k0_pay46]
  simp only [h r _, ← EReal.coe_mul, ← EReal.coe_add, ← EReal.coe_sub, coe_sum, bits_1024, div_coe _ _ (by norm_num : (1024 : ℝ) ≠ 0), bits_eps, rsqrt_pos _ (rinv_arg_pos _)]
  rfl

theorem pay47 {v19 v35 v38 v72} (h : Holds (k0_pay45 (F := Ideal) v19 v35 v38 v72) fun r => h2 W (q r))
    (h91 : Holds (k0_pay46 (F := Ideal) v19 v35 v38 v72) fun r _ => r2 W (q r)) :
    Holds (k0_pay47 (F := Ideal) v19 v35 v38 v72) fun r => n2 W (q r) := by
  intro r j
  pointwise [k0_pay47]
  simp only [h r _, h91 r _, ← EReal.coe_mul, ← EReal.coe_add, ← EReal.coe_sub, coe_sum, n2]

theorem pay48 {v5 v19 v35 v38 v72 v96} (h5 : Holds v5 fun _ => W.fg) (h96 : Holds v96 fun r => (q r).y)
    (h93 : Holds (k0_pay47 (F := Ideal) v19 v35 v38 v72) fun r => n2 W (q r)) :
    Holds (k0_pay48 (F := Ideal) v5 v19 v35 v38 v72 v96) fun r => err W (q r) := by
  intro r j
  pointwise [k0_pay48]
  simp only [h5 _ j, h93 r j, h96 r j, ← EReal.coe_mul, ← EReal.coe_add, ← EReal.coe_sub, coe_sum, err]

theorem pay49 {v5 v19 v35 v38 v72 v96} (h : Holds (k0_pay48 (F := Ideal) v5 v19 v35 v38 v72 v96) fun r => err W (q r)) :
    Holds (k0_pay49 (F := Ideal) v5 v19 v35 v38 v72 v96) fun _ _ => ∑ s, ∑ k, err W (q s) k * err W (q s) k := by
  intro r j
  pointwise [k0_pay49]
  simp only [h _ _, ← EReal.coe_mul, ← EReal.coe_add, ← EReal.coe_sub, coe_sum]

theorem pay50 {v5 v19 v35 v38 v72 v96} (h : Holds (k0_pay48 (F := Ideal) v5 v19 v35 v38 v72 v96) fun r => err W (q r)) :
    Holds (k0_pay50 (F := Ideal) v5 v19 v35 v38 v72 v96) fun r => dy W (q r) := by
  intro r j
  pointwise [k0_pay50]
  simp only [h r j, ← EReal.coe_mul, ← EReal.coe_add, ← EReal.coe_sub, coe_sum, bits_inv1024, dy]

theorem pay51 {v5 v19 v35 v38 v72 v96} (h5 : Holds v5 fun _ => W.fg)
    (h93 : Holds (k0_pay47 (F := Ideal) v19 v35 v38 v72) fun r => n2 W (q r))
    (h105 : Holds (k0_pay50 (F := Ideal) v5 v19 v35 v38 v72 v96) fun r => dy W (q r)) :
    Holds (k0_pay51 (F := Ideal) v5 v19 v35 v38 v72 v96) fun r j => dy W (q r) j * W.fg j - n2 W (q r) j * ((∑ k, dy W (q r) k * W.fg k * n2 W (q r) k) / 1024) := by
  intro r j
  pointwise [k0_pay51]
  simp only [h5 _ _, h93 r _, h105 r _, ← EReal.coe_mul, ← EReal.coe_add, ← EReal.coe_sub, coe_sum, bits_1024, div_coe _ _ (by norm_num : (1024 : ℝ) ≠ 0)]

theorem pay52 {v91 v115} (h91 : Holds v91 fun r _ => r2 W (q r))
    (h115 : Holds v115 fun r j => dy W (q r) j * W.fg j - n2 W (q r) j * ((∑ k, dy W (q r) k * W.fg k * n2 W (q r) k) / 1024)) :
    Holds (k0_pay52 (F := Ideal) v91 v115) fun r => dh2 W (q r) := by
  intro r j
  pointwise [k0_pay52]
  simp only [h91 r _, h115 r j, ← EReal.coe_mul, ← EReal.coe_add, ← EReal.coe_sub, coe_sum]
  rfl

theorem pay53 {v93 v105} (h93 : Holds v93 fun r => n2 W (q r)) (h105 : Holds v105 fun r => dy W (q r)) :
    Holds (k0_pay53 (F := Ideal) v93 v105) fun _ j => ∑ s, dy W (q s) j * n2 W (q s) j := by
  intro r j
  pointwise [k0_pay53]
  simp only [h93 _ j, h105 _ j, ← EReal.coe_mul, ← EReal.coe_add, ← EReal.coe_sub, coe_sum]

theorem pay54 {v81 v91 v115} (h81 : Holds v81 fun r => gate W (q r))
    (h : Holds (k0_pay52 (F := Ideal) v91 v115) fun r => dh2 W (q r)) :
    Holds (k0_pay54 (F := Ideal) v81 v91 v115) fun r => dpp W (q r) := by
  intro r j
  pointwise [k0_pay54]
  simp only [h r j, h81 r j, ← EReal.coe_mul, ← EReal.coe_add, ← EReal.coe_sub, coe_sum, dpp]

theorem pay55 {v35 v81 v91 v115} (h35 : Holds v35 fun r => pp W (q r)) (h81 : Holds v81 fun r => gate W (q r))
    (h : Holds (k0_pay52 (F := Ideal) v91 v115) fun r => dh2 W (q r)) :
    Holds (k0_pay55 (F := Ideal) v35 v81 v91 v115) fun r => dgl W (q r) := by
  intro r j
  pointwise [k0_pay55]
  simp only [h r j, h81 r j, h35 r j, one_coe, ← EReal.coe_mul, ← EReal.coe_add, ← EReal.coe_sub, coe_sum, dgl]

theorem pay66 {v103 v160 v186} {a b : ℝ} {f : Fin 8 → Fin 128 → ℝ} (h103 : Holds v103 fun _ _ => a) (h160 : Holds v160 fun _ _ => b) (h186 : Holds v186 f) :
    Holds (k0_pay66 (F := Ideal) v103 v160 v186) fun r j => f r j + 1 / 2048 * (a + b) := by
  intro r j
  pointwise [k0_pay66]
  simp only [h103 _ _, h160 _ _, h186 r j, ← EReal.coe_mul, ← EReal.coe_add, ← EReal.coe_sub, coe_sum, bits_inv2048]

theorem pay67 {v120 v150 v155 v195} {a f : Fin 1024 → ℝ} (h120 : Holds v120 fun _ => a) (h150 : Holds v150 fun r => n2 W (q r))
    (h195 : Holds v195 fun _ => f) (h : Holds (k0_pay62 (F := Ideal) v155) fun r => dy W (q r)) :
    Holds (k0_pay67 (F := Ideal) v120 v150 v155 v195) fun _ j => f j + (a j + ∑ s, dy W (q s) j * n2 W (q s) j) := by
  intro r j
  pointwise [k0_pay67]
  simp only [h120 _ j, h150 _ j, h195 _ j, h _ j, ← EReal.coe_mul, ← EReal.coe_add, ← EReal.coe_sub, coe_sum]

theorem pay69 {v128 v201 cst} (h128 : Holds v128 fun r => dgl W (q r)) (h201 : Holds v201 W.wg) (hz : Holds cst fun _ _ => 0) :
    Holds (k0_pay69 (F := Ideal) v128 v201 cst) fun r => drn W (q r) := by
  intro r j
  pointwise [k0_pay69]
  simp only [h128 r _, h201 j _, hz r j, ← EReal.coe_mul, ← EReal.coe_add, ← EReal.coe_sub, coe_sum, zero_add, drn]

theorem pay70 {v3 v27 v29 v117 v128 v201 cst} (h3 : Holds v3 fun _ => W.pg) (h27 : Holds v27 fun r _ => r1 W (q r)) (h29 : Holds v29 fun r => n1 W (q r))
    (h117 : Holds v117 fun r => dh2 W (q r)) (h : Holds (k0_pay69 (F := Ideal) v128 v201 cst) fun r => drn W (q r)) :
    Holds (k0_pay70 (F := Ideal) v3 v27 v29 v117 v128 v201 cst) fun r => dh1 W (q r) := by
  intro r j
  pointwise [k0_pay70]
  simp only [h3 _ _, h27 r _, h29 r _, h117 r j, h r _, ← EReal.coe_mul, ← EReal.coe_add, ← EReal.coe_sub, coe_sum, bits_1024, div_coe _ _ (by norm_num : (1024 : ℝ) ≠ 0)]
  rfl

theorem pay72 {v3 v27 v29 v117 v128 v201 cst v218} (h : Holds (k0_pay70 (F := Ideal) v3 v27 v29 v117 v128 v201 cst) fun r => dh1 W (q r))
    (h218 : Holds v218 fun k j => W.wo ⟨k, by omega⟩ j) :
    Holds (k0_pay72 (F := Ideal) v3 v27 v29 v117 v128 v201 cst v218) fun r => da W (q r) := by
  intro r j
  pointwise [k0_pay72, k0_pay71]
  simp only [h r _, h218 j _, ← EReal.coe_mul, ← EReal.coe_add, ← EReal.coe_sub, coe_sum, da]

theorem pay73 {v3 v27 v29 v117 v128 v201 cst v222} (h : Holds (k0_pay70 (F := Ideal) v3 v27 v29 v117 v128 v201 cst) fun r => dh1 W (q r))
    (h222 : Holds v222 fun k j => W.wo ⟨512 + k, by omega⟩ j) :
    Holds (k0_pay73 (F := Ideal) v3 v27 v29 v117 v128 v201 cst v222) fun r => db W (q r) := by
  intro r j
  pointwise [k0_pay73, k0_pay71]
  simp only [h r _, h222 j _, ← EReal.coe_mul, ← EReal.coe_add, ← EReal.coe_sub, coe_sum, db]

theorem pay74 {v29 v128 v201 cst} (h29 : Holds v29 fun r => n1 W (q r)) (h : Holds (k0_pay69 (F := Ideal) v128 v201 cst) fun r => drn W (q r)) :
    Holds (k0_pay74 (F := Ideal) v29 v128 v201 cst) fun _ j => ∑ s, drn W (q s) j * n1 W (q s) j := by
  intro r j
  pointwise [k0_pay74]
  simp only [h29 _ j, h _ j, ← EReal.coe_mul, ← EReal.coe_add, ← EReal.coe_sub, coe_sum]

/-! The two halves of a block of 512 rows together. -/

variable (Q : Fin 512 → Row)

/-- The rows of the first half. -/
def lower (r : Fin 256) : Row := Q ⟨r, by omega⟩
/-- The rows of the second half. -/
def upper (r : Fin 256) : Row := Q ⟨256 + r, by omega⟩

/-- A sum over the block's rows is the sum over its halves. -/
theorem sum_halves (f : Row → ℝ) : ∑ s, f (Q s) = ∑ s, f (lower Q s) + ∑ s, f (upper Q s) := by
  simpa [lower, upper] using Fin.sum_univ_two_halves 256 256 rfl fun s : Fin 512 => f (Q s)

theorem pay83 {v122 v179 v261 v262} {f : Fin 256 → Fin 1024 → ℝ} (h122 : Holds v122 fun r => dpp W (lower Q r)) (h179 : Holds v179 fun r => dpp W (upper Q r))
    (h261 : Holds v261 f) (h262 : Holds v262 fun s => (Q s).p) :
    Holds (k0_pay83 (F := Ideal) v122 v179 v261 v262) fun r j => f r j + ∑ s, (Q s).p r * dpp W (Q s) j := by
  intro r j
  pointwise [k0_pay83]
  simp only [h122 _ j, h179 _ j, h261 r j, h262 _ r, ← EReal.coe_mul, ← EReal.coe_add, ← EReal.coe_sub, coe_sum]
  rw [sum_halves Q fun s => s.p r * dpp W s j]
  rfl

theorem pay84 {v38 v71 v128 v185} (h38 : Holds v38 fun r => rn W (lower Q r)) (h71 : Holds v71 fun r => rn W (upper Q r))
    (h128 : Holds v128 fun r => dgl W (lower Q r)) (h185 : Holds v185 fun r => dgl W (upper Q r)) :
    Holds (k0_pay84 (F := Ideal) v38 v71 v128 v185) fun r j => ∑ s, rn W (Q s) r * dgl W (Q s) j := by
  intro r j
  pointwise [k0_pay84]
  simp only [h38 _ _, h71 _ _, h128 _ _, h185 _ _, ← EReal.coe_mul, ← EReal.coe_add, ← EReal.coe_sub, coe_sum]
  rw [sum_halves Q fun s => rn W s r * dgl W s j]

theorem pay88 {v217 v246 v282 v283} {f : Fin 512 → Fin 1024 → ℝ} (h217 : Holds v217 fun r => dh1 W (lower Q r)) (h246 : Holds v246 fun r => dh1 W (upper Q r))
    (h282 : Holds v282 f) (h283 : Holds v283 fun s => (Q s).a) :
    Holds (k0_pay88 (F := Ideal) v217 v246 v282 v283) fun r j => f r j + ∑ s, (Q s).a r * dh1 W (Q s) j := by
  intro r j
  pointwise [k0_pay88, k0_pay87]
  simp only [h217 _ j, h246 _ j, h282 r j, h283 _ r, ← EReal.coe_mul, ← EReal.coe_add, ← EReal.coe_sub, coe_sum]
  rw [sum_halves Q fun s => s.a r * dh1 W s j]
  rfl

theorem pay89 {v217 v246 v290 v291} {f : Fin 512 → Fin 1024 → ℝ} (h217 : Holds v217 fun r => dh1 W (lower Q r)) (h246 : Holds v246 fun r => dh1 W (upper Q r))
    (h290 : Holds v290 f) (h291 : Holds v291 fun s => (Q s).b) :
    Holds (k0_pay89 (F := Ideal) v217 v246 v290 v291) fun r j => f r j + ∑ s, (Q s).b r * dh1 W (Q s) j := by
  intro r j
  pointwise [k0_pay89, k0_pay87]
  simp only [h217 _ j, h246 _ j, h290 r j, h291 _ r, ← EReal.coe_mul, ← EReal.coe_add, ← EReal.coe_sub, coe_sum]
  rw [sum_halves Q fun s => s.b r * dh1 W s j]
  rfl

theorem pay85 {v270 v271} {f g : Fin 1024 → Fin 1024 → ℝ} (h270 : Holds v270 f) (h271 : Holds v271 g) :
    Holds (k0_pay85 (F := Ideal) v270 v271) fun r j => f r j + g r j := by
  intro r j
  pointwise [k0_pay85]
  simp only [h270 r j, h271 r j, ← EReal.coe_add]

theorem pay86 {v228 v257 v276} {f a b : Fin 1024 → ℝ} (h228 : Holds v228 fun _ => a) (h257 : Holds v257 fun _ => b)
    (h276 : Holds v276 fun _ => f) :
    Holds (k0_pay86 (F := Ideal) v228 v257 v276) fun _ j => f j + (a j + b j) := by
  intro r j
  pointwise [k0_pay86]
  simp only [h228 _ j, h257 _ j, h276 _ j, ← EReal.coe_add]

end Cert.Head
-- ==== Proof.Head.Halves.lean ====
module

public import proofs.«01_k».proof.Proof.Head.Pays

@[expose] public section

set_option maxRecDepth 65536

noncomputable section

namespace Cert.Head

open Cert.KernelIdeal Cert.KernelIdeal.Gen Cert.Spec
open Idealize.ShloMosaic

variable (W : Wts) (q : Fin 256 → Row)

/-- What a half block reads holds the weights and the half's rows. -/
structure HalfIn (v3 : Vec Ideal S1x1024 .f32) (v5 : FVec Ideal S1x1024 .f32) (v6 : Vec Ideal S256x1024 .f32) (v8 : Vec Ideal S256x512 .bf16)
    (v10 : Vec Ideal S512x1024 .bf16) (v14 : Vec Ideal S256x512 .bf16) (v16 : Vec Ideal S512x1024 .bf16)
    (v30 : Vec Ideal S256x256 .f32) (v33 : Vec Ideal S256x1024 .bf16) (v72 : Vec Ideal S1024x1024 .bf16) (v96 : Vec Ideal S256x1024 .f32) : Prop where
  pg : Holds v3 fun _ => W.pg
  fg : Holds v5 fun _ => W.fg
  x : Holds v6 fun r => (q r).x
  a : Holds v8 fun r => (q r).a
  wo : Holds v10 fun k j => W.wo ⟨k, by omega⟩ j
  b : Holds v14 fun r => (q r).b
  wo' : Holds v16 fun k j => W.wo ⟨512 + k, by omega⟩ j
  p : Holds v30 fun r => (q r).p
  wp : Holds v33 W.wp
  wg : Holds v72 W.wg
  y : Holds v96 fun r => (q r).y

variable {v3 : Vec Ideal S1x1024 .f32} {v5 : FVec Ideal S1x1024 .f32} {v6 : Vec Ideal S256x1024 .f32} {v8 : Vec Ideal S256x512 .bf16}
    {v10 : Vec Ideal S512x1024 .bf16} {v14 : Vec Ideal S256x512 .bf16} {v16 : Vec Ideal S512x1024 .bf16}
    {v30 : Vec Ideal S256x256 .f32} {v33 : Vec Ideal S256x1024 .bf16} {v72 : Vec Ideal S1024x1024 .bf16} {v96 : Vec Ideal S256x1024 .f32}

/-- What the first half's values hold. -/
theorem lows (H : HalfIn W q v3 v5 v6 v8 v10 v14 v16 v30 v33 v72 v96) :
    let v19 := k0_pay33 v6 v8 v10 v14 v16
    let v27 := k0_pay34 v6 v8 v10 v14 v16
    let v29 := k0_pay35 v6 v8 v10 v14 v16
    let v35 := k0_pay37 (k0_pay36 v30) v33
    let v38 := k0_pay38 v3 v29
    let v81 := k0_pay44 v38 v72
    let v91 := k0_pay46 v19 v35 v38 v72
    let v115 := k0_pay51 v5 v19 v35 v38 v72 v96
    let v128 := k0_pay55 v35 v81 v91 v115
    let cst := constant S256x1024 .f32 0x00000000#32
    Holds v38 (fun r => rn W (q r))
    ∧ Holds (k0_pay49 v5 v19 v35 v38 v72 v96) (fun _ _ => ∑ s, ∑ k, err W (q s) k * err W (q s) k)
    ∧ Holds (k0_pay53 (k0_pay47 v19 v35 v38 v72) (k0_pay50 v5 v19 v35 v38 v72 v96)) (fun _ j => ∑ s, dy W (q s) j * n2 W (q s) j)
    ∧ Holds (k0_pay54 v81 v91 v115) (fun r => dpp W (q r))
    ∧ Holds v128 (fun r => dgl W (q r))
    ∧ Holds (k0_pay70 v3 v27 v29 (k0_pay52 v91 v115) v128 (k0_pay68 v72) cst) (fun r => dh1 W (q r))
    ∧ Holds (k0_pay72 v3 v27 v29 (k0_pay52 v91 v115) v128 (k0_pay68 v72) cst v10) (fun r => da W (q r))
    ∧ Holds (k0_pay73 v3 v27 v29 (k0_pay52 v91 v115) v128 (k0_pay68 v72) cst v16) (fun r => db W (q r))
    ∧ Holds (k0_pay74 v29 v128 (k0_pay68 v72) cst) (fun _ j => ∑ s, drn W (q s) j * n1 W (q s) j) := by
  intro v19 v27 v29 v35 v38 v81 v91 v115 v128 cst
  have h19 := pay33 W q H.x H.a H.wo H.b H.wo'
  have h27 := pay34 W q h19
  have h29 := pay35 W q h19 h27
  have h35 : Holds v35 _ := pay37 W q (pay36 H.p) H.wp
  have h38 := pay38 W q H.pg h29
  have h81 := pay44 W q h38 H.wg
  have h83 := pay45 W q h19 h35 h81
  have h91 := pay46 W q h83
  have h93 := pay47 W q h83 h91
  have h98 := pay48 W q H.fg H.y h93
  have h105 := pay50 W q h98
  have h115 := pay51 W q H.fg h93 h105
  have h117 := pay52 W q h91 h115
  have h128 := pay55 W q h35 h81 h117
  have hz : Holds (a := 256) (b := 1024) cst fun _ _ => 0 := by
    intro r j
    show cst (ix2 r j) = _
    unfold cst
    pointwise
    rfl
  have h201 : Holds (k0_pay68 v72) W.wg := pay68 H.wg
  have h202 := pay69 W q h128 h201 hz
  have h215 := pay70 W q H.pg h27 h29 h117 h202
  exact ⟨h38, pay49 W q h98, pay53 W q h93 h105, pay54 W q h81 h117, h128, h215, pay72 W q h215 H.wo, pay73 W q h215 H.wo', pay74 W q h29 h202⟩

/-- What the second half's values hold: they are the first half's, of the second half's rows. -/
theorem highs (H : HalfIn W q v3 v5 v6 v8 v10 v14 v16 v30 v33 v72 v96) :
    let v52 := k0_pay39 v6 v8 v10 v14 v16
    let v60 := k0_pay40 v6 v8 v10 v14 v16
    let v62 := k0_pay41 v6 v8 v10 v14 v16
    let v68 := k0_pay42 v30 v33
    let v71 := k0_pay43 v3 v6 v8 v10 v14 v16
    let v138 := k0_pay56 v71 v72
    let v148 := k0_pay58 v52 v68 v71 v72
    let v150 := k0_pay59 v52 v68 v71 v72
    let v155 := k0_pay60 v5 v52 v68 v71 v72 v96
    let v174 := k0_pay63 v5 v148 v150 v155
    let v185 := k0_pay65 v5 v68 v138 v148 v150 v155
    let v233 := k0_pay76 v3 v185 v72
    let v238 := k0_pay77 v3 v62 v185 v72
    Holds v71 (fun r => rn W (q r))
    ∧ Holds (k0_pay61 v5 v52 v68 v71 v72 v96) (fun _ _ => ∑ s, ∑ k, err W (q s) k * err W (q s) k)
    ∧ Holds v150 (fun r => n2 W (q r)) ∧ Holds (k0_pay62 v155) (fun r => dy W (q r))
    ∧ Holds (k0_pay64 v5 v138 v148 v150 v155) (fun r => dpp W (q r))
    ∧ Holds v185 (fun r => dgl W (q r))
    ∧ Holds (k0_pay78 v60 v62 v174 v233 v238) (fun r => dh1 W (q r))
    ∧ Holds (k0_pay80 v60 v62 v174 v233 v238 v10) (fun r => da W (q r))
    ∧ Holds (k0_pay81 v60 v62 v174 v233 v238 v16) (fun r => db W (q r))
    ∧ Holds (k0_pay82 v62 (k0_pay75 v185 v72)) (fun _ j => ∑ s, drn W (q s) j * n1 W (q s) j) := by
  obtain ⟨h1, h2, h3, h4, h5, h6, h7, h8, h9⟩ := lows W q H
  have h19 := pay33 W q H.x H.a H.wo H.b H.wo'
  have h83 := pay45 W q h19 (pay37 W q (pay36 H.p) H.wp) (pay44 W q h1 H.wg)
  have h93 := pay47 W q h83 (pay46 W q h83)
  exact ⟨h1, h2, h93, pay50 W q (pay48 W q H.fg H.y h93), h4, h5, h6, h7, h8, h9⟩
end Cert.Head
-- ==== Proof.Head.Step.lean ====
module

public import proofs.«01_k».proof.Proof.Gen.KernelIdeal.Frame
public import proofs.«01_k».proof.Proof.Head.Halves
public import Idealize.ShloMosaic.Lib.Pipeline.ReadBack
public import Idealize.ShloMosaic.Lib.Pipeline.ValueKit

@[expose] public section

set_option maxRecDepth 65536
set_option maxHeartbeats 2000000

noncomputable section

namespace Cert.Head

open Cert.KernelIdeal Cert.KernelIdeal.Gen Cert.Spec
open Idealize.ShloMosaic Idealize.ShloMosaic.Tactic

variable (W : Wts) (Q : Fin 512 → Row)

/-- The blocks a grid point reads hold the weights and the block's rows. -/
structure Blk (x0 x1 : Vec Ideal S512x512 .bf16) (x2 : Vec Ideal S512x1024 .f32) (x3 : Vec Ideal S512x256 .f32) (x4 : Vec Ideal S512x1024 .f32)
    (x5 x6 : Vec Ideal S1024x1024 .bf16) (x7 : Vec Ideal S256x1024 .bf16) (x8 x9 : Vec Ideal S1x1024 .f32) : Prop where
  a : Holds x0 fun r => (Q r).a
  b : Holds x1 fun r => (Q r).b
  x : Holds x2 fun r => (Q r).x
  p : Holds x3 fun r => (Q r).p
  y : Holds x4 fun r => (Q r).y
  wo : Holds x5 W.wo
  wg : Holds x6 W.wg
  wp : Holds x7 W.wp
  pg : Holds x8 fun _ => W.pg
  fg : Holds x9 fun _ => W.fg

variable {x0 x1 : Vec Ideal S512x512 .bf16} {x2 : Vec Ideal S512x1024 .f32} {x3 : Vec Ideal S512x256 .f32} {x4 : Vec Ideal S512x1024 .f32}
    {x5 x6 : Vec Ideal S1024x1024 .bf16} {x7 : Vec Ideal S256x1024 .bf16} {x8 x9 : Vec Ideal S1x1024 .f32}

theorem Blk.low (h : Blk W Q x0 x1 x2 x3 x4 x5 x6 x7 x8 x9) : HalfIn W (lower Q) x8 (k0_pay32 x9)
    (View.ld x2 (Rect.unit ![0, 0] ![256, 1024] inb_S512x1024_S256x1024_0_0)) (View.ld x0 (Rect.unit ![0, 0] ![256, 512] inb_S512x512_S256x512_0_0))
    (View.ld x5 (Rect.unit ![0, 0] ![512, 1024] inb_S1024x1024_S512x1024_0_0)) (View.ld x1 (Rect.unit ![0, 0] ![256, 512] inb_S512x512_S256x512_0_0))
    (View.ld x5 (Rect.unit ![512, 0] ![512, 1024] inb_S1024x1024_S512x1024_512_0)) (View.ld x3 (Rect.unit ![0, 0] ![256, 256] inb_S512x256_S256x256_0_0))
    x7 x6 (View.ld x4 (Rect.unit ![0, 0] ![256, 1024] inb_S512x1024_S256x1024_0_0)) := by
  refine ⟨h.pg, fun r j => ?_, fun r j => ?_, fun r j => ?_, fun r j => ?_, fun r j => ?_, fun r j => ?_, fun r j => ?_, h.wp, h.wg, fun r j => ?_⟩ <;>
    pointwise [k0_pay32]
  exacts [h.fg _ j, h.x _ j, h.a _ j, h.wo _ j, h.b _ j, h.wo _ j, h.p _ j, h.y _ j]

theorem Blk.high (h : Blk W Q x0 x1 x2 x3 x4 x5 x6 x7 x8 x9) : HalfIn W (upper Q) x8 (k0_pay32 x9)
    (View.ld x2 (Rect.unit ![256, 0] ![256, 1024] inb_S512x1024_S256x1024_256_0)) (View.ld x0 (Rect.unit ![256, 0] ![256, 512] inb_S512x512_S256x512_256_0))
    (View.ld x5 (Rect.unit ![0, 0] ![512, 1024] inb_S1024x1024_S512x1024_0_0)) (View.ld x1 (Rect.unit ![256, 0] ![256, 512] inb_S512x512_S256x512_256_0))
    (View.ld x5 (Rect.unit ![512, 0] ![512, 1024] inb_S1024x1024_S512x1024_512_0)) (View.ld x3 (Rect.unit ![256, 0] ![256, 256] inb_S512x256_S256x256_256_0))
    x7 x6 (View.ld x4 (Rect.unit ![256, 0] ![256, 1024] inb_S512x1024_S256x1024_256_0)) := by
  refine ⟨h.pg, fun r j => ?_, fun r j => ?_, fun r j => ?_, fun r j => ?_, fun r j => ?_, fun r j => ?_, fun r j => ?_, h.wp, h.wg, fun r j => ?_⟩ <;>
    pointwise [k0_pay32]
  exacts [h.fg _ j, h.x _ j, h.a _ j, h.wo _ j, h.b _ j, h.wo _ j, h.p _ j, h.y _ j]

theorem Holds.read {a b : ℕ} {v : (⟨2, ![a, b]⟩ : Shape).Idx → EReal} {f : Fin a → Fin b → ℝ} (h : Holds v f) (x : (⟨2, ![a, b]⟩ : Shape).Idx)
    (r : Fin a) (j : Fin b) (h0 : (x 0).val = r.val) (h1 : (x 1).val = j.val) : v x = ((f r j : ℝ) : EReal) := by
  rw [← h r j]
  congr 1
  exact (eq_ix2 x).trans (congrArg₂ ix2 (Fin.ext h0) (Fin.ext h1))

theorem read_lower {n : ℕ} {v : (⟨2, ![256, n]⟩ : Shape).Idx → EReal} {f : Row → Fin n → ℝ} (h : Holds v fun r => f (lower Q r))
    (x : (⟨2, ![256, n]⟩ : Shape).Idx) (r : Fin 512) (j : Fin n) (h0 : r.val = (x 0).val) (h1 : j.val = (x 1).val) : v x = ((f (Q r) j : ℝ) : EReal) :=
  (Holds.read h x (x 0) (x 1) rfl rfl).trans (by rw [show x 1 = j from Fin.ext h1.symm]; exact congrArg (fun s => ((f (Q s) j : ℝ) : EReal)) (Fin.ext h0.symm))

theorem read_upper {n : ℕ} {v : (⟨2, ![256, n]⟩ : Shape).Idx → EReal} {f : Row → Fin n → ℝ} (h : Holds v fun r => f (upper Q r))
    (x : (⟨2, ![256, n]⟩ : Shape).Idx) (r : Fin 512) (j : Fin n) (h0 : r.val = 256 + (x 0).val) (h1 : j.val = (x 1).val) : v x = ((f (Q r) j : ℝ) : EReal) :=
  (Holds.read h x (x 0) (x 1) rfl rfl).trans (by rw [show x 1 = j from Fin.ext h1.symm]; exact congrArg (fun s => ((f (Q s) j : ℝ) : EReal)) (Fin.ext h0.symm))

/-- The sums over the block's rows that the running totals take at a point. -/
def totPg (j : Fin 1024) : ℝ := ∑ s, drn W (Q s) j * n1 W (Q s) j
def totFg (j : Fin 1024) : ℝ := ∑ s, dy W (Q s) j * n2 W (Q s) j
def totLoss : ℝ := 1 / 2048 * ∑ s, ∑ k, err W (Q s) k * err W (Q s) k
def totWo (r j : Fin 1024) : ℝ := ∑ s, ab (Q s) r * dh1 W (Q s) j
def totWg (r j : Fin 1024) : ℝ := ∑ s, rn W (Q s) r * dgl W (Q s) j
def totWp (r : Fin 256) (j : Fin 1024) : ℝ := ∑ s, (Q s).p r * dpp W (Q s) j

theorem totWo_low (r j : Fin 1024) (k : Fin 512) (l : Fin 1024) (h : r.val = k.val) (h' : j.val = l.val) (f : ℝ) :
    (((f + ∑ s, (Q s).a k * dh1 W (Q s) l : ℝ)) : EReal) = ((f + totWo W Q r j : ℝ) : EReal) := by
  obtain rfl := Fin.ext h'
  simp only [totWo, ab, h, k.isLt, ↓reduceDIte]

theorem totWo_high (r j : Fin 1024) (k : Fin 512) (l : Fin 1024) (h : r.val = 512 + k.val) (h' : j.val = l.val) (f : ℝ) :
    (((f + ∑ s, (Q s).b k * dh1 W (Q s) l : ℝ)) : EReal) = ((f + totWo W Q r j : ℝ) : EReal) := by
  obtain rfl := Fin.ext h'
  simp only [totWo, ab, h, show ¬512 + k.val < 512 by omega, ↓reduceDIte, Nat.add_sub_cancel_left]

/-- What an earlier store left is not seen where the two later ones cover. -/
theorem canon_drop {S : Shape} (p q : View.Piece (Elt Ideal) S .f32) (L) (y : S.Idx) (h : ∃ a ∈ [p, q], y ∈ a.1.set) :
    View.canon (p :: q :: L) y = View.canon [p, q] y := by
  by_cases hp : y ∈ p.1.set
  · obtain ⟨x, rfl⟩ := p.1.exists_idx_of_mem hp
    exact (View.canon_cons_emb _ _ _ x).trans (View.canon_cons_emb _ _ _ x).symm
  · have hq : y ∈ q.1.set := by
      obtain ⟨a, ha, hy⟩ := h
      rcases List.mem_cons.mp ha with rfl | ha
      · exact absurd hy hp
      · rwa [List.mem_singleton.mp ha] at hy
    rw [View.canon_cons_of_not_mem _ _ hp, View.canon_cons_of_not_mem _ _ hp]
    obtain ⟨x, rfl⟩ := q.1.exists_idx_of_mem hq
    exact (View.canon_cons_emb _ _ _ x).trans (View.canon_cons_emb _ _ _ x).symm

/-- What a point leaves in its outputs and running totals. -/
abbrev Left := Vec Ideal S512x512 .f32 × Vec Ideal S512x512 .f32 × Vec Ideal S512x1024 .f32 × Vec Ideal S1x1024 .f32 × Vec Ideal S1x1024 .f32 × Vec Ideal S8x128 .f32 × Vec Ideal S1024x1024 .f32 × Vec Ideal S1024x1024 .f32 × Vec Ideal S256x1024 .f32

/-- The blocks of the gradients with respect to the inputs. -/
structure Grads (o : Left) : Prop where
  da : Holds o.1 fun r => da W (Q r)
  db : Holds o.2.1 fun r => db W (Q r)
  dx : Holds o.2.2.1 fun r => dh1 W (Q r)

/-- The running totals. -/
structure Totals (o : Left) (pg fg : Fin 1024 → ℝ) (loss : ℝ) (wo wg : Fin 1024 → Fin 1024 → ℝ) (wp : Fin 256 → Fin 1024 → ℝ) : Prop where
  pg : Holds o.2.2.2.1 fun _ => pg
  fg : Holds o.2.2.2.2.1 fun _ => fg
  loss : Holds o.2.2.2.2.2.1 fun _ _ => loss
  wo : Holds o.2.2.2.2.2.2.1 wo
  wg : Holds o.2.2.2.2.2.2.2.1 wg
  wp : Holds o.2.2.2.2.2.2.2.2 wp

variable (m : (ℓ : Loc nD τ sig) → Buf (Elt Ideal) ℓ)

/-- The first point starts the totals at zero. -/
theorem step_first (c : Dev nD) (t : Fin cfg0.N) (h0 : t.val % 16 = 0) (h1 : ¬t.val % 16 = 15)
    (h : Blk W Q (iblk m c 0 t) (iblk m c 1 t) (iblk m c 2 t) (iblk m c 3 t) (iblk m c 4 t) (iblk m c 5 t) (iblk m c 6 t) (iblk m c 7 t) (iblk m c 8 t) (iblk m c 9 t)) :
    Grads W Q (outsAt0 m c t.val t.isLt) ∧ Totals (outsAt0 m c t.val t.isLt) (totPg W Q) (totFg W Q) (totLoss W Q) (totWo W Q) (totWg W Q) (totWp W Q) := by
  obtain ⟨l1, l2, l3, l4, l5, l6, l7, l8, l9⟩ := lows W (lower Q) h.low
  obtain ⟨u1, u2, u3, u4, u5, u6, u7, u8, u9, u10⟩ := highs W (upper Q) h.high
  rw [outsAt0_A m c t h0 h1]
  refine ⟨⟨?_, ?_, ?_⟩, ?_, ?_, ?_, ?_, ?_, ?_⟩ <;> intro r j <;> dsimp only <;> frame_open <;>
    (try simp (disch := decide) only [↓ View.readCov_skip, ↓ View.readCov_cons_toLoadRect, ↓ View.readCov_fill]) <;> frame_out
  · canon_tiles x e
    · exact read_upper Q (f := da W) u8 x r j e0 e1
    · exact read_lower Q (f := da W) l7 x r j e0 e1
  · canon_tiles x e
    · exact read_upper Q (f := db W) u9 x r j e0 e1
    · exact read_lower Q (f := db W) l8 x r j e0 e1
  · canon_tiles x e
    · exact read_upper Q (f := dh1 W) u7 x r j e0 e1
    · exact read_lower Q (f := dh1 W) l6 x r j e0 e1
  · have hz : Holds (k0_pay29 (F := Ideal)) fun _ _ => 0 := by
      intro r j
      pointwise [k0_pay29]
      rfl
    exact (pay86 l9 u10 hz r j).trans (by dsimp only; rw [totPg, sum_halves Q fun s => drn W s j * n1 W s j, zero_add])
  · have hz : Holds (k0_pay30 (F := Ideal)) fun _ _ => 0 := by
      intro r j
      pointwise [k0_pay30]
      rfl
    exact (pay67 W (upper Q) l3 u3 hz u4 r j).trans (by dsimp only; rw [totFg, sum_halves Q fun s => dy W s j * n2 W s j, zero_add])
  · have hz : Holds (k0_pay31 (F := Ideal)) fun _ _ => 0 := by
      intro r j
      pointwise [k0_pay31]
      rfl
    exact (pay66 l2 u2 hz r j).trans (by dsimp only; rw [totLoss, sum_halves Q fun s => ∑ k, err W s k * err W s k, zero_add])
  · have hz : Holds (k0_pay26 (F := Ideal)) fun _ _ => 0 := by
      intro r j
      pointwise [k0_pay26]
      rfl
    rw [canon_drop _ _ _ _ (View.cover_of_tiled_head _ _ _ rfl _)]
    canon_tiles x e
    · refine (Holds.read (pay89 W Q l6 u7 (f := fun _ _ => 0) ?_ h.b) x (x 0) (x 1) rfl rfl).trans ?_
      · intro r j
        pointwise
        exact hz _ j
      · exact (totWo_high W Q r j (x 0) (x 1) e0 e1 0).trans (by rw [zero_add])
    · refine (Holds.read (pay88 W Q l6 u7 (f := fun _ _ => 0) ?_ h.a) x (x 0) (x 1) rfl rfl).trans ?_
      · intro r j
        pointwise
        exact hz _ j
      · exact (totWo_low W Q r j (x 0) (x 1) e0 e1 0).trans (by rw [zero_add])
  · have hz : Holds (k0_pay27 (F := Ideal)) fun _ _ => 0 := by
      intro r j
      pointwise [k0_pay27]
      rfl
    exact (pay85 hz (pay84 W Q l1 u1 l5 u6) r j).trans (by dsimp only; rw [totWg, zero_add])
  · have hz : Holds (k0_pay28 (F := Ideal)) fun _ _ => 0 := by
      intro r j
      pointwise [k0_pay28]
      rfl
    exact (pay83 W Q l4 u5 hz h.p r j).trans (by dsimp only; rw [totWp, zero_add])

/-- A later point adds its rows' terms to the totals the point before left. -/
theorem step_next (c : Dev nD) (t : Fin cfg0.N) (h0 : ¬t.val % 16 = 0)
    (h : Blk W Q (iblk m c 0 t) (iblk m c 1 t) (iblk m c 2 t) (iblk m c 3 t) (iblk m c 4 t) (iblk m c 5 t) (iblk m c 6 t) (iblk m c 7 t) (iblk m c 8 t) (iblk m c 9 t))
    {pg fg : Fin 1024 → ℝ} {loss : ℝ} {wo wg : Fin 1024 → Fin 1024 → ℝ} {wp : Fin 256 → Fin 1024 → ℝ} (hp)
    (T : Totals (outsAt0 m c (t.val - 1) hp) pg fg loss wo wg wp) :
    Grads W Q (outsAt0 m c t.val t.isLt) ∧ Totals (outsAt0 m c t.val t.isLt) (fun j => pg j + totPg W Q j) (fun j => fg j + totFg W Q j) (loss + totLoss W Q)
      (fun r j => wo r j + totWo W Q r j) (fun r j => wg r j + totWg W Q r j) (fun r j => wp r j + totWp W Q r j) := by
  obtain ⟨l1, l2, l3, l4, l5, l6, l7, l8, l9⟩ := lows W (lower Q) h.low
  obtain ⟨u1, u2, u3, u4, u5, u6, u7, u8, u9, u10⟩ := highs W (upper Q) h.high
  by_cases h1 : t.val % 16 = 15
  on_goal 1 => rw [outsAt0_C m c t h0 h1]
  on_goal 2 => rw [outsAt0_B m c t h0 h1]
  all_goals
    refine ⟨⟨?_, ?_, ?_⟩, ?_, ?_, ?_, ?_, ?_, ?_⟩ <;> intro r j <;> dsimp only <;> frame_out <;> (try simp only [read_unread_whole])
    · canon_tiles x e
      · exact read_upper Q (f := da W) u8 x r j e0 e1
      · exact read_lower Q (f := da W) l7 x r j e0 e1
    · canon_tiles x e
      · exact read_upper Q (f := db W) u9 x r j e0 e1
      · exact read_lower Q (f := db W) l8 x r j e0 e1
    · canon_tiles x e
      · exact read_upper Q (f := dh1 W) u7 x r j e0 e1
      · exact read_lower Q (f := dh1 W) l6 x r j e0 e1
    · exact (pay86 l9 u10 T.pg r j).trans (by dsimp only; rw [totPg, sum_halves Q fun s => drn W s j * n1 W s j])
    · exact (pay67 W (upper Q) l3 u3 T.fg u4 r j).trans (by dsimp only; rw [totFg, sum_halves Q fun s => dy W s j * n2 W s j])
    · exact (pay66 l2 u2 T.loss r j).trans (by dsimp only; rw [totLoss, sum_halves Q fun s => ∑ k, err W s k * err W s k])
    · canon_tiles x e
      · refine (Holds.read (pay89 W Q l6 u7 (f := fun k j => wo ⟨512 + k, by omega⟩ j) ?_ h.b) x (x 0) (x 1) rfl rfl).trans ?_
        · intro r j
          pointwise
          exact T.wo _ j
        · refine (totWo_high W Q r j (x 0) (x 1) e0 e1 _).trans ?_
          rw [show r = ⟨512 + (x 0).val, by omega⟩ from Fin.ext e0, show j = x 1 from Fin.ext e1]
      · refine (Holds.read (pay88 W Q l6 u7 (f := fun k j => wo ⟨k, by omega⟩ j) ?_ h.a) x (x 0) (x 1) rfl rfl).trans ?_
        · intro r j
          pointwise
          exact T.wo _ j
        · refine (totWo_low W Q r j (x 0) (x 1) e0 e1 _).trans ?_
          rw [show r = ⟨(x 0).val, by omega⟩ from Fin.ext e0, show j = x 1 from Fin.ext e1]
    · exact pay85 T.wg (pay84 W Q l1 u1 l5 u6) r j
    · exact pay83 W Q l4 u5 T.wp h.p r j

end Cert.Head
-- ==== Proof.Head.Inputs.lean ====
module

public import proofs.«01_k».proof.Proof.Head.Step

@[expose] public section

set_option maxRecDepth 65536
set_option maxHeartbeats 2000000

noncomputable section

namespace Cert.Head

open Cert.KernelIdeal Cert.KernelIdeal.Gen Cert.Spec
open Idealize.ShloMosaic Idealize.ShloMosaic.TcCoe Idealize.ShloMosaic.Tactic

variable (m : (ℓ : Loc nD τ sig) → Buf (Elt Ideal) ℓ) (c : Dev nD)

/-- The weights the arguments hold. -/
def wts : Wts where
  wo r j := (m ((c : Thread nD τ).loc main_arg5) (ix3 (0 : Fin 1) r j)).toReal
  wg r j := (m ((c : Thread nD τ).loc main_arg6) (ix3 (0 : Fin 1) r j)).toReal
  wp r j := (m ((c : Thread nD τ).loc main_arg7) (ix3 (0 : Fin 1) r j)).toReal
  pg j := (m ((c : Thread nD τ).loc main_arg8) (ix2 (0 : Fin 1) j)).toReal
  fg j := (m ((c : Thread nD τ).loc main_arg9) (ix1 j)).toReal

/-- The rows the arguments hold, the two sequences of 4096 rows one after the other. -/
def row (g : Fin 8192) : Row where
  a k := (m ((c : Thread nD τ).loc main_arg0) (ix3 (⟨g / 4096, by omega⟩ : Fin 2) (⟨g % 4096, by omega⟩ : Fin 4096) k)).toReal
  b k := (m ((c : Thread nD τ).loc main_arg1) (ix3 (⟨g / 4096, by omega⟩ : Fin 2) (⟨g % 4096, by omega⟩ : Fin 4096) k)).toReal
  x k := (m ((c : Thread nD τ).loc main_arg2) (ix3 (⟨g / 4096, by omega⟩ : Fin 2) (⟨g % 4096, by omega⟩ : Fin 4096) k)).toReal
  p k := (m ((c : Thread nD τ).loc main_arg3) (ix4 (0 : Fin 1) (⟨g / 4096, by omega⟩ : Fin 2) (⟨g % 4096, by omega⟩ : Fin 4096) k)).toReal
  y k := (m ((c : Thread nD τ).loc main_arg4) (ix3 (⟨g / 4096, by omega⟩ : Fin 2) (⟨g % 4096, by omega⟩ : Fin 4096) k)).toReal

/-- The rows of a grid point's block. -/
def rows (t : Fin cfg0.N) (s : Fin 512) : Row := row m c ⟨t.val * 512 + s, by have h : t.val < 16 := lt_of_lt_of_eq t.isLt N_0; omega⟩

/-- Every element of the arguments is finite. -/
structure Finite : Prop where
  a i : ((m ((c : Thread nD τ).loc main_arg0) i).toReal : EReal) = m ((c : Thread nD τ).loc main_arg0) i
  b i : ((m ((c : Thread nD τ).loc main_arg1) i).toReal : EReal) = m ((c : Thread nD τ).loc main_arg1) i
  x i : ((m ((c : Thread nD τ).loc main_arg2) i).toReal : EReal) = m ((c : Thread nD τ).loc main_arg2) i
  p i : ((m ((c : Thread nD τ).loc main_arg3) i).toReal : EReal) = m ((c : Thread nD τ).loc main_arg3) i
  y i : ((m ((c : Thread nD τ).loc main_arg4) i).toReal : EReal) = m ((c : Thread nD τ).loc main_arg4) i
  wo i : ((m ((c : Thread nD τ).loc main_arg5) i).toReal : EReal) = m ((c : Thread nD τ).loc main_arg5) i
  wg i : ((m ((c : Thread nD τ).loc main_arg6) i).toReal : EReal) = m ((c : Thread nD τ).loc main_arg6) i
  wp i : ((m ((c : Thread nD τ).loc main_arg7) i).toReal : EReal) = m ((c : Thread nD τ).loc main_arg7) i
  pg i : ((m ((c : Thread nD τ).loc main_arg8) i).toReal : EReal) = m ((c : Thread nD τ).loc main_arg8) i
  fg i : ((m ((c : Thread nD τ).loc main_arg9) i).toReal : EReal) = m ((c : Thread nD τ).loc main_arg9) i

/-- The block each input window reads at a grid point. -/
theorem idx : ∀ t : Fin cfg0.N, (win0_0.index t = ![t.val, 0] ∧ win0_1.index t = ![t.val, 0] ∧ win0_2.index t = ![t.val, 0] ∧ win0_3.index t = ![t.val, 0] ∧ win0_4.index t = ![t.val, 0]) ∧ win0_5.index t = ![0, 0] ∧ win0_6.index t = ![0, 0] ∧ win0_7.index t = ![0, 0] ∧ win0_8.index t = ![0, 0] ∧ win0_9.index t = ![0, 0] := by
  decide +kernel

variable {m c}

theorem Finite.blk (h : Finite m c) (t : Fin cfg0.N) : Blk (wts m c) (rows m c t) (iblk m c 0 t) (iblk m c 1 t) (iblk m c 2 t) (iblk m c 3 t) (iblk m c 4 t) (iblk m c 5 t) (iblk m c 6 t) (iblk m c 7 t) (iblk m c 8 t) (iblk m c 9 t) := by
  refine ⟨fun r j => ?_, fun r j => ?_, fun r j => ?_, fun r j => ?_, fun r j => ?_, fun r j => ?_, fun r j => ?_, fun r j => ?_, fun r j => ?_, fun r j => ?_⟩
  · refine Eq.trans ?_ (h.a _).symm
    blk_ext! [iblk, idx t]
  · refine Eq.trans ?_ (h.b _).symm
    blk_ext! [iblk, idx t]
  · refine Eq.trans ?_ (h.x _).symm
    blk_ext! [iblk, idx t]
  · refine Eq.trans ?_ (h.p _).symm
    blk_ext! [iblk, idx t]
  · refine Eq.trans ?_ (h.y _).symm
    blk_ext! [iblk, idx t]
  · refine Eq.trans ?_ (h.wo _).symm
    blk_ext! [iblk, idx t]
  · refine Eq.trans ?_ (h.wg _).symm
    blk_ext! [iblk, idx t]
  · refine Eq.trans ?_ (h.wp _).symm
    blk_ext! [iblk, idx t]
  · refine Eq.trans ?_ (h.pg _).symm
    blk_ext! [iblk, idx t]
  · refine Eq.trans ?_ (h.fg _).symm
    blk_ext! [iblk, idx t]

end Cert.Head
-- ==== Proof.Head.Copies.lean ====
module

public import proofs.«01_k».proof.Proof.Gen.KernelIdeal.Frame
public import Idealize.ShloMosaic.PureOps.Ideal
public import Idealize.ShloMosaic.Adequacy
public import Idealize.ShloMosaic.Init
public import Idealize.ShloMosaic.Lib.VecWindow
public import Idealize.ShloMosaic.Lib.ValueIdx
public import Idealize.ShloMosaic.Lib.ValueLayout
public import Idealize.ShloMosaic.Lib.Pointwise

@[expose] public section

set_option maxRecDepth 65536
set_option maxHeartbeats 1000000

noncomputable section

namespace Cert.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (Pipeline.UD sig nD τ) ℕ

/-- The word the body compares with one, at a grid coordinate. -/
def lastWord (i : grid0.Coords) : BitVec 32 := Scalar.extui (Scalar.cmpi .eq (BitVec.ofNat 32 (i 0).val) 15#32 : BitVec 1)

/-- Past the first point the body's main part does not depend on the grid coordinate, but for the word it returns. -/
theorem part16_at (i i' : grid0.Coords) (h : ¬cond0_0 i) (h' : ¬cond0_0 i') (arg1 : Memref sig .tc .vmem S512x512 .bf16) (harg1 : arg1.IsWhole) (arg2 : Memref sig .tc .vmem S512x512 .bf16) (harg2 : arg2.IsWhole) (arg3 : Memref sig .tc .vmem S512x1024 .f32) (harg3 : arg3.IsWhole) (arg4 : Memref sig .tc .vmem S512x256 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x1024 .f32) (harg13 : arg13.IsWhole) (arg17 : Memref sig .tc .vmem S1x1024 .f32) (harg17 : arg17.IsWhole) (arg18 : Memref sig .tc .vmem S1x1024 .f32) (harg18 : arg18.IsWhole) (arg19 : Memref sig .tc .vmem S8x128 .f32) (harg19 : arg19.IsWhole) (arg20 : Memref sig .tc .vmem S1024x1024 .f32) (harg20 : arg20.IsWhole) (arg21 : Memref sig .tc .vmem S1024x1024 .f32) (harg21 : arg21.IsWhole) (arg22 : Memref sig .tc .vmem S256x1024 .f32) (harg22 : arg22.IsWhole) (arg23 : Memref sig .tc .vmem S128x1024 .bf16) (harg23 : arg23.IsWhole) (arg24 : Memref sig .tc .vmem S256x128 .bf16) (harg24 : arg24.IsWhole):
    k0_part16 (F := Ideal) i arg1 harg1 arg2 harg2 arg3 harg3 arg4 harg4 arg5 harg5 arg6 harg6 arg7 harg7 arg8 harg8 arg9 harg9 arg10 harg10 arg11 harg11 arg12 harg12 arg13 harg13 (Memref.whole main_v14_3) (Memref.isWhole_whole _) (Memref.whole main_v14_4) (Memref.isWhole_whole _) (Memref.whole main_v14_5) (Memref.isWhole_whole _) arg17 harg17 arg18 harg18 arg19 harg19 arg20 harg20 arg21 harg21 arg22 harg22 arg23 harg23 arg24 harg24 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23
      = k0_part16 (F := Ideal) i' arg1 harg1 arg2 harg2 arg3 harg3 arg4 harg4 arg5 harg5 arg6 harg6 arg7 harg7 arg8 harg8 arg9 harg9 arg10 harg10 arg11 harg11 arg12 harg12 arg13 harg13 (Memref.whole main_v14_3) (Memref.isWhole_whole _) (Memref.whole main_v14_4) (Memref.isWhole_whole _) (Memref.whole main_v14_5) (Memref.isWhole_whole _) arg17 harg17 arg18 harg18 arg19 harg19 arg20 harg20 arg21 harg21 arg22 harg22 arg23 harg23 arg24 harg24 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 >>= fun _ => pure (lastWord i) := by
  have e : ¬ Scalar.cmpi .ne (Scalar.extui (Scalar.cmpi .eq (BitVec.ofNat 32 (i 0).val) 0#32 : BitVec 1) : BitVec 32) 0#32 = 1#1 := h
  have e' : ¬ Scalar.cmpi .ne (Scalar.extui (Scalar.cmpi .eq (BitVec.ofNat 32 (i' 0).val) 0#32 : BitVec 1) : BitVec 32) 0#32 = 1#1 := h'
  rw [k0_part16_eq_skeleton]; unfold k0_part16_skel
  simp only [k0_part9_eq_skeleton, k0_part10_eq_skeleton, k0_part11_eq_skeleton, k0_part12_eq_skeleton, k0_part13_eq_skeleton, k0_part14_eq_skeleton, k0_part15_eq_skeleton]
  unfold k0_part9_skel k0_part10_skel k0_part11_skel k0_part12_skel k0_part13_skel k0_part14_skel k0_part15_skel
  simp only [dif_neg e, dif_neg e', bind_assoc, pure_bind]
  with_unfolding_all rfl

/-- The accumulator of a matrix cut into eight blocks of rows. -/
def rowBlocks (xs : Vec Ideal S1024x1024 .f32) : Vec Ideal S8x128x1024 .bf16 :=
  fun i => xs (ValueIdx.ix2 ⟨128 * (i 0).val + (i 1).val, by have h0 : (i 0).val < 8 := (i 0).isLt; have h1 : (i 1).val < 128 := (i 1).isLt; omega⟩ (i 2))

/-- The accumulator of a matrix cut into eight blocks of columns. -/
def colBlocks (xs : Vec Ideal S256x1024 .f32) : Vec Ideal S8x256x128 .bf16 :=
  fun i => xs (ValueIdx.ix2 (i 1) ⟨128 * (i 0).val + (i 2).val, by have h0 : (i 0).val < 8 := (i 0).isLt; have h1 : (i 2).val < 128 := (i 2).isLt; omega⟩)

/-- Eight blocks that split a buffer, each written with what it reads off a content, leave that content. -/
theorem write_blocks (b : Ref sig .tc) {s' : Shape} (r : Fin 8 → Rect b.ty.shape) (hr : ∀ k a, (r k).stride a = 1) (hq : ∀ k, (r k).shape.Squeezes s')
    (S : b.ty.shape.Idx → Fin 8) (hS : ∀ k i, i ∈ (r k).set ↔ S i = k) (G : b.ty.Contents (Elt Ideal))
    (w : Fin 8 → s'.Idx → Elt Ideal b.ty.elt) (hw : ∀ k, w k = ((((Memref.whole b).slice (r k) (hr k)).squeeze s' (hq k)).view.read (Elt Ideal) G)) (f : b.ty.Contents (Elt Ideal)) :
    (((Memref.whole b).slice (r 7) (hr 7)).squeeze s' (hq 7)).view.write (Elt Ideal)
      ((((Memref.whole b).slice (r 6) (hr 6)).squeeze s' (hq 6)).view.write (Elt Ideal)
      ((((Memref.whole b).slice (r 5) (hr 5)).squeeze s' (hq 5)).view.write (Elt Ideal)
      ((((Memref.whole b).slice (r 4) (hr 4)).squeeze s' (hq 4)).view.write (Elt Ideal)
      ((((Memref.whole b).slice (r 3) (hr 3)).squeeze s' (hq 3)).view.write (Elt Ideal)
      ((((Memref.whole b).slice (r 2) (hr 2)).squeeze s' (hq 2)).view.write (Elt Ideal)
      ((((Memref.whole b).slice (r 1) (hr 1)).squeeze s' (hq 1)).view.write (Elt Ideal)
      ((((Memref.whole b).slice (r 0) (hr 0)).squeeze s' (hq 0)).view.write (Elt Ideal) f (w 0) Finset.univ)
      (w 1) Finset.univ) (w 2) Finset.univ) (w 3) Finset.univ) (w 4) Finset.univ) (w 5) Finset.univ) (w 6) Finset.univ) (w 7) Finset.univ = G := by
  have key : ∀ (k : Fin 8) (g : b.ty.Contents (Elt Ideal)) (i : b.ty.shape.Idx),
      (((Memref.whole b).slice (r k) (hr k)).squeeze s' (hq k)).view.write (Elt Ideal) g (w k) Finset.univ i = if S i = k then G i else g i := by
    intro k g i
    have e := congrFun ((((Memref.whole b).slice (r k) (hr k)).squeeze s' (hq k)).view.write_read_eq_piecewise (Val := Elt Ideal) g G Finset.univ) i
    rw [hw k]; refine e.trans ?_
    have hm : i ∈ (((Memref.whole b).slice (r k) (hr k)).squeeze s' (hq k)).view.setOn Finset.univ ↔ S i = k := by
      rw [View.setOn_univ, Memref.set_view_squeeze, ← hS k i]
      exact iff_of_eq (congrArg (i ∈ ·) (View.set_slice_whole b (r k)))
    by_cases h : S i = k
    · rw [if_pos h]; exact Finset.piecewise_eq_of_mem _ _ _ (hm.mpr h)
    · rw [if_neg h]; exact Finset.piecewise_eq_of_notMem _ _ _ (fun x => h (hm.mp x))
  funext i
  rw [key 7, key 6, key 5, key 4, key 3, key 2, key 1, key 0]
  generalize S i = n
  fin_cases n <;> rfl

theorem mem_block3 (p q : Nat) (k : ℕ) (inb : ∀ a, (![k, 0, 0] : Fin 3 → ℕ) a + (![1, p, q] : Fin 3 → ℕ) a ≤ (⟨3, ![8, p, q]⟩ : Shape).size a)
    (i : (⟨3, ![8, p, q]⟩ : Shape).Idx) :
    i ∈ (Rect.unit (s := ⟨3, ![8, p, q]⟩) ![k, 0, 0] ![1, p, q] inb).set ↔ (i 0).val = k := by
  constructor
  · intro h
    rw [← Rect.map_emb_univ] at h
    obtain ⟨x, -, rfl⟩ := Finset.mem_map.mp h
    have : (x 0).val < 1 := (x 0).isLt
    show k + 1 * (x 0).val = k
    omega
  · intro h
    rw [← Rect.map_emb_univ]
    refine Finset.mem_map.mpr ⟨fun a => match a with | ⟨0, _⟩ => ⟨0, Nat.one_pos⟩ | ⟨1, _⟩ => i 1 | ⟨2, _⟩ => i 2, Finset.mem_univ _, ?_⟩
    funext a; apply Fin.ext
    match a with
    | ⟨0, _⟩ => show k + 1 * 0 = (i 0).val; omega
    | ⟨1, _⟩ => show 0 + 1 * (i 1).val = (i 1).val; omega
    | ⟨2, _⟩ => show 0 + 1 * (i 2).val = (i 2).val; omega

/-- A block of rows of the accumulator is the block of that number. -/
theorem rows_read (xs : Vec Ideal S1024x1024 .f32) (n k : ℕ) (inb : ∀ a, (![n, 0] : Fin 2 → ℕ) a + S128x1024.size a ≤ S1024x1024.size a)
    (inb' : ∀ a, (![k, 0, 0] : Fin 3 → ℕ) a + S1x128x1024.size a ≤ S8x128x1024.size a) (h : S128x1024.numel = S128x1024.numel)
    (hc : S1x128x1024.ShapeCasts S128x1024) (j : S128x1024.Idx) (hn : n = 128 * k) :
    xs ((Rect.unit (s := S1024x1024) ![n, 0] S128x1024.size inb).idx (Shape.reshapeEquiv h j))
      = shapeCast S128x1024 (fun x => rowBlocks xs ((Rect.unit (s := S8x128x1024) ![k, 0, 0] S1x128x1024.size inb').toLoadRect.idx x)) hc j := by
  rw [Shape.reshapeEquiv_self, ValueIdx.eq_ix2 j]
  refine Eq.trans ?_ (ValueIdx.shapeCast_1ab_ab_apply _ _ _ _).symm
  refine congrArg xs ?_
  funext a; apply Fin.ext
  match a with
  | ⟨0, _⟩ => show n + 1 * (j 0).val = 128 * (k + 1 * 0) + (0 + 1 * (j 0).val); omega
  | ⟨1, _⟩ => rfl

/-- A block of columns of the accumulator is the block of that number. -/
theorem cols_read (xs : Vec Ideal S256x1024 .f32) (n k : ℕ) (inb : ∀ a, (![0, n] : Fin 2 → ℕ) a + S256x128.size a ≤ S256x1024.size a)
    (inb' : ∀ a, (![k, 0, 0] : Fin 3 → ℕ) a + S1x256x128.size a ≤ S8x256x128.size a) (h : S256x128.numel = S256x128.numel)
    (hc : S1x256x128.ShapeCasts S256x128) (j : S256x128.Idx) (hn : n = 128 * k) :
    xs ((Rect.unit (s := S256x1024) ![0, n] S256x128.size inb).idx (Shape.reshapeEquiv h j))
      = shapeCast S256x128 (fun x => colBlocks xs ((Rect.unit (s := S8x256x128) ![k, 0, 0] S1x256x128.size inb').toLoadRect.idx x)) hc j := by
  rw [Shape.reshapeEquiv_self, ValueIdx.eq_ix2 j]
  refine Eq.trans ?_ (ValueIdx.shapeCast_1ab_ab_apply _ _ _ _).symm
  refine congrArg xs ?_
  funext a; apply Fin.ext
  match a with
  | ⟨0, _⟩ => rfl
  | ⟨1, _⟩ => show n + 1 * (j 1).val = 128 * (k + 1 * 0) + (0 + 1 * (j 1).val); omega

/-- What the body does after its main part at the last point: it copies the three accumulators out, eight blocks each. -/
theorem tail_run (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .f32) (harg3 : arg3.IsWhole) (arg4 : Memref sig .tc .vmem S512x256 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x1024 .f32) (harg13 : arg13.IsWhole) (arg17 : Memref sig .tc .vmem S1x1024 .f32) (harg17 : arg17.IsWhole) (arg18 : Memref sig .tc .vmem S1x1024 .f32) (harg18 : arg18.IsWhole) (arg19 : Memref sig .tc .vmem S8x128 .f32) (harg19 : arg19.IsWhole) (arg20 : Memref sig .tc .vmem S1024x1024 .f32) (harg20 : arg20.IsWhole) (arg21 : Memref sig .tc .vmem S1024x1024 .f32) (harg21 : arg21.IsWhole) (arg22 : Memref sig .tc .vmem S256x1024 .f32) (harg22 : arg22.IsWhole) (arg23 : Memref sig .tc .vmem S128x1024 .bf16) (harg23 : arg23.IsWhole) (arg24 : Memref sig .tc .vmem S256x128 .bf16) (harg24 : arg24.IsWhole):
    ∃ T : BitVec 32 → Prog (TpuEff nD τ sig (Elt Ideal) Λ₀ .tc) PUnit,
      cc0_head_fwd_bwd (F := Ideal) i arg1 harg1 arg2 harg2 arg3 harg3 arg4 harg4 arg5 harg5 arg6 harg6 arg7 harg7 arg8 harg8 arg9 harg9 arg10 harg10 arg11 harg11 arg12 harg12 arg13 harg13 (Memref.whole main_v14_3) (Memref.isWhole_whole _) (Memref.whole main_v14_4) (Memref.isWhole_whole _) (Memref.whole main_v14_5) (Memref.isWhole_whole _) arg17 harg17 arg18 harg18 arg19 harg19 arg20 harg20 arg21 harg21 arg22 harg22 arg23 harg23 arg24 harg24 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 = k0_part16 (F := Ideal) i arg1 harg1 arg2 harg2 arg3 harg3 arg4 harg4 arg5 harg5 arg6 harg6 arg7 harg7 arg8 harg8 arg9 harg9 arg10 harg10 arg11 harg11 arg12 harg12 arg13 harg13 (Memref.whole main_v14_3) (Memref.isWhole_whole _) (Memref.whole main_v14_4) (Memref.isWhole_whole _) (Memref.whole main_v14_5) (Memref.isWhole_whole _) arg17 harg17 arg18 harg18 arg19 harg19 arg20 harg20 arg21 harg21 arg22 harg22 arg23 harg23 arg24 harg24 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 >>= T
      ∧ T 0#32 = pure ⟨⟩
      ∧ ∀ (W : Waits sig Unit) (K : PUnit → sProp 𝕄) (xs0 xs1 : Vec Ideal S1024x1024 .f32) (xs2 : Vec Ideal S256x1024 .f32),
        iprop(owns (c : Thread nD τ) arg20 fullShare xs0 ∗ owns (c : Thread nD τ) arg21 fullShare xs1 ∗ owns (c : Thread nD τ) arg22 fullShare xs2 ∗ (∃ d, owns (c : Thread nD τ) arg23 fullShare d) ∗ (∃ d, owns (c : Thread nD τ) arg24 fullShare d) ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ (∃ f, hbPt0 c hbM0_0 f) ∗ (∃ f, hbPt0 c hbM0_1 f) ∗ (∃ f, hbPt0 c hbM0_2 f) ∗ owes (c : Thread nD τ) 0 W
            ∗ (iprop(hbPt0 c hbM0_0 (rowBlocks xs0) ∗ hbPt0 c hbM0_1 (rowBlocks xs1) ∗ hbPt0 c hbM0_2 (colBlocks xs2) ∗ (∃ W', owes (c : Thread nD τ) 0 W') ∗ (∃ d, owns (c : Thread nD τ) arg23 fullShare d) ∗ (∃ d, owns (c : Thread nD τ) arg24 fullShare d) ∗ owns (c : Thread nD τ) arg20 fullShare xs0 ∗ owns (c : Thread nD τ) arg21 fullShare xs1 ∗ owns (c : Thread nD τ) arg22 fullShare xs2 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0) -∗ K ⟨⟩))
          ⊢ wp frame (wpE (defs₀ (F := Ideal)) Variants.none c none) Set.univ (T 1#32) K := by
  refine ⟨?T, ?a, ?b, ?c⟩
  case a => rw [cc0_head_fwd_bwd_eq_skeleton]; unfold cc0_head_fwd_bwd_skel; exact rfl
  case b => rfl
  case c =>
    intro W K xs0 xs1 xs2
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%fs0, %hfs0, HS0⟩, ⟨%fs1, %hfs1, HS1⟩, ⟨%fs2, %hfs2, HS2⟩, ⟨%ds3, %fs3, -, HS3⟩, ⟨%ds4, %fs4, -, HS4⟩, Hq0, Hq1, Hq2, Hq3, Hq4, Hq5, Hq6, Hq7, Hq8, Hq9, Hq10, Hq11, Hq12, Hq13, Hq14, Hq15, Hq16, Hq17, Hq18, Hq19, Hq20, Hq21, Hq22, Hq23, ⟨%fw0, Hh0⟩, ⟨%fw1, Hh1⟩, ⟨%fw2, Hh2⟩, HW, Hk⟩
    obtain rfl := harg20.eq_unread hfs0; obtain rfl := harg21.eq_unread hfs1; obtain rfl := harg22.eq_unread hfs2
    sl_exec
    sl_step
    have e0 := write_blocks main_v14_3 (fun k => Rect.unit ![k.val, 0, 0] S1x128x1024.size (by intro a; fin_cases k <;> fin_cases a <;> decide)) (fun _ _ => rfl)
      (fun _ => squeezes_S1x128x1024_S128x1024) (fun i => i 0) (fun k i => (mem_block3 128 1024 k.val _ i).trans Fin.ext_iff.symm) (rowBlocks xs0)
      (fun k => match k with
        | 0 => _root_.Cert.Head.tail_run.sl.dma3 c arg20 harg20 arg23 xs0 fs3
        | 1 => _root_.Cert.Head.tail_run.sl.dma12 c arg20 harg20 arg21 harg21 arg23 xs0 xs1 fs3
        | 2 => _root_.Cert.Head.tail_run.sl.dma21 c arg20 harg20 arg21 harg21 arg23 xs0 xs1 fs3
        | 3 => _root_.Cert.Head.tail_run.sl.dma30 c arg20 harg20 arg21 harg21 arg23 xs0 xs1 fs3
        | 4 => _root_.Cert.Head.tail_run.sl.dma39 c arg20 harg20 arg21 harg21 arg23 xs0 xs1 fs3
        | 5 => _root_.Cert.Head.tail_run.sl.dma48 c arg20 harg20 arg21 harg21 arg23 xs0 xs1 fs3
        | 6 => _root_.Cert.Head.tail_run.sl.dma57 c arg20 harg20 arg21 harg21 arg23 xs0 xs1 fs3
        | 7 => _root_.Cert.Head.tail_run.sl.dma66 c arg20 harg20 arg21 harg21 arg23 xs0 xs1 fs3)
      (by
        intro k
        fin_cases k
        all_goals
          refine (View.read_writes_full _ _ _ _ _).trans ?_
          refine Eq.trans ?_ (Memref.read_squeeze_slice (Memref.whole main_v14_3) _ _ _ (by decide) _).symm
          funext j
          refine (congrFun (harg20.read_unread xs0) _).trans ?_
          exact rows_read _ _ _ _ _ _ _ j rfl) fw0
    have e1 := write_blocks main_v14_4 (fun k => Rect.unit ![k.val, 0, 0] S1x128x1024.size (by intro a; fin_cases k <;> fin_cases a <;> decide)) (fun _ _ => rfl)
      (fun _ => squeezes_S1x128x1024_S128x1024) (fun i => i 0) (fun k i => (mem_block3 128 1024 k.val _ i).trans Fin.ext_iff.symm) (rowBlocks xs1)
      (fun k => match k with
        | 0 => _root_.Cert.Head.tail_run.sl.dma6 c arg20 harg20 arg21 harg21 arg23 xs0 xs1 fs3
        | 1 => _root_.Cert.Head.tail_run.sl.dma15 c arg20 harg20 arg21 harg21 arg23 xs0 xs1 fs3
        | 2 => _root_.Cert.Head.tail_run.sl.dma24 c arg20 harg20 arg21 harg21 arg23 xs0 xs1 fs3
        | 3 => _root_.Cert.Head.tail_run.sl.dma33 c arg20 harg20 arg21 harg21 arg23 xs0 xs1 fs3
        | 4 => _root_.Cert.Head.tail_run.sl.dma42 c arg20 harg20 arg21 harg21 arg23 xs0 xs1 fs3
        | 5 => _root_.Cert.Head.tail_run.sl.dma51 c arg20 harg20 arg21 harg21 arg23 xs0 xs1 fs3
        | 6 => _root_.Cert.Head.tail_run.sl.dma60 c arg20 harg20 arg21 harg21 arg23 xs0 xs1 fs3
        | 7 => _root_.Cert.Head.tail_run.sl.dma69 c arg20 harg20 arg21 harg21 arg23 xs0 xs1 fs3)
      (by
        intro k
        fin_cases k
        all_goals
          refine (View.read_writes_full _ _ _ _ _).trans ?_
          refine Eq.trans ?_ (Memref.read_squeeze_slice (Memref.whole main_v14_4) _ _ _ (by decide) _).symm
          funext j
          refine (congrFun (harg21.read_unread xs1) _).trans ?_
          exact rows_read _ _ _ _ _ _ _ j rfl) fw1
    have e2 := write_blocks main_v14_5 (fun k => Rect.unit ![k.val, 0, 0] S1x256x128.size (by intro a; fin_cases k <;> fin_cases a <;> decide)) (fun _ _ => rfl)
      (fun _ => squeezes_S1x256x128_S256x128) (fun i => i 0) (fun k i => (mem_block3 256 128 k.val _ i).trans Fin.ext_iff.symm) (colBlocks xs2)
      (fun k => match k with
        | 0 => _root_.Cert.Head.tail_run.sl.dma9 c arg22 harg22 arg24 xs2 fs4
        | 1 => _root_.Cert.Head.tail_run.sl.dma18 c arg22 harg22 arg24 xs2 fs4
        | 2 => _root_.Cert.Head.tail_run.sl.dma27 c arg22 harg22 arg24 xs2 fs4
        | 3 => _root_.Cert.Head.tail_run.sl.dma36 c arg22 harg22 arg24 xs2 fs4
        | 4 => _root_.Cert.Head.tail_run.sl.dma45 c arg22 harg22 arg24 xs2 fs4
        | 5 => _root_.Cert.Head.tail_run.sl.dma54 c arg22 harg22 arg24 xs2 fs4
        | 6 => _root_.Cert.Head.tail_run.sl.dma63 c arg22 harg22 arg24 xs2 fs4
        | 7 => _root_.Cert.Head.tail_run.sl.dma72 c arg22 harg22 arg24 xs2 fs4)
      (by
        intro k
        fin_cases k
        all_goals
          refine (View.read_writes_full _ _ _ _ _).trans ?_
          refine Eq.trans ?_ (Memref.read_squeeze_slice (Memref.whole main_v14_5) _ _ _ (by decide) _).symm
          funext j
          refine (congrFun (harg22.read_unread xs2) _).trans ?_
          exact cols_read _ _ _ _ _ _ _ j rfl) fw2
    iapply Hk
    isplitl [Hh0]; · rw [← e0]; iexact Hh0
    isplitl [Hh1]; · rw [← e1]; iexact Hh1
    isplitl [Hh2]; · rw [← e2]; iexact Hh2
    clear e0 e1 e2
    isplitl [HW]; · iexists _; iexact HW
    isplitl [HS3]
    · iexists _, _; isplitr; swap; · iexact HS3
      ipureintro; rfl
    isplitl [HS4]
    · iexists _, _; isplitr; swap; · iexact HS4
      ipureintro; rfl
    isplitl [HS0]
    · iexists _; isplitr; · ipureintro; exact harg20.read_unread _
      iexact HS0
    isplitl [HS1]
    · iexists _; isplitr; · ipureintro; exact harg21.read_unread _
      iexact HS1
    isplitl [HS2]
    · iexists _; isplitr; · ipureintro; exact harg22.read_unread _
      iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    iexact Hq23

end Cert.Head

end
-- ==== Proof.Head.Last.lean ====
module

public import proofs.«01_k».proof.Proof.Gen.KernelIdeal.Frame
public import proofs.«01_k».proof.Proof.Head.Copies
public import Idealize.ShloMosaic.Lib.Pipeline.FrameValue
public import Idealize.ShloMosaic.PureOps.Ideal
public import Idealize.ShloMosaic.Adequacy
public import Idealize.ShloMosaic.Init
public import Idealize.ShloMosaic.Lib.VecWindow
public import Idealize.ShloMosaic.Lib.ValueIdx
public import Idealize.ShloMosaic.Lib.ValueLayout
public import Idealize.ShloMosaic.Lib.Pointwise

@[expose] public section

set_option maxRecDepth 65536
set_option maxHeartbeats 1000000

noncomputable section

namespace Cert.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

/-- The last point leaves what an inner point would leave on the same blocks. -/
theorem last_eq (c : Dev nD) (i i' : grid0.Coords) (arg1 : Memref sig .tc .vmem S512x512 .bf16) (harg1 : arg1.IsWhole) (arg2 : Memref sig .tc .vmem S512x512 .bf16) (harg2 : arg2.IsWhole) (arg3 : Memref sig .tc .vmem S512x1024 .f32) (harg3 : arg3.IsWhole) (arg4 : Memref sig .tc .vmem S512x256 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x1024 .f32) (harg13 : arg13.IsWhole) (arg17 : Memref sig .tc .vmem S1x1024 .f32) (harg17 : arg17.IsWhole) (arg18 : Memref sig .tc .vmem S1x1024 .f32) (harg18 : arg18.IsWhole) (arg19 : Memref sig .tc .vmem S8x128 .f32) (harg19 : arg19.IsWhole) (arg20 : Memref sig .tc .vmem S1024x1024 .f32) (harg20 : arg20.IsWhole) (arg21 : Memref sig .tc .vmem S1024x1024 .f32) (harg21 : arg21.IsWhole) (arg22 : Memref sig .tc .vmem S256x1024 .f32) (harg22 : arg22.IsWhole) (arg23 : Memref sig .tc .vmem S128x1024 .bf16) (harg23 : arg23.IsWhole) (arg24 : Memref sig .tc .vmem S256x128 .bf16) (harg24 : arg24.IsWhole) (hc0 : ¬cond0_0 i) (hc1 : cond0_1 i) (hc0' : ¬cond0_0 i') (hc1' : ¬cond0_1 i')
    (x0 : Vec Ideal S512x512 .bf16) (x1 : Vec Ideal S512x512 .bf16) (x2 : Vec Ideal S512x1024 .f32) (x3 : Vec Ideal S512x256 .f32) (x4 : Vec Ideal S512x1024 .f32) (x5 : Vec Ideal S1024x1024 .bf16) (x6 : Vec Ideal S1024x1024 .bf16) (x7 : Vec Ideal S256x1024 .bf16) (x8 : Vec Ideal S1x1024 .f32) (x9 : Vec Ideal S1x1024 .f32) (xo13 : Vec Ideal S1x1024 .f32) (xo14 : Vec Ideal S1x1024 .f32) (xo15 : Vec Ideal S8x128 .f32) (xs0 : Vec Ideal S1024x1024 .f32) (xs1 : Vec Ideal S1024x1024 .f32) (xs2 : Vec Ideal S256x1024 .f32) :
    out0_C_10 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 xo13 xo14 xo15 xs0 xs1 xs2 = out0_B_10 (F := Ideal) c i' arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0' hc1' x0 x1 x2 x3 x4 x5 x6 x7 x8 x9 xo13 xo14 xo15 xs0 xs1 xs2
    ∧ out0_C_11 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 xo13 xo14 xo15 xs0 xs1 xs2 = out0_B_11 (F := Ideal) c i' arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0' hc1' x0 x1 x2 x3 x4 x5 x6 x7 x8 x9 xo13 xo14 xo15 xs0 xs1 xs2
    ∧ out0_C_12 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 xo13 xo14 xo15 xs0 xs1 xs2 = out0_B_12 (F := Ideal) c i' arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0' hc1' x0 x1 x2 x3 x4 x5 x6 x7 x8 x9 xo13 xo14 xo15 xs0 xs1 xs2
    ∧ out0_C_13 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 xo13 xo14 xo15 xs0 xs1 xs2 = out0_B_13 (F := Ideal) c i' arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0' hc1' x0 x1 x2 x3 x4 x5 x6 x7 x8 x9 xo13 xo14 xo15 xs0 xs1 xs2
    ∧ out0_C_14 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 xo13 xo14 xo15 xs0 xs1 xs2 = out0_B_14 (F := Ideal) c i' arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0' hc1' x0 x1 x2 x3 x4 x5 x6 x7 x8 x9 xo13 xo14 xo15 xs0 xs1 xs2
    ∧ out0_C_15 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 xo13 xo14 xo15 xs0 xs1 xs2 = out0_B_15 (F := Ideal) c i' arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0' hc1' x0 x1 x2 x3 x4 x5 x6 x7 x8 x9 xo13 xo14 xo15 xs0 xs1 xs2
    ∧ sout0_C_0 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 xo13 xo14 xo15 xs0 xs1 xs2 = sout0_B_0 (F := Ideal) c i' arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0' hc1' x0 x1 x2 x3 x4 x5 x6 x7 x8 x9 xo13 xo14 xo15 xs0 xs1 xs2
    ∧ sout0_C_1 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 xo13 xo14 xo15 xs0 xs1 xs2 = sout0_B_1 (F := Ideal) c i' arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0' hc1' x0 x1 x2 x3 x4 x5 x6 x7 x8 x9 xo13 xo14 xo15 xs0 xs1 xs2
    ∧ sout0_C_2 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 xo13 xo14 xo15 xs0 xs1 xs2 = sout0_B_2 (F := Ideal) c i' arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0' hc1' x0 x1 x2 x3 x4 x5 x6 x7 x8 x9 xo13 xo14 xo15 xs0 xs1 xs2 := by
  refine ⟨?_, ?_, ?_, ?_, ?_, ?_, ?_, ?_, ?_⟩
  all_goals rfl

variable (m : (ℓ : Loc nD τ sig) → Buf (Elt Ideal) ℓ)

/-- The last grid point and the one before it. -/
abbrev tLast : Fin cfg0.N := ⟨15, by rw [show cfg0.N = 16 from N_0]; omega⟩
abbrev tPrev : Fin cfg0.N := ⟨14, by rw [show cfg0.N = 16 from N_0]; omega⟩

/-- What the three results written by the body's own copies hold at the end. -/
def G (c : Dev nD) : (b : Ref sig .tc) → Buf (Elt Ideal) ((c.tc : Thread nD τ).loc b) :=
  Function.update (Function.update (Function.update (V m c) main_v14_3 (rowBlocks (outsAt0 m c 15 tLast.isLt).2.2.2.2.2.2.1))
    main_v14_4 (rowBlocks (outsAt0 m c 15 tLast.isLt).2.2.2.2.2.2.2.1)) main_v14_5 (colBlocks (outsAt0 m c 15 tLast.isLt).2.2.2.2.2.2.2.2)

/-- The invariant after the last point, conjunct by conjunct. -/
theorem PhiDRG0_eq (c : Dev nD) :
    (Pipeline.ΦDRG osem0 spec0 H0 R0 (V m) (G m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0) ∗ iprop(emp)
        ∗ iprop(hbPt0 c hbM0_0 (rowBlocks (outsAt0 m c 15 tLast.isLt).2.2.2.2.2.2.1) ∗ hbPt0 c hbM0_1 (rowBlocks (outsAt0 m c 15 tLast.isLt).2.2.2.2.2.2.2.1) ∗ hbPt0 c hbM0_2 (colBlocks (outsAt0 m c 15 tLast.isLt).2.2.2.2.2.2.2.2))) := by
  have e : (Pipeline.routed R0 c (G m c) : sProp 𝕄)
      = iprop(hbPt0 c hbM0_0 (rowBlocks (outsAt0 m c 15 tLast.isLt).2.2.2.2.2.2.1) ∗ hbPt0 c hbM0_1 (rowBlocks (outsAt0 m c 15 tLast.isLt).2.2.2.2.2.2.2.1) ∗ hbPt0 c hbM0_2 (colBlocks (outsAt0 m c 15 tLast.isLt).2.2.2.2.2.2.2.2)) := by
    unfold Pipeline.routed G; rw [BI.bigSep_eq_bigSepL_of_eq [main_v14_3, main_v14_4, main_v14_5] (by decide) (by decide)]
    simp only [BI.bigSepL_cons_cons, BI.bigSepL_singleton, Function.update_self,
      Function.update_of_ne (show main_v14_3 ≠ main_v14_5 by decide), Function.update_of_ne (show main_v14_3 ≠ main_v14_4 by decide),
      Function.update_of_ne (show main_v14_4 ≠ main_v14_5 by decide)]
    rfl
  rw [Pipeline.ΦDRG_eq, scopedRest0_eq, ownSems00_eq, hbmPts0_eq, e]; simp only [scM0_0, scM0_1, scM0_2, scM0_3, scM0_4, owns_whole]; try rfl

/-- The invariant: the generated one, and after the last point the written results at their contents. -/
def PhiG (c : Dev nD) (t : Fin (cfg0.N + 1)) : sProp 𝕄 :=
  if t.val = 16 then Pipeline.ΦDRG osem0 spec0 H0 R0 (V m) (G m) c else (dats m 0 c).Φ t

/-- The proof data with that invariant. -/
def datsG (_ : Fin 1) (c : Dev nD) : Dat τ (Elt Ideal) Unit ℕ (Pipeline.UD sig nD τ) ℕ cfg0 c := { dats m 0 c with Φ := PhiG m c }

theorem lastWord_last : lastWord (grid0.coords tLast) = 1#32 := by
  have h : (grid0.coords tLast 0).val = 15 := by
    rw [show (grid0.coords tLast 0).val = tLast.val / 1 % 16 from Pipeline.Grid.coords_val tLast 0 (by decide) rfl]; rfl
  unfold lastWord; rw [h]; decide
theorem lastWord_prev : lastWord (grid0.coords tPrev) = 0#32 := by
  have h : (grid0.coords tPrev 0).val = 14 := by
    rw [show (grid0.coords tPrev 0).val = tPrev.val / 1 % 16 from Pipeline.Grid.coords_val tPrev 0 (by decide) rfl]; rfl
  unfold lastWord; rw [h]; decide

set_option maxHeartbeats 4000000 in
/-- The body at the last point: it runs as at an inner point, and then copies the accumulators out. -/
theorem sound_last (c : Dev nD) :
    bodyPre m c tLast ⊢ wp frame (wpE (defs₀ (F := Ideal)) Variants.none c none) Set.univ (bodyAt0 tLast)
      (fun _ => iprop(Pipeline.ΦDRG osem0 spec0 H0 R0 (V m) (G m) c ∗ (dats m 0 c).owesAt () tLast.succ
    ∗ owns (c : Thread nD τ) (ms0_0 tLast) fullShare ((dats m 0 c).after 0 tLast)
    ∗ owns (c : Thread nD τ) (ms0_1 tLast) fullShare ((dats m 0 c).after 1 tLast)
    ∗ owns (c : Thread nD τ) (ms0_2 tLast) fullShare ((dats m 0 c).after 2 tLast)
    ∗ owns (c : Thread nD τ) (ms0_3 tLast) fullShare ((dats m 0 c).after 3 tLast)
    ∗ owns (c : Thread nD τ) (ms0_4 tLast) fullShare ((dats m 0 c).after 4 tLast)
    ∗ owns (c : Thread nD τ) (ms0_5 tLast) fullShare ((dats m 0 c).after 5 tLast)
    ∗ owns (c : Thread nD τ) (ms0_6 tLast) fullShare ((dats m 0 c).after 6 tLast)
    ∗ owns (c : Thread nD τ) (ms0_7 tLast) fullShare ((dats m 0 c).after 7 tLast)
    ∗ owns (c : Thread nD τ) (ms0_8 tLast) fullShare ((dats m 0 c).after 8 tLast)
    ∗ owns (c : Thread nD τ) (ms0_9 tLast) fullShare ((dats m 0 c).after 9 tLast)
    ∗ owns (c : Thread nD τ) (ms0_10 tLast) fullShare ((dats m 0 c).after 10 tLast)
    ∗ owns (c : Thread nD τ) (ms0_11 tLast) fullShare ((dats m 0 c).after 11 tLast)
    ∗ owns (c : Thread nD τ) (ms0_12 tLast) fullShare ((dats m 0 c).after 12 tLast)
    ∗ owns (c : Thread nD τ) (ms0_13 tLast) fullShare ((dats m 0 c).after 13 tLast)
    ∗ owns (c : Thread nD τ) (ms0_14 tLast) fullShare ((dats m 0 c).after 14 tLast)
    ∗ owns (c : Thread nD τ) (ms0_15 tLast) fullShare ((dats m 0 c).after 15 tLast))) := by
  have h0 : ¬tLast.val % 16 = 0 := by decide
  have h1 : tLast.val % 16 = 15 := by decide
  have c0 : ¬cond0_0 (grid0.coords tLast) := fun h => h0 ((hcond0_0 tLast).mp h)
  have c0' : ¬cond0_0 (grid0.coords tPrev) := fun h => absurd ((hcond0_0 tPrev).mp h) (by decide)
  have c1' : ¬cond0_1 (grid0.coords tPrev) := fun h => absurd ((hcond0_1 tPrev).mp h) (by decide)
  unfold bodyPre bodyAt0
  simp only [before0_0, before0_1, before0_2, before0_3, before0_4, before0_5, before0_6, before0_7, before0_8, before0_9]
  rw [PhiDRG0_eq, after0_0, after0_1, after0_2, after0_3, after0_4, after0_5, after0_6, after0_7, after0_8, after0_9, after0_10, after0_11, after0_12, after0_13, after0_14, after0_15]
  unfold Dat.owesAt Pipeline.owesWithin
  rw [show (dats m 0 c).owed tLast.castSucc = 0 from rfl, show (dats m 0 c).owed tLast.succ = 0 from rfl]
  rw [PhiS_castSucc m c tLast, PhiS_pos m c _ _ (by decide)]
  rw [show outsAt0 m c 15 tLast.isLt = outsAt0 m c tLast.val tLast.isLt from rfl, outsAt0_C m c tLast h0 h1]
  simp only [before0_13_C m c tLast h0 h1, before0_14_C m c tLast h0 h1, before0_15_C m c tLast h0 h1]
  have c1 : cond0_1 (grid0.coords tLast) := (hcond0_1 tLast).mpr h1
  obtain ⟨T, eT, -, hT⟩ := tail_run c (grid0.coords tLast) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) (ms0_6 tLast) (hs0_6 tLast) (ms0_7 tLast) (hs0_7 tLast) (ms0_8 tLast) (hs0_8 tLast) (ms0_9 tLast) (hs0_9 tLast) (ms0_10 tLast) (hs0_10 tLast) (ms0_11 tLast) (hs0_11 tLast) (ms0_12 tLast) (hs0_12 tLast) (ms0_13 tLast) (hs0_13 tLast) (ms0_14 tLast) (hs0_14 tLast) (ms0_15 tLast) (hs0_15 tLast) scM0_0 (Memref.isWhole_whole _) scM0_1 (Memref.isWhole_whole _) scM0_2 (Memref.isWhole_whole _) scM0_3 (Memref.isWhole_whole _) scM0_4 (Memref.isWhole_whole _)
  obtain ⟨T', eT', eT0', -⟩ := tail_run c (grid0.coords tPrev) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) (ms0_6 tLast) (hs0_6 tLast) (ms0_7 tLast) (hs0_7 tLast) (ms0_8 tLast) (hs0_8 tLast) (ms0_9 tLast) (hs0_9 tLast) (ms0_10 tLast) (hs0_10 tLast) (ms0_11 tLast) (hs0_11 tLast) (ms0_12 tLast) (hs0_12 tLast) (ms0_13 tLast) (hs0_13 tLast) (ms0_14 tLast) (hs0_14 tLast) (ms0_15 tLast) (hs0_15 tLast) scM0_0 (Memref.isWhole_whole _) scM0_1 (Memref.isWhole_whole _) scM0_2 (Memref.isWhole_whole _) scM0_3 (Memref.isWhole_whole _) scM0_4 (Memref.isWhole_whole _)
  rw [part16_at _ (grid0.coords tPrev) c0 c0', lastWord_last, bind_assoc] at eT
  rw [part16_at _ (grid0.coords tLast) c0' c0, lastWord_prev, part16_at _ (grid0.coords tPrev) c0 c0'] at eT'
  simp only [bind_assoc, pure_bind, eT0'] at eT eT'
  have hbody := congrArg (fun p => p >>= fun _ => T 1#32) eT'
  simp only [bind_assoc, pure_bind] at hbody
  rw [eT, ← hbody, wp_bind]
  clear hbody eT eT' eT0' T'
  obtain ⟨e10, e11, e12, e13, e14, e15, es0, es1, es2⟩ := last_eq c (grid0.coords tLast) (grid0.coords tPrev) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) (ms0_6 tLast) (hs0_6 tLast) (ms0_7 tLast) (hs0_7 tLast) (ms0_8 tLast) (hs0_8 tLast) (ms0_9 tLast) (hs0_9 tLast) (ms0_10 tLast) (hs0_10 tLast) (ms0_11 tLast) (hs0_11 tLast) (ms0_12 tLast) (hs0_12 tLast) (ms0_13 tLast) (hs0_13 tLast) (ms0_14 tLast) (hs0_14 tLast) (ms0_15 tLast) (hs0_15 tLast) scM0_0 (Memref.isWhole_whole _) scM0_1 (Memref.isWhole_whole _) scM0_2 (Memref.isWhole_whole _) scM0_3 (Memref.isWhole_whole _) scM0_4 (Memref.isWhole_whole _) c0 c1 c0' c1'
    (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast)
    (outsAt0 m c (15 - 1) (lt_of_le_of_lt (Nat.sub_le _ _) tLast.isLt)).2.2.2.1 (outsAt0 m c (15 - 1) (lt_of_le_of_lt (Nat.sub_le _ _) tLast.isLt)).2.2.2.2.1
    (outsAt0 m c (15 - 1) (lt_of_le_of_lt (Nat.sub_le _ _) tLast.isLt)).2.2.2.2.2.1 (outsAt0 m c (15 - 1) (lt_of_le_of_lt (Nat.sub_le _ _) tLast.isLt)).2.2.2.2.2.2.1
    (outsAt0 m c (15 - 1) (lt_of_le_of_lt (Nat.sub_le _ _) tLast.isLt)).2.2.2.2.2.2.2.1 (outsAt0 m c (15 - 1) (lt_of_le_of_lt (Nat.sub_le _ _) tLast.isLt)).2.2.2.2.2.2.2.2
  try dsimp only
  rw [e10, e11, e12, e13, e14, e15, es0, es1, es2]
  clear e10 e11 e12 e13 e14 e15 es0 es1 es2
  iintro ⟨⟨⟨HS0, HS1, HS2, HS3, HS4⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, -, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun0_B c (grid0.coords tPrev) _ _ _ _ _ _ _ _ _ _ _ _ _ _ _ _ _ _ _ _ _ _ _ _ _ _ _ _ _ _ _ _ _ _ _ _ _ _ _ _ _ _ c0' c1' (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) _ _ _ _ _ _).2.2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hh0]; · iexact Hh0
  isplitl [Hh1]; · iexact Hh1
  isplitl [Hh2]; · iexact Hh2
  isplitl [HW]; · iexact HW
  iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%s0, HS0⟩, ⟨%s1, HS1⟩, ⟨%s2, HS2⟩, HS3, HS4, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, Hh1, Hh2, ⟨%W', HW⟩⟩
  iapply (hT W' _ (sout0_B_0 c (grid0.coords tPrev) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) (ms0_6 tLast) (hs0_6 tLast) (ms0_7 tLast) (hs0_7 tLast) (ms0_8 tLast) (hs0_8 tLast) (ms0_9 tLast) (hs0_9 tLast) (ms0_10 tLast) (hs0_10 tLast) (ms0_11 tLast) (hs0_11 tLast) (ms0_12 tLast) (hs0_12 tLast) (ms0_13 tLast) (hs0_13 tLast) (ms0_14 tLast) (hs0_14 tLast) (ms0_15 tLast) (hs0_15 tLast) scM0_0 (Memref.isWhole_whole _) scM0_1 (Memref.isWhole_whole _) scM0_2 (Memref.isWhole_whole _) scM0_3 (Memref.isWhole_whole _) scM0_4 (Memref.isWhole_whole _) c0' c1' (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) (outsAt0 m c (15 - 1) (lt_of_le_of_lt (Nat.sub_le _ _) tLast.isLt)).2.2.2.1 (outsAt0 m c (15 - 1) (lt_of_le_of_lt (Nat.sub_le _ _) tLast.isLt)).2.2.2.2.1 (outsAt0 m c (15 - 1) (lt_of_le_of_lt (Nat.sub_le _ _) tLast.isLt)).2.2.2.2.2.1 (outsAt0 m c (15 - 1) (lt_of_le_of_lt (Nat.sub_le _ _) tLast.isLt)).2.2.2.2.2.2.1 (outsAt0 m c (15 - 1) (lt_of_le_of_lt (Nat.sub_le _ _) tLast.isLt)).2.2.2.2.2.2.2.1 (outsAt0 m c (15 - 1) (lt_of_le_of_lt (Nat.sub_le _ _) tLast.isLt)).2.2.2.2.2.2.2.2) (sout0_B_1 c (grid0.coords tPrev) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) (ms0_6 tLast) (hs0_6 tLast) (ms0_7 tLast) (hs0_7 tLast) (ms0_8 tLast) (hs0_8 tLast) (ms0_9 tLast) (hs0_9 tLast) (ms0_10 tLast) (hs0_10 tLast) (ms0_11 tLast) (hs0_11 tLast) (ms0_12 tLast) (hs0_12 tLast) (ms0_13 tLast) (hs0_13 tLast) (ms0_14 tLast) (hs0_14 tLast) (ms0_15 tLast) (hs0_15 tLast) scM0_0 (Memref.isWhole_whole _) scM0_1 (Memref.isWhole_whole _) scM0_2 (Memref.isWhole_whole _) scM0_3 (Memref.isWhole_whole _) scM0_4 (Memref.isWhole_whole _) c0' c1' (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) (outsAt0 m c (15 - 1) (lt_of_le_of_lt (Nat.sub_le _ _) tLast.isLt)).2.2.2.1 (outsAt0 m c (15 - 1) (lt_of_le_of_lt (Nat.sub_le _ _) tLast.isLt)).2.2.2.2.1 (outsAt0 m c (15 - 1) (lt_of_le_of_lt (Nat.sub_le _ _) tLast.isLt)).2.2.2.2.2.1 (outsAt0 m c (15 - 1) (lt_of_le_of_lt (Nat.sub_le _ _) tLast.isLt)).2.2.2.2.2.2.1 (outsAt0 m c (15 - 1) (lt_of_le_of_lt (Nat.sub_le _ _) tLast.isLt)).2.2.2.2.2.2.2.1 (outsAt0 m c (15 - 1) (lt_of_le_of_lt (Nat.sub_le _ _) tLast.isLt)).2.2.2.2.2.2.2.2) (sout0_B_2 c (grid0.coords tPrev) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) (ms0_6 tLast) (hs0_6 tLast) (ms0_7 tLast) (hs0_7 tLast) (ms0_8 tLast) (hs0_8 tLast) (ms0_9 tLast) (hs0_9 tLast) (ms0_10 tLast) (hs0_10 tLast) (ms0_11 tLast) (hs0_11 tLast) (ms0_12 tLast) (hs0_12 tLast) (ms0_13 tLast) (hs0_13 tLast) (ms0_14 tLast) (hs0_14 tLast) (ms0_15 tLast) (hs0_15 tLast) scM0_0 (Memref.isWhole_whole _) scM0_1 (Memref.isWhole_whole _) scM0_2 (Memref.isWhole_whole _) scM0_3 (Memref.isWhole_whole _) scM0_4 (Memref.isWhole_whole _) c0' c1' (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) (outsAt0 m c (15 - 1) (lt_of_le_of_lt (Nat.sub_le _ _) tLast.isLt)).2.2.2.1 (outsAt0 m c (15 - 1) (lt_of_le_of_lt (Nat.sub_le _ _) tLast.isLt)).2.2.2.2.1 (outsAt0 m c (15 - 1) (lt_of_le_of_lt (Nat.sub_le _ _) tLast.isLt)).2.2.2.2.2.1 (outsAt0 m c (15 - 1) (lt_of_le_of_lt (Nat.sub_le _ _) tLast.isLt)).2.2.2.2.2.2.1 (outsAt0 m c (15 - 1) (lt_of_le_of_lt (Nat.sub_le _ _) tLast.isLt)).2.2.2.2.2.2.2.1 (outsAt0 m c (15 - 1) (lt_of_le_of_lt (Nat.sub_le _ _) tLast.isLt)).2.2.2.2.2.2.2.2))
  isplitl [HS0]
  · unfold owns; iexists _; isplitr
    swap; · iexact HS0
    ipureintro; unfold sout0_B_0; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [HS1]
  · unfold owns; iexists _; isplitr
    swap; · iexact HS1
    ipureintro; unfold sout0_B_1; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [HS2]
  · unfold owns; iexists _; isplitr
    swap; · iexact HS2
    ipureintro; unfold sout0_B_2; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [HS3]; · iexact HS3
  isplitl [HS4]; · iexact HS4
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hh0]; · iexact Hh0
  isplitl [Hh1]; · iexact Hh1
  isplitl [Hh2]; · iexact Hh2
  isplitl [HW]; · iexact HW
  iintro ⟨Hh0, Hh1, Hh2, ⟨%W'', HW⟩, HS3, HS4, HS0, HS1, HS2, Hq0, Hq1, Hq2, Hq3, Hq4, Hq5, Hq6, Hq7, Hq8, Hq9, Hq10, Hq11, Hq12, Hq13, Hq14, Hq15, Hq16, Hq17, Hq18, Hq19, Hq20, Hq21, Hq22, Hq23⟩
  isplitl [HS0 HS1 HS2 HS3 HS4 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0 Hh1 Hh2]
  · isplitl [HS0 HS1 HS2 HS3 HS4]
    · isplitl [HS0]; · iexists _; iexact HS0
      isplitl [HS1]; · iexists _; iexact HS1
      isplitl [HS2]; · iexists _; iexact HS2
      isplitl [HS3]; · iexact HS3
      iexact HS4
    isplitl [Hg]
    · iexact Hg
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      iexact Hq23
    isplitr; · iempintro
    isplitl [Hh0]; · iexact Hh0
    isplitl [Hh1]; · iexact Hh1
    iexact Hh2
  isplitl [HW]
  · iexists W''; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; unfold out0_B_10; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; unfold out0_B_11; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; unfold out0_B_12; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; unfold out0_B_13; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; unfold out0_B_14; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H15
  ipureintro; unfold out0_B_15; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.Head
-- ==== Proof.Head.Run.lean ====
module

public import proofs.«01_k».proof.Proof.Gen.KernelIdeal.Frame
public import proofs.«01_k».proof.Proof.Head.Last
public import Idealize.ShloMosaic.Lib.Pipeline.FrameValue
public import Idealize.ShloMosaic.PureOps.Ideal
public import Idealize.ShloMosaic.Adequacy
public import Idealize.ShloMosaic.Init
public import Idealize.ShloMosaic.Lib.VecWindow
public import Idealize.ShloMosaic.Lib.ValueIdx
public import Idealize.ShloMosaic.Lib.ValueLayout
public import Idealize.ShloMosaic.Lib.Pointwise

@[expose] public section

set_option maxRecDepth 65536
set_option maxHeartbeats 1000000

noncomputable section

namespace Cert.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

theorem PhiG_ne (c : Dev nD) (t : Fin (cfg0.N + 1)) (h : t.val ≠ 16) : (datsG m 0 c).Φ t = (dats m 0 c).Φ t := if_neg h
theorem PhiG_last (c : Dev nD) (t : Fin (cfg0.N + 1)) (h : t.val = 16) :
    (datsG m 0 c).Φ t = Pipeline.ΦDRG osem0 spec0 H0 R0 (V m) (G m) c := if_pos h

theorem before_G (c : Dev nD) (w : Fin cfg0.W) (t : Fin cfg0.N) (d) : (datsG m 0 c).before w t d = (dats m 0 c).before w t d := rfl
theorem after_G (c : Dev nD) (w : Fin cfg0.W) (t : Fin cfg0.N) : (datsG m 0 c).after w t = (dats m 0 c).after w t := rfl
theorem owesAt_G (c : Dev nD) (t : Fin (cfg0.N + 1)) : (datsG m 0 c).owesAt () t = (dats m 0 c).owesAt () t := rfl

/-- The body at every point, for the data that names the written results after the last point. -/
theorem body_obligationG (c : Dev nD) : BodyObligation (datsG m 0 c) (defs₀ (F := Ideal)) Variants.none () Set.univ := fun t => by
  have hN : t.val < 16 := lt_of_lt_of_eq t.isLt (show cfg0.N = 16 from N_0)
  rw [bigSep_W0, bigSep_W0, defs₀_row, PhiG_ne m c t.castSucc (by rw [Fin.val_castSucc]; omega)]
  simp only [before_G, after_G, owesAt_G]
  by_cases ht : t.val = 15
  · obtain rfl : t = tLast := Fin.ext ht
    rw [PhiG_last m c _ (by decide)]
    exact triple_restated (sound_last m c) rfl .rfl fun _ => .rfl
  · rw [PhiG_ne m c t.succ (by rw [Fin.val_succ]; omega)]
    exact triple_restated (sound_body m c t) rfl .rfl fun _ => .rfl

set_option backward.isDefEq.respectTransparency.types false in
/-- The launch, with the results written by the body's own copies named. -/
theorem run_mainG : θ_run defs (onTc (τ := τ) (main (F := Ideal))) (s₀ m ρ) (Pipeline.FramePostRG cfgs (datsG m) 0 R0 (V m) (G m)) :=
  Pipeline.θ_run_frame_dmaRG (Q' := _) cfgs (datsG m) (0 : Fin 1) launch0 osem0 defs₀ Variants.none ownSemFacts0 H0 R0 H0_sub R0_sub m ρ main
    (hbody := fun c => (body_obligationG m c).loose) (hshare := fun c => (datsG m 0 c).share_full fun _ => rfl)
    (howed := fun _ _ => rfl) (V := V m) (hmain := hmain m Variants.none) (hA := A_eq m) (G := G m)
    (hin := fun c => by
      rw [PhiG_ne m c 0 (by decide)]
      exact (Pipeline.ΦDRG_ΦDR osem0 spec0 H0 R0 (V m) (V m) c).trans (hin m c))
    (hout := fun c => by
      rw [PhiG_last m c _ (by rw [Fin.val_last]; exact N_0)])

end Cert.Head
-- ==== Proof.Head.Result.lean ====
module

public import proofs.«01_k».proof.Proof.Head.Inputs
public import proofs.«01_k».proof.Proof.Head.Run

@[expose] public section

set_option maxRecDepth 65536
set_option maxHeartbeats 2000000

noncomputable section

namespace Cert.Head

open Cert.KernelIdeal Cert.KernelIdeal.Gen Cert.Spec
open Idealize.ShloMosaic Idealize.ShloMosaic.TcCoe Idealize.ShloMosaic.Tactic Pipeline

variable (m : (ℓ : Loc nD τ sig) → Buf (Elt Ideal) ℓ) (c : Dev nD)

/-- The rows of the block number `n`. -/
def rowsAt (n : ℕ) (s : Fin 512) : Row := row m c ⟨(n * 512 + s) % 8192, by omega⟩

theorem rows_eq (t : Fin cfg0.N) : rows m c t = rowsAt m c t.val := by
  have h : t.val < 16 := lt_of_lt_of_eq t.isLt N_0
  funext s
  exact congrArg (row m c) (Fin.ext (Nat.mod_eq_of_lt (by omega)).symm)

/-- The blocks' sums over their rows add up to the sum over all rows. -/
theorem sum_rows (f : Row → ℝ) : ∑ n ∈ Finset.range 16, ∑ s, f (rowsAt m c n s) = ∑ g, f (row m c g) := by
  rw [Finset.sum_range]
  refine (Finset.sum_congr rfl fun n _ => Finset.sum_congr rfl fun s _ => ?_).trans
    ((Fin.sum_points_lanes_congr (A := 1) (L := 8192) (n := 512) (N := 16) 16 (F := fun t k => f (row m c ⟨t.val * 512 + k.val, by omega⟩)) (g := fun _ l => f (row m c l)) ?_).trans ?_)
  · exact congrArg (fun x => f (row m c x)) (Fin.ext (Nat.mod_eq_of_lt (by omega)))
  · intro t k _ _
    exact congrArg (fun x => f (row m c x)) (Fin.ext (by simp only [Nat.mod_eq_of_lt t.isLt]))
  · exact Fin.sum_univ_one _

variable {m c}

/-- What each grid point leaves: its blocks, and the totals up to it. -/
theorem Finite.point (h : Finite m c) (n : ℕ) (hn : n < cfg0.N) :
    Grads (wts m c) (rowsAt m c n) (outsAt0 m c n hn) ∧ Totals (outsAt0 m c n hn)
      (fun j => ∑ u ∈ Finset.range (n + 1), totPg (wts m c) (rowsAt m c u) j) (fun j => ∑ u ∈ Finset.range (n + 1), totFg (wts m c) (rowsAt m c u) j)
      (∑ u ∈ Finset.range (n + 1), totLoss (wts m c) (rowsAt m c u)) (fun r j => ∑ u ∈ Finset.range (n + 1), totWo (wts m c) (rowsAt m c u) r j)
      (fun r j => ∑ u ∈ Finset.range (n + 1), totWg (wts m c) (rowsAt m c u) r j) (fun r j => ∑ u ∈ Finset.range (n + 1), totWp (wts m c) (rowsAt m c u) r j) := by
  have hN : n < 16 := lt_of_lt_of_eq hn N_0
  induction n with
  | zero =>
    have e := step_first (wts m c) (rows m c ⟨0, hn⟩) m c ⟨0, hn⟩ rfl (by dsimp only; omega) (h.blk _)
    rw [rows_eq] at e
    simpa only [zero_add, Finset.sum_range_one] using e
  | succ n ih =>
    have e := step_next (wts m c) (rows m c ⟨n + 1, hn⟩) m c ⟨n + 1, hn⟩ (by dsimp only; omega) (h.blk _) (Nat.lt_of_succ_lt hn) (ih (Nat.lt_of_succ_lt hn) (by omega)).2
    rw [rows_eq] at e
    simpa only [Finset.sum_range_succ _ (n + 1)] using e

/-- The totals after the last point are sums over all rows. -/
theorem Finite.last (h : Finite m c) : Totals (outsAt0 m c 15 tLast.isLt)
    (fun j => ∑ g, drn (wts m c) (row m c g) j * n1 (wts m c) (row m c g) j) (fun j => ∑ g, dy (wts m c) (row m c g) j * n2 (wts m c) (row m c g) j)
    (1 / 2048 * ∑ g, ∑ k, err (wts m c) (row m c g) k * err (wts m c) (row m c g) k) (fun r j => ∑ g, ab (row m c g) r * dh1 (wts m c) (row m c g) j)
    (fun r j => ∑ g, rn (wts m c) (row m c g) r * dgl (wts m c) (row m c g) j) (fun r j => ∑ g, (row m c g).p r * dpp (wts m c) (row m c g) j) := by
  have e := (h.point 15 tLast.isLt).2
  exact
    { pg := fun r j => (e.pg r j).trans (congrArg _ (sum_rows m c fun s => drn (wts m c) s j * n1 (wts m c) s j))
      fg := fun r j => (e.fg r j).trans (congrArg _ (sum_rows m c fun s => dy (wts m c) s j * n2 (wts m c) s j))
      loss := fun r j => (e.loss r j).trans (congrArg _ ((Finset.mul_sum _ _ _).symm.trans (congrArg _ (sum_rows m c fun s => ∑ k, err (wts m c) s k * err (wts m c) s k))))
      wo := fun r j => (e.wo r j).trans (congrArg _ (sum_rows m c fun s => ab s r * dh1 (wts m c) s j))
      wg := fun r j => (e.wg r j).trans (congrArg _ (sum_rows m c fun s => rn (wts m c) s r * dgl (wts m c) s j))
      wp := fun r j => (e.wp r j).trans (congrArg _ (sum_rows m c fun s => s.p r * dpp (wts m c) s j)) }

/-! ## The result arrays -/

variable (m c)

def outA : S8192x512.Idx → EReal := fun i => ((da (wts m c) (row m c (i 0)) (i 1) : ℝ) : EReal)
def outB : S8192x512.Idx → EReal := fun i => ((db (wts m c) (row m c (i 0)) (i 1) : ℝ) : EReal)
def outX : S8192x1024.Idx → EReal := fun i => ((dh1 (wts m c) (row m c (i 0)) (i 1) : ℝ) : EReal)
def outPg : S1x1024.Idx → EReal := fun i => ((∑ g, drn (wts m c) (row m c g) (i 1) * n1 (wts m c) (row m c g) (i 1) : ℝ) : EReal)
def outFg : S1x1024.Idx → EReal := fun i => ((∑ g, dy (wts m c) (row m c g) (i 1) * n2 (wts m c) (row m c g) (i 1) : ℝ) : EReal)
def outLoss : S8x128.Idx → EReal := fun _ => ((1 / 2048 * ∑ g, ∑ k, err (wts m c) (row m c g) k * err (wts m c) (row m c g) k : ℝ) : EReal)
def outWo : S8x128x1024.Idx → EReal := fun i => ((∑ g, ab (row m c g) ⟨128 * (i 0).val + (i 1).val, by have h0 : (i 0).val < 8 := (i 0).isLt; have h1 : (i 1).val < 128 := (i 1).isLt; omega⟩ * dh1 (wts m c) (row m c g) (i 2) : ℝ) : EReal)
def outWg : S8x128x1024.Idx → EReal := fun i => ((∑ g, rn (wts m c) (row m c g) ⟨128 * (i 0).val + (i 1).val, by have h0 : (i 0).val < 8 := (i 0).isLt; have h1 : (i 1).val < 128 := (i 1).isLt; omega⟩ * dgl (wts m c) (row m c g) (i 2) : ℝ) : EReal)
def outWp : S8x256x128.Idx → EReal := fun i => ((∑ g, (row m c g).p (i 1) * dpp (wts m c) (row m c g) ⟨128 * (i 0).val + (i 2).val, by have h0 : (i 0).val < 8 := (i 0).isLt; have h1 : (i 2).val < 128 := (i 2).isLt; omega⟩ : ℝ) : EReal)

theorem idx_out : ∀ t : Fin cfg0.N, win0_10.index t = ![t.val, 0] ∧ win0_11.index t = ![t.val, 0] ∧ win0_12.index t = ![t.val, 0] := by
  decide +kernel

variable {m c}

/-- A grid point's rows, read off all rows. -/
theorem rowsAt_eq (t : Fin cfg0.N) (s : Fin 512) (g : Fin 8192) (hg : g.val = t.val * 512 + s.val) : rowsAt m c t.val s = row m c g := by
  have h : t.val < 16 := lt_of_lt_of_eq t.isLt N_0
  exact congrArg (row m c) (Fin.ext ((Nat.mod_eq_of_lt (by omega)).trans hg.symm))

theorem Finite.arr10 (h : Finite m c) : (dats m 0 c).arrAt 10 cfg0.N = outA m c := by
  refine (dats m 0 c).arrAt_eq_of_covers 10 _ (by decide +kernel) fun t hf y => ?_
  blk_simp
  rw [after0_10]
  have ht : t.val < 16 := lt_of_lt_of_eq t.isLt N_0
  have e : (win0_10.blk t).view.emb y = ix2 (⟨t.val * 512 + (y 0).val, by have hy : (y 0).val < 512 := (y 0).isLt; omega⟩ : Fin 8192) (y 1 : Fin 512) := by
    blk_ext [idx_out t]
  rw [e]
  refine (congrArg _ (ix2_eta (n0 := 512) (n1 := 512) y)).symm.trans (((h.point t.val t.isLt).1.da (y 0) (y 1)).trans ?_)
  exact congrArg (fun q => ((da (wts m c) q (y 1) : ℝ) : EReal)) (rowsAt_eq t (y 0) _ rfl)

theorem Finite.arr11 (h : Finite m c) : (dats m 0 c).arrAt 11 cfg0.N = outB m c := by
  refine (dats m 0 c).arrAt_eq_of_covers 11 _ (by decide +kernel) fun t hf y => ?_
  blk_simp
  rw [after0_11]
  have ht : t.val < 16 := lt_of_lt_of_eq t.isLt N_0
  have e : (win0_11.blk t).view.emb y = ix2 (⟨t.val * 512 + (y 0).val, by have hy : (y 0).val < 512 := (y 0).isLt; omega⟩ : Fin 8192) (y 1 : Fin 512) := by
    blk_ext [idx_out t]
  rw [e]
  refine (congrArg _ (ix2_eta (n0 := 512) (n1 := 512) y)).symm.trans (((h.point t.val t.isLt).1.db (y 0) (y 1)).trans ?_)
  exact congrArg (fun q => ((db (wts m c) q (y 1) : ℝ) : EReal)) (rowsAt_eq t (y 0) _ rfl)

theorem Finite.arr12 (h : Finite m c) : (dats m 0 c).arrAt 12 cfg0.N = outX m c := by
  refine (dats m 0 c).arrAt_eq_of_covers 12 _ (by decide +kernel) fun t hf y => ?_
  blk_simp
  rw [after0_12]
  have ht : t.val < 16 := lt_of_lt_of_eq t.isLt N_0
  have e : (win0_12.blk t).view.emb y = ix2 (⟨t.val * 512 + (y 0).val, by have hy : (y 0).val < 512 := (y 0).isLt; omega⟩ : Fin 8192) (y 1 : Fin 1024) := by
    blk_ext [idx_out t]
  rw [e]
  refine (congrArg _ (ix2_eta (n0 := 512) (n1 := 1024) y)).symm.trans (((h.point t.val t.isLt).1.dx (y 0) (y 1)).trans ?_)
  exact congrArg (fun q => ((dh1 (wts m c) q (y 1) : ℝ) : EReal)) (rowsAt_eq t (y 0) _ rfl)

theorem Finite.arr13 (h : Finite m c) : (dats m 0 c).arrAt 13 cfg0.N = outPg m c := by
  refine (dats m 0 c).arrAt_eq_of_after_last 13 tLast (by decide +kernel) _ fun j => ?_
  blk_simp
  rw [after0_13]
  exact (congrArg _ (ix2_eta (n0 := 1) (n1 := 1024) j)).symm.trans (h.last.pg (j 0) (j 1))

theorem Finite.arr14 (h : Finite m c) : (dats m 0 c).arrAt 14 cfg0.N = outFg m c := by
  refine (dats m 0 c).arrAt_eq_of_after_last 14 tLast (by decide +kernel) _ fun j => ?_
  blk_simp
  rw [after0_14]
  exact (congrArg _ (ix2_eta (n0 := 1) (n1 := 1024) j)).symm.trans (h.last.fg (j 0) (j 1))

theorem Finite.arr15 (h : Finite m c) : (dats m 0 c).arrAt 15 cfg0.N = outLoss m c := by
  refine (dats m 0 c).arrAt_eq_of_after_last 15 tLast (by decide +kernel) _ fun j => ?_
  blk_simp
  rw [after0_15]
  exact (congrArg _ (ix2_eta (n0 := 8) (n1 := 128) j)).symm.trans (h.last.loss (j 0) (j 1))

theorem Finite.g3 (h : Finite m c) : G m c main_v14_3 = outWo m c := by
  have e : G m c main_v14_3 = rowBlocks (outsAt0 m c 15 tLast.isLt).2.2.2.2.2.2.1 :=
    (Function.update_of_ne (by decide) _ _).trans ((Function.update_of_ne (by decide) _ _).trans (Function.update_self _ _ _))
  rw [e]
  funext i
  exact h.last.wo _ _

theorem Finite.g4 (h : Finite m c) : G m c main_v14_4 = outWg m c := by
  have e : G m c main_v14_4 = rowBlocks (outsAt0 m c 15 tLast.isLt).2.2.2.2.2.2.2.1 :=
    (Function.update_of_ne (by decide) _ _).trans (Function.update_self _ _ _)
  rw [e]
  funext i
  exact h.last.wg _ _

theorem Finite.g5 (h : Finite m c) : G m c main_v14_5 = outWp m c := by
  have e : G m c main_v14_5 = colBlocks (outsAt0 m c 15 tLast.isLt).2.2.2.2.2.2.2.2 := Function.update_self _ _ _
  rw [e]
  funext i
  exact h.last.wp _ _

end Cert.Head
-- ==== Proof.Head.Claim.lean ====
module

public import proofs.«01_k».proof.Defs
public import proofs.«01_k».proof.Proof.Gen.Kernel.Frame
public import proofs.«01_k».proof.Proof.Gen.KernelIdeal.Value
public import proofs.«01_k».proof.Proof.Head.Result
public import proofs.«01_k».proof.Proof.Head.Back
public import Idealize.ShloMosaic.Lib.Affine
public import Idealize.ShloMosaic.Lib.Decide

@[expose] public section

set_option maxRecDepth 65536

noncomputable section

namespace Cert.Head

open Cert.KernelIdeal Cert.KernelIdeal.Gen Cert.Spec
open Idealize.ShloMosaic Idealize.ShloMosaic.TcCoe Idealize.ShloMosaic.Tactic Idealize.SL.Sem Pipeline

/-! ## The precondition -/

theorem pre_facts : Cert.Pre_finite.Facts where
  bcast_S_S2x4096x512 := by decide
  bcast_S_S2x4096x1024 := by decide
  bcast_S_S1x2x4096x256 := by decide
  bcast_S_S1x1024x1024 := by decide
  bcast_S_S1x256x1024 := by decide
  bcast_S_S1x1024 := by decide
  bcast_S_S1024 := by decide

theorem bits_inf : Ideal.ofBits .f32 0x7F800000#32 = ⊤ := by simp [Ideal.ofBits, Ideal.ieee]

/-- Extended reals below infinity in absolute value are real numbers. -/
theorem real_of_abs_lt {S : Shape} {v b : FVec Ideal S .f32} (e : cmpf .olt (Host.absf v) b = fun _ => 1#1) (hb : ∀ i, b i = Ideal.ofBits .f32 0x7F800000#32) (i : S.Idx) :
    ((v i).toReal : EReal) = v i := by
  have e' : BitVec.ofBool (decide (max (v i) (-v i) < b i)) = 1#1 := congrFun e i
  rw [hb, bits_inf] at e'
  have h : max (v i) (-v i) < ⊤ := by
    by_contra h
    simp [h] at e'
  exact EReal.coe_toReal (fun h' => by simp [h'] at h) (fun h' => by simp [h'] at h)

theorem finite_of_pre [Cert.Pre_finite.Facts] {m : (ℓ : Loc nD τ sig) → Buf (Elt Ideal) ℓ} (h : Cert.Pre_KernelIdeal_finite m) (c : Dev nD) : Finite m c := by
  obtain ⟨h0, h1, h2, h3, h4, h5, h6, h7, h8, h9⟩ := h c
  exact ⟨real_of_abs_lt h0 fun _ => rfl, real_of_abs_lt h1 fun _ => rfl, real_of_abs_lt h2 fun _ => rfl, real_of_abs_lt h3 fun _ => rfl, real_of_abs_lt h4 fun _ => rfl,
    real_of_abs_lt h5 fun _ => rfl, real_of_abs_lt h6 fun _ => rfl, real_of_abs_lt h7 fun _ => rfl, real_of_abs_lt h8 fun _ => rfl, real_of_abs_lt h9 fun _ => rfl⟩

/-! ## The reference's arguments -/

variable (m : (ℓ : Loc nD τ sig) → Buf (Elt Ideal) ℓ) (c : Dev nD)

/-- The rows the arguments hold, by sequence and position. -/
def seqRow (s : Fin 2) (r : Fin 4096) : Row where
  a k := (m ((c : Thread nD τ).loc main_arg0) (ix3 s r k)).toReal
  b k := (m ((c : Thread nD τ).loc main_arg1) (ix3 s r k)).toReal
  x k := (m ((c : Thread nD τ).loc main_arg2) (ix3 s r k)).toReal
  p k := (m ((c : Thread nD τ).loc main_arg3) (ix4 (0 : Fin 1) s r k)).toReal
  y k := (m ((c : Thread nD τ).loc main_arg4) (ix3 s r k)).toReal

/-- A sum over the two sequences' rows is the sum over all rows. -/
theorem sum_seqs (f : Row → ℝ) : ∑ s, ∑ r, f (seqRow m c s r) = ∑ g, f (row m c g) :=
  (Fin.sum_divmod_fin (N := 8192) 4096 fun s r => f (seqRow m c s r)).symm

variable {m c}

theorem Finite.args (h : Finite m c) {m' : (ℓ : Loc Cert.ReferenceIdeal.nD Cert.ReferenceIdeal.τ Cert.ReferenceIdeal.sig) → Buf (Elt Ideal) ℓ}
    (h0 : m' ((c.tc : Thread Cert.ReferenceIdeal.nD Cert.ReferenceIdeal.τ).loc Cert.ReferenceIdeal.main_arg0) = m ((c : Thread nD τ).loc main_arg0))
    (h1 : m' ((c.tc : Thread Cert.ReferenceIdeal.nD Cert.ReferenceIdeal.τ).loc Cert.ReferenceIdeal.main_arg1) = m ((c : Thread nD τ).loc main_arg1))
    (h2 : m' ((c.tc : Thread Cert.ReferenceIdeal.nD Cert.ReferenceIdeal.τ).loc Cert.ReferenceIdeal.main_arg2) = m ((c : Thread nD τ).loc main_arg2))
    (h3 : m' ((c.tc : Thread Cert.ReferenceIdeal.nD Cert.ReferenceIdeal.τ).loc Cert.ReferenceIdeal.main_arg3) = m ((c : Thread nD τ).loc main_arg3))
    (h4 : m' ((c.tc : Thread Cert.ReferenceIdeal.nD Cert.ReferenceIdeal.τ).loc Cert.ReferenceIdeal.main_arg4) = m ((c : Thread nD τ).loc main_arg4))
    (h5 : m' ((c.tc : Thread Cert.ReferenceIdeal.nD Cert.ReferenceIdeal.τ).loc Cert.ReferenceIdeal.main_arg5) = m ((c : Thread nD τ).loc main_arg5))
    (h6 : m' ((c.tc : Thread Cert.ReferenceIdeal.nD Cert.ReferenceIdeal.τ).loc Cert.ReferenceIdeal.main_arg6) = m ((c : Thread nD τ).loc main_arg6))
    (h7 : m' ((c.tc : Thread Cert.ReferenceIdeal.nD Cert.ReferenceIdeal.τ).loc Cert.ReferenceIdeal.main_arg7) = m ((c : Thread nD τ).loc main_arg7))
    (h8 : m' ((c.tc : Thread Cert.ReferenceIdeal.nD Cert.ReferenceIdeal.τ).loc Cert.ReferenceIdeal.main_arg8) = m ((c : Thread nD τ).loc main_arg8))
    (h9 : m' ((c.tc : Thread Cert.ReferenceIdeal.nD Cert.ReferenceIdeal.τ).loc Cert.ReferenceIdeal.main_arg9) = m ((c : Thread nD τ).loc main_arg9)) :
    Cert.Back.Args (StableHlo.launchContents m' c) (wts m c) (seqRow m c) where
  a := fun s r j => (congrFun h0 _).trans (h.a _).symm
  b := fun s r j => (congrFun h1 _).trans (h.b _).symm
  x := fun s r j => (congrFun h2 _).trans (h.x _).symm
  p := fun s r k => (congrFun h3 _).trans (h.p _).symm
  y := fun s r j => (congrFun h4 _).trans (h.y _).symm
  wo := fun s r j => by
    obtain rfl : s = 0 := Subsingleton.elim _ _
    exact (congrFun h5 _).trans (h.wo _).symm
  wg := fun s r j => by
    obtain rfl : s = 0 := Subsingleton.elim _ _
    exact (congrFun h6 _).trans (h.wg _).symm
  wp := fun s r j => by
    obtain rfl : s = 0 := Subsingleton.elim _ _
    exact (congrFun h7 _).trans (h.wp _).symm
  pg := fun s j => by
    obtain rfl : s = 0 := Subsingleton.elim _ _
    exact (congrFun h8 _).trans (h.pg _).symm
  fg := fun j => (congrFun h9 _).trans (h.fg _).symm

/-! ## The claims -/

theorem frame_kernel : Cert.quiescent_Kernel := fun m ρ _ => Cert.Kernel.Gen.frame m ρ
theorem frame_ideal : Cert.quiescent_KernelIdeal := fun m ρ _ => Cert.KernelIdeal.Gen.frame m ρ
theorem frame_ideal_pre [Cert.Pre_finite.Facts] : Cert.quiescent_KernelIdeal_pre_finite := fun m ρ _ => Cert.KernelIdeal.Gen.frame m ρ
theorem frame_reference : Cert.quiescent_ReferenceIdeal := fun m ρ _ =>
  (θ_run Cert.ReferenceIdeal.defs _ _).mono (fun r h => ⟨fun c => (h c).2.2.2.2.2.2.2.2.2, Idealize.ShloMosaic.sem_eq_zero_of_no_sems (by decide) r.2⟩)
    (Cert.ReferenceIdeal.Value.run m ρ)
theorem frame_reference_pre [Cert.Pre_finite.Facts] : Cert.quiescent_ReferenceIdeal_pre_finite := fun m ρ _ => frame_reference m ρ trivial

theorem arrAt_G (m) (c : Dev nD) (w : Fin cfg0.W) : (datsG m 0 c).arrAt w cfg0.N = (dats m 0 c).arrAt w cfg0.N := rfl

theorem value [Cert.Pre_finite.Facts] : Cert.algebraic_KernelIdeal_ReferenceIdeal_pre_finite := by
  intro m ρ m' ρ' pre hargs
  have fin (c : Dev nD) : Finite m c := finite_of_pre pre c
  refine ⟨outA m, outB m, outX m, outWo m, outWg m, outWp m, outPg m, outFg m, outLoss m, ?_, ?_⟩
  · refine (θ_run defs _ _).mono (fun r h c => ?_) (run_mainG m ρ)
    have win (w : Fin cfg0.W) := ((h.toR c).1 w).trans (arrAt_G m c w)
    have out (b : Ref sig .tc) (hb : b ∈ R0) : r.2.mem ((c : Thread nD τ).loc b) = G m c b := h.2 c b hb
    have kept (b : Ref sig .tc) (h1) (h2) (h3) : r.2.mem ((c : Thread nD τ).loc b) = V m c b :=
      (h.toR c).2 b (Finset.mem_sdiff.mpr ⟨Pipeline.mem_restRefs_of b h1 h2, h3⟩)
    exact ⟨(win 10).trans (fin c).arr10, (win 11).trans (fin c).arr11, (win 12).trans (fin c).arr12, (out _ (by decide)).trans (fin c).g3, (out _ (by decide)).trans (fin c).g4,
      (out _ (by decide)).trans (fin c).g5, (win 13).trans (fin c).arr13, (win 14).trans (fin c).arr14, (win 15).trans (fin c).arr15,
      (kept main_arg0 (by decide) (by decide) (by decide)).trans (V_main_arg0 m c),
      (kept main_arg1 (by decide) (by decide) (by decide)).trans (V_main_arg1 m c),
      (kept main_arg2 (by decide) (by decide) (by decide)).trans (V_main_arg2 m c),
      (kept main_arg3 (by decide) (by decide) (by decide)).trans (V_main_arg3 m c),
      (kept main_arg4 (by decide) (by decide) (by decide)).trans (V_main_arg4 m c),
      (kept main_arg5 (by decide) (by decide) (by decide)).trans (V_main_arg5 m c),
      (kept main_arg6 (by decide) (by decide) (by decide)).trans (V_main_arg6 m c),
      (kept main_arg7 (by decide) (by decide) (by decide)).trans (V_main_arg7 m c),
      (win 8).trans (((dats m 0 c).arrAt_in 8 rfl _).trans ((A_eq m c 8).trans (V_main_arg8 m c))),
      (kept main_arg9 (by decide) (by decide) (by decide)).trans (V_main_arg9 m c)⟩
  · refine (θ_run Cert.ReferenceIdeal.defs _ _).mono (fun r h c => ?_) (Cert.ReferenceIdeal.Value.run m' ρ')
    obtain ⟨k0, k1, k2, k3, k4, k5, k6, k7, k8, keep⟩ := h c
    obtain ⟨a0, a1, a2, a3, a4, a5, a6, a7, a8, a9⟩ := hargs c
    have A := (fin c).args a0 a1 a2 a3 a4 a5 a6 a7 a8 a9
    refine ⟨k0.trans (funext fun i => ?_), k1.trans (funext fun i => ?_), k2.trans (funext fun i => ?_), k3.trans (funext fun i => ?_), k4.trans (funext fun i => ?_),
      k5.trans (funext fun i => ?_), k6.trans (funext fun i => ?_), k7.trans (funext fun i => ?_), k8.trans (funext fun i => ?_), keep⟩
    · rw [eq_ix2 i]
      exact Cert.Back.res126 A (i 0) (i 1)
    · rw [eq_ix2 i]
      exact Cert.Back.res127 A (i 0) (i 1)
    · rw [eq_ix2 i]
      exact Cert.Back.res128 A (i 0) (i 1)
    · rw [eq_ix3 i]
      exact (Cert.Back.res130 A (i 0) (i 1) (i 2)).trans (congrArg _ (sum_seqs m c fun q => ab q _ * dh1 (wts m c) q (i 2)))
    · rw [eq_ix3 i]
      exact (Cert.Back.res132 A (i 0) (i 1) (i 2)).trans (congrArg _ (sum_seqs m c fun q => rn (wts m c) q _ * dgl (wts m c) q (i 2)))
    · rw [eq_ix3 i]
      exact (Cert.Back.res135 A (i 0) (i 1) (i 2)).trans (congrArg _ (sum_seqs m c fun q => q.p (i 1) * dpp (wts m c) q _))
    · rw [eq_ix2 i]
      exact (Cert.Back.res119 A (i 0) (i 1)).trans (congrArg _ (sum_seqs m c fun q => drn (wts m c) q (i 1) * n1 (wts m c) q (i 1)))
    · rw [eq_ix2 i]
      exact (Cert.Back.res136 A (i 0) (i 1)).trans (congrArg _ (sum_seqs m c fun q => dy (wts m c) q (i 1) * n2 (wts m c) q (i 1)))
    · rw [eq_ix2 i]
      exact (Cert.Back.res137 A (i 0) (i 1)).trans (congrArg _ (congrArg _ (sum_seqs m c fun q => ∑ k, err (wts m c) q k * err (wts m c) q k)))

end Cert.Head
-- ==== Proof.Gate.Claim.lean ====
module

public import proofs.«01_k».proof.Defs
public import proofs.«01_k».proof.Proof.Gen.Kernel2.Frame
public import proofs.«01_k».proof.Proof.Gate.Result
public import proofs.«01_k».proof.Proof.Head.Claim

@[expose] public section

set_option maxRecDepth 65536
set_option maxHeartbeats 4000000

noncomputable section

namespace Cert.Gate

open Cert.Kernel2Ideal Cert.Kernel2Ideal.Gen Cert.Spec
open Idealize.ShloMosaic Idealize.ShloMosaic.TcCoe Idealize.ShloMosaic.Tactic Idealize.SL.Sem Pipeline

/-! ## The precondition -/

theorem pre_facts : Cert.Pre_finite2.Facts where
  bcast_S_S2x4096x1024 := by decide
  bcast_S_S1x1024 := by decide
  bcast_S_S1x1024x3592 := by decide
  bcast_S_S1x512 := by decide
  bcast_S_S1x4x128x128 := by decide
  bcast_S_S1x4x128 := by decide
  bcast_S_S2x4096x512 := by decide
  bcast_S_S2x4096x1536 := by decide
  bcast_S_S2x4096x8 := by decide

theorem finite_of_pre [Cert.Pre_finite2.Facts] {m : (ℓ : Loc nD τ sig) → Buf (Elt Ideal) ℓ} (h : Cert.Pre_Kernel2Ideal_finite2 m) (c : Dev nD) : Finite m c := by
  obtain ⟨h0, h1, h2, h3, h4, h5, h6, h7, h8, h9, h10, h11⟩ := h c
  exact ⟨Head.real_of_abs_lt h0 fun _ => rfl, Head.real_of_abs_lt h1 fun _ => rfl, Head.real_of_abs_lt h2 fun _ => rfl, Head.real_of_abs_lt h3 fun _ => rfl, Head.real_of_abs_lt h4 fun _ => rfl, Head.real_of_abs_lt h5 fun _ => rfl, Head.real_of_abs_lt h6 fun _ => rfl, Head.real_of_abs_lt h7 fun _ => rfl, Head.real_of_abs_lt h8 fun _ => rfl, Head.real_of_abs_lt h9 fun _ => rfl, Head.real_of_abs_lt h10 fun _ => rfl, Head.real_of_abs_lt h11 fun _ => rfl⟩

/-! ## The reference's arguments -/

variable {m : (ℓ : Loc nD τ sig) → Buf (Elt Ideal) ℓ} {c : Dev nD}

theorem Finite.args (h : Finite m c) {m' : (ℓ : Loc Cert.Reference2Ideal.nD Cert.Reference2Ideal.τ Cert.Reference2Ideal.sig) → Buf (Elt Ideal) ℓ}
    (h0 : m' ((c.tc : Thread Cert.Reference2Ideal.nD Cert.Reference2Ideal.τ).loc Cert.Reference2Ideal.main_arg0) = m ((c : Thread nD τ).loc main_arg0))
    (h1 : m' ((c.tc : Thread Cert.Reference2Ideal.nD Cert.Reference2Ideal.τ).loc Cert.Reference2Ideal.main_arg1) = m ((c : Thread nD τ).loc main_arg1))
    (h2 : m' ((c.tc : Thread Cert.Reference2Ideal.nD Cert.Reference2Ideal.τ).loc Cert.Reference2Ideal.main_arg2) = m ((c : Thread nD τ).loc main_arg2))
    (h3 : m' ((c.tc : Thread Cert.Reference2Ideal.nD Cert.Reference2Ideal.τ).loc Cert.Reference2Ideal.main_arg3) = m ((c : Thread nD τ).loc main_arg3))
    (h4 : m' ((c.tc : Thread Cert.Reference2Ideal.nD Cert.Reference2Ideal.τ).loc Cert.Reference2Ideal.main_arg4) = m ((c : Thread nD τ).loc main_arg4))
    (h5 : m' ((c.tc : Thread Cert.Reference2Ideal.nD Cert.Reference2Ideal.τ).loc Cert.Reference2Ideal.main_arg5) = m ((c : Thread nD τ).loc main_arg5))
    (h6 : m' ((c.tc : Thread Cert.Reference2Ideal.nD Cert.Reference2Ideal.τ).loc Cert.Reference2Ideal.main_arg6) = m ((c : Thread nD τ).loc main_arg6))
    (h7 : m' ((c.tc : Thread Cert.Reference2Ideal.nD Cert.Reference2Ideal.τ).loc Cert.Reference2Ideal.main_arg7) = m ((c : Thread nD τ).loc main_arg7))
    (h8 : m' ((c.tc : Thread Cert.Reference2Ideal.nD Cert.Reference2Ideal.τ).loc Cert.Reference2Ideal.main_arg8) = m ((c : Thread nD τ).loc main_arg8))
    (h9 : m' ((c.tc : Thread Cert.Reference2Ideal.nD Cert.Reference2Ideal.τ).loc Cert.Reference2Ideal.main_arg9) = m ((c : Thread nD τ).loc main_arg9))
    (h10 : m' ((c.tc : Thread Cert.Reference2Ideal.nD Cert.Reference2Ideal.τ).loc Cert.Reference2Ideal.main_arg10) = m ((c : Thread nD τ).loc main_arg10))
    (h11 : m' ((c.tc : Thread Cert.Reference2Ideal.nD Cert.Reference2Ideal.τ).loc Cert.Reference2Ideal.main_arg11) = m ((c : Thread nD τ).loc main_arg11)) :
    Cert.GateBack.Args (StableHlo.launchContents m' c) (wts m c) (tok m c) where
  x := fun s r j => (congrFun h0 _).trans (h.x _).symm
  g := fun s j => by
    obtain rfl : s = 0 := Subsingleton.elim _ _
    exact (congrFun h1 _).trans (h.g _).symm
  w := fun p q => (congrFun h2 _).trans (h.w _).symm
  lg := fun s j => by
    obtain rfl : s = 0 := Subsingleton.elim _ _
    exact (congrFun h3 _).trans (h.lg _).symm
  lb := fun s j => by
    obtain rfl : s = 0 := Subsingleton.elim _ _
    exact (congrFun h4 _).trans (h.lb _).symm
  ws := fun g t s => (congrFun h5 _).trans (h.ws _).symm
  b := fun p q => (congrFun h6 _).trans (h.b _).symm
  dh := fun s r j => (congrFun h7 _).trans (h.dh _).symm
  da := fun s r j => (congrFun h8 _).trans (h.da _).symm
  dq := fun s r j => (congrFun h9 _).trans (h.dq _).symm
  dz := fun s r j => (congrFun h10 _).trans (h.dz _).symm
  dl := fun s r j => by
    have e : (tok m c s r).dl ⟨j, by omega⟩ = (m ((c : Thread nD τ).loc main_arg11) (ix3 s r j)).toReal := dif_pos j.isLt
    exact (congrFun h11 _).trans ((h.dl _).symm.trans (congrArg _ e.symm))
  uvz := fun _ _ _ => rfl
  pad := fun _ _ => rfl

/-! ## The claims -/

theorem frame_kernel : Cert.quiescent_Kernel2 := fun m ρ _ => Cert.Kernel2.Gen.frame m ρ
theorem frame_ideal : Cert.quiescent_Kernel2Ideal := fun m ρ _ => Cert.Kernel2Ideal.Gen.frame m ρ
theorem frame_ideal_pre [Cert.Pre_finite2.Facts] : Cert.quiescent_Kernel2Ideal_pre_finite2 := fun m ρ _ => Cert.Kernel2Ideal.Gen.frame m ρ
theorem frame_reference : Cert.quiescent_Reference2Ideal := fun m ρ _ =>
  (θ_run Cert.Reference2Ideal.defs _ _).mono (fun r h => ⟨fun c => (h c).2.2.2.2.2.2.2, Idealize.ShloMosaic.sem_eq_zero_of_no_sems (by decide) r.2⟩)
    (Cert.Reference2Ideal.Value.run m ρ)
theorem frame_reference_pre [Cert.Pre_finite2.Facts] : Cert.quiescent_Reference2Ideal_pre_finite2 := fun m ρ _ => frame_reference m ρ trivial

theorem named : Cert.preserves_Kernel2_Kernel2Ideal :=
  ⟨IdealRules.named_const.statement κ "root_half" .f32 0x3F3504F3#32 _ rfl, IdealRules.named_const.statement κ "density" .f32 0x3ECC422A#32 _ rfl⟩

theorem arrAt_G (m) (c : Dev nD) (w : Fin cfg0.W) : (datsG m 0 c).arrAt w cfg0.N = (dats m 0 c).arrAt w cfg0.N := rfl

theorem value [Cert.Pre_finite2.Facts] : Cert.algebraic_Kernel2Ideal_Reference2Ideal_pre_finite2 := by
  intro m ρ m' ρ' pre hargs
  have fin (c : Dev nD) : Finite m c := finite_of_pre pre c
  refine ⟨outX m, outW m, outG m, outLg m, outLb m, outWs m, outB m, ?_, ?_⟩
  · refine (θ_run defs _ _).mono (fun r h c => ?_) (run_mainG m ρ)
    have win (w : Fin cfg0.W) := ((h.toR c).1 w).trans (arrAt_G m c w)
    have kept (b : Ref sig .tc) (h1) (h2) (h3) : r.2.mem ((c : Thread nD τ).loc b) = V m c b :=
      (h.toR c).2 b (Finset.mem_sdiff.mpr ⟨Pipeline.mem_restRefs_of b h1 h2, h3⟩)
    exact ⟨(win 14).trans (fin c).arr14, (h.2 c main_v35_1 (by decide)).trans (fin c).g1, (win 15).trans (fin c).arr15, (win 16).trans (fin c).arr16,
      (win 17).trans (fin c).arr17, (win 18).trans (fin c).arr18, (win 19).trans (fin c).arr19,
      (kept main_arg0 (by decide) (by decide) (by decide)).trans (V_main_arg0 m c),
      (win 7).trans (((dats m 0 c).arrAt_in 7 rfl _).trans ((A_eq m c 7).trans (V_main_arg1 m c))),
      (kept main_arg2 (by decide) (by decide) (by decide)).trans (V_main_arg2 m c),
      (win 8).trans (((dats m 0 c).arrAt_in 8 rfl _).trans ((A_eq m c 8).trans (V_main_arg3 m c))),
      (win 9).trans (((dats m 0 c).arrAt_in 9 rfl _).trans ((A_eq m c 9).trans (V_main_arg4 m c))),
      (kept main_arg5 (by decide) (by decide) (by decide)).trans (V_main_arg5 m c),
      (kept main_arg6 (by decide) (by decide) (by decide)).trans (V_main_arg6 m c),
      (kept main_arg7 (by decide) (by decide) (by decide)).trans (V_main_arg7 m c),
      (kept main_arg8 (by decide) (by decide) (by decide)).trans (V_main_arg8 m c),
      (kept main_arg9 (by decide) (by decide) (by decide)).trans (V_main_arg9 m c),
      (kept main_arg10 (by decide) (by decide) (by decide)).trans (V_main_arg10 m c),
      (kept main_arg11 (by decide) (by decide) (by decide)).trans (V_main_arg11 m c)⟩
  · refine (θ_run Cert.Reference2Ideal.defs _ _).mono (fun r h c => ?_) (Cert.Reference2Ideal.Value.run m' ρ')
    obtain ⟨k0, k1, k2, k3, k4, k5, k6, keep⟩ := h c
    obtain ⟨a0, a1, a2, a3, a4, a5, a6, a7, a8, a9, a10, a11⟩ := hargs c
    have A := (fin c).args a0 a1 a2 a3 a4 a5 a6 a7 a8 a9 a10 a11
    refine ⟨k0.trans (funext fun i => ?_), k1.trans (funext fun i => ?_), k2.trans (funext fun i => ?_), k3.trans (funext fun i => ?_), k4.trans (funext fun i => ?_),
      k5.trans (funext fun i => ?_), k6.trans (funext fun i => ?_), keep⟩
    · rw [eq_ix2 i]
      exact Cert.GateBack.res198 A (i 0) (i 1)
    · rw [eq_ix3 i]
      exact Cert.GateBack.res200 A (i 0) (i 1) (i 2)
    · rw [eq_ix2 i]
      exact Cert.GateBack.res197 A (i 0) (i 1)
    · rw [eq_ix2 i]
      exact Cert.GateBack.res170 A (i 0) (i 1)
    · rw [eq_ix2 i]
      exact Cert.GateBack.res169 A (i 0) (i 1)
    · rw [eq_ix3 i]
      exact Cert.GateBack.res201 A (i 0) (i 1) (i 2)
    · rw [eq_ix2 i]
      exact Cert.GateBack.res203 A (i 0) (i 1)

end Cert.Gate
-- ==== Proof.Fwd.Spec.lean ====
module

public import Idealize.ShloMosaic.PureOps.Ideal.Laws
public import proofs.«01_k».proof.Proof.Gate.Spec

@[expose] public section

noncomputable section

namespace Cert.Fwd

open Idealize.ShloMosaic

/-! The values of the forward call, over the extended reals: no argument is assumed finite. -/

/-- The weights. -/
structure Wt where
  g : Fin 1024 → EReal
  w : Fin 3592 → Fin 1024 → EReal
  wp : Fin 128 → Fin 1024 → EReal
  lg : Fin 512 → EReal
  lb : Fin 512 → EReal
  ws : Fin 4 → Fin 128 → Fin 128 → EReal
  b : Fin 128 → Fin 4 → EReal
  cw : Fin 4 → Fin 1536 → EReal

abbrev half : EReal := Ideal.ofBits .f32 0x3F000000#32
abbrev eps : EReal := Ideal.ofBits .f32 0x358637BD#32

/-- A row scaled by its root mean square and by the weights. -/
def xn (g x : Fin 1024 → EReal) (k : Fin 1024) : EReal :=
  x k * Ideal.rsqrt (Ideal.div (∑ k, x k * x k) (Ideal.ofBits .f32 0x44800000#32) + eps) * g k
/-- A column of the projection of a row. -/
def pj (g x w : Fin 1024 → EReal) : EReal := ∑ k, xn g x k * w k
/-- The exact form of the activation, and the gate. -/
def gel (u : EReal) : EReal := u * (half + half * Ideal.erf (u * ((Real.sqrt 2⁻¹ : ℝ) : EReal)))
def sil (z : EReal) : EReal := z * (half * Ideal.tanh (half * z) + half)
/-- Centred values, and their normalisation with weights. -/
def xc (v : Fin 128 → EReal) (j : Fin 128) : EReal := v j - Ideal.div (∑ j, v j) (Ideal.ofBits .f32 0x43000000#32)
def lnv (g b v : Fin 128 → EReal) (j : Fin 128) : EReal :=
  xc v j * Ideal.rsqrt (Ideal.div (∑ j, xc v j * xc v j) (Ideal.ofBits .f32 0x43000000#32) + eps) * g j + b j
/-- The mixing of a chunk's rows, each with itself and the earlier ones. -/
def mix (ws : Fin 128 → Fin 128 → EReal) (b : Fin 128 → EReal) (v : Fin 128 → Fin 128 → EReal) (t j : Fin 128) : EReal :=
  (∑ s, if s ≤ t then ws t s * v s j else 0) + b t
/-- The gating unit on one group of a chunk. -/
def sgu (g b : Fin 128 → EReal) (ws : Fin 128 → Fin 128 → EReal) (bt : Fin 128 → EReal) (u v z : Fin 128 → Fin 128 → EReal) (t j : Fin 128) : EReal :=
  gel (u t j) * mix ws bt (fun s => lnv g b fun j => gel (v s j)) t j * sil (z t j)

variable (W : Wt)

/-- Column `p` of a row's projection. -/
def pr (x : Fin 1024 → EReal) (p : Fin 3592) : EReal := pj W.g x (W.w p)

/-- The gating unit's result on one group of a chunk of rows, and by the result's columns. -/
def aG (C : Fin 128 → Fin 1024 → EReal) (t : Fin 128) (g : Fin 4) (j : Fin 128) : EReal :=
  sgu (fun j => W.lg ⟨128 * g + j, by omega⟩) (fun j => W.lb ⟨128 * g + j, by omega⟩) (W.ws g) (fun t => W.b t g)
    (fun s j => pr W (C s) ⟨128 * g + j, by omega⟩) (fun s j => pr W (C s) ⟨512 + 128 * g + j, by omega⟩) (fun s j => pr W (C s) ⟨1024 + 128 * g + j, by omega⟩) t j
def aO (C : Fin 128 → Fin 1024 → EReal) (t : Fin 128) (p : Fin 512) : EReal := aG W C t ⟨p / 128, by omega⟩ ⟨p % 128, by omega⟩

/-- The four-tap sum at a row, of the rows up to it; `q n` is the row `n - 3` places after it. -/
def cv (q : ℕ → Fin 1536 → EReal) (p : Fin 1536) : EReal := W.cw 0 p * q 0 p + W.cw 1 p * q 1 p + W.cw 2 p * q 2 p + W.cw 3 p * q 3 p

end Cert.Fwd
-- ==== Proof.Fwd.Tile.lean ====
module

public import proofs.«01_k».proof.Proof.Gen.Kernel3Ideal.Skeleton
public import proofs.«01_k».proof.Proof.Gate.Stack
public import proofs.«01_k».proof.Proof.Fwd.Spec
public import Idealize.ShloMosaic.Lib.Pipeline.ReadBack
public import Idealize.ShloMosaic.Lib.WritesUnit
public import Idealize.ShloMosaic.Lib.Pipeline.ValueKit

@[expose] public section

set_option maxRecDepth 65536
set_option maxHeartbeats 200000

noncomputable section

namespace Cert.Fwd

open Cert.Kernel3Ideal Cert.Kernel3Ideal.Gen
open Cert.Gate (inb2 inb3 colOf hot mask_sel canon_over)
open Idealize.ShloMosaic Idealize.ShloMosaic.Tactic

/-- The blocks a grid point reads are the weights and the tile's rows. -/
structure Blk (W : Wt) (Q : Fin 512 → Fin 1024 → EReal) (x0 : Vec Ideal S512x1024 .f32) (x1 : Vec Ideal S1x1024 .f32) (x2 : Vec Ideal S3592x1024 .bf16) (x3 : Vec Ideal S128x1024 .bf16)
    (x4 x5 : Vec Ideal S1x512 .f32) (x6 : Vec Ideal S4x128x128 .f32) (x7 : Vec Ideal S128x4 .f32) (x8 : Vec Ideal S4x1536 .f32) : Prop where
  x r k : x0 (ix2 r k) = Q r k
  g r k : x1 (ix2 r k) = W.g k
  w p k : x2 (ix2 p k) = W.w p k
  wp p k : x3 (ix2 p k) = W.wp p k
  lg r p : x4 (ix2 r p) = W.lg p
  lb r p : x5 (ix2 r p) = W.lb p
  ws g t s : x6 (ix3 g t s) = W.ws g t s
  b t g : x7 (ix2 t g) = W.b t g
  cw i p : x8 (ix2 i p) = W.cw i p

theorem root_half : Named.named (F := Ideal) κ "root_half" (φ := .f32) 0x3F3504F3#32 = ((Real.sqrt 2⁻¹ : ℝ) : EReal) :=
  IdealRules.named_const.ideal_named_scalar _ _ _ _ rfl

/-! ## Blocks cut from tables -/

theorem cut_at {a b a' b' p q : ℕ} {e : EltTy} (v : (⟨2, ![a, b]⟩ : Shape).Idx → Elt Ideal e) (inb : ∀ i, (![p, q] : Fin 2 → ℕ) i + (![a', b'] : Fin 2 → ℕ) i ≤ (![a, b] : Fin 2 → ℕ) i)
    (r : Fin a') (j : Fin b') : View.ld (Val := Elt Ideal) (e' := e) v (Rect.unit (s := ⟨2, ![a, b]⟩) ![p, q] ![a', b'] inb) (ix2 r j)
      = v (ix2 ⟨p + r, (Nat.add_lt_add_left r.isLt p).trans_le (inb 0)⟩ ⟨q + j, (Nat.add_lt_add_left j.isLt q).trans_le (inb 1)⟩) := by
  rw [View.ld_unit_apply_of (i := ix2 _ _)]
  intro i
  fin_cases i <;> rfl

theorem cut3_at {g : ℕ} (hg : g < 4) (v : Vec Ideal S4x128x128 .f32) (t s : Fin 128) :
    View.ld v (Rect.unit (s := S4x128x128) ![g, 0, 0] ![1, 128, 128] (inb3 hg)) (ix3 0 t s) = v (ix3 ⟨g, hg⟩ t s) := by
  rw [View.ld_unit_apply_of (i := ix3 ⟨g, hg⟩ t s)]
  intro i
  fin_cases i
  exacts [rfl, (Nat.zero_add _).symm, (Nat.zero_add _).symm]

theorem col_at (g : Fin 4) (T : Vec Ideal S128x4 .f32) (t : Fin 128) : colOf (BitVec.ofNat 32 g.val) T (ix2 t 0) = T (ix2 t g) := by
  pointwise [colOf]
  simp only [hot]
  rw [Finset.sum_eq_single g (fun k _ hk => by rw [if_neg hk, EReal.coe_zero, mul_zero]) (fun h => absurd (Finset.mem_univ _) h), if_pos rfl, EReal.coe_one, mul_one]

/-! ## The projection's blocks -/

theorem nrm_at (X : Vec Ideal S512x1024 .f32) (G : Vec Ideal S1x1024 .f32) (r : Fin 512) (k : Fin 1024) :
    k0_pay4 (F := Ideal) X G (ix2 r k) = xn (fun k => G (ix2 0 k)) (fun k => X (ix2 r k)) k := by
  pointwise [k0_pay4]
  rfl

theorem pj_at (X : Vec Ideal S512x1024 .f32) (G : Vec Ideal S1x1024 .f32) (A : Vec Ideal S512x1024 .bf16) (r j : Fin 512) :
    k0_pay2 (F := Ideal) (k0_pay4 X G) A (ix2 r j) = pj (fun k => G (ix2 0 k)) (fun k => X (ix2 r k)) fun k => A (ix2 j k) := by
  pointwise [k0_pay2]
  simp only [nrm_at]
  rfl

theorem pjl_at (X : Vec Ideal S512x1024 .f32) (G : Vec Ideal S1x1024 .f32) (A : Vec Ideal S128x1024 .bf16) (r : Fin 512) (j : Fin 128) :
    k0_pay151 (F := Ideal) (k0_pay4 X G) A (ix2 r j) = pj (fun k => G (ix2 0 k)) (fun k => X (ix2 r k)) fun k => A (ix2 j k) := by
  pointwise [k0_pay151]
  simp only [nrm_at]
  rfl

/-- The rows of the weights from `o` on. -/
def wrows (x2 : Vec Ideal S3592x1024 .bf16) (o : ℕ) (h : o + 512 ≤ 3592) : Vec Ideal S512x1024 .bf16 :=
  View.ld x2 (Rect.unit (s := S3592x1024) ![o, 0] ![512, 1024] (inb2 h le_rfl))

theorem wrows_at (x2 : Vec Ideal S3592x1024 .bf16) (o : ℕ) (h : o + 512 ≤ 3592) (j : Fin 512) (k : Fin 1024) : wrows x2 o h (ix2 j k) = x2 (ix2 ⟨o + j, by omega⟩ k) :=
  (cut_at x2 _ j k).trans (congrArg (fun i => x2 (ix2 _ i)) (Fin.ext (Nat.zero_add _)))

variable {W : Wt} {Q : Fin 512 → Fin 1024 → EReal} {x0 : Vec Ideal S512x1024 .f32} {x1 : Vec Ideal S1x1024 .f32} {x2 : Vec Ideal S3592x1024 .bf16} {x3 : Vec Ideal S128x1024 .bf16}
    {x4 x5 : Vec Ideal S1x512 .f32} {x6 : Vec Ideal S4x128x128 .f32} {x7 : Vec Ideal S128x4 .f32} {x8 : Vec Ideal S4x1536 .f32}

theorem Blk.pr (B : Blk W Q x0 x1 x2 x3 x4 x5 x6 x7 x8) (o : ℕ) (h : o + 512 ≤ 3592) (r j : Fin 512) :
    k0_pay2 (F := Ideal) (k0_pay4 x0 x1) (wrows x2 o h) (ix2 r j) = pr W (Q r) ⟨o + j, by omega⟩ := by
  rw [pj_at]
  simp only [B.x, B.g, wrows_at, B.w]
  rfl

theorem Blk.pl (B : Blk W Q x0 x1 x2 x3 x4 x5 x6 x7 x8) (r : Fin 512) (j : Fin 128) :
    k0_pay151 (F := Ideal) (k0_pay4 x0 x1) x3 (ix2 r j) = pj W.g (Q r) (W.wp j) := by
  rw [pjl_at]
  simp only [B.x, B.g, B.wp]

/-- Three blocks of columns, the last first. -/
def cols (P : Fin 3 → FVec Ideal S512x512 .f32) : List (View.Piece (Elt Ideal) S512x1536 .f32) :=
  let at' (k : Fin 3) : View.Piece (Elt Ideal) S512x1536 .f32 := ⟨Rect.unit ![0, 512 * k] ![512, 512] (inb2 le_rfl (by omega)), P k⟩
  [at' 2, at' 1, at' 0]

theorem cols_at {P : Fin 3 → FVec Ideal S512x512 .f32} {f : Fin 512 → Fin 1536 → EReal} (h : ∀ k r j, P k (ix2 r j) = f r ⟨512 * k + j, by omega⟩) (r : Fin 512) (p : Fin 1536) :
    View.canon (cols P) (ix2 r p) = f r p := by
  refine View.canon_eq_of_allAt _ _ _ (View.cover_of_tiled_head _ _ _ rfl _) ?_
  have hm : ∀ p ∈ cols P, ∃ k : Fin 3, p = ⟨Rect.unit ![0, 512 * k] ![512, 512] (inb2 le_rfl (by omega)), P k⟩ := by
    intro p hp
    simp only [cols, List.mem_cons, List.not_mem_nil, or_false] at hp
    rcases hp with hp | hp | hp <;> exact ⟨_, hp⟩
  intro q hq x hx
  obtain ⟨k, rfl⟩ := hm q hq
  have e0 : r = x 0 := Fin.ext (by
    have := congrArg (fun y => (y 0).val) hx
    simpa [Rect.emb_apply] using this.symm)
  have e1 : p.val = 512 * k + (x 1).val := by
    have := congrArg (fun y => (y 1).val) hx
    simpa [Rect.emb_apply] using this.symm
  refine (congrArg _ (eq_ix2 x)).trans ((h k (x 0) (x 1)).trans ?_)
  rw [e0, show p = ⟨512 * k + (x 1).val, e1 ▸ p.isLt⟩ from Fin.ext e1]

/-- The projection's columns from `o` on, in three blocks. -/
def prs (x0 : Vec Ideal S512x1024 .f32) (x1 : Vec Ideal S1x1024 .f32) (x2 : Vec Ideal S3592x1024 .bf16) (o : ℕ) (h : o + 1536 ≤ 3592) (k : Fin 3) : FVec Ideal S512x512 .f32 :=
  k0_pay2 (F := Ideal) (k0_pay4 x0 x1) (wrows x2 (o + 512 * k) (by omega))

theorem Blk.prs (B : Blk W Q x0 x1 x2 x3 x4 x5 x6 x7 x8) (o : ℕ) (h : o + 1536 ≤ 3592) (r : Fin 512) (p : Fin 1536) :
    View.canon (cols (prs x0 x1 x2 o h)) (ix2 r p) = Fwd.pr W (Q r) ⟨o + p, by omega⟩ := by
  refine cols_at (f := fun r p => Fwd.pr W (Q r) ⟨o + p, by omega⟩) (fun k r j => ?_) r p
  refine (B.pr (o + 512 * k) _ r j).trans ?_
  simp only [Nat.add_assoc]

/-- A block read back from what the pieces stored. -/
theorem back_at {a b a' b' p q : ℕ} {e : EltTy} {sig : RefSig} {κ : Kind} {sp : Space} (v : View sig κ sp ⟨2, ![a, b]⟩ e) (L : List (View.Piece (Elt Ideal) ⟨2, ![a, b]⟩ e))
    (inb : ∀ i, (![p, q] : Fin 2 → ℕ) i + (![a', b'] : Fin 2 → ℕ) i ≤ (![a, b] : Fin 2 → ℕ) i) (r : Fin a') (j : Fin b') :
    v.readCov L (Rect.unit (s := ⟨2, ![a, b]⟩) ![p, q] ![a', b'] inb).toLoadRect (ix2 r j)
      = View.canon L (ix2 ⟨p + r, (Nat.add_lt_add_left r.isLt p).trans_le (inb 0)⟩ ⟨q + j, (Nat.add_lt_add_left j.isLt q).trans_le (inb 1)⟩) := by
  rw [View.readCov_eq_canon']
  exact cut_at _ inb r j

/-! ## The gating unit -/

/-- What the body stores of one group of a chunk. -/
def vA (U V Z : Vec Ideal S128x128 .f32) (C : FVec Ideal S128x1 .f32) (G B : Vec Ideal S1x128 .f32) (S : Vec Ideal S1x128x128 .f32) : FVec Ideal S128x128 .bf16 :=
  k0_pay17 (F := Ideal) (k0_pay11 Z) (k0_pay14 (k0_pay9 U) (k0_pay10 V) C G B (k0_pay13 S)) (k0_pay15 (k0_pay11 Z)) k0_pay16

theorem vA_at (U V Z : Vec Ideal S128x128 .f32) (C : FVec Ideal S128x1 .f32) (G B : Vec Ideal S1x128 .f32) (S : Vec Ideal S1x128x128 .f32) (t j : Fin 128) :
    vA U V Z C G B S (ix2 t j) = sgu (fun j => G (ix2 0 j)) (fun j => B (ix2 0 j)) (fun t s => S (ix3 0 t s)) (fun t => C (ix2 t 0))
      (fun t j => U (ix2 t j)) (fun t j => V (ix2 t j)) (fun t j => Z (ix2 t j)) t j := by
  unfold vA
  pointwise [k0_pay17, k0_pay16, k0_pay15, k0_pay14, k0_pay13, k0_pay11, k0_pay10, k0_pay9]
  simp only [root_half, Ideal.erf_def, mask_sel]
  have e (s : Fin 128) (a : EReal) : Scalar.select (BitVec.ofBool (decide (s.val ≤ t.val))) a 0 = if s ≤ t then a else 0 := by
    by_cases h : s.val ≤ t.val <;> simp [h, Scalar.select, Fin.le_def]
  simp only [e]
  rfl

variable {sig : RefSig} {κ : Kind} {sp : Space}

/-- A block of a chunk's columns, as stored. -/
def blkAt (v : View sig κ sp S512x1536 .f32) (L : List (View.Piece (Elt Ideal) S512x1536 .f32)) (h : Fin 4) (o : ℕ) (ho : o + 128 ≤ 1536) : Vec Ideal S128x128 .f32 :=
  v.readCov L (Rect.unit (s := S512x1536) ![128 * h, o] ![128, 128] (inb2 (by omega) ho)).toLoadRect

/-- The result of one group of a chunk; `v` is where the projection's columns were stored. -/
def grpP (v : View sig κ sp S512x1536 .f32) (L : List (View.Piece (Elt Ideal) S512x1536 .f32)) (x4 x5 : Vec Ideal S1x512 .f32) (x6 : Vec Ideal S4x128x128 .f32) (x7 : Vec Ideal S128x4 .f32)
    (h g : Fin 4) : FVec Ideal S128x128 .bf16 :=
  vA (blkAt v L h (128 * g) (by omega)) (blkAt v L h (512 + 128 * g) (by omega)) (blkAt v L h (1024 + 128 * g) (by omega)) (colOf (BitVec.ofNat 32 g.val) x7)
    (View.ld x4 (Rect.unit (s := S1x512) ![0, 128 * g] ![1, 128] (inb2 le_rfl (by omega)))) (View.ld x5 (Rect.unit (s := S1x512) ![0, 128 * g] ![1, 128] (inb2 le_rfl (by omega))))
    (View.ld x6 (Rect.unit (s := S4x128x128) ![g.val, 0, 0] ![1, 128, 128] (inb3 g.isLt)))

/-- The sixteen groups' results, the last first. -/
def grps (P : Fin 4 → Fin 4 → FVec Ideal S128x128 .bf16) : List (View.Piece (Elt Ideal) S512x512 .bf16) :=
  let at' (h g : Fin 4) : View.Piece (Elt Ideal) S512x512 .bf16 := ⟨Rect.unit ![128 * h, 128 * g] ![128, 128] (inb2 (by omega) (by omega)), P h g⟩
  [at' 3 3, at' 3 2, at' 3 1, at' 3 0, at' 2 3, at' 2 2, at' 2 1, at' 2 0, at' 1 3, at' 1 2, at' 1 1, at' 1 0, at' 0 3, at' 0 2, at' 0 1, at' 0 0]

/-- A chunk of a tile's rows. -/
def chunk (Q : Fin 512 → Fin 1024 → EReal) (h : Fin 4) (t : Fin 128) : Fin 1024 → EReal := Q ⟨128 * h + t, by omega⟩

theorem Blk.grp (B : Blk W Q x0 x1 x2 x3 x4 x5 x6 x7 x8) (v : View sig κ sp S512x1536 .f32) (h g : Fin 4) (t j : Fin 128) :
    grpP v (cols (Fwd.prs x0 x1 x2 0 (by omega))) x4 x5 x6 x7 h g (ix2 t j) = aG W (chunk Q h) t g j := by
  have back (o : ℕ) (ho : o + 128 ≤ 1536) (t j : Fin 128) : blkAt v (cols (Fwd.prs x0 x1 x2 0 (by omega))) h o ho (ix2 t j) = Fwd.pr W (chunk Q h t) ⟨o + j, by omega⟩ :=
    (back_at v _ _ t j).trans ((B.prs 0 (by omega) _ _).trans (by simp only [Nat.zero_add, chunk]))
  refine (vA_at _ _ _ _ _ _ _ t j).trans ?_
  unfold aG
  congr 1
  · funext j; exact (cut_at x4 _ 0 j).trans (B.lg _ _)
  · funext j; exact (cut_at x5 _ 0 j).trans (B.lb _ _)
  · funext t s; exact (cut3_at g.isLt x6 t s).trans (B.ws _ _ _)
  · funext t; exact (col_at g x7 t).trans (B.b _ _)
  all_goals funext t j; exact back _ _ t j

theorem Blk.sgu (B : Blk W Q x0 x1 x2 x3 x4 x5 x6 x7 x8) (v : View sig κ sp S512x1536 .f32) (r p : Fin 512) :
    View.canon (grps (grpP v (cols (Fwd.prs x0 x1 x2 0 (by omega))) x4 x5 x6 x7)) (ix2 r p) = aO W (chunk Q ⟨r / 128, by omega⟩) ⟨r % 128, by omega⟩ p := by
  refine View.canon_eq_of_allAt _ _ _ (View.cover_of_tiled_head _ _ _ rfl _) ?_
  generalize hP : grpP v (cols (Fwd.prs x0 x1 x2 0 (by omega))) x4 x5 x6 x7 = P
  have hm : ∀ q ∈ grps P, ∃ h g : Fin 4, q = ⟨Rect.unit ![128 * h, 128 * g] ![128, 128] (inb2 (by omega) (by omega)), P h g⟩ := by
    intro q hq
    simp only [grps, List.mem_cons, List.not_mem_nil, or_false] at hq
    rcases hq with hq | hq | hq | hq | hq | hq | hq | hq | hq | hq | hq | hq | hq | hq | hq | hq <;> exact ⟨_, _, hq⟩
  intro q hq x hx
  obtain ⟨h, g, rfl⟩ := hm q hq
  have e0 : r.val = 128 * h + (x 0).val := by
    have := congrArg (fun y => (y 0).val) hx
    simpa [Rect.emb_apply] using this.symm
  have e1 : p.val = 128 * g + (x 1).val := by
    have := congrArg (fun y => (y 1).val) hx
    simpa [Rect.emb_apply] using this.symm
  have l0 : (x 0).val < 128 := (x 0).isLt
  have l1 : (x 1).val < 128 := (x 1).isLt
  subst hP
  refine (congrArg _ (eq_ix2 x)).trans ((B.grp v h g (x 0) (x 1)).trans ?_)
  rw [aO, show (⟨r / 128, by omega⟩ : Fin 4) = h from Fin.ext (by dsimp only; omega), show (⟨r % 128, by omega⟩ : Fin 128) = x 0 from Fin.ext (by dsimp only; omega),
    show (⟨p / 128, by omega⟩ : Fin 4) = g from Fin.ext (by dsimp only; omega), show (⟨p % 128, by omega⟩ : Fin 128) = x 1 from Fin.ext (by dsimp only; omega)]

/-! ## The convolution -/

/-- The rows the taps read: `P` first, then a tile's. -/
def pad8 (P : Fin 8 → Fin 1536 → EReal) (q : Fin 512 → Fin 1536 → EReal) (i : ℕ) (p : Fin 1536) : EReal :=
  if h : i < 8 then P ⟨i, h⟩ p else if h : i - 8 < 512 then q ⟨i - 8, h⟩ p else 0

/-- What the body stores of the taps' sums. -/
def vC (X : FVec Ideal S520x1536 .f32) (A B C D : FVec Ideal S1x1536 .f32) : FVec Ideal S512x1536 .f32 := k0_pay155 (F := Ideal) X (k0_pay153 X A) (k0_pay154 X) B C D

theorem vC_at (X : FVec Ideal S520x1536 .f32) (A B C D : FVec Ideal S1x1536 .f32) (r : Fin 512) (p : Fin 1536) :
    vC X A B C D (ix2 r p) = A (ix2 0 p) * X (ix2 ⟨5 + r, by omega⟩ p) + B (ix2 0 p) * X (ix2 ⟨6 + r, by omega⟩ p) + C (ix2 0 p) * X (ix2 ⟨7 + r, by omega⟩ p) + D (ix2 0 p) * X (ix2 ⟨8 + r, by omega⟩ p) := by
  unfold vC
  pointwise [k0_pay155, k0_pay153, k0_pay154]
  have e (n m : ℕ) (h : n + m = 520) (hm : 513 ≤ m) (hm' : m ≤ 515) : (⟨(r.val + 520 - m) % 520, by omega⟩ : Fin 520) = ⟨n + r, by omega⟩ := Fin.ext (by dsimp only; omega)
  rw [e 5 515 rfl (by omega) (by omega), e 6 514 rfl (by omega) (by omega), e 7 513 rfl (by omega) (by omega)]

/-- A row of the taps. -/
def tap (x8 : Vec Ideal S4x1536 .f32) (i : Fin 4) : FVec Ideal S1x1536 .f32 := View.ld x8 (Rect.unit (s := S4x1536) ![i.val, 0] ![1, 1536] (inb2 (by omega) le_rfl))

theorem tap_at (x8 : Vec Ideal S4x1536 .f32) (i : Fin 4) (p : Fin 1536) : tap x8 i (ix2 0 p) = x8 (ix2 i p) :=
  (cut_at x8 _ 0 p).trans (congrArg (fun k => x8 (ix2 i k)) (Fin.ext (Nat.zero_add _)))

/-- A tile's columns that the taps read. -/
def qc (W : Wt) (Q : Fin 512 → Fin 1024 → EReal) (r : Fin 512) (p : Fin 1536) : EReal := Fwd.pr W (Q r) ⟨1536 + p, by omega⟩

theorem Blk.conv (B : Blk W Q x0 x1 x2 x3 x4 x5 x6 x7 x8) (X : FVec Ideal S520x1536 .f32) (P : Fin 8 → Fin 1536 → EReal) (q : Fin 512 → Fin 1536 → EReal)
    (hX : ∀ i p, X (ix2 i p) = pad8 P q i p) (r : Fin 512) (p : Fin 1536) :
    vC X (tap x8 0) (tap x8 1) (tap x8 2) (tap x8 3) (ix2 r p) = cv W (fun n => pad8 P q (5 + n + r)) p := by
  rw [vC_at]
  simp only [tap_at, B.cw, hX]
  rfl

/-- A row of a stored block of rows. -/
theorem rows_at {a b a' o : ℕ} {e : EltTy} (inb : ∀ i, (![o, 0] : Fin 2 → ℕ) i + (![a', b] : Fin 2 → ℕ) i ≤ (![a, b] : Fin 2 → ℕ) i) (Y : (⟨2, ![a', b]⟩ : Shape).Idx → Elt Ideal e)
    (L : List (View.Piece (Elt Ideal) ⟨2, ![a, b]⟩ e)) (i : Fin a) (r : Fin a') (h : i.val = o + r) (j : Fin b) :
    View.canon ((⟨Rect.unit (s := ⟨2, ![a, b]⟩) ![o, 0] ![a', b] inb, Y⟩ : View.Piece (Elt Ideal) ⟨2, ![a, b]⟩ e) :: L) (ix2 i j) = Y (ix2 r j) := by
  refine Eq.trans (congrArg _ ?_) (View.canon_cons_emb (Rect.unit (s := ⟨2, ![a, b]⟩) ![o, 0] ![a', b] inb) Y L (ix2 r j))
  funext k
  fin_cases k <;> exact Fin.ext (by simp [Rect.emb_apply, h])

theorem rows_not {a b a' o : ℕ} (inb : ∀ i, (![o, 0] : Fin 2 → ℕ) i + (![a', b] : Fin 2 → ℕ) i ≤ (![a, b] : Fin 2 → ℕ) i) (i : Fin a) (j : Fin b) (h : i.val < o) :
    ix2 i j ∉ (Rect.unit (s := ⟨2, ![a, b]⟩) ![o, 0] ![a', b] inb).set := by
  intro hm
  obtain ⟨k, -, hk⟩ := (Rect.unit (s := ⟨2, ![a, b]⟩) ![o, 0] ![a', b] inb).mem_set.mp hm 0
  have : i.val = o + 1 * k := hk
  omega

theorem rows_skip {a b a' o : ℕ} {e : EltTy} (inb : ∀ i, (![o, 0] : Fin 2 → ℕ) i + (![a', b] : Fin 2 → ℕ) i ≤ (![a, b] : Fin 2 → ℕ) i) (Y : (⟨2, ![a', b]⟩ : Shape).Idx → Elt Ideal e)
    (L : List (View.Piece (Elt Ideal) ⟨2, ![a, b]⟩ e)) (i : Fin a) (j : Fin b) (h : i.val < o) :
    View.canon ((⟨Rect.unit (s := ⟨2, ![a, b]⟩) ![o, 0] ![a', b] inb, Y⟩ : View.Piece (Elt Ideal) ⟨2, ![a, b]⟩ e) :: L) (ix2 i j) = View.canon L (ix2 i j) :=
  View.canon_cons_of_not_mem (⟨Rect.unit (s := ⟨2, ![a, b]⟩) ![o, 0] ![a', b] inb, Y⟩ : View.Piece (Elt Ideal) ⟨2, ![a, b]⟩ e) L (rows_not inb i j h)

theorem halo_at (i0 i8) (Y : FVec Ideal S512x1536 .f32) (Z : FVec Ideal S8x1536 .f32) (i : Fin 520) (p : Fin 1536) :
    View.canon [(⟨Rect.unit (s := S520x1536) ![8, 0] ![512, 1536] i8, Y⟩ : View.Piece (Elt Ideal) S520x1536 .f32), ⟨Rect.unit ![0, 0] ![8, 1536] i0, Z⟩] (ix2 i p)
      = pad8 (fun r p => Z (ix2 r p)) (fun r p => Y (ix2 r p)) i p := by
  unfold pad8
  by_cases h : i.val < 8
  · rw [dif_pos h]
    exact (rows_skip (a := 520) (b := 1536) (a' := 512) (o := 8) (e := .f32) i8 Y _ i p h).trans (rows_at (a := 520) (b := 1536) (a' := 8) (o := 0) (e := .f32) i0 Z [] i ⟨i, h⟩ (Nat.zero_add _).symm p)
  · have h' : i.val - 8 < 512 := by omega
    rw [dif_neg h, dif_pos h']
    exact rows_at (a := 520) (b := 1536) (a' := 512) (o := 8) (e := .f32) i8 Y _ i ⟨i - 8, h'⟩ (by dsimp only; omega) p

/-- The same over what a buffer held before. -/
theorem over_at {sig : RefSig} {κ : Kind} {sp : Space} (v : View sig κ sp S520x1536 .f32) (f) (i8) (Y : FVec Ideal S512x1536 .f32) (Z : Fin 8 → Fin 1536 → EReal)
    (hZ : ∀ (r : Fin 8) p, v.read (Elt Ideal) f (ix2 ⟨r, by omega⟩ p) = Z r p) (i : Fin 520) (p : Fin 1536) :
    v.read (Elt Ideal) (v.writes (Elt Ideal) f [(⟨Rect.unit (s := S520x1536) ![8, 0] ![512, 1536] i8, Y⟩ : View.Piece (Elt Ideal) S520x1536 .f32)]) (ix2 i p)
      = pad8 Z (fun r p => Y (ix2 r p)) i p := by
  unfold pad8
  by_cases h : i.val < 8
  · rw [dif_pos h]
    exact (View.read_writes_cons_rows_of_not_mem (o := 8) (W := 512) v f i8 Y [] (ix2 i p) rfl rfl (Or.inl h)).trans (hZ ⟨i, h⟩ p)
  · have h' : i.val - 8 < 512 := by omega
    rw [dif_neg h, dif_pos h']
    exact View.read_writes_cons_rows_of_mem (o := 8) v f i8 Y [] (ix2 i p) (ix2 ⟨i - 8, h'⟩ p) rfl (show i.val = 8 + (i.val - 8) by omega) rfl

end Cert.Fwd
-- ==== Proof.Fwd.Step.lean ====
module

public import proofs.«01_k».proof.Proof.Gen.Kernel3Ideal.Frame
public import proofs.«01_k».proof.Proof.Fwd.Tile

@[expose] public section

set_option maxRecDepth 65536
set_option maxHeartbeats 400000

noncomputable section

namespace Cert.Fwd

open Cert.Kernel3Ideal Cert.Kernel3Ideal.Gen
open Idealize.ShloMosaic Idealize.ShloMosaic.Tactic

/-- What a grid point leaves: its tile's projection, the gating unit's result and the taps' sums, and the last rows for the next point. -/
structure Out (W : Wt) (Q : Fin 512 → Fin 1024 → EReal) (P : Fin 8 → Fin 1536 → EReal)
    (o : Vec Ideal S512x1536 .f32 × Vec Ideal S512x1536 .f32 × Vec Ideal S512x512 .f32 × Vec Ideal S512x128 .f32 × Vec Ideal S512x512 .bf16 × Vec Ideal S512x1536 .f32 × Vec Ideal S520x1536 .f32) : Prop where
  u r p : o.1 (ix2 r p) = pr W (Q r) ⟨p, by omega⟩
  q r p : o.2.1 (ix2 r p) = qc W Q r p
  z r p : o.2.2.1 (ix2 r p) = pr W (Q r) ⟨3072 + p, by omega⟩
  l r p : o.2.2.2.1 (ix2 r p) = pj W.g (Q r) (W.wp p)
  a r p : o.2.2.2.2.1 (ix2 r p) = aO W (chunk Q ⟨r / 128, by omega⟩) ⟨r % 128, by omega⟩ p
  c r p : o.2.2.2.2.2.1 (ix2 r p) = cv W (fun n => pad8 P (qc W Q) (5 + n + r)) p
  s (r : Fin 8) p : o.2.2.2.2.2.2 (ix2 ⟨r, by omega⟩ p) = qc W Q ⟨504 + r, by omega⟩ p

variable (W : Wt) (Q : Fin 512 → Fin 1024 → EReal) (m : (ℓ : Loc nD τ sig) → Buf (Elt Ideal) ℓ) (c : Dev nD)

/-- The columns read back whole. -/
theorem Blk.qs {W : Wt} {Q : Fin 512 → Fin 1024 → EReal} {x0 : Vec Ideal S512x1024 .f32} {x1 : Vec Ideal S1x1024 .f32} {x2 : Vec Ideal S3592x1024 .bf16} {x3 : Vec Ideal S128x1024 .bf16}
    {x4 x5 : Vec Ideal S1x512 .f32} {x6 : Vec Ideal S4x128x128 .f32} {x7 : Vec Ideal S128x4 .f32} {x8 : Vec Ideal S4x1536 .f32} (B : Blk W Q x0 x1 x2 x3 x4 x5 x6 x7 x8)
    {sig : RefSig} {κ : Kind} {sp : Space} (v : View sig κ sp S512x1536 .f32) (inb) (r : Fin 512) (p : Fin 1536) :
    v.readCov (cols (Fwd.prs x0 x1 x2 1536 (by omega))) (Rect.unit (s := S512x1536) ![0, 0] ![512, 1536] inb).toLoadRect (ix2 r p) = qc W Q r p := by
  refine (back_at (a' := 512) (b' := 1536) v _ inb r p).trans ((B.prs 1536 (by omega) _ _).trans ?_)
  simp only [Nat.zero_add, qc]

theorem cast2 (Y : FVec Ideal S512x1536 .f32) (h h') (r : Fin 512) (p : Fin 1536) : shapeCast S512x1536 (shapeCast S512x1536 Y h) h' (ix2 r p) = Y (ix2 r p) := by
  pointwise

theorem haloR {sig : RefSig} {κ : Kind} {sp : Space} (v : View sig κ sp S520x1536 .f32) (i0 i8) (Y : FVec Ideal S512x1536 .f32) (Z : FVec Ideal S8x1536 .f32) (inb) (i : Fin 520) (p : Fin 1536) :
    v.readCov [(⟨Rect.unit (s := S520x1536) ![8, 0] ![512, 1536] i8, Y⟩ : View.Piece (Elt Ideal) S520x1536 .f32), ⟨Rect.unit ![0, 0] ![8, 1536] i0, Z⟩]
        (Rect.unit (s := S520x1536) ![0, 0] ![520, 1536] inb).toLoadRect (ix2 i p)
      = pad8 (fun r p => Z (ix2 r p)) (fun r p => Y (ix2 r p)) i p := by
  refine (back_at (a := 520) (b := 1536) (a' := 520) (b' := 1536) (p := 0) (q := 0) (e := .f32) v _ inb i p).trans ?_
  rw [show (⟨0 + p.val, by omega⟩ : Fin 1536) = p from Fin.ext (Nat.zero_add _)]
  refine (halo_at i0 i8 Y Z ⟨0 + i, by omega⟩ p).trans ?_
  simp only [Nat.zero_add]

theorem haloS {sig : RefSig} {κ : Kind} {sp : Space} (v : View sig κ sp S520x1536 .f32) (i8) (Y : FVec Ideal S512x1536 .f32) (L) (inb) (r : Fin 8) (p : Fin 1536) :
    k0_pay1 (F := Ideal) (v.readCov ((⟨Rect.unit (s := S520x1536) ![8, 0] ![512, 1536] i8, Y⟩ : View.Piece (Elt Ideal) S520x1536 .f32) :: L)
        (Rect.unit (s := S520x1536) ![512, 0] ![8, 1536] inb).toLoadRect) (ix2 r p)
      = Y (ix2 ⟨504 + r, by omega⟩ p) := by
  pointwise [k0_pay1]
  refine (back_at (a := 520) (b := 1536) (a' := 8) (b' := 1536) (p := 512) (q := 0) (e := .f32) v _ inb r p).trans ?_
  rw [show (⟨0 + p.val, by omega⟩ : Fin 1536) = p from Fin.ext (Nat.zero_add _)]
  exact rows_at (a := 520) (b := 1536) (a' := 512) (o := 8) (e := .f32) i8 Y L ⟨512 + r, by omega⟩ ⟨504 + r, by omega⟩ (by dsimp only; omega) p

theorem step_first (t : Fin cfg0.N) (h0 : t.val % 8 = 0) (B : Blk W Q (iblk m c 0 t) (iblk m c 1 t) (iblk m c 2 t) (iblk m c 3 t) (iblk m c 4 t) (iblk m c 5 t) (iblk m c 6 t) (iblk m c 7 t) (iblk m c 8 t)) :
    Out W Q (fun _ _ => 0) (outsAt0 m c t.val t.isLt) := by
  rw [outsAt0_A m c t h0]
  constructor
  all_goals
    intro r p
    dsimp only
    frame_open
    frame_out
  · refine (B.prs 0 (by omega) r p).trans ?_
    simp only [Nat.zero_add]
  · exact B.prs 1536 (by omega) r p
  · exact B.pr 3072 (by omega) r p
  · exact B.pl r p
  · exact B.sgu (ms0_9 t).view r p
  · refine B.conv _ _ (qc W Q) (fun i p => ?_) r p
    refine (haloR _ _ _ _ _ _ i p).trans ?_
    congr 1
    · funext r p
      pointwise
    · funext r p
      exact (cast2 _ _ _ r p).trans (B.qs _ _ r p)
  · refine (rows_at (a := 520) (b := 1536) (a' := 8) (o := 0) (e := .f32) _ _ _ _ r (Nat.zero_add _).symm p).trans ?_
    refine (haloS _ _ _ _ _ r p).trans ((cast2 _ _ _ _ p).trans (B.qs _ _ _ p))

/-- The rows the point before left for the taps. -/
theorem step_next (t : Fin cfg0.N) (h0 : ¬t.val % 8 = 0) (B : Blk W Q (iblk m c 0 t) (iblk m c 1 t) (iblk m c 2 t) (iblk m c 3 t) (iblk m c 4 t) (iblk m c 5 t) (iblk m c 6 t) (iblk m c 7 t) (iblk m c 8 t))
    (P : Fin 8 → Fin 1536 → EReal) (hP : ∀ (r : Fin 8) p, (outsAt0 m c (t.val - 1) (Nat.lt_of_le_of_lt (Nat.sub_le _ _) t.isLt)).2.2.2.2.2.2 (ix2 ⟨r, by omega⟩ p) = P r p) :
    Out W Q P (outsAt0 m c t.val t.isLt) := by
  rw [outsAt0_B m c t h0]
  generalize outsAt0 m c (t.val - 1) (Nat.lt_of_le_of_lt (Nat.sub_le _ _) t.isLt) = o at hP ⊢
  constructor
  all_goals
    intro r p
    dsimp only
    frame_open
    frame_out
  · refine (B.prs 0 (by omega) r p).trans ?_
    simp only [Nat.zero_add]
  · exact B.prs 1536 (by omega) r p
  · exact B.pr 3072 (by omega) r p
  · exact B.pl r p
  · exact B.sgu (ms0_9 t).view r p
  · refine B.conv _ P (qc W Q) (fun i p => ?_) r p
    refine (over_at (View.whole cc0_scratch0) _ _ _ P (fun r p => ?_) i p).trans ?_
    · try simp only [read_unread_whole]
      exact hP r p
    congr 1
    funext r p
    exact (cast2 _ _ _ r p).trans (B.qs _ _ r p)
  · refine (rows_at (a := 520) (b := 1536) (a' := 8) (o := 0) (e := .f32) _ _ _ _ r (Nat.zero_add _).symm p).trans ?_
    refine (haloS _ _ _ _ _ r p).trans ((cast2 _ _ _ _ p).trans (B.qs _ _ _ p))

end Cert.Fwd
-- ==== Proof.Fwd.Inputs.lean ====
module

public import proofs.«01_k».proof.Proof.Fwd.Step

@[expose] public section

set_option maxRecDepth 65536
set_option maxHeartbeats 2000000

noncomputable section

namespace Cert.Fwd

open Cert.Kernel3Ideal Cert.Kernel3Ideal.Gen
open Idealize.ShloMosaic Idealize.ShloMosaic.TcCoe Idealize.ShloMosaic.Tactic

/-- The weights the arguments hold, and a row of the input. -/
def wtsOf (a1 : S1x1024.Idx → EReal) (a2 : S1x1024x3592.Idx → EReal) (a3 a4 : S1x512.Idx → EReal) (a5 : S1x4x128x128.Idx → EReal) (a6 : S1x4x128.Idx → EReal) (a7 : S1x4x1536.Idx → EReal) : Wt where
  g k := a1 (ix2 (0 : Fin 1) k)
  w r k := a2 (ix3 (0 : Fin 1) k r)
  wp r k := if h : r.val < 8 then a2 (ix3 (0 : Fin 1) k (⟨3584 + r, by omega⟩ : Fin 3592)) else 0
  lg k := a3 (ix2 (0 : Fin 1) k)
  lb k := a4 (ix2 (0 : Fin 1) k)
  ws g t s := a5 (ix4 (0 : Fin 1) g t s)
  b t g := a6 (ix3 (0 : Fin 1) g t)
  cw i p := a7 (ix3 (0 : Fin 1) i p)
def rowOf (a0 : S2x4096x1024.Idx → EReal) (R : ℕ) (k : Fin 1024) : EReal := a0 (ix3 (⟨R / 4096 % 2, by omega⟩ : Fin 2) (⟨R % 4096, by omega⟩ : Fin 4096) k)

variable (m : (ℓ : Loc nD τ sig) → Buf (Elt Ideal) ℓ) (c : Dev nD)

def wts : Wt := wtsOf (m ((c : Thread nD τ).loc main_arg1)) (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
def row (R : ℕ) : Fin 1024 → EReal := rowOf (m ((c : Thread nD τ).loc main_arg0)) R
/-- The rows of a grid point's tile. -/
def tile (n : ℕ) (r : Fin 512) : Fin 1024 → EReal := row m c (512 * n + r)

/-- The block each input window reads at a grid point. -/
theorem idx : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![0, 0] ∧ win0_6.index t = ![0, 0, 0] ∧ win0_7.index t = ![0, 0] ∧ win0_8.index t = ![0, 0] := by
  decide +kernel

/-- What the host's operations before the call leave in the arrays it reads. -/
theorem host : (∀ (R : Fin 8192) k, V m c main_v8 (ix2 R k) = row m c R k) ∧ (∀ p k, V m c main_v2 (ix2 p k) = (wts m c).w p k) ∧ (∀ p k, V m c main_v4 (ix2 p k) = (wts m c).wp p k)
    ∧ (∀ g t s, V m c main_v5 (ix3 g t s) = (wts m c).ws g t s) ∧ (∀ t g, V m c main_v7 (ix2 t g) = (wts m c).b t g) ∧ (∀ i p, V m c main_v9 (ix2 i p) = (wts m c).cw i p) := by
  refine ⟨fun R k => ?_, fun R k => ?_, fun R k => ?_, fun R t k => ?_, fun R k => ?_, fun R k => ?_⟩
  all_goals
    simp only [V, hostOps0, hostOps0_1, hostOps0_2, List.flatten_cons, List.flatten_nil, List.append_nil, List.cons_append, List.nil_append]
    entry_read
    try simp only [StableHlo.TRef.toBuf, StableHlo.TRef.ofBuf, eq_mpr_eq_cast, cast_eq]
    pointwise
  · unfold row rowOf
    exact congrArg (fun s => m ((c : Thread nD τ).loc main_arg0) (ix3 s _ k)) (Fin.ext (by dsimp only; omega))
  · rfl
  · simp only [wts, wtsOf]
    split
    · rfl
    · exact (Ideal.scalar_sitofp_def (φ := .bf16) (0#32)).trans (by simp)
  · rfl
  · rfl
  · rfl

theorem blk (t : Fin cfg0.N) : Blk (wts m c) (tile m c t.val) (iblk m c 0 t) (iblk m c 1 t) (iblk m c 2 t) (iblk m c 3 t) (iblk m c 4 t) (iblk m c 5 t) (iblk m c 6 t) (iblk m c 7 t) (iblk m c 8 t) := by
  obtain ⟨hx, hw, hwp, hws, hb, hcw⟩ := host m c
  have ht : t.val < 16 := lt_of_lt_of_eq t.isLt N_0
  refine ⟨fun r j => ?_, fun r j => ?_, fun r j => ?_, fun r j => ?_, fun r j => ?_, fun r j => ?_, fun g r j => ?_, fun r j => ?_, fun r j => ?_⟩
  · refine Eq.trans ?_ (hx ⟨512 * t.val + r, by omega⟩ _)
    blk_ext [iblk, idx t]
  · show _ = m ((c : Thread nD τ).loc main_arg1) (ix2 (0 : Fin 1) j)
    blk_ext! [iblk, idx t]
  · refine Eq.trans ?_ (hw _ _)
    blk_ext [iblk, idx t]
  · refine Eq.trans ?_ (hwp _ _)
    blk_ext [iblk, idx t]
  · show _ = m ((c : Thread nD τ).loc main_arg3) (ix2 (0 : Fin 1) j)
    blk_ext! [iblk, idx t]
  · show _ = m ((c : Thread nD τ).loc main_arg4) (ix2 (0 : Fin 1) j)
    blk_ext! [iblk, idx t]
  · refine Eq.trans ?_ (hws _ _ _)
    blk_ext [iblk, idx t]
  · refine Eq.trans ?_ (hb _ _)
    blk_ext [iblk, idx t]
  · refine Eq.trans ?_ (hcw _ _)
    blk_ext [iblk, idx t]

end Cert.Fwd
-- ==== Proof.Fwd.Result.lean ====
module

public import proofs.«01_k».proof.Proof.Gen.Kernel3Ideal.Value
public import proofs.«01_k».proof.Proof.Fwd.Inputs

@[expose] public section

set_option maxRecDepth 65536
set_option maxHeartbeats 2000000

noncomputable section

namespace Cert.Fwd

open Cert.Kernel3Ideal Cert.Kernel3Ideal.Gen Cert.Kernel3Ideal.Value
open Idealize.ShloMosaic Idealize.ShloMosaic.TcCoe Idealize.ShloMosaic.Tactic

/-- The result arrays, of the weights and the rows by number. -/
def oU (W : Wt) (q : ℕ → Fin 1024 → EReal) (R : Fin 8192) (p : Fin 1536) : EReal := pr W (q R) ⟨p, by omega⟩
def oQ (W : Wt) (q : ℕ → Fin 1024 → EReal) (R : ℕ) (p : Fin 1536) : EReal := pr W (q R) ⟨1536 + p, by omega⟩
def oZ (W : Wt) (q : ℕ → Fin 1024 → EReal) (R : Fin 8192) (p : Fin 512) : EReal := pr W (q R) ⟨3072 + p, by omega⟩
def oL (W : Wt) (q : ℕ → Fin 1024 → EReal) (R : Fin 8192) (p : Fin 128) : EReal := pj W.g (q R) (W.wp p)
def oA (W : Wt) (q : ℕ → Fin 1024 → EReal) (R : Fin 8192) (p : Fin 512) : EReal := aO W (fun t : Fin 128 => q (128 * (R / 128) + t)) ⟨R % 128, by omega⟩ p
def oC (W : Wt) (q : ℕ → Fin 1024 → EReal) (R : Fin 8192) (p : Fin 1536) : EReal := cv W (fun n p => if 3 ≤ R % 4096 + n then oQ W q (R + n - 3) p else 0) p

variable (m : (ℓ : Loc nD τ sig) → Buf (Elt Ideal) ℓ) (c : Dev nD)

/-- The rows a point's taps find from the point before. -/
def prevR (n : ℕ) (r : Fin 8) (p : Fin 1536) : EReal := if n % 8 = 0 then 0 else qc (wts m c) (tile m c (n - 1)) ⟨504 + r, by omega⟩ p

theorem point (n : ℕ) (hn : n < cfg0.N) : Out (wts m c) (tile m c n) (prevR m c n) (outsAt0 m c n hn) := by
  induction n with
  | zero =>
    refine (?_ : prevR m c 0 = fun _ _ => 0) ▸ step_first (wts m c) (tile m c 0) m c ⟨0, hn⟩ rfl (blk m c ⟨0, hn⟩)
    rfl
  | succ n ih =>
    by_cases h0 : (n + 1) % 8 = 0
    · have e : prevR m c (n + 1) = fun _ _ => 0 := by funext r p; exact if_pos h0
      rw [e]
      exact step_first (wts m c) (tile m c (n + 1)) m c ⟨n + 1, hn⟩ h0 (blk m c ⟨n + 1, hn⟩)
    · refine step_next (wts m c) (tile m c (n + 1)) m c ⟨n + 1, hn⟩ h0 (blk m c ⟨n + 1, hn⟩) _ fun r p => ?_
      exact ((ih (Nat.lt_of_succ_lt hn)).s r p).trans (if_neg h0).symm

/-- The rows the taps read are the sequence's, and none before its start. -/
theorem pad_row (n : ℕ) (r : Fin 512) (k : ℕ) (hk : k ≤ 3) (p : Fin 1536) :
    pad8 (prevR m c n) (qc (wts m c) (tile m c n)) (5 + k + r) p = if 3 ≤ (512 * n + r) % 4096 + k then oQ (wts m c) (row m c) (512 * n + r + k - 3) p else 0 := by
  unfold pad8
  by_cases h : 5 + k + r.val < 8
  · rw [dif_pos h]
    unfold prevR
    by_cases h0 : n % 8 = 0
    · rw [if_pos h0, if_neg (by omega)]
    · rw [if_neg h0, if_pos (by omega)]
      exact congrArg (fun R => pr (wts m c) (row m c R) ⟨1536 + p, by omega⟩) (by dsimp only; omega)
  · rw [dif_neg h, dif_pos (show 5 + k + r.val - 8 < 512 by omega), if_pos (by omega)]
    exact congrArg (fun R => pr (wts m c) (row m c R) ⟨1536 + p, by omega⟩) (by dsimp only; omega)

theorem cv_congr (W : Wt) (q q' : ℕ → Fin 1536 → EReal) (p : Fin 1536) (h : ∀ k, k ≤ 3 → q k p = q' k p) : cv W q p = cv W q' p := by
  unfold cv
  rw [h 0 (by omega), h 1 (by omega), h 2 (by omega), h 3 (by omega)]

theorem at_row (R : Fin 8192) (n : ℕ) (h : n = R.val / 512) : tile m c n ⟨R % 512, by omega⟩ = row m c R :=
  congrArg (row m c) (by dsimp only; omega)

theorem at_chunk (R : Fin 8192) (n : ℕ) (h : n = R.val / 512) : chunk (tile m c n) ⟨R % 512 / 128, by omega⟩ = fun t : Fin 128 => row m c (128 * (R / 128) + t) := by
  funext t
  exact congrArg (row m c) (by dsimp only; omega)

/-- An array's element, read in what the point of its tile leaves. -/
theorem fold_at {w : ℕ} {e : EltTy} (get : Vec Ideal S512x1536 .f32 × Vec Ideal S512x1536 .f32 × Vec Ideal S512x512 .f32 × Vec Ideal S512x128 .f32 × Vec Ideal S512x512 .bf16 × Vec Ideal S512x1536 .f32 × Vec Ideal S520x1536 .f32
      → Vec Ideal ⟨2, ![512, w]⟩ e) (i : (⟨2, ![8192, w]⟩ : Shape).Idx) (n : ℕ) (l : (⟨2, ![512, w]⟩ : Shape).Idx) (hn : n = 1 * ((i 0).val / 512 - 0) + 1 * ((i 1).val / w - 0))
    (h0 : (l 0).val = (i 0).val % 512) (h1 : (l 1).val = (i 1).val % w) (z v : Elt Ideal e)
    (hf : ∀ h : n < cfg0.N, n = (i 0).val / 512 → get (outsAt0 m c n h) (ix2 ⟨(i 0).val % 512, by omega⟩ (i 1)) = v) :
    (if h : n < cfg0.N then get (Pipeline.accAt (fun n h => stAt0 m c n h junk0) (stAt0 m c) 0 n (by omega)) l else z) = v := by
  have b0 : (i 0).val < 8192 := (i 0).isLt
  have b1 : (i 1).val < w := (i 1).isLt
  have e : n = (i 0).val / 512 := by rw [hn, Nat.div_eq_of_lt b1]; omega
  have hN : n < cfg0.N := lt_of_lt_of_eq (by omega) N_0.symm
  have hl : l = ix2 ⟨(i 0).val % 512, by omega⟩ (i 1) := by
    refine (eq_ix2 l).trans (congrArg₂ ix2 (Fin.ext h0) (Fin.ext (h1.trans (Nat.mod_eq_of_lt b1))))
  rw [dif_pos hN, ← outsAt0_sweep m c _ hN, hl]
  exact hf hN e

/-- What each result array ends holding. -/
theorem arrays : G9 m c = (fun i => oU (wts m c) (row m c) (i 0) (i 1)) ∧ G10 m c = (fun i => oQ (wts m c) (row m c) (i 0).val (i 1)) ∧ G11 m c = (fun i => oZ (wts m c) (row m c) (i 0) (i 1))
    ∧ G12 m c = (fun i => oL (wts m c) (row m c) (i 0) (i 1)) ∧ G13 m c = (fun i => oA (wts m c) (row m c) (i 0) (i 1)) ∧ G14 m c = (fun i => oC (wts m c) (row m c) (i 0) (i 1)) := by
  refine ⟨?_, ?_, ?_, ?_, ?_, ?_⟩ <;> funext i
  · exact fold_at m c (·.1) i _ _ rfl rfl rfl _ _ fun h hn => ((point m c _ h).u _ _).trans (congrArg (fun q => pr (wts m c) q _) (at_row m c (i 0) _ hn))
  · exact fold_at m c (·.2.1) i _ _ rfl rfl rfl _ _ fun h hn => ((point m c _ h).q _ _).trans (congrArg (fun q => pr (wts m c) q _) (at_row m c (i 0) _ hn))
  · exact fold_at m c (·.2.2.1) i _ _ rfl rfl rfl _ _ fun h hn => ((point m c _ h).z _ _).trans (congrArg (fun q => pr (wts m c) q _) (at_row m c (i 0) _ hn))
  · exact fold_at m c (·.2.2.2.1) i _ _ rfl rfl rfl _ _ fun h hn => ((point m c _ h).l _ _).trans (congrArg (fun q => pj (wts m c).g q _) (at_row m c (i 0) _ hn))
  · exact fold_at m c (·.2.2.2.2.1) i _ _ rfl rfl rfl _ _ fun h hn => ((point m c _ h).a _ _).trans
      (congrArg₂ (fun C t => aO (wts m c) C t (i 1)) (at_chunk m c (i 0) _ hn) (Fin.ext (show (i 0).val % 512 % 128 = (i 0).val % 128 by omega)))
  · refine fold_at m c (·.2.2.2.2.2.1) i _ _ rfl rfl rfl _ _ fun h hn => ((point m c _ h).c _ _).trans (cv_congr _ _ _ _ fun k hk => (pad_row m c _ _ k hk _).trans ?_)
    have e : 512 * pt14Of i + (i 0).val % 512 = (i 0).val := (congrArg (fun n => 512 * n + (i 0).val % 512) hn).trans (Nat.div_add_mod _ _)
    simp only [e]

end Cert.Fwd
-- ==== Proof.Fwd.Back.lean ====
module

public import proofs.«01_k».proof.Proof.Gen.Reference3Ideal.Run
public import proofs.«01_k».proof.Proof.Fwd.Result
public import proofs.«01_k».proof.Proof.Head.Back

@[expose] public section

set_option maxRecDepth 65536
set_option maxHeartbeats 400000

noncomputable section

namespace Cert.FwdBack

open Cert.Reference3Ideal Cert.Reference3Ideal.Gen Cert.Reference3Ideal.Value Cert.Fwd
open Idealize.ShloMosaic Idealize.ShloMosaic.TcCoe Idealize.ShloMosaic.Tactic

/-! ## The identities -/

theorem gel_eq (u : EReal) : half * u * Ideal.erfc (-u * Ideal.sqrt half) = gel u := by
  have s : Ideal.sqrt half = ((Real.sqrt 2⁻¹ : ℝ) : EReal) := by
    rw [half, Cert.Spec.bits_half, Ideal.sqrt_coe, if_neg (by norm_num), one_div]
  have d (y : EReal) : half * (1 + Ideal.erf y) = half + half * Ideal.erf y := by
    obtain ⟨r, h⟩ : ∃ r : ℝ, Ideal.erf y = (r : EReal) := by
      induction y with
      | bot => exact ⟨-1, rfl⟩
      | top => exact ⟨1, rfl⟩
      | coe y => exact ⟨_, rfl⟩
    rw [h, half, Cert.Spec.bits_half, ← EReal.coe_one]
    norm_cast
    ring
  rw [s, EReal.neg_mul, Ideal.erfc_neg, mul_comm half u, mul_assoc, gel, d]

theorem sil_eq (z : EReal) : z * Ideal.div 1 (1 + Ideal.exp (-z)) = sil z := by
  change z * Ideal.logistic z = z * _
  rw [half, Cert.Spec.bits_half]
  induction z with
  | bot =>
    have h : -((1 / 2 : ℝ) : EReal) + ((1 / 2 : ℝ) : EReal) = 0 := by rw [← EReal.coe_neg, ← EReal.coe_add, ← EReal.coe_zero]; congr 1; norm_num
    rw [Ideal.logistic_bot, EReal.coe_mul_bot_of_pos (by norm_num), Ideal.tanh_bot, mul_neg, mul_one, h]
  | top =>
    have h : ((1 / 2 : ℝ) : EReal) + ((1 / 2 : ℝ) : EReal) = 1 := by rw [← EReal.coe_add, ← EReal.coe_one]; congr 1; norm_num
    rw [Ideal.logistic_top, EReal.coe_mul_top_of_pos (by norm_num), Ideal.tanh_top, mul_one, mul_one, h, mul_one]
  | coe z => rw [Ideal.logistic_coe, ← EReal.coe_mul _ z, Ideal.tanh_coe, ← EReal.coe_mul, ← EReal.coe_mul, ← EReal.coe_add, ← EReal.coe_mul, ← one_div, Cert.Back.logistic]

/-! ## The projection -/

abbrev A (S : Shape) := FVec Ideal S .f32

/-- The reference's projection. -/
def proj (a0 : A S2x4096x1024) (a1 : A S1x1024) (a2 : A S1x1024x3592) : A S2x4096x3592 :=
  Host.dotGeneral dot_S2x4096x1024_S1024x3592_S2x4096x3592_2_0_01_1_n_n none (mulf (mulf a0 (broadcastInDim S2x4096x1024 ![0, 1, 2] bcast_S2x4096x1_S2x4096x1024_0_1_2 (Host.rsqrt (addf (Host.divf (broadcastInDim S2x4096x1 ![0, 1] bcast_S2x4096_S2x4096x1_0_1 (Host.reduceAdd (mulf a0 a0) (constant S_ .f32 0x00000000#32) reducesTo_S2x4096x1024_S2x4096_d2 h_S_)) (broadcastInDim S2x4096x1 ![] bcast_S_S2x4096x1 (constant S_ .f32 0x44800000#32))) (broadcastInDim S2x4096x1 ![] bcast_S_S2x4096x1 (constant S_ .f32 0x358637BD#32)))))) (broadcastInDim S2x4096x1024 ![0, 1, 2] bcast_S1x1x1024_S2x4096x1024_0_1_2 (broadcastInDim S1x1x1024 ![2] bcast_S1024_S1x1x1024_2 (shapeCast _ a1 shapeCasts_S1x1024_S1024)))) (shapeCast _ a2 shapeCasts_S1x1024x3592_S1024x3592)

variable (a0 : A S2x4096x1024) (a1 : A S1x1024) (a2 : A S1x1024x3592) (a3 a4 : A S1x512) (a5 : A S1x4x128x128) (a6 : A S1x4x128) (a7 : A S1x4x1536)

theorem proj_at (s : Fin 2) (r : Fin 4096) (p : Fin 3592) : proj a0 a1 a2 (ix3 s r p) = pr (wtsOf a1 a2 a3 a4 a5 a6 a7) (fun k => a0 (ix3 s r k)) p := by
  pointwise [proj]
  rfl

/-- The activations and the gate, of the projection. -/
def gelU (P : A S2x4096x3592) : A S2x4096x512 := (mulf (mulf (broadcastInDim S2x4096x512 ![] bcast_S_S2x4096x512 (constant S_ .f32 0x3F000000#32)) (extractStridedSlice S2x4096x512 ![0, 0, 0] P slices_S2x4096x3592_S2x4096x512_0_0_0)) (Host.erfc (mulf (Host.negf (extractStridedSlice S2x4096x512 ![0, 0, 0] P slices_S2x4096x3592_S2x4096x512_0_0_0)) (broadcastInDim S2x4096x512 ![] bcast_S_S2x4096x512 (Host.sqrt (constant S_ .f32 0x3F000000#32))))))
def gelV (P : A S2x4096x3592) : A S2x4096x512 := (mulf (mulf (broadcastInDim S2x4096x512 ![] bcast_S_S2x4096x512 (constant S_ .f32 0x3F000000#32)) (extractStridedSlice S2x4096x512 ![0, 0, 512] P slices_S2x4096x3592_S2x4096x512_0_0_512)) (Host.erfc (mulf (Host.negf (extractStridedSlice S2x4096x512 ![0, 0, 512] P slices_S2x4096x3592_S2x4096x512_0_0_512)) (broadcastInDim S2x4096x512 ![] bcast_S_S2x4096x512 (Host.sqrt (constant S_ .f32 0x3F000000#32))))))
def grp (P : A S2x4096x3592) : A S2x32x128x4x128 := shapeCast _ (gelV P) shapeCasts_S2x4096x512_S2x32x128x4x128
def silZ (P : A S2x4096x3592) : A S2x4096x512 := mulf (extractStridedSlice S2x4096x512 ![0, 0, 1024] P slices_S2x4096x3592_S2x4096x512_0_0_1024) (Host.divf (broadcastInDim S2x4096x512 ![] bcast_S_S2x4096x512 (constant S_ .f32 0x3F800000#32)) (addf (broadcastInDim S2x4096x512 ![] bcast_S_S2x4096x512 (constant S_ .f32 0x3F800000#32)) (Host.exp (Host.negf (extractStridedSlice S2x4096x512 ![0, 0, 1024] P slices_S2x4096x3592_S2x4096x512_0_0_1024)))))

theorem gelU_at (P : A S2x4096x3592) (s : Fin 2) (r : Fin 4096) (p : Fin 512) : gelU P (ix3 s r p) = gel (P (ix3 s r (⟨p, by omega⟩ : Fin 3592))) := by
  pointwise [gelU]
  exact gel_eq _
theorem grp_at (P : A S2x4096x3592) (s : Fin 2) (n : Fin 32) (t : Fin 128) (g : Fin 4) (j : Fin 128) :
    grp P (ix5 s n t g j) = gel (P (ix3 s (⟨n * 128 + t, by omega⟩ : Fin 4096) (⟨512 + (g * 128 + j), by omega⟩ : Fin 3592))) := by
  pointwise [grp, gelV]
  exact gel_eq _
theorem silZ_at (P : A S2x4096x3592) (s : Fin 2) (r : Fin 4096) (p : Fin 512) : silZ P (ix3 s r p) = sil (P (ix3 s r (⟨1024 + p, by omega⟩ : Fin 3592))) := by
  pointwise [silZ]
  exact sil_eq _

/-! ## The gating unit -/

abbrev B5 := A S2x32x128x4x128

/-- Centred values, their mean square, the normalised values. -/
def cen (V : B5) : B5 := subf V (broadcastInDim S2x32x128x4x128 ![0, 1, 2, 3, 4] bcast_S2x32x128x4x1_S2x32x128x4x128_0_1_2_3_4 (Host.divf (broadcastInDim S2x32x128x4x1 ![0, 1, 2, 3] bcast_S2x32x128x4_S2x32x128x4x1_0_1_2_3 (Host.reduceAdd V (constant S_ .f32 0x00000000#32) reducesTo_S2x32x128x4x128_S2x32x128x4_d4 h_S_)) (broadcastInDim S2x32x128x4x1 ![] bcast_S_S2x32x128x4x1 (constant S_ .f32 0x43000000#32))))
def nor (V : B5) (a3 a4 : A S1x512) : B5 := addf (mulf (mulf (cen V) (broadcastInDim S2x32x128x4x128 ![0, 1, 2, 3, 4] bcast_S2x32x128x4x1_S2x32x128x4x128_0_1_2_3_4 (Host.rsqrt (addf (Host.divf (broadcastInDim S2x32x128x4x1 ![0, 1, 2, 3] bcast_S2x32x128x4_S2x32x128x4x1_0_1_2_3 (Host.reduceAdd (mulf (cen V) (cen V)) (constant S_ .f32 0x00000000#32) reducesTo_S2x32x128x4x128_S2x32x128x4_d4 h_S_)) (broadcastInDim S2x32x128x4x1 ![] bcast_S_S2x32x128x4x1 (constant S_ .f32 0x43000000#32))) (broadcastInDim S2x32x128x4x1 ![] bcast_S_S2x32x128x4x1 (constant S_ .f32 0x358637BD#32)))))) (broadcastInDim S2x32x128x4x128 ![0, 1, 2, 3, 4] bcast_S1x1x1x4x128_S2x32x128x4x128_0_1_2_3_4 (broadcastInDim S1x1x1x4x128 ![3, 4] bcast_S4x128_S1x1x1x4x128_3_4 (shapeCast _ (shapeCast _ a3 shapeCasts_S1x512_S512) shapeCasts_S512_S4x128)))) (broadcastInDim S2x32x128x4x128 ![0, 1, 2, 3, 4] bcast_S1x1x1x4x128_S2x32x128x4x128_0_1_2_3_4 (broadcastInDim S1x1x1x4x128 ![3, 4] bcast_S4x128_S1x1x1x4x128_3_4 (shapeCast _ (shapeCast _ a4 shapeCasts_S1x512_S512) shapeCasts_S512_S4x128)))
/-- Which of a chunk's rows a row mixes, and the mixing weights. -/
def low : IVec S128x128 1 := select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))
def wgt (a5 : A S1x4x128x128) : A S4x128x128 := select (broadcastInDim S4x128x128 ![1, 2] bcast_S128x128_S4x128x128_1_2 low) (shapeCast _ a5 shapeCasts_S1x4x128x128_S4x128x128) (broadcastInDim S4x128x128 ![] bcast_S_S4x128x128 (constant S_ .f32 0x00000000#32))
def mixed (L : B5) (a5 : A S1x4x128x128) (a6 : A S1x4x128) : B5 := addf (transpose S2x32x128x4x128 [1, 2, 4, 0, 3] (Host.dotGeneral dot_S2x32x128x4x128_S4x128x128_S4x2x32x128x128_2_2_014_1_3_0 none L (wgt a5)) transposes_S4x2x32x128x128_S2x32x128x4x128_1_2_4_0_3) (broadcastInDim S2x32x128x4x128 ![0, 1, 2, 3, 4] bcast_S1x1x128x4x1_S2x32x128x4x128_0_1_2_3_4 (broadcastInDim S1x1x128x4x1 ![2, 3, 4] bcast_S128x4x1_S1x1x128x4x1_2_3_4 (broadcastInDim S128x4x1 ![0, 1] bcast_S128x4_S128x4x1_0_1 (transpose S128x4 [1, 0] (shapeCast _ a6 shapeCasts_S1x4x128_S4x128) transposes_S4x128_S128x4_1_0))))
def unit (P : A S2x4096x3592) (a3 a4 : A S1x512) (a5 : A S1x4x128x128) (a6 : A S1x4x128) : FVec Ideal S8192x512 .bf16 :=
  truncf .bf16 (shapeCast _ (mulf (mulf (gelU P) (shapeCast _ (mixed (nor (grp P) a3 a4) a5 a6) shapeCasts_S2x32x128x4x128_S2x4096x512)) (silZ P)) shapeCasts_S2x4096x512_S8192x512) bitsLt_bf16_f32

theorem cen_at (V : B5) (s : Fin 2) (n : Fin 32) (t : Fin 128) (g : Fin 4) (j : Fin 128) : cen V (ix5 s n t g j) = xc (fun j => V (ix5 s n t g j)) j := by
  pointwise [cen]
  rfl
theorem nor_at (V : B5) (s : Fin 2) (n : Fin 32) (t : Fin 128) (g : Fin 4) (j : Fin 128) :
    nor V a3 a4 (ix5 s n t g j) = lnv (fun j => a3 (ix2 (0 : Fin 1) (⟨128 * g + j, by omega⟩ : Fin 512))) (fun j => a4 (ix2 (0 : Fin 1) (⟨128 * g + j, by omega⟩ : Fin 512))) (fun j => V (ix5 s n t g j)) j := by
  pointwise [nor]
  simp only [cen_at, mul_comm g.val 128]
  rfl
theorem low_at (t s : Fin 128) : low (ix2 t s) = BitVec.ofBool (s.val ≤ t.val) := by
  pointwise [low]
  revert t s; decide +kernel
theorem wgt_at (g : Fin 4) (t s : Fin 128) : wgt a5 (ix3 g t s) = if s ≤ t then a5 (ix4 (0 : Fin 1) g t s) else 0 := by
  pointwise [wgt]
  rw [low_at]
  by_cases e : s ≤ t <;> simp [e, Scalar.select]
theorem mixed_at (L : B5) (s : Fin 2) (n : Fin 32) (t : Fin 128) (g : Fin 4) (j : Fin 128) :
    mixed L a5 a6 (ix5 s n t g j) = mix (fun t s => a5 (ix4 (0 : Fin 1) g t s)) (fun t => a6 (ix3 (0 : Fin 1) g t)) (fun t j => L (ix5 s n t g j)) t j := by
  pointwise [mixed]
  simp only [wgt_at, mul_ite, mul_zero, mix]
  exact congrArg (· + _) (Finset.sum_congr rfl fun x _ => by rw [mul_comm])
theorem row_at (R : ℕ) (s : Fin 2) (r : Fin 4096) (hs : s.val = R / 4096 % 2) (hr : r.val = R % 4096) : (fun k => a0 (ix3 s r k)) = rowOf a0 R := by
  obtain ⟨s, _⟩ := s
  obtain ⟨r, _⟩ := r
  subst hs hr
  rfl
theorem unit_at (R : Fin 8192) (p : Fin 512) : unit (proj a0 a1 a2) a3 a4 a5 a6 (ix2 R p) = oA (wtsOf a1 a2 a3 a4 a5 a6 a7) (rowOf a0) R p := by
  pointwise [unit]
  simp only [gelU_at, silZ_at, mixed_at, nor_at, grp_at, proj_at a0 a1 a2 a3 a4 a5 a6 a7]
  have e1 : (fun k => a0 (ix3 (⟨R.val / 4096, by omega⟩ : Fin 2) (⟨R.val % 4096, by omega⟩ : Fin 4096) k)) = rowOf a0 R := row_at a0 _ _ _ (by dsimp only; omega) rfl
  have e2 (t : Fin 128) : (fun k => a0 (ix3 (⟨R.val / 4096, by omega⟩ : Fin 2) (⟨R.val % 4096 / 128 * 128 + t, by omega⟩ : Fin 4096) k)) = rowOf a0 (128 * (R / 128) + t) :=
    row_at a0 _ _ _ (by dsimp only; omega) (by dsimp only; omega)
  simp only [e1, e2, oA, aO, aG, sgu, Nat.div_add_mod, mul_comm (p.val / 128) 128, add_assoc, Nat.mod_mod_of_dvd R.val (show 128 ∣ 4096 by decide)]
  rfl

/-! ## The sums of four taps, and the pieces of the projection -/

/-- The projection's middle columns with three rows of zeros before, and one tap's products. -/
def padded (P : A S2x4096x3592) : A S2x4099x1536 := pad S2x4099x1536 ![0, 3, 0] ![0, 0, 0] ![0, 0, 0] (extractStridedSlice S2x4096x1536 ![0, 0, 1536] P slices_S2x4096x3592_S2x4096x1536_0_0_1536) (sitofp .f32 (constantI S_ 32 0#32)) pads_S2x4096x1536_S2x4099x1536_000_300_000 h_S_
def tap (i : ℕ) (a7 : A S1x4x1536) (h : S4x1536.Slices ![i, 0] S1x1536) : A S2x4096x1536 := broadcastInDim S2x4096x1536 ![0, 1, 2] bcast_S1x1x1536_S2x4096x1536_0_1_2 (broadcastInDim S1x1x1536 ![2] bcast_S1536_S1x1x1536_2 (shapeCast _ (extractStridedSlice S1x1536 ![i, 0] (shapeCast _ a7 shapeCasts_S1x4x1536_S4x1536) h) shapeCasts_S1x1536_S1536))
def taps (P : A S2x4096x3592) (a7 : A S1x4x1536) : A S8192x1536 :=
  shapeCast _ (addf (addf (addf (addf (broadcastInDim S2x4096x1536 ![] bcast_S_S2x4096x1536 (constant S_ .f32 0x00000000#32)) (mulf (tap 0 a7 slices_S4x1536_S1x1536_0_0) (extractStridedSlice S2x4096x1536 ![0, 0, 0] (padded P) slices_S2x4099x1536_S2x4096x1536_0_0_0)))
    (mulf (tap 1 a7 slices_S4x1536_S1x1536_1_0) (extractStridedSlice S2x4096x1536 ![0, 1, 0] (padded P) slices_S2x4099x1536_S2x4096x1536_0_1_0)))
    (mulf (tap 2 a7 slices_S4x1536_S1x1536_2_0) (extractStridedSlice S2x4096x1536 ![0, 2, 0] (padded P) slices_S2x4099x1536_S2x4096x1536_0_2_0)))
    (mulf (tap 3 a7 slices_S4x1536_S1x1536_3_0) (extractStridedSlice S2x4096x1536 ![0, 3, 0] (padded P) slices_S2x4099x1536_S2x4096x1536_0_3_0))) shapeCasts_S2x4096x1536_S8192x1536

theorem padded_at (P : A S2x4096x3592) (s : Fin 2) (r : Fin 4099) (p : Fin 1536) :
    padded P (ix3 s r p) = if h : 3 ≤ r.val then P (ix3 s (⟨r - 3, by omega⟩ : Fin 4096) (⟨1536 + p, by omega⟩ : Fin 3592)) else 0 := by
  pointwise [padded]
  have z : FloatOps.sitofp (F := Ideal) FTy.f32 (0#32) = 0 := (Ideal.scalar_sitofp_def (φ := .f32) (0#32)).trans (by simp)
  by_cases h : 3 ≤ r.val
  · rw [dif_pos ⟨h, by omega⟩, dif_pos h]
  · rw [dif_neg (fun q => h q.1), dif_neg h, z]
theorem taps_at (R : Fin 8192) (p : Fin 1536) : taps (proj a0 a1 a2) a7 (ix2 R p) = oC (wtsOf a1 a2 a3 a4 a5 a6 a7) (rowOf a0) R p := by
  pointwise [taps, tap]
  simp only [padded_at, proj_at a0 a1 a2 a3 a4 a5 a6 a7]
  have t (W : Wt) (i r : ℕ) (hi : i ≤ 3) (hr : r = i + R.val % 4096) : (if h : 3 ≤ r then pr W (fun k => a0 (ix3 (⟨R.val / 4096, by omega⟩ : Fin 2) (⟨r - 3, by omega⟩ : Fin 4096) k)) (⟨1536 + p, by omega⟩ : Fin 3592) else 0)
      = if 3 ≤ R.val % 4096 + i then oQ W (rowOf a0) (R + i - 3) p else 0 := by
    subst hr
    by_cases c : 3 ≤ i + R.val % 4096
    · rw [dif_pos c, if_pos (by omega), row_at a0 (R + i - 3) _ _ (by dsimp only; omega) (by dsimp only; omega)]
      rfl
    · rw [dif_neg c, if_neg (by omega)]
  rw [t _ 0 _ (by omega) (Nat.zero_add _).symm, t _ 1 _ (by omega) rfl, t _ 2 _ (by omega) rfl, t _ 3 _ (by omega) rfl]
  rfl
def colsU (P : A S2x4096x3592) : A S8192x1536 := shapeCast _ (extractStridedSlice S2x4096x1536 ![0, 0, 0] P slices_S2x4096x3592_S2x4096x1536_0_0_0) shapeCasts_S2x4096x1536_S8192x1536
def colsQ (P : A S2x4096x3592) : A S8192x1536 := shapeCast _ (extractStridedSlice S2x4096x1536 ![0, 0, 1536] P slices_S2x4096x3592_S2x4096x1536_0_0_1536) shapeCasts_S2x4096x1536_S8192x1536
def colsZ (P : A S2x4096x3592) : A S8192x512 := shapeCast _ (extractStridedSlice S2x4096x512 ![0, 0, 3072] P slices_S2x4096x3592_S2x4096x512_0_0_3072) shapeCasts_S2x4096x512_S8192x512
theorem colsU_at (R : Fin 8192) (p : Fin 1536) : colsU (proj a0 a1 a2) (ix2 R p) = oU (wtsOf a1 a2 a3 a4 a5 a6 a7) (rowOf a0) R p := by
  pointwise [colsU]
  rw [proj_at a0 a1 a2 a3 a4 a5 a6 a7, row_at a0 R.val _ _ (by dsimp only; omega) rfl]
  rfl
theorem colsQ_at (R : Fin 8192) (p : Fin 1536) : colsQ (proj a0 a1 a2) (ix2 R p) = oQ (wtsOf a1 a2 a3 a4 a5 a6 a7) (rowOf a0) R.val p := by
  pointwise [colsQ]
  rw [proj_at a0 a1 a2 a3 a4 a5 a6 a7, row_at a0 R.val _ _ (by dsimp only; omega) rfl]
  rfl
theorem colsZ_at (R : Fin 8192) (p : Fin 512) : colsZ (proj a0 a1 a2) (ix2 R p) = oZ (wtsOf a1 a2 a3 a4 a5 a6 a7) (rowOf a0) R p := by
  pointwise [colsZ]
  rw [proj_at a0 a1 a2 a3 a4 a5 a6 a7, row_at a0 R.val _ _ (by dsimp only; omega) rfl]
  rfl
def logits (P : A S2x4096x3592) : A S8192x128 := pad S8192x128 ![0, 0] ![0, 120] ![0, 0] (shapeCast _ (extractStridedSlice S2x4096x8 ![0, 0, 3584] P slices_S2x4096x3592_S2x4096x8_0_0_3584) shapeCasts_S2x4096x8_S8192x8) (sitofp .f32 (constantI S_ 32 0#32)) pads_S8192x8_S8192x128_000_01200 h_S_
theorem logits_at (R : Fin 8192) (p : Fin 128) : logits (proj a0 a1 a2) (ix2 R p) = oL (wtsOf a1 a2 a3 a4 a5 a6 a7) (rowOf a0) R p := by
  pointwise [logits]
  have z : FloatOps.sitofp (F := Ideal) FTy.f32 (0#32) = 0 := (Ideal.scalar_sitofp_def (φ := .f32) (0#32)).trans (by simp)
  by_cases h : p.val < 8
  · rw [dif_pos h, proj_at a0 a1 a2 a3 a4 a5 a6 a7, row_at a0 R.val _ _ (by dsimp only; omega) rfl]
    exact congrArg (pj _ _) (funext fun k => (show (wtsOf a1 a2 a3 a4 a5 a6 a7).wp p k = a2 (ix3 (0 : Fin 1) k (⟨3584 + p, by omega⟩ : Fin 3592)) from dif_pos h).symm)
  · rw [dif_neg h, z]
    have e (k : Fin 1024) : (wtsOf a1 a2 a3 a4 a5 a6 a7).wp p k = 0 := dif_neg h
    simp only [oL, pj, e, mul_zero, Finset.sum_const_zero]

theorem v120 (m : (ℓ : Loc nD τ sig) → Buf (Elt Ideal) ℓ) (c : Dev nD) : res_main_v120 m c = unit (proj (m ((c.tc : Thread nD τ).loc main_arg0)) (m ((c.tc : Thread nD τ).loc main_arg1)) (m ((c.tc : Thread nD τ).loc main_arg2)))
    (m ((c.tc : Thread nD τ).loc main_arg3)) (m ((c.tc : Thread nD τ).loc main_arg4)) (m ((c.tc : Thread nD τ).loc main_arg5)) (m ((c.tc : Thread nD τ).loc main_arg6)) := rfl
theorem v121 (m : (ℓ : Loc nD τ sig) → Buf (Elt Ideal) ℓ) (c : Dev nD) : res_main_v121 m c = taps (proj (m ((c.tc : Thread nD τ).loc main_arg0)) (m ((c.tc : Thread nD τ).loc main_arg1)) (m ((c.tc : Thread nD τ).loc main_arg2)))
    (m ((c.tc : Thread nD τ).loc main_arg7)) := rfl

end Cert.FwdBack
-- ==== Proof.Fwd.Claim.lean ====
module

public import proofs.«01_k».proof.Defs
public import proofs.«01_k».proof.Proof.Gen.Kernel3.Frame
public import proofs.«01_k».proof.Proof.Fwd.Back

@[expose] public section

set_option maxRecDepth 65536
set_option maxHeartbeats 1000000

noncomputable section

namespace Cert.Fwd

open Cert.Kernel3Ideal Cert.Kernel3Ideal.Gen Cert.FwdBack
open Idealize.ShloMosaic Idealize.ShloMosaic.TcCoe Idealize.ShloMosaic.Tactic Idealize.SL.Sem Pipeline

theorem frame_kernel : Cert.quiescent_Kernel3 := fun m ρ _ => Cert.Kernel3.Gen.frame m ρ
theorem frame_ideal : Cert.quiescent_Kernel3Ideal := fun m ρ _ => Cert.Kernel3Ideal.Gen.frame m ρ
theorem frame_reference : Cert.quiescent_Reference3Ideal := fun m ρ _ =>
  (θ_run Cert.Reference3Ideal.defs _ _).mono (fun r h => ⟨fun c => (h c).2.2.2.2.2.2, Idealize.ShloMosaic.sem_eq_zero_of_no_sems (by decide) r.2⟩)
    (Cert.Reference3Ideal.Value.run m ρ)

theorem named : Cert.preserves_Kernel3_Kernel3Ideal := IdealRules.named_const.statement κ "root_half" .f32 0x3F3504F3#32 _ rfl

/-- The reference's results, of arguments equal to the kernel's, are the kernel's. -/
theorem value : Cert.algebraic_Kernel3Ideal_Reference3Ideal := by
  intro m ρ m' ρ' _ hargs
  refine ⟨_, _, _, _, _, _, Cert.Kernel3Ideal.Value.run m ρ, ?_⟩
  refine (θ_run Cert.Reference3Ideal.defs _ _).mono (fun r h c => ?_) (Cert.Reference3Ideal.Value.run m' ρ')
  obtain ⟨k0, k1, k2, k3, k4, k5, keep⟩ := h c
  obtain ⟨a0, a1, a2, a3, a4, a5, a6, a7⟩ := hargs c
  obtain ⟨g0, g1, g2, g3, g4, g5⟩ := arrays m c
  rw [v120, a0, a1, a2, a3, a4, a5, a6] at k4
  rw [v121, a0, a1, a2, a7] at k5
  rw [a0, a1, a2] at k0 k1 k2 k3
  refine ⟨k0.trans (Eq.trans (funext fun i => ?_) g0.symm), k1.trans (Eq.trans (funext fun i => ?_) g1.symm), k2.trans (Eq.trans (funext fun i => ?_) g2.symm),
    k3.trans (Eq.trans (funext fun i => ?_) g3.symm), k4.trans (Eq.trans (funext fun i => ?_) g4.symm), k5.trans (Eq.trans (funext fun i => ?_) g5.symm), keep⟩
  · rw [eq_ix2 i]
    exact colsU_at _ _ _ _ _ _ _ _ (i 0) (i 1)
  · rw [eq_ix2 i]
    exact colsQ_at _ _ _ _ _ _ _ _ (i 0) (i 1)
  · rw [eq_ix2 i]
    exact colsZ_at _ _ _ _ _ _ _ _ (i 0) (i 1)
  · rw [eq_ix2 i]
    exact logits_at _ _ _ _ _ _ _ _ (i 0) (i 1)
  · rw [eq_ix2 i]
    exact unit_at _ _ _ _ _ _ _ _ (i 0) (i 1)
  · rw [eq_ix2 i]
    exact taps_at _ _ _ _ _ _ _ _ (i 0) (i 1)

end Cert.Fwd
-- ==== Proof.Opt.Result.lean ====
module

public import proofs.«01_k».proof.Proof.Gen.Kernel5Ideal.Value
public import proofs.«01_k».proof.Proof.Fwd.Step

@[expose] public section

set_option maxRecDepth 65536
set_option maxHeartbeats 2000000

noncomputable section

namespace Cert.Opt

open Cert.Kernel5Ideal Cert.Kernel5Ideal.Gen Cert.Kernel5Ideal.Value
open Idealize.ShloMosaic Idealize.ShloMosaic.TcCoe Idealize.ShloMosaic.Tactic

abbrev lit (b : BitVec 32) : EReal := Scalar.ofBits (F := Ideal) .f32 b

/-- The gradient, the moments and the step at one weight. -/
def gr (a : Fin 4 → EReal) : EReal := a 0 + a 1 + a 2 + a 3
def m1 (g s : EReal) : EReal := lit 0x3F666666#32 * s + lit 0x3DCCCCCD#32 * g
def m2 (g s : EReal) : EReal := lit 0x3F7FBE77#32 * s + lit 0x3A83126F#32 * (g * g)
def st (g s v w : EReal) : EReal :=
  lit 0xBA83126F#32 * (Ideal.div (Ideal.div (m1 g s) (lit 0x3F26BD02#32)) (Ideal.sqrt (Ideal.div (m2 g v) (lit 0x3C231ACC#32)) + lit 0x322BCC77#32) + lit 0x3C23D70A#32 * w)

variable (x0 : Vec Ideal S4x449x512 .bf16) (x1 x2 x3 : Vec Ideal S449x512 .f32) (r : Fin 449) (j : Fin 512)

/-- The four received blocks, by their loads. -/
theorem slabs : (View.ld x0 r0_0 = fun z : S1x449x512.Idx => x0 (ix3 (0 : Fin 4) (z 1) (z 2))) ∧ (View.ld x0 r0_1 = fun z : S1x449x512.Idx => x0 (ix3 (1 : Fin 4) (z 1) (z 2)))
    ∧ (View.ld x0 r0_2 = fun z : S1x449x512.Idx => x0 (ix3 (2 : Fin 4) (z 1) (z 2))) ∧ (View.ld x0 r0_3 = fun z : S1x449x512.Idx => x0 (ix3 (3 : Fin 4) (z 1) (z 2))) := by
  have e (o n : ℕ) (h : n = 0) : o + 1 * n = o := by omega
  refine ⟨?_, ?_, ?_, ?_⟩ <;> funext z <;>
    have hz : (z 0).val = 0 := Nat.lt_one_iff.mp (z 0).isLt <;>
    refine congrArg x0 (funext fun a => Fin.ext ?_) <;>
    fin_cases a <;> first | exact e _ _ hz | exact (Nat.zero_add _).trans (Nat.one_mul _)

/-- What the body leaves, at an element of its blocks. -/
theorem left_at : out0_4 x0 x1 x2 x3 (ix2 r j) = gr (fun i => x0 (ix3 i r j))
    ∧ out0_5 x0 x1 x2 x3 (ix2 r j) = st (gr (fun i => x0 (ix3 i r j))) (x2 (ix2 r j)) (x3 (ix2 r j)) (x1 (ix2 r j))
    ∧ out0_6 x0 x1 x2 x3 (ix2 r j) = m1 (gr (fun i => x0 (ix3 i r j))) (x2 (ix2 r j))
    ∧ out0_7 x0 x1 x2 x3 (ix2 r j) = m2 (gr (fun i => x0 (ix3 i r j))) (x3 (ix2 r j)) := by
  have q (x : Vec Ideal S449x512 .f32) : View.ld x r0_4 = fun z : S449x512.Idx => x (ix2 (z 0) (z 1)) := by
    funext z
    refine Eq.trans ?_ (congrArg x (eq_ix2 z))
    exact congrArg x (funext fun a => Fin.ext (by fin_cases a <;> exact (Nat.zero_add _).trans (Nat.one_mul _)))
  obtain ⟨l0, l1, l2, l3⟩ := slabs x0
  refine ⟨(canon4_eq _ _ _ _ _).trans ?_, (canon5_eq _ _ _ _ _ _ _ _).trans ?_, (canon6_eq _ _ _ _ _ _).trans ?_, (canon7_eq _ _ _ _ _ _).trans ?_⟩
  · rw [l0, l1, l2, l3]
    rfl
  all_goals
    rw [l0, l1, l2, l3]
    first | rw [q x1, q x2, q x3] | rw [q x2] | rw [q x3]
    rfl

variable (m : (ℓ : Loc nD τ sig) → Buf (Elt Ideal) ℓ) (c : Dev nD)

theorem idx : ∀ t : Fin cfg0.N, win0_0.index t = ![0, 0, t.val] ∧ win0_1.index t = ![0, t.val] ∧ win0_2.index t = ![0, t.val] ∧ win0_3.index t = ![0, t.val]
    ∧ win0_4.index t = ![0, t.val] ∧ win0_5.index t = ![0, t.val] ∧ win0_6.index t = ![0, t.val] ∧ win0_7.index t = ![0, t.val] := by
  decide +kernel

/-- What the host's operations before the call leave in the arrays it reads. -/
theorem host : (∀ (r : Fin 449) (p : Fin 1024), V m c main_v1 (ix2 r p) = m ((c : Thread nD τ).loc main_arg1) (ix3 (0 : Fin 1) p r))
    ∧ (∀ (r : Fin 449) (p : Fin 1024), V m c main_v3 (ix2 r p) = m ((c : Thread nD τ).loc main_arg2) (ix3 (0 : Fin 1) p r))
    ∧ (∀ (r : Fin 449) (p : Fin 1024), V m c main_v5 (ix2 r p) = m ((c : Thread nD τ).loc main_arg3) (ix3 (0 : Fin 1) p r)) := by
  refine ⟨fun r p => ?_, fun r p => ?_, fun r p => ?_⟩
  all_goals
    simp only [V, hostOps0]
    entry_read
    try simp only [StableHlo.TRef.toBuf, StableHlo.TRef.ofBuf, eq_mpr_eq_cast, cast_eq]
    pointwise

theorem blk (t : Fin cfg0.N) (p : Fin 1024) (hp : p.val = 512 * t.val + j.val) : (∀ i, iblk m c 0 t (ix3 i r j) = m ((c : Thread nD τ).loc main_arg0) (ix3 i r p))
    ∧ iblk m c 1 t (ix2 r j) = m ((c : Thread nD τ).loc main_arg1) (ix3 (0 : Fin 1) p r) ∧ iblk m c 2 t (ix2 r j) = m ((c : Thread nD τ).loc main_arg2) (ix3 (0 : Fin 1) p r)
    ∧ iblk m c 3 t (ix2 r j) = m ((c : Thread nD τ).loc main_arg3) (ix3 (0 : Fin 1) p r) := by
  obtain ⟨h1, h2, h3⟩ := host m c
  refine ⟨fun i => ?_, ?_, ?_, ?_⟩
  · blk_ext! [iblk, idx t]
  · refine Eq.trans ?_ (h1 _ _)
    blk_ext [iblk, idx t]
  · refine Eq.trans ?_ (h2 _ _)
    blk_ext [iblk, idx t]
  · refine Eq.trans ?_ (h3 _ _)
    blk_ext [iblk, idx t]

/-- What each result array ends holding, of its arguments. -/
def oG (a0 : S4x449x1024.Idx → EReal) (i : S449x1024.Idx) : EReal := gr (fun k => a0 (ix3 k (i 0) (i 1)))
def tr (a : S1x1024x449.Idx → EReal) (i : S449x1024.Idx) : EReal := a (ix3 (0 : Fin 1) (i 1) (i 0))

theorem arrays : (dats m 0 c).arrAt 4 cfg0.N = oG (m ((c : Thread nD τ).loc main_arg0))
    ∧ (dats m 0 c).arrAt 5 cfg0.N = (fun i => st (oG (m ((c : Thread nD τ).loc main_arg0)) i) (tr (m ((c : Thread nD τ).loc main_arg2)) i) (tr (m ((c : Thread nD τ).loc main_arg3)) i) (tr (m ((c : Thread nD τ).loc main_arg1)) i))
    ∧ (dats m 0 c).arrAt 6 cfg0.N = (fun i => m1 (oG (m ((c : Thread nD τ).loc main_arg0)) i) (tr (m ((c : Thread nD τ).loc main_arg2)) i))
    ∧ (dats m 0 c).arrAt 7 cfg0.N = (fun i => m2 (oG (m ((c : Thread nD τ).loc main_arg0)) i) (tr (m ((c : Thread nD τ).loc main_arg3)) i)) := by
  have key (i : S449x1024.Idx) : ∃ (t : Fin cfg0.N) (j : Fin 512), (i 1).val = 512 * t.val + j.val := by
    have b1 : (i 1).val < 1024 := (i 1).isLt
    exact ⟨⟨(i 1).val / 512, lt_of_lt_of_eq (by omega) N_0.symm⟩, ⟨(i 1).val % 512, by omega⟩, by dsimp only; omega⟩
  refine ⟨?_, ?_, ?_, ?_⟩ <;> funext i <;> obtain ⟨t, j, e⟩ := key i <;> obtain ⟨b0, b1, b2, b3⟩ := blk (i 0) j m c t (i 1) e
    <;> obtain ⟨o4, o5, o6, o7⟩ := left_at (iblk m c 0 t) (iblk m c 1 t) (iblk m c 2 t) (iblk m c 3 t) (i 0) j
  · have b := congrFun (blocks4 m c t (flush0_4 t)) (ix2 (i 0) j)
    rw [flushed4] at b
    refine Eq.trans ?_ (b.trans (o4.trans (congrArg gr (funext b0))))
    blk_ext [idx t]
  · have b := congrFun (blocks5 m c t (flush0_5 t)) (ix2 (i 0) j)
    rw [flushed5] at b
    rw [b1, b2, b3, show (fun k => iblk m c 0 t (ix3 k (i 0) j)) = _ from funext b0] at o5
    refine Eq.trans ?_ (b.trans o5)
    blk_ext [idx t]
  · have b := congrFun (blocks6 m c t (flush0_6 t)) (ix2 (i 0) j)
    rw [flushed6] at b
    refine Eq.trans ?_ (b.trans (o6.trans (congrArg₂ m1 (congrArg gr (funext b0)) b2)))
    blk_ext [idx t]
  · have b := congrFun (blocks7 m c t (flush0_7 t)) (ix2 (i 0) j)
    rw [flushed7] at b
    refine Eq.trans ?_ (b.trans (o7.trans (congrArg₂ m2 (congrArg gr (funext b0)) b3)))
    blk_ext [idx t]

end Cert.Opt
-- ==== Proof.Opt.Claim.lean ====
module

public import proofs.«01_k».proof.Defs
public import proofs.«01_k».proof.Proof.Gen.Kernel5.Frame
public import proofs.«01_k».proof.Proof.Gen.Reference5Ideal.Run
public import proofs.«01_k».proof.Proof.Opt.Result

@[expose] public section

set_option maxRecDepth 65536
set_option maxHeartbeats 1000000

noncomputable section

namespace Cert.Opt

open Cert.Kernel5Ideal Cert.Kernel5Ideal.Gen
open Idealize.ShloMosaic Idealize.ShloMosaic.TcCoe Idealize.ShloMosaic.Tactic Idealize.SL.Sem Pipeline

theorem frame_kernel : Cert.quiescent_Kernel5 := fun m ρ _ => Cert.Kernel5.Gen.frame m ρ
theorem frame_ideal : Cert.quiescent_Kernel5Ideal := fun m ρ _ => Cert.Kernel5Ideal.Gen.frame m ρ
theorem frame_reference : Cert.quiescent_Reference5Ideal := fun m ρ _ =>
  (θ_run Cert.Reference5Ideal.defs _ _).mono (fun r h => ⟨fun c => (h c).2.2.2.2, Idealize.ShloMosaic.sem_eq_zero_of_no_sems (by decide) r.2⟩)
    (Cert.Reference5Ideal.Value.run m ρ)

/-- The reference's results, of arguments equal to the kernel's, are the kernel's. -/
theorem value : Cert.algebraic_Kernel5Ideal_Reference5Ideal := by
  intro m ρ m' ρ' _ hargs
  refine ⟨_, _, _, _, Cert.Kernel5Ideal.Value.run_blocks m ρ, ?_⟩
  refine (θ_run Cert.Reference5Ideal.defs _ _).mono (fun r h c => ?_) (Cert.Reference5Ideal.Value.run m' ρ')
  obtain ⟨k0, k1, k2, k3, keep⟩ := h c
  obtain ⟨a0, a1, a2, a3⟩ := hargs c
  obtain ⟨g0, g1, g2, g3⟩ := arrays m c
  rw [a0] at k0
  rw [a0, a1, a2, a3] at k1
  rw [a0, a2] at k2
  rw [a0, a3] at k3
  refine ⟨k0.trans (Eq.trans (funext fun i => ?_) g0.symm), k1.trans (Eq.trans (funext fun i => ?_) g1.symm), k2.trans (Eq.trans (funext fun i => ?_) g2.symm),
    k3.trans (Eq.trans (funext fun i => ?_) g3.symm), keep⟩
  all_goals
    rw [eq_ix2 i]
    pointwise
    simp only [Fin.sum_univ_four]
    rfl

end Cert.Opt
-- ==== Proof.lean ====
module

public import proofs.«01_k».proof.Proof.Gate.Claim
public import proofs.«01_k».proof.Proof.Fwd.Claim
public import proofs.«01_k».proof.Proof.Opt.Claim
public import proofs.«01_k».proof.Proof.Gen.Kernel2.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Head.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts,
  Cert.Kernel5.Gen.facts, Cert.Kernel5Ideal.Gen.facts, Cert.Reference5Ideal.Gen.facts, Cert.Head.pre_facts, Cert.Gate.pre_facts,
  Cert.Head.frame_kernel, Cert.Head.frame_ideal, @Cert.Head.frame_ideal_pre Cert.Head.pre_facts, Cert.Head.frame_reference, @Cert.Head.frame_reference_pre Cert.Head.pre_facts,
  Cert.Gate.frame_kernel, Cert.Gate.frame_ideal, @Cert.Gate.frame_ideal_pre Cert.Gate.pre_facts, Cert.Gate.frame_reference, @Cert.Gate.frame_reference_pre Cert.Gate.pre_facts,
  Cert.Fwd.frame_kernel, Cert.Fwd.frame_ideal, Cert.Fwd.frame_reference, fun m ρ _ => Cert.Kernel4.Gen.frame m ρ, fun m ρ _ => Cert.Kernel4Ideal.Gen.frame m ρ,
  Cert.Opt.frame_kernel, Cert.Opt.frame_ideal, Cert.Opt.frame_reference,
  trivial, @Cert.Head.value Cert.Head.pre_facts, Cert.Gate.named, @Cert.Gate.value Cert.Gate.pre_facts, Cert.Fwd.named, Cert.Fwd.value, trivial, trivial, Cert.Opt.value⟩

end Cert.Proof

end
